-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v17)) (v1 : (c : Dev Cert.Kernel3Ideal.nD) → Buf (Elt Ideal) ((c.tc : Thread Cert.Kernel3Ideal.nD Cert.Kernel3Ideal.τ).loc Cert.Kernel3Ideal.main_v19)) (v2 : (c : Dev Cert.Kernel3Ideal.nD) → Buf (Elt Ideal) ((c.tc : Thread Cert.Kernel3Ideal.nD Cert.Kernel3Ideal.τ).loc Cert.Kernel3Ideal.main_v21)) (v3 : (c : Dev Cert.Kernel3Ideal.nD) → Buf (Elt Ideal) ((c.tc : Thread Cert.Kernel3Ideal.nD Cert.Kernel3Ideal.τ).loc Cert.Kernel3Ideal.main_v23)) (v4 : (c : Dev Cert.Kernel3Ideal.nD) → Buf (Elt Ideal) ((c.tc : Thread Cert.Kernel3Ideal.nD Cert.Kernel3Ideal.τ).loc Cert.Kernel3Ideal.main_v24)) (v5 : (c : Dev Cert.Kernel3Ideal.nD) → Buf (Elt Ideal) ((c.tc : Thread Cert.Kernel3Ideal.nD Cert.Kernel3Ideal.τ).loc Cert.Kernel3Ideal.main_v25)) (v6 : (c : Dev Cert.Kernel3Ideal.nD) → Buf (Elt Ideal) ((c.tc : Thread Cert.Kernel3Ideal.nD Cert.Kernel3Ideal.τ).loc Cert.Kernel3Ideal.main_v26)) (v7 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_v19) = v1 c
          ∧ r.2.mem ((c.tc : Thread Cert.Kernel3Ideal.nD Cert.Kernel3Ideal.τ).loc Cert.Kernel3Ideal.main_v21) = v2 c
          ∧ r.2.mem ((c.tc : Thread Cert.Kernel3Ideal.nD Cert.Kernel3Ideal.τ).loc Cert.Kernel3Ideal.main_v23) = v3 c
          ∧ r.2.mem ((c.tc : Thread Cert.Kernel3Ideal.nD Cert.Kernel3Ideal.τ).loc Cert.Kernel3Ideal.main_v24) = v4 c
          ∧ r.2.mem ((c.tc : Thread Cert.Kernel3Ideal.nD Cert.Kernel3Ideal.τ).loc Cert.Kernel3Ideal.main_v25) = v5 c
          ∧ r.2.mem ((c.tc : Thread Cert.Kernel3Ideal.nD Cert.Kernel3Ideal.τ).loc Cert.Kernel3Ideal.main_v26) = v6 c
          ∧ r.2.mem ((c.tc : Thread Cert.Kernel3Ideal.nD Cert.Kernel3Ideal.τ).loc Cert.Kernel3Ideal.main_v27) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v68) = v3 c
          ∧ r.2.mem ((c.tc : Thread Cert.Reference3Ideal.nD Cert.Reference3Ideal.τ).loc Cert.Reference3Ideal.main_v62) = v4 c
          ∧ r.2.mem ((c.tc : Thread Cert.Reference3Ideal.nD Cert.Reference3Ideal.τ).loc Cert.Reference3Ideal.main_v69) = v5 c
          ∧ r.2.mem ((c.tc : Thread Cert.Reference3Ideal.nD Cert.Reference3Ideal.τ).loc Cert.Reference3Ideal.main_v70) = v6 c
          ∧ r.2.mem ((c.tc : Thread Cert.Reference3Ideal.nD Cert.Reference3Ideal.τ).loc Cert.Reference3Ideal.main_v63) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v20)) (v1 : (c : Dev Cert.Kernel4Ideal.nD) → Buf (Elt Ideal) ((c.tc : Thread Cert.Kernel4Ideal.nD Cert.Kernel4Ideal.τ).loc Cert.Kernel4Ideal.main_v22)) (v2 : (c : Dev Cert.Kernel4Ideal.nD) → Buf (Elt Ideal) ((c.tc : Thread Cert.Kernel4Ideal.nD Cert.Kernel4Ideal.τ).loc Cert.Kernel4Ideal.main_v24)) (v3 : (c : Dev Cert.Kernel4Ideal.nD) → Buf (Elt Ideal) ((c.tc : Thread Cert.Kernel4Ideal.nD Cert.Kernel4Ideal.τ).loc Cert.Kernel4Ideal.main_v26)) (v4 : (c : Dev Cert.Kernel4Ideal.nD) → Buf (Elt Ideal) ((c.tc : Thread Cert.Kernel4Ideal.nD Cert.Kernel4Ideal.τ).loc Cert.Kernel4Ideal.main_v27)) (v5 : (c : Dev Cert.Kernel4Ideal.nD) → Buf (Elt Ideal) ((c.tc : Thread Cert.Kernel4Ideal.nD Cert.Kernel4Ideal.τ).loc Cert.Kernel4Ideal.main_v28)) (v6 : (c : Dev Cert.Kernel4Ideal.nD) → Buf (Elt Ideal) ((c.tc : Thread Cert.Kernel4Ideal.nD Cert.Kernel4Ideal.τ).loc Cert.Kernel4Ideal.main_v29)) (v7 : (c : Dev Cert.Kernel4Ideal.nD) → Buf (Elt Ideal) ((c.tc : Thread Cert.Kernel4Ideal.nD Cert.Kernel4Ideal.τ).loc Cert.Kernel4Ideal.main_v30)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_v22) = v1 c
          ∧ r.2.mem ((c.tc : Thread Cert.Kernel4Ideal.nD Cert.Kernel4Ideal.τ).loc Cert.Kernel4Ideal.main_v24) = v2 c
          ∧ r.2.mem ((c.tc : Thread Cert.Kernel4Ideal.nD Cert.Kernel4Ideal.τ).loc Cert.Kernel4Ideal.main_v26) = v3 c
          ∧ r.2.mem ((c.tc : Thread Cert.Kernel4Ideal.nD Cert.Kernel4Ideal.τ).loc Cert.Kernel4Ideal.main_v27) = v4 c
          ∧ r.2.mem ((c.tc : Thread Cert.Kernel4Ideal.nD Cert.Kernel4Ideal.τ).loc Cert.Kernel4Ideal.main_v28) = v5 c
          ∧ r.2.mem ((c.tc : Thread Cert.Kernel4Ideal.nD Cert.Kernel4Ideal.τ).loc Cert.Kernel4Ideal.main_v29) = v6 c
          ∧ r.2.mem ((c.tc : Thread Cert.Kernel4Ideal.nD Cert.Kernel4Ideal.τ).loc Cert.Kernel4Ideal.main_v30) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v62) = v4 c
          ∧ r.2.mem ((c.tc : Thread Cert.Reference4Ideal.nD Cert.Reference4Ideal.τ).loc Cert.Reference4Ideal.main_v71) = v5 c
          ∧ r.2.mem ((c.tc : Thread Cert.Reference4Ideal.nD Cert.Reference4Ideal.τ).loc Cert.Reference4Ideal.main_v72) = v6 c
          ∧ r.2.mem ((c.tc : Thread Cert.Reference4Ideal.nD Cert.Reference4Ideal.τ).loc Cert.Reference4Ideal.main_v63) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v27) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def preserves_Kernel9_Kernel9Ideal : Prop :=
  True

def preserves_Kernel10_Kernel10Ideal : Prop :=
  True

def preserves_Kernel11_Kernel11Ideal : Prop :=
  True

def preserves_Kernel12_Kernel12Ideal : Prop :=
  True

def preserves_Kernel13_Kernel13Ideal : Prop :=
  True

def preserves_Kernel14_Kernel14Ideal : Prop :=
  True

def preserves_Kernel15_Kernel15Ideal : Prop :=
  True

def preserves_Kernel16_Kernel16Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel9 : Cert.Kernel9.Facts) (hKernel9Ideal : Cert.Kernel9Ideal.Facts) (hKernel10 : Cert.Kernel10.Facts) (hKernel10Ideal : Cert.Kernel10Ideal.Facts) (hKernel11 : Cert.Kernel11.Facts) (hKernel11Ideal : Cert.Kernel11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts) (hKernel15 : Cert.Kernel15.Facts) (hKernel15Ideal : Cert.Kernel15Ideal.Facts) (hKernel16 : Cert.Kernel16.Facts) (hKernel16Ideal : Cert.Kernel16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ quiescent_Kernel16 (hKernel16 := hKernel16)
    ∧ quiescent_Kernel16Ideal (hKernel16Ideal := hKernel16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
    ∧ preserves_Kernel10_Kernel10Ideal
    ∧ preserves_Kernel11_Kernel11Ideal
    ∧ preserves_Kernel12_Kernel12Ideal
    ∧ preserves_Kernel13_Kernel13Ideal
    ∧ preserves_Kernel14_Kernel14Ideal
    ∧ preserves_Kernel15_Kernel15Ideal
    ∧ preserves_Kernel16_Kernel16Ideal
-- ==== Kernel.lean ====
abbrev S8192x4096 : Shape := ⟨2, ![8192, 4096]⟩
abbrev S4096 : Shape := ⟨1, ![4096]⟩
abbrev S43x4096x256 : Shape := ⟨3, ![43, 4096, 256]⟩
abbrev S11008x4096 : Shape := ⟨2, ![11008, 4096]⟩
abbrev S1x4096 : Shape := ⟨2, ![1, 4096]⟩
abbrev S512x4096 : Shape := ⟨2, ![512, 4096]⟩
abbrev S1x4096x256 : Shape := ⟨3, ![1, 4096, 256]⟩
abbrev S256x4096 : Shape := ⟨2, ![256, 4096]⟩
abbrev S512 : Shape := ⟨1, ![512]⟩
abbrev S512x1 : Shape := ⟨2, ![512, 1]⟩
abbrev S4096x256 : Shape := ⟨2, ![4096, 256]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S43x4096x256, .bf16⟩
  | .hbm, ⟨3, _⟩ => ⟨S43x4096x256, .bf16⟩
  | .hbm, ⟨4, _⟩ => ⟨S11008x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S256x4096, .bf16⟩
  | .local _ .vmem, ⟨8, _⟩ => ⟨S256x4096, .bf16⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x4096 : Shape := ⟨2, ![8192, 4096]⟩
abbrev S4096 : Shape := ⟨1, ![4096]⟩
abbrev S43x4096x256 : Shape := ⟨3, ![43, 4096, 256]⟩
abbrev S11008x4096 : Shape := ⟨2, ![11008, 4096]⟩
abbrev S4096x43x256 : Shape := ⟨3, ![4096, 43, 256]⟩
abbrev S4096x11008 : Shape := ⟨2, ![4096, 11008]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S43x4096x256, .bf16⟩
  | .hbm, ⟨3, _⟩ => ⟨S43x4096x256, .bf16⟩
  | .hbm, ⟨4, _⟩ => ⟨S11008x4096, .bf16⟩
  | .hbm, ⟨5, _⟩ => ⟨S43x4096x256, .f32⟩
  | .hbm, ⟨6, _⟩ => ⟨S4096x43x256, .f32⟩
  | .hbm, ⟨7, _⟩ => ⟨S4096x11008, .f32⟩
  | .hbm, ⟨8, _⟩ => ⟨S43x4096x256, .f32⟩
  | .hbm, ⟨9, _⟩ => ⟨S4096x43x256, .f32⟩
  | .hbm, ⟨10, _⟩ => ⟨S4096x11008, .f32⟩
  | .hbm, ⟨11, _⟩ => ⟨S11008x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x11008, .f32⟩
  | .hbm, ⟨29, _⟩ => ⟨S8192x11008, .f32⟩
  | .hbm, ⟨30, _⟩ => ⟨S8192x11008, .f32⟩
  | .hbm, ⟨31, _⟩ => ⟨S_, .f32⟩
  | .hbm, ⟨32, _⟩ => ⟨S8192x11008, .f32⟩
  | .hbm, ⟨33, _⟩ => ⟨S8192x11008, .f32⟩
  | .hbm, ⟨34, _⟩ => ⟨S_, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel2.lean ====
abbrev S8192x6400 : Shape := ⟨2, ![8192, 6400]⟩
abbrev S4x512x512 : Shape := ⟨3, ![4, 512, 512]⟩
abbrev S1x2048 : Shape := ⟨2, ![1, 2048]⟩
abbrev S8192x2048 : Shape := ⟨2, ![8192, 2048]⟩
abbrev S256x2048 : Shape := ⟨2, ![256, 2048]⟩
abbrev S16x2048 : Shape := ⟨2, ![16, 2048]⟩
abbrev S272x2048 : Shape := ⟨2, ![272, 2048]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x6400, .f32⟩
  | .hbm, ⟨1, _⟩ => ⟨S4x512x512, .bf16⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S272x2048, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c0_i32_6 : BitVec 32 := 0#32
  let c0_i32_7 : BitVec 32 := 0#32
  ![v21.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x6400 : Shape := ⟨2, ![8192, 6400]⟩
abbrev S4x512x512 : Shape := ⟨3, ![4, 512, 512]⟩
abbrev S1x2048 : Shape := ⟨2, ![1, 2048]⟩
abbrev S4 : Shape := ⟨1, ![4]⟩
abbrev S8192x2048 : Shape := ⟨2, ![8192, 2048]⟩
abbrev S4x2048x2048 : Shape := ⟨3, ![4, 2048, 2048]⟩
abbrev S_ : Shape := ⟨0, ![]⟩
abbrev S4x15x2048 : Shape := ⟨3, ![4, 15, 2048]⟩
abbrev S4x2063x2048 : Shape := ⟨3, ![4, 2063, 2048]⟩
abbrev S4x512 : Shape := ⟨2, ![4, 512]⟩
abbrev S2048 : Shape := ⟨1, ![2048]⟩
abbrev S1x4x2048x2048 : Shape := ⟨4, ![1, 4, 2048, 2048]⟩
abbrev S16x4x2048x2048 : Shape := ⟨4, ![16, 4, 2048, 2048]⟩
abbrev S16 : Shape := ⟨1, ![16]⟩
abbrev S16x1x1x1 : Shape := ⟨4, ![16, 1, 1, 1]⟩
abbrev S1x1x1x2048 : Shape := ⟨4, ![1, 1, 1, 2048]⟩
abbrev S16x1x1x2048 : Shape := ⟨4, ![16, 1, 1, 2048]⟩
abbrev S2048x1 : Shape := ⟨2, ![2048, 1]⟩
abbrev S2048x2048 : Shape := ⟨2, ![2048, 2048]⟩
abbrev S1x2048x2048 : Shape := ⟨3, ![1, 2048, 2048]⟩
abbrev S4x2048x4x512 : Shape := ⟨4, ![4, 2048, 4, 512]⟩
abbrev S4x512x4x2048 : Shape := ⟨4, ![4, 512, 4, 2048]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S4x512x512, .bf16⟩
  | .hbm, ⟨2, _⟩ => ⟨S1x2048, .f32⟩
  | .hbm, ⟨3, _⟩ => ⟨S4, .i32⟩
  | .hbm, ⟨4, _⟩ => ⟨S8192x2048, .f32⟩
  | .hbm, ⟨5, _⟩ => ⟨S4x2048x2048, .f32⟩
  | .hbm, ⟨6, _⟩ => ⟨S_, .f32⟩
  | .hbm, ⟨7, _⟩ => ⟨S4x15x2048, .f32⟩
  | .hbm, ⟨8, _⟩ => ⟨S4x2063x2048, .f32⟩
  | .hbm, ⟨9, _⟩ => ⟨S4x512, .i32⟩
  | .hbm, ⟨10, _⟩ => ⟨S2048, .i32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S1x4x2048x2048, .f32⟩
  | .hbm, ⟨28, _⟩ => ⟨S1x4x2048x2048, .f32⟩
  | .hbm, ⟨29, _⟩ => ⟨S1x4x2048x2048, .f32⟩
  | .hbm, ⟨30, _⟩ => ⟨S1x4x2048x2048, .f32⟩
  | .hbm, ⟨31, _⟩ => ⟨S1x4x2048x2048, .f32⟩
  | .hbm, ⟨32, _⟩ => ⟨S1x4x2048x2048, .f32⟩
  | .hbm, ⟨33, _⟩ => ⟨S1x4x2048x2048, .f32⟩
  | .hbm, ⟨34, _⟩ => ⟨S1x4x2048x2048, .f32⟩
  | .hbm, ⟨35, _⟩ => ⟨S1x4x2048x2048, .f32⟩
  | .hbm, ⟨36, _⟩ => ⟨S1x4x2048x2048, .f32⟩
  | .hbm, ⟨37, _⟩ => ⟨S1x4x2048x2048, .f32⟩
  | .hbm, ⟨38, _⟩ => ⟨S1x4x2048x2048, .f32⟩
  | .hbm, ⟨39, _⟩ => ⟨S1x4x2048x2048, .f32⟩
  | .hbm, ⟨40, _⟩ => ⟨S1x4x2048x2048, .f32⟩
  | .hbm, ⟨41, _⟩ => ⟨S1x4x2048x2048, .f32⟩
  | .hbm, ⟨42, _⟩ => ⟨S1x4x2048x2048, .f32⟩
  | .hbm, ⟨43, _⟩ => ⟨S16x4x2048x2048, .f32⟩
  | .hbm, ⟨44, _⟩ => ⟨S16, .i32⟩
  | .hbm, ⟨45, _⟩ => ⟨S16x1x1x1, .i32⟩
  | .hbm, ⟨46, _⟩ => ⟨S1x1x1x2048, .i32⟩
  | .hbm, ⟨47, _⟩ => ⟨S16x1x1x2048, .i32⟩
  | .hbm, ⟨48, _⟩ => ⟨S16x1x1x2048, .i32⟩
  | .hbm, ⟨49, _⟩ => ⟨S16x1x1x2048, .i1⟩
  | .hbm, ⟨50, _⟩ => ⟨S_, .f32⟩
  | .hbm, ⟨51, _⟩ => ⟨S_, .f32⟩
  | .hbm, ⟨52, _⟩ => ⟨S16x4x2048x2048, .i1⟩
  | .hbm, ⟨53, _⟩ => ⟨S16x4x2048x2048, .f32⟩
  | .hbm, ⟨54, _⟩ => ⟨S16x4x2048x2048, .f32⟩
  | .hbm, ⟨55, _⟩ => ⟨S_, .f32⟩
  | .hbm, ⟨56, _⟩ => ⟨S4x2048x2048, .f32⟩
  | .hbm, ⟨57, _⟩ => ⟨S2048, .i32⟩
  | .hbm, ⟨58, _⟩ => ⟨S2048x1, .i32⟩
  | .hbm, ⟨59, _⟩ => ⟨S_, .i32⟩
  | .hbm, ⟨60, _⟩ => ⟨S2048x1, .i32⟩
  | .hbm, ⟨61, _⟩ => ⟨S2048x1, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .f32⟩
  | .hbm, ⟨67, _⟩ => ⟨S1x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | .hbm, ⟨71, _⟩ => ⟨S4x2048x4x512, .f32⟩
  | .hbm, ⟨72, _⟩ => ⟨S4x512x512, .f32⟩
  | .hbm, ⟨73, _⟩ => ⟨S4x512x4x2048, .f32⟩
  | .hbm, ⟨74, _⟩ => ⟨S4x2048x4x512, .f32⟩
  | .hbm, ⟨75, _⟩ => ⟨S4x2048x2048, .f32⟩
  | .hbm, ⟨76, _⟩ => ⟨S2048, .f32⟩
  | .hbm, ⟨77, _⟩ => ⟨S1x1x2048, .f32⟩
  | .hbm, ⟨78, _⟩ => ⟨S4x2048x2048, .f32⟩
  | .hbm, ⟨79, _⟩ => ⟨S4x2048x2048, .f32⟩
  | .hbm, ⟨80, _⟩ => ⟨S8192x2048, .f32⟩
  | .hbm, ⟨81, _⟩ => ⟨S8192x2048, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_0 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v45 : Ref sig .tc := ⟨.hbm, 54, rfl⟩
abbrev main_cst_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Kernel3.lean ====
abbrev S8192x4096 : Shape := ⟨2, ![8192, 4096]⟩
abbrev S4096 : Shape := ⟨1, ![4096]⟩
abbrev S4096x6280 : Shape := ⟨2, ![4096, 6280]⟩
abbrev S128 : Shape := ⟨1, ![128]⟩
abbrev S_ : Shape := ⟨0, ![]⟩
abbrev S4096x6400 : Shape := ⟨2, ![4096, 6400]⟩
abbrev S2048 : Shape := ⟨1, ![2048]⟩
abbrev S1x128 : Shape := ⟨2, ![1, 128]⟩
abbrev S16x128 : Shape := ⟨2, ![16, 128]⟩
abbrev S4x128 : Shape := ⟨2, ![4, 128]⟩
abbrev S512 : Shape := ⟨1, ![512]⟩
abbrev S1536 : Shape := ⟨1, ![1536]⟩
abbrev S6400 : Shape := ⟨1, ![6400]⟩
abbrev S1x6400 : Shape := ⟨2, ![1, 6400]⟩
abbrev S1x4096 : Shape := ⟨2, ![1, 4096]⟩
abbrev S8192x6400 : Shape := ⟨2, ![8192, 6400]⟩
abbrev S512x4096 : Shape := ⟨2, ![512, 4096]⟩
abbrev S4096x1280 : Shape := ⟨2, ![4096, 1280]⟩
abbrev S1x1280 : Shape := ⟨2, ![1, 1280]⟩
abbrev S512x1280 : Shape := ⟨2, ![512, 1280]⟩
abbrev S512x1 : Shape := ⟨2, ![512, 1]⟩
abbrev S512x768 : Shape := ⟨2, ![512, 768]⟩
abbrev S512x128 : Shape := ⟨2, ![512, 128]⟩
abbrev S512x512 : Shape := ⟨2, ![512, 512]⟩
abbrev S512x1024 : Shape := ⟨2, ![512, 1024]⟩
abbrev S4x2048x6400 : Shape := ⟨3, ![4, 2048, 6400]⟩
abbrev S4x2048x512 : Shape := ⟨3, ![4, 2048, 512]⟩
abbrev S1x4x2048x4x128 : Shape := ⟨5, ![1, 4, 2048, 4, 128]⟩
abbrev S4x2048x128 : Shape := ⟨3, ![4, 2048, 128]⟩
abbrev S1x4x2048x128 : Shape := ⟨4, ![1, 4, 2048, 128]⟩
abbrev S4x15x2048 : Shape := ⟨3, ![4, 15, 2048]⟩
abbrev S1x4x15x2048 : Shape := ⟨4, ![1, 4, 15, 2048]⟩
abbrev S8192x2048 : Shape := ⟨2, ![8192, 2048]⟩
abbrev S8192x1024 : Shape := ⟨2, ![8192, 1024]⟩
abbrev S8192x8 : Shape := ⟨2, ![8192, 8]⟩

abbrev nBuf : Space → Nat
  | .hbm => 39
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x6280, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S4096x6400, .f32⟩
  | .hbm, ⟨9, _⟩ => ⟨S4096x6400, .bf16⟩
  | .hbm, ⟨10, _⟩ => ⟨S_, .f32⟩
  | .hbm, ⟨11, _⟩ => ⟨S2048, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S1x128, .f32⟩
  | .hbm, ⟨16, _⟩ => ⟨S4x128, .f32⟩
  | .hbm, ⟨17, _⟩ => ⟨S512, .f32⟩
  | .hbm, ⟨18, _⟩ => ⟨S_, .f32⟩
  | .hbm, ⟨19, _⟩ => ⟨S1536, .f32⟩
  | .hbm, ⟨20, _⟩ => ⟨S_, .f32⟩
  | .hbm, ⟨21, _⟩ => ⟨S128, .f32⟩
  | .hbm, ⟨22, _⟩ => ⟨S6400, .f32⟩
  | .hbm, ⟨23, _⟩ => ⟨S1x6400, .f32⟩
  | .hbm, ⟨24, _⟩ => ⟨S1x4096, .f32⟩
  | .hbm, ⟨25, _⟩ => ⟨S8192x6400, .f32⟩
  | .hbm, ⟨26, _⟩ => ⟨S4x2048x6400, .f32⟩
  | .hbm, ⟨27, _⟩ => ⟨S4x2048x512, .f32⟩
  | .hbm, ⟨28, _⟩ => ⟨S1x4x2048x4x128, .f32⟩
  | .hbm, ⟨29, _⟩ => ⟨S4x2048x512, .f32⟩
  | .hbm, ⟨30, _⟩ => ⟨S1x4x2048x4x128, .f32⟩
  | .hbm, ⟨31, _⟩ => ⟨S4x2048x128, .f32⟩
  | .hbm, ⟨32, _⟩ => ⟨S1x4x2048x128, .f32⟩
  | .hbm, ⟨33, _⟩ => ⟨S4x15x2048, .f32⟩
  | .hbm, ⟨34, _⟩ => ⟨S1x4x15x2048, .f32⟩
  | .hbm, ⟨35, _⟩ => ⟨S8192x2048, .f32⟩
  | .hbm, ⟨36, _⟩ => ⟨S8192x2048, .f32⟩
  | .hbm, ⟨37, _⟩ => ⟨S8192x1024, .f32⟩
  | .hbm, ⟨38, _⟩ => ⟨S8192x8, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1280, .bf16⟩
  | .local _ .vmem, ⟨4, _⟩ => ⟨S4096x1280, .bf16⟩
  | .local _ .vmem, ⟨5, _⟩ => ⟨S1x1280, .f32⟩
  | .local _ .vmem, ⟨6, _⟩ => ⟨S1x1280, .f32⟩
  | .local _ .vmem, ⟨7, _⟩ => ⟨S512x1280, .f32⟩
  | .local _ .vmem, ⟨8, _⟩ => ⟨S512x1280, .f32⟩
  | .local _ .vmem, ⟨9, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_9 : BitVec 32 := 0#32
  let v17 : BitVec 1 := Scalar.cmpi .ne v16 c0_i32_9
  v17

def k0_cond5 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def k0_cond6 (i : grid0.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x4096 : Shape := ⟨2, ![8192, 4096]⟩
abbrev S4096 : Shape := ⟨1, ![4096]⟩
abbrev S4096x6280 : Shape := ⟨2, ![4096, 6280]⟩
abbrev S128 : Shape := ⟨1, ![128]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x6280 : Shape := ⟨2, ![8192, 6280]⟩
abbrev S8192x2048 : Shape := ⟨2, ![8192, 2048]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S8192x1024 : Shape := ⟨2, ![8192, 1024]⟩
abbrev S8192x8x128 : Shape := ⟨3, ![8192, 8, 128]⟩
abbrev S8192x128 : Shape := ⟨2, ![8192, 128]⟩
abbrev S1x128 : Shape := ⟨2, ![1, 128]⟩
abbrev S8192x8 : Shape := ⟨2, ![8192, 8]⟩
abbrev S1x4x2048x4x128 : Shape := ⟨5, ![1, 4, 2048, 4, 128]⟩
abbrev S1x4x2048x128 : Shape := ⟨4, ![1, 4, 2048, 128]⟩
abbrev S1x4x2048x2048 : Shape := ⟨4, ![1, 4, 2048, 2048]⟩
abbrev S1x4x15x2048 : Shape := ⟨4, ![1, 4, 15, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x6280, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x6280, .f32⟩
  | .hbm, ⟨23, _⟩ => ⟨S8192x2048, .f32⟩
  | .hbm, ⟨24, _⟩ => ⟨S8192x16x128, .f32⟩
  | .hbm, ⟨25, _⟩ => ⟨S8192x16x128, .f32⟩
  | .hbm, ⟨26, _⟩ => ⟨S_, .f32⟩
  | .hbm, ⟨27, _⟩ => ⟨S8192x16, .f32⟩
  | .hbm, ⟨28, _⟩ => ⟨S8192x16x1, .f32⟩
  | .hbm, ⟨29, _⟩ => ⟨S_, .f32⟩
  | .hbm, ⟨30, _⟩ => ⟨S8192x16x1, .f32⟩
  | .hbm, ⟨31, _⟩ => ⟨S8192x16x1, .f32⟩
  | .hbm, ⟨32, _⟩ => ⟨S_, .f32⟩
  | .hbm, ⟨33, _⟩ => ⟨S8192x16x1, .f32⟩
  | .hbm, ⟨34, _⟩ => ⟨S8192x16x1, .f32⟩
  | .hbm, ⟨35, _⟩ => ⟨S8192x16x1, .f32⟩
  | .hbm, ⟨36, _⟩ => ⟨S8192x16x128, .f32⟩
  | .hbm, ⟨37, _⟩ => ⟨S8192x16x128, .f32⟩
  | .hbm, ⟨38, _⟩ => ⟨S1x1x128, .f32⟩
  | .hbm, ⟨39, _⟩ => ⟨S8192x16x128, .f32⟩
  | .hbm, ⟨40, _⟩ => ⟨S8192x16x128, .f32⟩
  | .hbm, ⟨41, _⟩ => ⟨S8192x512, .f32⟩
  | .hbm, ⟨42, _⟩ => ⟨S8192x4x128, .f32⟩
  | .hbm, ⟨43, _⟩ => ⟨S8192x4x128, .f32⟩
  | .hbm, ⟨44, _⟩ => ⟨S_, .f32⟩
  | .hbm, ⟨45, _⟩ => ⟨S8192x4, .f32⟩
  | .hbm, ⟨46, _⟩ => ⟨S8192x4x1, .f32⟩
  | .hbm, ⟨47, _⟩ => ⟨S_, .f32⟩
  | .hbm, ⟨48, _⟩ => ⟨S8192x4x1, .f32⟩
  | .hbm, ⟨49, _⟩ => ⟨S8192x4x1, .f32⟩
  | .hbm, ⟨50, _⟩ => ⟨S_, .f32⟩
  | .hbm, ⟨51, _⟩ => ⟨S8192x4x1, .f32⟩
  | .hbm, ⟨52, _⟩ => ⟨S8192x4x1, .f32⟩
  | .hbm, ⟨53, _⟩ => ⟨S8192x4x1, .f32⟩
  | .hbm, ⟨54, _⟩ => ⟨S8192x4x128, .f32⟩
  | .hbm, ⟨55, _⟩ => ⟨S8192x4x128, .f32⟩
  | .hbm, ⟨56, _⟩ => ⟨S1x1x128, .f32⟩
  | .hbm, ⟨57, _⟩ => ⟨S8192x4x128, .f32⟩
  | .hbm, ⟨58, _⟩ => ⟨S8192x4x128, .f32⟩
  | .hbm, ⟨59, _⟩ => ⟨S8192x512, .f32⟩
  | .hbm, ⟨60, _⟩ => ⟨S8192x4x128, .f32⟩
  | .hbm, ⟨61, _⟩ => ⟨S8192x1024, .f32⟩
  | .hbm, ⟨62, _⟩ => ⟨S8192x8x128, .f32⟩
  | .hbm, ⟨63, _⟩ => ⟨S8192x128, .f32⟩
  | .hbm, ⟨64, _⟩ => ⟨S8192x128, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x128, .f32⟩
  | .hbm, ⟨76, _⟩ => ⟨S8192x128, .f32⟩
  | .hbm, ⟨77, _⟩ => ⟨S1x128, .f32⟩
  | .hbm, ⟨78, _⟩ => ⟨S8192x128, .f32⟩
  | .hbm, ⟨79, _⟩ => ⟨S8192x128, .f32⟩
  | .hbm, ⟨80, _⟩ => ⟨S8192x2048, .f32⟩
  | .hbm, ⟨81, _⟩ => ⟨S8192x8, .f32⟩
  | .hbm, ⟨82, _⟩ => ⟨S1x4x2048x4x128, .f32⟩
  | .hbm, ⟨83, _⟩ => ⟨S1x4x2048x4x128, .f32⟩
  | .hbm, ⟨84, _⟩ => ⟨S1x4x2048x128, .f32⟩
  | .hbm, ⟨85, _⟩ => ⟨S1x4x2048x2048, .f32⟩
  | .hbm, ⟨86, _⟩ => ⟨S1x4x15x2048, .f32⟩
  | .hbm, ⟨87, _⟩ => ⟨S8192x2048, .f32⟩
  | .hbm, ⟨88, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel4.lean ====
abbrev S128x4096 : Shape := ⟨2, ![128, 4096]⟩
abbrev S32x15x2048 : Shape := ⟨3, ![32, 15, 2048]⟩
abbrev S4096 : Shape := ⟨1, ![4096]⟩
abbrev S4096x6280 : Shape := ⟨2, ![4096, 6280]⟩
abbrev S128 : Shape := ⟨1, ![128]⟩
abbrev S_ : Shape := ⟨0, ![]⟩
abbrev S4096x6400 : Shape := ⟨2, ![4096, 6400]⟩
abbrev S2048 : Shape := ⟨1, ![2048]⟩
abbrev S1x128 : Shape := ⟨2, ![1, 128]⟩
abbrev S16x128 : Shape := ⟨2, ![16, 128]⟩
abbrev S4x128 : Shape := ⟨2, ![4, 128]⟩
abbrev S512 : Shape := ⟨1, ![512]⟩
abbrev S1536 : Shape := ⟨1, ![1536]⟩
abbrev S6400 : Shape := ⟨1, ![6400]⟩
abbrev S1x6400 : Shape := ⟨2, ![1, 6400]⟩
abbrev S1x4096 : Shape := ⟨2, ![1, 4096]⟩
abbrev S128x6400 : Shape := ⟨2, ![128, 6400]⟩
abbrev S4096x1280 : Shape := ⟨2, ![4096, 1280]⟩
abbrev S1x1280 : Shape := ⟨2, ![1, 1280]⟩
abbrev S128x1280 : Shape := ⟨2, ![128, 1280]⟩
abbrev S128x1 : Shape := ⟨2, ![128, 1]⟩
abbrev S128x768 : Shape := ⟨2, ![128, 768]⟩
abbrev S128x128 : Shape := ⟨2, ![128, 128]⟩
abbrev S128x512 : Shape := ⟨2, ![128, 512]⟩
abbrev S128x1024 : Shape := ⟨2, ![128, 1024]⟩
abbrev S32x4x6400 : Shape := ⟨3, ![32, 4, 6400]⟩
abbrev S128x2048 : Shape := ⟨2, ![128, 2048]⟩
abbrev S32x4x2048 : Shape := ⟨3, ![32, 4, 2048]⟩
abbrev S32x19x2048 : Shape := ⟨3, ![32, 19, 2048]⟩
abbrev S32x4x512 : Shape := ⟨3, ![32, 4, 512]⟩
abbrev S1x32x4x4x128 : Shape := ⟨5, ![1, 32, 4, 4, 128]⟩
abbrev S32x4x128 : Shape := ⟨3, ![32, 4, 128]⟩
abbrev S1x32x4x128 : Shape := ⟨4, ![1, 32, 4, 128]⟩
abbrev S1x32x15x2048 : Shape := ⟨4, ![1, 32, 15, 2048]⟩
abbrev S128x8 : Shape := ⟨2, ![128, 8]⟩

abbrev nBuf : Space → Nat
  | .hbm => 43
  | .vmem => 9
  | .smem => 0
  | _ => 0

abbrev bufTy : (tb : Table) → Fin (tcTables nBuf tb) → BufTy
  | .hbm, ⟨0, _⟩ => ⟨S128x4096, .f32⟩
  | .hbm, ⟨1, _⟩ => ⟨S32x15x2048, .f32⟩
  | .hbm, ⟨2, _⟩ => ⟨S4096, .f32⟩
  | .hbm, ⟨3, _⟩ => ⟨S4096x6280, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S4096x6400, .f32⟩
  | .hbm, ⟨10, _⟩ => ⟨S4096x6400, .bf16⟩
  | .hbm, ⟨11, _⟩ => ⟨S_, .f32⟩
  | .hbm, ⟨12, _⟩ => ⟨S2048, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x128, .f32⟩
  | .hbm, ⟨17, _⟩ => ⟨S4x128, .f32⟩
  | .hbm, ⟨18, _⟩ => ⟨S512, .f32⟩
  | .hbm, ⟨19, _⟩ => ⟨S_, .f32⟩
  | .hbm, ⟨20, _⟩ => ⟨S1536, .f32⟩
  | .hbm, ⟨21, _⟩ => ⟨S_, .f32⟩
  | .hbm, ⟨22, _⟩ => ⟨S128, .f32⟩
  | .hbm, ⟨23, _⟩ => ⟨S6400, .f32⟩
  | .hbm, ⟨24, _⟩ => ⟨S1x6400, .f32⟩
  | .hbm, ⟨25, _⟩ => ⟨S1x4096, .f32⟩
  | .hbm, ⟨26, _⟩ => ⟨S128x6400, .f32⟩
  | .hbm, ⟨27, _⟩ => ⟨S32x4x6400, .f32⟩
  | .hbm, ⟨28, _⟩ => ⟨S128x2048, .f32⟩
  | .hbm, ⟨29, _⟩ => ⟨S32x4x2048, .f32⟩
  | .hbm, ⟨30, _⟩ => ⟨S32x19x2048, .f32⟩
  | .hbm, ⟨31, _⟩ => ⟨S32x4x512, .f32⟩
  | .hbm, ⟨32, _⟩ => ⟨S1x32x4x4x128, .f32⟩
  | .hbm, ⟨33, _⟩ => ⟨S32x4x512, .f32⟩
  | .hbm, ⟨34, _⟩ => ⟨S1x32x4x4x128, .f32⟩
  | .hbm, ⟨35, _⟩ => ⟨S32x4x128, .f32⟩
  | .hbm, ⟨36, _⟩ => ⟨S1x32x4x128, .f32⟩
  | .hbm, ⟨37, _⟩ => ⟨S32x15x2048, .f32⟩
  | .hbm, ⟨38, _⟩ => ⟨S1x32x15x2048, .f32⟩
  | .hbm, ⟨39, _⟩ => ⟨S128x2048, .f32⟩
  | .hbm, ⟨40, _⟩ => ⟨S128x2048, .f32⟩
  | .hbm, ⟨41, _⟩ => ⟨S128x1024, .f32⟩
  | .hbm, ⟨42, _⟩ => ⟨S128x8, .f32⟩
  | .local _ .vmem, ⟨0, _⟩ => ⟨S128x4096, .f32⟩
  | .local _ .vmem, ⟨1, _⟩ => ⟨S1x4096, .f32⟩
  | .local _ .vmem, ⟨2, _⟩ => ⟨S4096x1280, .bf16⟩
  | .local _ .vmem, ⟨3, _⟩ => ⟨S4096x1280, .bf16⟩
  | .local _ .vmem, ⟨4, _⟩ => ⟨S1x1280, .f32⟩
  | .local _ .vmem, ⟨5, _⟩ => ⟨S1x1280, .f32⟩
  | .local _ .vmem, ⟨6, _⟩ => ⟨S128x1280, .f32⟩
  | .local _ .vmem, ⟨7, _⟩ => ⟨S128x1280, .f32⟩
  | .local _ .vmem, ⟨8, _⟩ => ⟨S128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_9 : BitVec 32 := 0#32
  let v17 : BitVec 1 := Scalar.cmpi .ne v16 c0_i32_9
  v17

def k0_cond5 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def k0_cond6 (i : grid0.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S128x4096 : Shape := ⟨2, ![128, 4096]⟩
abbrev S32x15x2048 : Shape := ⟨3, ![32, 15, 2048]⟩
abbrev S4096 : Shape := ⟨1, ![4096]⟩
abbrev S4096x6280 : Shape := ⟨2, ![4096, 6280]⟩
abbrev S128 : Shape := ⟨1, ![128]⟩
abbrev S_ : Shape := ⟨0, ![]⟩
abbrev S128x1 : Shape := ⟨2, ![128, 1]⟩
abbrev S1x4096 : Shape := ⟨2, ![1, 4096]⟩
abbrev S128x6280 : Shape := ⟨2, ![128, 6280]⟩
abbrev S128x2048 : Shape := ⟨2, ![128, 2048]⟩
abbrev S128x16x128 : Shape := ⟨3, ![128, 16, 128]⟩
abbrev S128x16 : Shape := ⟨2, ![128, 16]⟩
abbrev S128x16x1 : Shape := ⟨3, ![128, 16, 1]⟩
abbrev S1x1x128 : Shape := ⟨3, ![1, 1, 128]⟩
abbrev S128x512 : Shape := ⟨2, ![128, 512]⟩
abbrev S128x4x128 : Shape := ⟨3, ![128, 4, 128]⟩
abbrev S128x4 : Shape := ⟨2, ![128, 4]⟩
abbrev S128x4x1 : Shape := ⟨3, ![128, 4, 1]⟩
abbrev S128x1024 : Shape := ⟨2, ![128, 1024]⟩
abbrev S128x8x128 : Shape := ⟨3, ![128, 8, 128]⟩
abbrev S128x128 : Shape := ⟨2, ![128, 128]⟩
abbrev S1x128 : Shape := ⟨2, ![1, 128]⟩
abbrev S128x8 : Shape := ⟨2, ![128, 8]⟩
abbrev S32x4x2048 : Shape := ⟨3, ![32, 4, 2048]⟩
abbrev S32x19x2048 : Shape := ⟨3, ![32, 19, 2048]⟩
abbrev S1x32x4x4x128 : Shape := ⟨5, ![1, 32, 4, 4, 128]⟩
abbrev S1x32x4x128 : Shape := ⟨4, ![1, 32, 4, 128]⟩
abbrev S1x32x15x2048 : Shape := ⟨4, ![1, 32, 15, 2048]⟩

abbrev nBuf : Space → Nat
  | .hbm => 92
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S32x15x2048, .f32⟩
  | .hbm, ⟨2, _⟩ => ⟨S4096, .f32⟩
  | .hbm, ⟨3, _⟩ => ⟨S4096x6280, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x4096, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x4096, .f32⟩
  | .hbm, ⟨19, _⟩ => ⟨S128x4096, .f32⟩
  | .hbm, ⟨20, _⟩ => ⟨S1x4096, .f32⟩
  | .hbm, ⟨21, _⟩ => ⟨S128x4096, .f32⟩
  | .hbm, ⟨22, _⟩ => ⟨S128x4096, .f32⟩
  | .hbm, ⟨23, _⟩ => ⟨S128x6280, .f32⟩
  | .hbm, ⟨24, _⟩ => ⟨S128x2048, .f32⟩
  | .hbm, ⟨25, _⟩ => ⟨S128x16x128, .f32⟩
  | .hbm, ⟨26, _⟩ => ⟨S128x16x128, .f32⟩
  | .hbm, ⟨27, _⟩ => ⟨S_, .f32⟩
  | .hbm, ⟨28, _⟩ => ⟨S128x16, .f32⟩
  | .hbm, ⟨29, _⟩ => ⟨S128x16x1, .f32⟩
  | .hbm, ⟨30, _⟩ => ⟨S_, .f32⟩
  | .hbm, ⟨31, _⟩ => ⟨S128x16x1, .f32⟩
  | .hbm, ⟨32, _⟩ => ⟨S128x16x1, .f32⟩
  | .hbm, ⟨33, _⟩ => ⟨S_, .f32⟩
  | .hbm, ⟨34, _⟩ => ⟨S128x16x1, .f32⟩
  | .hbm, ⟨35, _⟩ => ⟨S128x16x1, .f32⟩
  | .hbm, ⟨36, _⟩ => ⟨S128x16x1, .f32⟩
  | .hbm, ⟨37, _⟩ => ⟨S128x16x128, .f32⟩
  | .hbm, ⟨38, _⟩ => ⟨S128x16x128, .f32⟩
  | .hbm, ⟨39, _⟩ => ⟨S1x1x128, .f32⟩
  | .hbm, ⟨40, _⟩ => ⟨S128x16x128, .f32⟩
  | .hbm, ⟨41, _⟩ => ⟨S128x16x128, .f32⟩
  | .hbm, ⟨42, _⟩ => ⟨S128x512, .f32⟩
  | .hbm, ⟨43, _⟩ => ⟨S128x4x128, .f32⟩
  | .hbm, ⟨44, _⟩ => ⟨S128x4x128, .f32⟩
  | .hbm, ⟨45, _⟩ => ⟨S_, .f32⟩
  | .hbm, ⟨46, _⟩ => ⟨S128x4, .f32⟩
  | .hbm, ⟨47, _⟩ => ⟨S128x4x1, .f32⟩
  | .hbm, ⟨48, _⟩ => ⟨S_, .f32⟩
  | .hbm, ⟨49, _⟩ => ⟨S128x4x1, .f32⟩
  | .hbm, ⟨50, _⟩ => ⟨S128x4x1, .f32⟩
  | .hbm, ⟨51, _⟩ => ⟨S_, .f32⟩
  | .hbm, ⟨52, _⟩ => ⟨S128x4x1, .f32⟩
  | .hbm, ⟨53, _⟩ => ⟨S128x4x1, .f32⟩
  | .hbm, ⟨54, _⟩ => ⟨S128x4x1, .f32⟩
  | .hbm, ⟨55, _⟩ => ⟨S128x4x128, .f32⟩
  | .hbm, ⟨56, _⟩ => ⟨S128x4x128, .f32⟩
  | .hbm, ⟨57, _⟩ => ⟨S1x1x128, .f32⟩
  | .hbm, ⟨58, _⟩ => ⟨S128x4x128, .f32⟩
  | .hbm, ⟨59, _⟩ => ⟨S128x4x128, .f32⟩
  | .hbm, ⟨60, _⟩ => ⟨S128x512, .f32⟩
  | .hbm, ⟨61, _⟩ => ⟨S128x4x128, .f32⟩
  | .hbm, ⟨62, _⟩ => ⟨S128x1024, .f32⟩
  | .hbm, ⟨63, _⟩ => ⟨S128x8x128, .f32⟩
  | .hbm, ⟨64, _⟩ => ⟨S128x128, .f32⟩
  | .hbm, ⟨65, _⟩ => ⟨S128x128, .f32⟩
  | .hbm, ⟨66, _⟩ => ⟨S_, .f32⟩
  | .hbm, ⟨67, _⟩ => ⟨S128, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S_, .f32⟩
  | .hbm, ⟨73, _⟩ => ⟨S128x1, .f32⟩
  | .hbm, ⟨74, _⟩ => ⟨S128x1, .f32⟩
  | .hbm, ⟨75, _⟩ => ⟨S128x1, .f32⟩
  | .hbm, ⟨76, _⟩ => ⟨S128x128, .f32⟩
  | .hbm, ⟨77, _⟩ => ⟨S128x128, .f32⟩
  | .hbm, ⟨78, _⟩ => ⟨S1x128, .f32⟩
  | .hbm, ⟨79, _⟩ => ⟨S128x128, .f32⟩
  | .hbm, ⟨80, _⟩ => ⟨S128x128, .f32⟩
  | .hbm, ⟨81, _⟩ => ⟨S128x2048, .f32⟩
  | .hbm, ⟨82, _⟩ => ⟨S128x8, .f32⟩
  | .hbm, ⟨83, _⟩ => ⟨S32x4x2048, .f32⟩
  | .hbm, ⟨84, _⟩ => ⟨S32x19x2048, .f32⟩
  | .hbm, ⟨85, _⟩ => ⟨S32x15x2048, .f32⟩
  | .hbm, ⟨86, _⟩ => ⟨S1x32x4x4x128, .f32⟩
  | .hbm, ⟨87, _⟩ => ⟨S1x32x4x4x128, .f32⟩
  | .hbm, ⟨88, _⟩ => ⟨S1x32x4x128, .f32⟩
  | .hbm, ⟨89, _⟩ => ⟨S1x32x15x2048, .f32⟩
  | .hbm, ⟨90, _⟩ => ⟨S128x2048, .f32⟩
  | .hbm, ⟨91, _⟩ => ⟨S128x1024, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel5.lean ====
abbrev S8192x4096 : Shape := ⟨2, ![8192, 4096]⟩
abbrev S8192x2048 : Shape := ⟨2, ![8192, 2048]⟩
abbrev S4096x4096 : Shape := ⟨2, ![4096, 4096]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S4096x4096, .bf16⟩
  | .hbm, ⟨5, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x4096 : Shape := ⟨2, ![8192, 4096]⟩
abbrev S8192x2048 : Shape := ⟨2, ![8192, 2048]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S128x4096 : Shape := ⟨2, ![128, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S43x4096x256 : Shape := ⟨3, ![43, 4096, 256]⟩
abbrev S4096x256 : Shape := ⟨2, ![4096, 256]⟩
abbrev S256x4096 : Shape := ⟨2, ![256, 4096]⟩
abbrev S1x4096x256 : Shape := ⟨3, ![1, 4096, 256]⟩
abbrev S128 : Shape := ⟨1, ![128]⟩
abbrev S128x1 : Shape := ⟨2, ![128, 1]⟩
abbrev S128x256 : Shape := ⟨2, ![128, 256]⟩

abbrev nBuf : Space → Nat
  | .hbm => 10
  | .vmem => 16
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S1x4096, .f32⟩
  | .hbm, ⟨6, _⟩ => ⟨S128x4096, .f32⟩
  | .hbm, ⟨7, _⟩ => ⟨S43x4096x256, .bf16⟩
  | .hbm, ⟨8, _⟩ => ⟨S43x4096x256, .bf16⟩
  | .hbm, ⟨9, _⟩ => ⟨S11008x4096, .bf16⟩
  | .local _ .vmem, ⟨0, _⟩ => ⟨S128x4096, .f32⟩
  | .local _ .vmem, ⟨1, _⟩ => ⟨S1x4096, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S256x4096, .f32⟩
  | .local _ .vmem, ⟨7, _⟩ => ⟨S256x4096, .f32⟩
  | .local _ .vmem, ⟨8, _⟩ => ⟨S128x4096, .f32⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S256x4096, .bf16⟩
  | .local _ .vmem, ⟨14, _⟩ => ⟨S256x4096, .bf16⟩
  | .local _ .vmem, ⟨15, _⟩ => ⟨S128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S128x4096 : Shape := ⟨2, ![128, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S128 : Shape := ⟨1, ![128]⟩
abbrev S128x1 : Shape := ⟨2, ![128, 1]⟩
abbrev S1x4096 : Shape := ⟨2, ![1, 4096]⟩
abbrev S128x11008 : Shape := ⟨2, ![128, 11008]⟩
abbrev S4096x43x256 : Shape := ⟨3, ![4096, 43, 256]⟩
abbrev S43x4096x256 : Shape := ⟨3, ![43, 4096, 256]⟩

abbrev nBuf : Space → Nat
  | .hbm => 45
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S128x4096, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x11008, .f32⟩
  | .hbm, ⟨22, _⟩ => ⟨S128x11008, .f32⟩
  | .hbm, ⟨23, _⟩ => ⟨S128x11008, .f32⟩
  | .hbm, ⟨24, _⟩ => ⟨S_, .f32⟩
  | .hbm, ⟨25, _⟩ => ⟨S128x11008, .f32⟩
  | .hbm, ⟨26, _⟩ => ⟨S128x11008, .f32⟩
  | .hbm, ⟨27, _⟩ => ⟨S_, .f32⟩
  | .hbm, ⟨28, _⟩ => ⟨S128x11008, .f32⟩
  | .hbm, ⟨29, _⟩ => ⟨S128x11008, .f32⟩
  | .hbm, ⟨30, _⟩ => ⟨S128x11008, .f32⟩
  | .hbm, ⟨31, _⟩ => ⟨S128x11008, .f32⟩
  | .hbm, ⟨32, _⟩ => ⟨S128x11008, .f32⟩
  | .hbm, ⟨33, _⟩ => ⟨S128x4096, .f32⟩
  | .hbm, ⟨34, _⟩ => ⟨S_, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S4096x43x256, .f32⟩
  | .hbm, ⟨39, _⟩ => ⟨S43x4096x256, .f32⟩
  | .hbm, ⟨40, _⟩ => ⟨S43x4096x256, .bf16⟩
  | .hbm, ⟨41, _⟩ => ⟨S4096x43x256, .f32⟩
  | .hbm, ⟨42, _⟩ => ⟨S43x4096x256, .f32⟩
  | .hbm, ⟨43, _⟩ => ⟨S43x4096x256, .bf16⟩
  | .hbm, ⟨44, _⟩ => ⟨S11008x4096, .bf16⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel7.lean ====
abbrev S32x4x2048 : Shape := ⟨3, ![32, 4, 2048]⟩
abbrev S32x15x2048 : Shape := ⟨3, ![32, 15, 2048]⟩
abbrev S4x512x512 : Shape := ⟨3, ![4, 512, 512]⟩
abbrev S2048 : Shape := ⟨1, ![2048]⟩
abbrev S32x19x2048 : Shape := ⟨3, ![32, 19, 2048]⟩
abbrev S19x32x2048 : Shape := ⟨3, ![19, 32, 2048]⟩
abbrev S1x2048 : Shape := ⟨2, ![1, 2048]⟩
abbrev S4x32x2048 : Shape := ⟨3, ![4, 32, 2048]⟩
abbrev S1x32x512 : Shape := ⟨3, ![1, 32, 512]⟩
abbrev S32x512 : Shape := ⟨2, ![32, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 10
  | .vmem => 4
  | .smem => 0
  | _ => 0

abbrev bufTy : (tb : Table) → Fin (tcTables nBuf tb) → BufTy
  | .hbm, ⟨0, _⟩ => ⟨S32x4x2048, .f32⟩
  | .hbm, ⟨1, _⟩ => ⟨S32x15x2048, .f32⟩
  | .hbm, ⟨2, _⟩ => ⟨S4x512x512, .f32⟩
  | .hbm, ⟨3, _⟩ => ⟨S2048, .f32⟩
  | .hbm, ⟨4, _⟩ => ⟨S32x19x2048, .f32⟩
  | .hbm, ⟨5, _⟩ => ⟨S19x32x2048, .f32⟩
  | .hbm, ⟨6, _⟩ => ⟨S4x512x512, .bf16⟩
  | .hbm, ⟨7, _⟩ => ⟨S1x2048, .f32⟩
  | .hbm, ⟨8, _⟩ => ⟨S4x32x2048, .bf16⟩
  | .hbm, ⟨9, _⟩ => ⟨S32x4x2048, .bf16⟩
  | .local _ .vmem, ⟨0, _⟩ => ⟨S19x32x2048, .f32⟩
  | .local _ .vmem, ⟨1, _⟩ => ⟨S4x512x512, .bf16⟩
  | .local _ .vmem, ⟨2, _⟩ => ⟨S1x2048, .f32⟩
  | .local _ .vmem, ⟨3, _⟩ => ⟨S4x32x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S19x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference7Ideal.lean ====
abbrev S32x4x2048 : Shape := ⟨3, ![32, 4, 2048]⟩
abbrev S32x15x2048 : Shape := ⟨3, ![32, 15, 2048]⟩
abbrev S4x512x512 : Shape := ⟨3, ![4, 512, 512]⟩
abbrev S2048 : Shape := ⟨1, ![2048]⟩
abbrev S4 : Shape := ⟨1, ![4]⟩
abbrev S32x19x2048 : Shape := ⟨3, ![32, 19, 2048]⟩
abbrev S4x512 : Shape := ⟨2, ![4, 512]⟩
abbrev S1x32x4x2048 : Shape := ⟨4, ![1, 32, 4, 2048]⟩
abbrev S16x32x4x2048 : Shape := ⟨4, ![16, 32, 4, 2048]⟩
abbrev S16 : Shape := ⟨1, ![16]⟩
abbrev S16x1x1x1 : Shape := ⟨4, ![16, 1, 1, 1]⟩
abbrev S1x1x1x2048 : Shape := ⟨4, ![1, 1, 1, 2048]⟩
abbrev S16x1x1x2048 : Shape := ⟨4, ![16, 1, 1, 2048]⟩
abbrev S_ : Shape := ⟨0, ![]⟩
abbrev S4x1 : Shape := ⟨2, ![4, 1]⟩
abbrev S1x2048 : Shape := ⟨2, ![1, 2048]⟩
abbrev S4x2048 : Shape := ⟨2, ![4, 2048]⟩
abbrev S1x4x2048 : Shape := ⟨3, ![1, 4, 2048]⟩
abbrev S32x4x4x512 : Shape := ⟨4, ![32, 4, 4, 512]⟩
abbrev S4x512x32x4 : Shape := ⟨4, ![4, 512, 32, 4]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x15x2048, .f32⟩
  | .hbm, ⟨2, _⟩ => ⟨S4x512x512, .f32⟩
  | .hbm, ⟨3, _⟩ => ⟨S2048, .f32⟩
  | .hbm, ⟨4, _⟩ => ⟨S4, .i32⟩
  | .hbm, ⟨5, _⟩ => ⟨S32x19x2048, .f32⟩
  | .hbm, ⟨6, _⟩ => ⟨S4x512, .i32⟩
  | .hbm, ⟨7, _⟩ => ⟨S2048, .i32⟩
  | .hbm, ⟨8, _⟩ => ⟨S32x4x2048, .f32⟩
  | .hbm, ⟨9, _⟩ => ⟨S32x4x2048, .f32⟩
  | .hbm, ⟨10, _⟩ => ⟨S32x4x2048, .f32⟩
  | .hbm, ⟨11, _⟩ => ⟨S32x4x2048, .f32⟩
  | .hbm, ⟨12, _⟩ => ⟨S32x4x2048, .f32⟩
  | .hbm, ⟨13, _⟩ => ⟨S32x4x2048, .f32⟩
  | .hbm, ⟨14, _⟩ => ⟨S32x4x2048, .f32⟩
  | .hbm, ⟨15, _⟩ => ⟨S32x4x2048, .f32⟩
  | .hbm, ⟨16, _⟩ => ⟨S32x4x2048, .f32⟩
  | .hbm, ⟨17, _⟩ => ⟨S32x4x2048, .f32⟩
  | .hbm, ⟨18, _⟩ => ⟨S32x4x2048, .f32⟩
  | .hbm, ⟨19, _⟩ => ⟨S32x4x2048, .f32⟩
  | .hbm, ⟨20, _⟩ => ⟨S32x4x2048, .f32⟩
  | .hbm, ⟨21, _⟩ => ⟨S32x4x2048, .f32⟩
  | .hbm, ⟨22, _⟩ => ⟨S32x4x2048, .f32⟩
  | .hbm, ⟨23, _⟩ => ⟨S32x4x2048, .f32⟩
  | .hbm, ⟨24, _⟩ => ⟨S1x32x4x2048, .f32⟩
  | .hbm, ⟨25, _⟩ => ⟨S1x32x4x2048, .f32⟩
  | .hbm, ⟨26, _⟩ => ⟨S1x32x4x2048, .f32⟩
  | .hbm, ⟨27, _⟩ => ⟨S1x32x4x2048, .f32⟩
  | .hbm, ⟨28, _⟩ => ⟨S1x32x4x2048, .f32⟩
  | .hbm, ⟨29, _⟩ => ⟨S1x32x4x2048, .f32⟩
  | .hbm, ⟨30, _⟩ => ⟨S1x32x4x2048, .f32⟩
  | .hbm, ⟨31, _⟩ => ⟨S1x32x4x2048, .f32⟩
  | .hbm, ⟨32, _⟩ => ⟨S1x32x4x2048, .f32⟩
  | .hbm, ⟨33, _⟩ => ⟨S1x32x4x2048, .f32⟩
  | .hbm, ⟨34, _⟩ => ⟨S1x32x4x2048, .f32⟩
  | .hbm, ⟨35, _⟩ => ⟨S1x32x4x2048, .f32⟩
  | .hbm, ⟨36, _⟩ => ⟨S1x32x4x2048, .f32⟩
  | .hbm, ⟨37, _⟩ => ⟨S1x32x4x2048, .f32⟩
  | .hbm, ⟨38, _⟩ => ⟨S1x32x4x2048, .f32⟩
  | .hbm, ⟨39, _⟩ => ⟨S1x32x4x2048, .f32⟩
  | .hbm, ⟨40, _⟩ => ⟨S16x32x4x2048, .f32⟩
  | .hbm, ⟨41, _⟩ => ⟨S16, .i32⟩
  | .hbm, ⟨42, _⟩ => ⟨S16x1x1x1, .i32⟩
  | .hbm, ⟨43, _⟩ => ⟨S1x1x1x2048, .i32⟩
  | .hbm, ⟨44, _⟩ => ⟨S16x1x1x2048, .i32⟩
  | .hbm, ⟨45, _⟩ => ⟨S16x1x1x2048, .i32⟩
  | .hbm, ⟨46, _⟩ => ⟨S16x1x1x2048, .i1⟩
  | .hbm, ⟨47, _⟩ => ⟨S_, .f32⟩
  | .hbm, ⟨48, _⟩ => ⟨S_, .f32⟩
  | .hbm, ⟨49, _⟩ => ⟨S16x32x4x2048, .i1⟩
  | .hbm, ⟨50, _⟩ => ⟨S16x32x4x2048, .f32⟩
  | .hbm, ⟨51, _⟩ => ⟨S16x32x4x2048, .f32⟩
  | .hbm, ⟨52, _⟩ => ⟨S_, .f32⟩
  | .hbm, ⟨53, _⟩ => ⟨S32x4x2048, .f32⟩
  | .hbm, ⟨54, _⟩ => ⟨S4, .i32⟩
  | .hbm, ⟨55, _⟩ => ⟨S4x1, .i32⟩
  | .hbm, ⟨56, _⟩ => ⟨S_, .i32⟩
  | .hbm, ⟨57, _⟩ => ⟨S4x1, .i32⟩
  | .hbm, ⟨58, _⟩ => ⟨S4x1, .i32⟩
  | .hbm, ⟨59, _⟩ => ⟨S_, .i32⟩
  | .hbm, ⟨60, _⟩ => ⟨S4x1, .i32⟩
  | .hbm, ⟨61, _⟩ => ⟨S4x1, .i32⟩
  | .hbm, ⟨62, _⟩ => ⟨S1x2048, .i32⟩
  | .hbm, ⟨63, _⟩ => ⟨S4x2048, .i32⟩
  | .hbm, ⟨64, _⟩ => ⟨S4x2048, .i32⟩
  | .hbm, ⟨65, _⟩ => ⟨S4x2048, .i32⟩
  | .hbm, ⟨66, _⟩ => ⟨S4x2048, .f32⟩
  | .hbm, ⟨67, _⟩ => ⟨S1x4x2048, .f32⟩
  | .hbm, ⟨68, _⟩ => ⟨S32x4x2048, .f32⟩
  | .hbm, ⟨69, _⟩ => ⟨S32x4x2048, .f32⟩
  | .hbm, ⟨70, _⟩ => ⟨S32x4x2048, .f32⟩
  | .hbm, ⟨71, _⟩ => ⟨S32x4x4x512, .f32⟩
  | .hbm, ⟨72, _⟩ => ⟨S4x512x32x4, .f32⟩
  | .hbm, ⟨73, _⟩ => ⟨S32x4x4x512, .f32⟩
  | .hbm, ⟨74, _⟩ => ⟨S32x4x2048, .f32⟩
  | .hbm, ⟨75, _⟩ => ⟨S1x1x2048, .f32⟩
  | .hbm, ⟨76, _⟩ => ⟨S32x4x2048, .f32⟩
  | .hbm, ⟨77, _⟩ => ⟨S32x4x2048, .f32⟩
  | .hbm, ⟨78, _⟩ => ⟨S32x4x2048, .bf16⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_1 : Ref sig .tc := ⟨.hbm, 56, rfl⟩
abbrev main_v46 : Ref sig .tc := ⟨.hbm, 57, rfl⟩
abbrev main_v47 : Ref sig .tc := ⟨.hbm, 58, rfl⟩
abbrev main_c_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== Kernel8.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x256 : Shape := ⟨3, ![2, 512, 256]⟩
abbrev S128x256 : Shape := ⟨2, ![128, 256]⟩
abbrev S512x128 : Shape := ⟨2, ![512, 128]⟩
abbrev S512x384 : Shape := ⟨2, ![512, 384]⟩
abbrev S256x384 : Shape := ⟨2, ![256, 384]⟩
abbrev S512x256 : Shape := ⟨2, ![512, 256]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S256x128 : Shape := ⟨2, ![256, 128]⟩
abbrev S1x512x256 : Shape := ⟨3, ![1, 512, 256]⟩
abbrev S1x128x128 : Shape := ⟨3, ![1, 128, 128]⟩
abbrev S1x128x256 : Shape := ⟨3, ![1, 128, 256]⟩
abbrev S4x128x256 : Shape := ⟨3, ![4, 128, 256]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x256, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_37 : BitVec 32 := 0#32
  let c15_i32 : BitVec 32 := 15#32
  let v124 : BitVec 32 := Scalar.addi c0_i32_37 c15_i32
  let c1_i32_38 : BitVec 32 := 1#32
  ⟨c0_i32_37, v124, c1_i32_38⟩
@[reducible] def k0_t2_loop : Scf.Loop 32 :=
  let c0_i32_267 : BitVec 32 := 0#32
  let c9_i32 : BitVec 32 := 9#32
  let v442 : BitVec 32 := Scalar.addi c0_i32_267 c9_i32
  let c1_i32_268 : BitVec 32 := 1#32
  ⟨c0_i32_267, v442, c1_i32_268⟩
def k0_cond3 (i : grid0.Coords) : BitVec 1 :=
  let c0_i32 : BitVec 32 := 0#32
  let arg1 : BitVec 32 := BitVec.ofNat 32 (i 1).val
  let v0 : BitVec 32 := Scalar.addi c0_i32 arg1
  let c0_i32_75 : BitVec 32 := 0#32
  let v186 : BitVec 1 := Scalar.cmpi .sgt v0 c0_i32_75
  let v187 : BitVec 32 := Scalar.extui v186
  let c0_i32_77 : BitVec 32 := 0#32
  let v188 : BitVec 1 := Scalar.cmpi .ne v187 c0_i32_77
  v188

def k0_mult1 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off1 (i : grid0.Coords) : Fin 2 → Nat :=
  let c0_270 : Index := 0#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![0, v446.toNat]
def k0_cond5 (i : grid0.Coords) : BitVec 1 :=
  let c0_i32 : BitVec 32 := 0#32
  let arg1 : BitVec 32 := BitVec.ofNat 32 (i 1).val
  let v0 : BitVec 32 := Scalar.addi c0_i32 arg1
  let c0_i32_81 : BitVec 32 := 0#32
  let v192 : BitVec 1 := Scalar.cmpi .sgt v0 c0_i32_81
  let v193 : BitVec 32 := Scalar.extui v192
  let c0_i32_83 : BitVec 32 := 0#32
  let v194 : BitVec 1 := Scalar.cmpi .ne v193 c0_i32_83
  v194

def k0_mult2 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off2 (i : grid0.Coords) : Fin 2 → Nat :=
  let c128_270 : Index := 128#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![128, v446.toNat]
def k0_cond7 (i : grid0.Coords) : BitVec 1 :=
  let c0_i32 : BitVec 32 := 0#32
  let arg1 : BitVec 32 := BitVec.ofNat 32 (i 1).val
  let v0 : BitVec 32 := Scalar.addi c0_i32 arg1
  let c0_i32_87 : BitVec 32 := 0#32
  let v198 : BitVec 1 := Scalar.cmpi .sgt v0 c0_i32_87
  let v199 : BitVec 32 := Scalar.extui v198
  let c0_i32_89 : BitVec 32 := 0#32
  let v200 : BitVec 1 := Scalar.cmpi .ne v199 c0_i32_89
  v200

def k0_mult3 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off3 (i : grid0.Coords) : Fin 2 → Nat :=
  let c256_270 : Index := 256#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![256, v446.toNat]
def k0_cond9 (i : grid0.Coords) : BitVec 1 :=
  let c0_i32 : BitVec 32 := 0#32
  let arg1 : BitVec 32 := BitVec.ofNat 32 (i 1).val
  let v0 : BitVec 32 := Scalar.addi c0_i32 arg1
  let c0_i32_93 : BitVec 32 := 0#32
  let v204 : BitVec 1 := Scalar.cmpi .sgt v0 c0_i32_93
  let v205 : BitVec 32 := Scalar.extui v204
  let c0_i32_95 : BitVec 32 := 0#32
  let v206 : BitVec 1 := Scalar.cmpi .ne v205 c0_i32_95
  v206

def k0_mult4 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off4 (i : grid0.Coords) : Fin 2 → Nat :=
  let c384_270 : Index := 384#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![384, v446.toNat]
def k0_cond11 (i : grid0.Coords) : BitVec 1 :=
  let c0_i32 : BitVec 32 := 0#32
  let arg1 : BitVec 32 := BitVec.ofNat 32 (i 1).val
  let v0 : BitVec 32 := Scalar.addi c0_i32 arg1
  let c0_i32_129 : BitVec 32 := 0#32
  let v254 : BitVec 1 := Scalar.cmpi .sgt v0 c0_i32_129
  let v255 : BitVec 32 := Scalar.extui v254
  let c0_i32_131 : BitVec 32 := 0#32
  let v256 : BitVec 1 := Scalar.cmpi .ne v255 c0_i32_131
  v256

def k0_mult5 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off5 (i : grid0.Coords) : Fin 2 → Nat :=
  let c0_270 : Index := 0#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![0, v446.toNat]
def k0_cond13 (i : grid0.Coords) : BitVec 1 :=
  let c0_i32 : BitVec 32 := 0#32
  let arg1 : BitVec 32 := BitVec.ofNat 32 (i 1).val
  let v0 : BitVec 32 := Scalar.addi c0_i32 arg1
  let c0_i32_135 : BitVec 32 := 0#32
  let v260 : BitVec 1 := Scalar.cmpi .sgt v0 c0_i32_135
  let v261 : BitVec 32 := Scalar.extui v260
  let c0_i32_137 : BitVec 32 := 0#32
  let v262 : BitVec 1 := Scalar.cmpi .ne v261 c0_i32_137
  v262

def k0_mult6 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off6 (i : grid0.Coords) : Fin 2 → Nat :=
  let c128_270 : Index := 128#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![128, v446.toNat]
def k0_cond15 (i : grid0.Coords) : BitVec 1 :=
  let c0_i32 : BitVec 32 := 0#32
  let arg1 : BitVec 32 := BitVec.ofNat 32 (i 1).val
  let v0 : BitVec 32 := Scalar.addi c0_i32 arg1
  let c0_i32_141 : BitVec 32 := 0#32
  let v266 : BitVec 1 := Scalar.cmpi .sgt v0 c0_i32_141
  let v267 : BitVec 32 := Scalar.extui v266
  let c0_i32_143 : BitVec 32 := 0#32
  let v268 : BitVec 1 := Scalar.cmpi .ne v267 c0_i32_143
  v268

def k0_mult7 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off7 (i : grid0.Coords) : Fin 2 → Nat :=
  let c256_270 : Index := 256#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![256, v446.toNat]
def k0_cond17 (i : grid0.Coords) : BitVec 1 :=
  let c0_i32 : BitVec 32 := 0#32
  let arg1 : BitVec 32 := BitVec.ofNat 32 (i 1).val
  let v0 : BitVec 32 := Scalar.addi c0_i32 arg1
  let c0_i32_147 : BitVec 32 := 0#32
  let v272 : BitVec 1 := Scalar.cmpi .sgt v0 c0_i32_147
  let v273 : BitVec 32 := Scalar.extui v272
  let c0_i32_149 : BitVec 32 := 0#32
  let v274 : BitVec 1 := Scalar.cmpi .ne v273 c0_i32_149
  v274

def k0_mult8 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off8 (i : grid0.Coords) : Fin 2 → Nat :=
  let c384_270 : Index := 384#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![384, v446.toNat]
def k0_cond19 (i : grid0.Coords) : BitVec 1 :=
  let c0_i32 : BitVec 32 := 0#32
  let arg1 : BitVec 32 := BitVec.ofNat 32 (i 1).val
  let v0 : BitVec 32 := Scalar.addi c0_i32 arg1
  let c0_i32_180 : BitVec 32 := 0#32
  let v322 : BitVec 1 := Scalar.cmpi .sgt v0 c0_i32_180
  let v323 : BitVec 32 := Scalar.extui v322
  let c0_i32_182 : BitVec 32 := 0#32
  let v324 : BitVec 1 := Scalar.cmpi .ne v323 c0_i32_182
  v324

def k0_mult9 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off9 (i : grid0.Coords) : Fin 2 → Nat :=
  let c0_270 : Index := 0#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![0, v446.toNat]
def k0_cond21 (i : grid0.Coords) : BitVec 1 :=
  let c0_i32 : BitVec 32 := 0#32
  let arg1 : BitVec 32 := BitVec.ofNat 32 (i 1).val
  let v0 : BitVec 32 := Scalar.addi c0_i32 arg1
  let c0_i32_186 : BitVec 32 := 0#32
  let v328 : BitVec 1 := Scalar.cmpi .sgt v0 c0_i32_186
  let v329 : BitVec 32 := Scalar.extui v328
  let c0_i32_188 : BitVec 32 := 0#32
  let v330 : BitVec 1 := Scalar.cmpi .ne v329 c0_i32_188
  v330

def k0_mult10 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off10 (i : grid0.Coords) : Fin 2 → Nat :=
  let c128_270 : Index := 128#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![128, v446.toNat]
def k0_cond23 (i : grid0.Coords) : BitVec 1 :=
  let c0_i32 : BitVec 32 := 0#32
  let arg1 : BitVec 32 := BitVec.ofNat 32 (i 1).val
  let v0 : BitVec 32 := Scalar.addi c0_i32 arg1
  let c0_i32_192 : BitVec 32 := 0#32
  let v334 : BitVec 1 := Scalar.cmpi .sgt v0 c0_i32_192
  let v335 : BitVec 32 := Scalar.extui v334
  let c0_i32_194 : BitVec 32 := 0#32
  let v336 : BitVec 1 := Scalar.cmpi .ne v335 c0_i32_194
  v336

def k0_mult11 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off11 (i : grid0.Coords) : Fin 2 → Nat :=
  let c256_270 : Index := 256#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![256, v446.toNat]
def k0_cond25 (i : grid0.Coords) : BitVec 1 :=
  let c0_i32 : BitVec 32 := 0#32
  let arg1 : BitVec 32 := BitVec.ofNat 32 (i 1).val
  let v0 : BitVec 32 := Scalar.addi c0_i32 arg1
  let c0_i32_198 : BitVec 32 := 0#32
  let v340 : BitVec 1 := Scalar.cmpi .sgt v0 c0_i32_198
  let v341 : BitVec 32 := Scalar.extui v340
  let c0_i32_200 : BitVec 32 := 0#32
  let v342 : BitVec 1 := Scalar.cmpi .ne v341 c0_i32_200
  v342

def k0_mult12 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off12 (i : grid0.Coords) : Fin 2 → Nat :=
  let c384_270 : Index := 384#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![384, v446.toNat]
def k0_cond27 (i : grid0.Coords) : BitVec 1 :=
  let c0_i32 : BitVec 32 := 0#32
  let arg1 : BitVec 32 := BitVec.ofNat 32 (i 1).val
  let v0 : BitVec 32 := Scalar.addi c0_i32 arg1
  let c0_i32_231 : BitVec 32 := 0#32
  let v390 : BitVec 1 := Scalar.cmpi .sgt v0 c0_i32_231
  let v391 : BitVec 32 := Scalar.extui v390
  let c0_i32_233 : BitVec 32 := 0#32
  let v392 : BitVec 1 := Scalar.cmpi .ne v391 c0_i32_233
  v392

def k0_mult13 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off13 (i : grid0.Coords) : Fin 2 → Nat :=
  let c0_270 : Index := 0#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![0, v446.toNat]
def k0_cond29 (i : grid0.Coords) : BitVec 1 :=
  let c0_i32 : BitVec 32 := 0#32
  let arg1 : BitVec 32 := BitVec.ofNat 32 (i 1).val
  let v0 : BitVec 32 := Scalar.addi c0_i32 arg1
  let c0_i32_237 : BitVec 32 := 0#32
  let v396 : BitVec 1 := Scalar.cmpi .sgt v0 c0_i32_237
  let v397 : BitVec 32 := Scalar.extui v396
  let c0_i32_239 : BitVec 32 := 0#32
  let v398 : BitVec 1 := Scalar.cmpi .ne v397 c0_i32_239
  v398

def k0_mult14 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off14 (i : grid0.Coords) : Fin 2 → Nat :=
  let c128_270 : Index := 128#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![128, v446.toNat]
def k0_cond31 (i : grid0.Coords) : BitVec 1 :=
  let c0_i32 : BitVec 32 := 0#32
  let arg1 : BitVec 32 := BitVec.ofNat 32 (i 1).val
  let v0 : BitVec 32 := Scalar.addi c0_i32 arg1
  let c0_i32_243 : BitVec 32 := 0#32
  let v402 : BitVec 1 := Scalar.cmpi .sgt v0 c0_i32_243
  let v403 : BitVec 32 := Scalar.extui v402
  let c0_i32_245 : BitVec 32 := 0#32
  let v404 : BitVec 1 := Scalar.cmpi .ne v403 c0_i32_245
  v404

def k0_mult15 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off15 (i : grid0.Coords) : Fin 2 → Nat :=
  let c256_270 : Index := 256#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![256, v446.toNat]
def k0_cond33 (i : grid0.Coords) : BitVec 1 :=
  let c0_i32 : BitVec 32 := 0#32
  let arg1 : BitVec 32 := BitVec.ofNat 32 (i 1).val
  let v0 : BitVec 32 := Scalar.addi c0_i32 arg1
  let c0_i32_249 : BitVec 32 := 0#32
  let v408 : BitVec 1 := Scalar.cmpi .sgt v0 c0_i32_249
  let v409 : BitVec 32 := Scalar.extui v408
  let c0_i32_251 : BitVec 32 := 0#32
  let v410 : BitVec 1 := Scalar.cmpi .ne v409 c0_i32_251
  v410

def k0_mult16 (i : grid0.Coords) : BitVec 32 :=
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  v442
def k0_off16 (i : grid0.Coords) : Fin 2 → Nat :=
  let c384_270 : Index := 384#32
  let c0_i32 : BitVec 32 := 0#32
  let arg1 : BitVec 32 := BitVec.ofNat 32 (i 1).val
  let v0 : BitVec 32 := Scalar.addi c0_i32 arg1
  let c1_i32_266 : BitVec 32 := 1#32
  let v441 : BitVec 32 := Scalar.subi v0 c1_i32_266
  let c128_i32_267 : BitVec 32 := 128#32
  let v442 : BitVec 32 := Scalar.muli v441 c128_i32_267
  let v443 : BitVec 32 := v442
  let v446 : Index := Scalar.indexCast v443
  ![384, v446.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c1_i32 : BitVec 32 := 1#32
  let c0_i32_0 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c49_i32 : BitVec 32 := 49#32
  let c0_i32_0 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel9.lean ====
abbrev S1024x8320 : Shape := ⟨2, ![1024, 8320]⟩
abbrev S128x8320 : Shape := ⟨2, ![128, 8320]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x8320, .f32⟩
  | .hbm, ⟨1, _⟩ => ⟨S1024x8320, .f32⟩
  | .local _ .vmem, ⟨0, _⟩ => ⟨S128x8320, .f32⟩
  | .local _ .vmem, ⟨1, _⟩ => ⟨S128x8320, .f32⟩
  | .local _ .vmem, ⟨2, _⟩ => ⟨S128x8320, .f32⟩
  | .local _ .vmem, ⟨3, _⟩ => ⟨S128x8320, .f32⟩
  | _, _ => ⟨S1024x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_6 : BitVec 32 := 0#32
  let c31_i32_7 : BitVec 32 := 31#32
  let v24 : BitVec 32 := Scalar.addi c0_i32_6 c31_i32_7
  let c1_i32 : BitVec 32 := 1#32
  ⟨c0_i32_6, v24, c1_i32⟩
@[reducible] def k0_t2_loop : Scf.Loop 32 :=
  let c0_i32_26 : BitVec 32 := 0#32
  let c14_i32 : BitVec 32 := 14#32
  let v71 : BitVec 32 := Scalar.addi c0_i32_26 c14_i32
  let c1_i32_27 : BitVec 32 := 1#32
  ⟨c0_i32_26, v71, c1_i32_27⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel10.lean ====
abbrev S32x16 : Shape := ⟨2, ![32, 16]⟩
abbrev S16x128x256 : Shape := ⟨3, ![16, 128, 256]⟩
abbrev S128x256 : Shape := ⟨2, ![128, 256]⟩
abbrev S1x1 : Shape := ⟨2, ![1, 1]⟩
abbrev S1x128x256 : Shape := ⟨3, ![1, 128, 256]⟩

abbrev nBuf : Space → Nat
  | .hbm => 2
  | .vmem => 1
  | .smem => 1
  | _ => 0

abbrev bufTy : (tb : Table) → Fin (tcTables nBuf tb) → BufTy
  | .hbm, ⟨0, _⟩ => ⟨S32x16, .f32⟩
  | .hbm, ⟨1, _⟩ => ⟨S16x128x256, .f32⟩
  | .local _ .vmem, ⟨0, _⟩ => ⟨S16x128x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel11.lean ====
abbrev S8192x6400 : Shape := ⟨2, ![8192, 6400]⟩
abbrev S8192x512 : Shape := ⟨2, ![8192, 512]⟩
abbrev S8192x384 : Shape := ⟨2, ![8192, 384]⟩
abbrev S2048x512 : Shape := ⟨2, ![2048, 512]⟩
abbrev S2048x128 : Shape := ⟨2, ![2048, 128]⟩
abbrev S2048x384 : Shape := ⟨2, ![2048, 384]⟩

abbrev nBuf : Space → Nat
  | .hbm => 4
  | .vmem => 12
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x128, .f32⟩
  | .local _ .vmem, ⟨5, _⟩ => ⟨S2048x128, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x384, .bf16⟩
  | .local _ .vmem, ⟨11, _⟩ => ⟨S2048x384, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel12.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x512 : Shape := ⟨3, ![2, 512, 512]⟩
abbrev S128x512 : Shape := ⟨2, ![128, 512]⟩
abbrev S512x128 : Shape := ⟨2, ![512, 128]⟩
abbrev S512x384 : Shape := ⟨2, ![512, 384]⟩
abbrev S512x512 : Shape := ⟨2, ![512, 512]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x512x512 : Shape := ⟨3, ![1, 512, 512]⟩
abbrev S128x256 : Shape := ⟨2, ![128, 256]⟩
abbrev S1x128x256 : Shape := ⟨3, ![1, 128, 256]⟩
abbrev S4x128x512 : Shape := ⟨3, ![4, 128, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x512, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_36 : BitVec 32 := 0#32
  let c15_i32 : BitVec 32 := 15#32
  let v124 : BitVec 32 := Scalar.addi c0_i32_36 c15_i32
  let c1_i32_37 : BitVec 32 := 1#32
  ⟨c0_i32_36, v124, c1_i32_37⟩
@[reducible] def k0_t2_loop : Scf.Loop 32 :=
  let c0_i32_364 : BitVec 32 := 0#32
  let c10_i32 : BitVec 32 := 10#32
  let v602 : BitVec 32 := Scalar.addi c0_i32_364 c10_i32
  let c1_i32_365 : BitVec 32 := 1#32
  ⟨c0_i32_364, v602, c1_i32_365⟩
def k0_mult1 (i : grid0.Coords) : BitVec 32 :=
  let c2_i32 : BitVec 32 := 2#32
  let arg1 : BitVec 32 := BitVec.ofNat 32 (i 1).val
  let v0 : BitVec 32 := Scalar.addi c2_i32 arg1
  let c1_i32_71 : BitVec 32 := 1#32
  let v183 : BitVec 32 := Scalar.subi v0 c1_i32_71
  let c128_i32_72 : BitVec 32 := 128#32
  let v184 : BitVec 32 := Scalar.muli v183 c128_i32_72
  v184
def k0_off1 (i : grid0.Coords) : Fin 2 → Nat :=
  let c0_76 : Index := 0#32
  let c2_i32 : BitVec 32 := 2#32
  let arg1 : BitVec 32 := BitVec.ofNat 32 (i 1).val
  let v0 : BitVec 32 := Scalar.addi c2_i32 arg1
  let c1_i32_71 : BitVec 32 := 1#32
  let v183 : BitVec 32 := Scalar.subi v0 c1_i32_71
  let c128_i32_72 : BitVec 32 := 128#32
  let v184 : BitVec 32 := Scalar.muli v183 c128_i32_72
  let v185 : BitVec 32 := v184
  let v188 : Index := Scalar.indexCast v185
  ![0, v188.toNat]
def k0_mult2 (i : grid0.Coords) : BitVec 32 :=
  let c2_i32 : BitVec 32 := 2#32
  let arg1 : BitVec 32 := BitVec.ofNat 32 (i 1).val
  let v0 : BitVec 32 := Scalar.addi c2_i32 arg1
  let c1_i32_84 : BitVec 32 := 1#32
  let v199 : BitVec 32 := Scalar.subi v0 c1_i32_84
  let c128_i32_85 : BitVec 32 := 128#32
  let v200 : BitVec 32 := Scalar.muli v199 c128_i32_85
  v200
def k0_off2 (i : grid0.Coords) : Fin 2 → Nat :=
  let c128_89 : Index := 128#32
  let c2_i32 : BitVec 32 := 2#32
  let arg1 : BitVec 32 := BitVec.ofNat 32 (i 1).val
  let v0 : BitVec 32 := Scalar.addi c2_i32 arg1
  let c1_i32_84 : BitVec 32 := 1#32
  let v199 : BitVec 32 := Scalar.subi v0 c1_i32_84
  let c128_i32_85 : BitVec 32 := 128#32
  let v200 : BitVec 32 := Scalar.muli v199 c128_i32_85
  let v201 : BitVec 32 := v200
  let v204 : Index := Scalar.indexCast v201
  ![128, v204.toNat]
def k0_mult3 (i : grid0.Coords) : BitVec 32 :=
  let c2_i32 : BitVec 32 := 2#32
  let arg1 : BitVec 32 := BitVec.ofNat 32 (i 1).val
  let v0 : BitVec 32 := Scalar.addi c2_i32 arg1
  let c1_i32_96 : BitVec 32 := 1#32
  let v215 : BitVec 32 := Scalar.subi v0 c1_i32_96
  let c128_i32_97 : BitVec 32 := 128#32
  let v216 : BitVec 32 := Scalar.muli v215 c128_i32_97
  v216
def k0_off3 (i : grid0.Coords) : Fin 2 → Nat :=
  let c256_101 : Index := 256#32
  let c2_i32 : BitVec 32 := 2#32
  let arg1 : BitVec 32 := BitVec.ofNat 32 (i 1).val
  let v0 : BitVec 32 := Scalar.addi c2_i32 arg1
  let c1_i32_96 : BitVec 32 := 1#32
  let v215 : BitVec 32 := Scalar.subi v0 c1_i32_96
  let c128_i32_97 : BitVec 32 := 128#32
  let v216 : BitVec 32 := Scalar.muli v215 c128_i32_97
  let v217 : BitVec 32 := v216
  let v220 : Index := Scalar.indexCast v217
  ![256, v220.toNat]
def k0_mult4 (i : grid0.Coords) : BitVec 32 :=
  let c2_i32 : BitVec 32 := 2#32
  let arg1 : BitVec 32 := BitVec.ofNat 32 (i 1).val
  let v0 : BitVec 32 := Scalar.addi c2_i32 arg1
  let c1_i32_108 : BitVec 32 := 1#32
  let v231 : BitVec 32 := Scalar.subi v0 c1_i32_108
  let c128_i32_109 : BitVec 32 := 128#32
  let v232 : BitVec 32 := Scalar.muli v231 c128_i32_109
  v232
def k0_off4 (i : grid0.Coords) : Fin 2 → Nat :=
  let c384_113 : Index := 384#32
  let c2_i32 : BitVec 32 := 2#32
  let arg1 : BitVec 32 := BitVec.ofNat 32 (i 1).val
  let v0 : BitVec 32 := Scalar.addi c2_i32 arg1
  let c1_i32_108 : BitVec 32 := 1#32
  let v231 : BitVec 32 := Scalar.subi v0 c1_i32_108
  let c128_i32_109 : BitVec 32 := 128#32
  let v232 : BitVec 32 := Scalar.muli v231 c128_i32_109
  let v233 : BitVec 32 := v232
  let v236 : Index := Scalar.indexCast v233
  ![384, v236.toNat]
def k0_mult5 (i : grid0.Coords) : BitVec 32 :=
  let c2_i32 : BitVec 32 := 2#32
  let arg1 : BitVec 32 := BitVec.ofNat 32 (i 1).val
  let v0 : BitVec 32 := Scalar.addi c2_i32 arg1
  let c1_i32_151 : BitVec 32 := 1#32
  let v291 : BitVec 32 := Scalar.subi v0 c1_i32_151
  let c128_i32_152 : BitVec 32 := 128#32
  let v292 : BitVec 32 := Scalar.muli v291 c128_i32_152
  v292
def k0_mult6 (i : grid0.Coords) : BitVec 32 :=
  let c2_i32 : BitVec 32 := 2#32
  let arg1 : BitVec 32 := BitVec.ofNat 32 (i 1).val
  let v0 : BitVec 32 := Scalar.addi c2_i32 arg1
  let c1_i32_163 : BitVec 32 := 1#32
  let v307 : BitVec 32 := Scalar.subi v0 c1_i32_163
  let c128_i32_164 : BitVec 32 := 128#32
  let v308 : BitVec 32 := Scalar.muli v307 c128_i32_164
  v308
def k0_mult7 (i : grid0.Coords) : BitVec 32 :=
  let c2_i32 : BitVec 32 := 2#32
  let arg1 : BitVec 32 := BitVec.ofNat 32 (i 1).val
  let v0 : BitVec 32 := Scalar.addi c2_i32 arg1
  let c1_i32_175 : BitVec 32 := 1#32
  let v323 : BitVec 32 := Scalar.subi v0 c1_i32_175
  let c128_i32_176 : BitVec 32 := 128#32
  let v324 : BitVec 32 := Scalar.muli v323 c128_i32_176
  v324
def k0_mult8 (i : grid0.Coords) : BitVec 32 :=
  let c2_i32 : BitVec 32 := 2#32
  let arg1 : BitVec 32 := BitVec.ofNat 32 (i 1).val
  let v0 : BitVec 32 := Scalar.addi c2_i32 arg1
  let c1_i32_187 : BitVec 32 := 1#32
  let v339 : BitVec 32 := Scalar.subi v0 c1_i32_187
  let c128_i32_188 : BitVec 32 := 128#32
  let v340 : BitVec 32 := Scalar.muli v339 c128_i32_188
  v340
def k0_mult9 (i : grid0.Coords) : BitVec 32 :=
  let c2_i32 : BitVec 32 := 2#32
  let arg1 : BitVec 32 := BitVec.ofNat 32 (i 1).val
  let v0 : BitVec 32 := Scalar.addi c2_i32 arg1
  let c1_i32_226 : BitVec 32 := 1#32
  let v399 : BitVec 32 := Scalar.subi v0 c1_i32_226
  let c128_i32_227 : BitVec 32 := 128#32
  let v400 : BitVec 32 := Scalar.muli v399 c128_i32_227
  v400
def k0_mult10 (i : grid0.Coords) : BitVec 32 :=
  let c2_i32 : BitVec 32 := 2#32
  let arg1 : BitVec 32 := BitVec.ofNat 32 (i 1).val
  let v0 : BitVec 32 := Scalar.addi c2_i32 arg1
  let c1_i32_238 : BitVec 32 := 1#32
  let v415 : BitVec 32 := Scalar.subi v0 c1_i32_238
  let c128_i32_239 : BitVec 32 := 128#32
  let v416 : BitVec 32 := Scalar.muli v415 c128_i32_239
  v416
def k0_mult11 (i : grid0.Coords) : BitVec 32 :=
  let c2_i32 : BitVec 32 := 2#32
  let arg1 : BitVec 32 := BitVec.ofNat 32 (i 1).val
  let v0 : BitVec 32 := Scalar.addi c2_i32 arg1
  let c1_i32_250 : BitVec 32 := 1#32
  let v431 : BitVec 32 := Scalar.subi v0 c1_i32_250
  let c128_i32_251 : BitVec 32 := 128#32
  let v432 : BitVec 32 := Scalar.muli v431 c128_i32_251
  v432
def k0_mult12 (i : grid0.Coords) : BitVec 32 :=
  let c2_i32 : BitVec 32 := 2#32
  let arg1 : BitVec 32 := BitVec.ofNat 32 (i 1).val
  let v0 : BitVec 32 := Scalar.addi c2_i32 arg1
  let c1_i32_262 : BitVec 32 := 1#32
  let v447 : BitVec 32 := Scalar.subi v0 c1_i32_262
  let c128_i32_263 : BitVec 32 := 128#32
  let v448 : BitVec 32 := Scalar.muli v447 c128_i32_263
  v448
def k0_mult13 (i : grid0.Coords) : BitVec 32 :=
  let c2_i32 : BitVec 32 := 2#32
  let arg1 : BitVec 32 := BitVec.ofNat 32 (i 1).val
  let v0 : BitVec 32 := Scalar.addi c2_i32 arg1
  let c1_i32_301 : BitVec 32 := 1#32
  let v507 : BitVec 32 := Scalar.subi v0 c1_i32_301
  let c128_i32_302 : BitVec 32 := 128#32
  let v508 : BitVec 32 := Scalar.muli v507 c128_i32_302
  v508
def k0_mult14 (i : grid0.Coords) : BitVec 32 :=
  let c2_i32 : BitVec 32 := 2#32
  let arg1 : BitVec 32 := BitVec.ofNat 32 (i 1).val
  let v0 : BitVec 32 := Scalar.addi c2_i32 arg1
  let c1_i32_313 : BitVec 32 := 1#32
  let v523 : BitVec 32 := Scalar.subi v0 c1_i32_313
  let c128_i32_314 : BitVec 32 := 128#32
  let v524 : BitVec 32 := Scalar.muli v523 c128_i32_314
  v524
def k0_mult15 (i : grid0.Coords) : BitVec 32 :=
  let c2_i32 : BitVec 32 := 2#32
  let arg1 : BitVec 32 := BitVec.ofNat 32 (i 1).val
  let v0 : BitVec 32 := Scalar.addi c2_i32 arg1
  let c1_i32_325 : BitVec 32 := 1#32
  let v539 : BitVec 32 := Scalar.subi v0 c1_i32_325
  let c128_i32_326 : BitVec 32 := 128#32
  let v540 : BitVec 32 := Scalar.muli v539 c128_i32_326
  v540
def k0_mult16 (i : grid0.Coords) : BitVec 32 :=
  let c2_i32 : BitVec 32 := 2#32
  let arg1 : BitVec 32 := BitVec.ofNat 32 (i 1).val
  let v0 : BitVec 32 := Scalar.addi c2_i32 arg1
  let c1_i32_337 : BitVec 32 := 1#32
  let v555 : BitVec 32 := Scalar.subi v0 c1_i32_337
  let c128_i32_338 : BitVec 32 := 128#32
  let v556 : BitVec 32 := Scalar.muli v555 c128_i32_338
  v556
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.addi v0 c2_i32
  let v2 : BitVec 32 := Scalar.addi v1 arg1
  let c1_i32 : BitVec 32 := 1#32
  let c0_i32 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.addi v0 c2_i32
  let v2 : BitVec 32 := Scalar.addi v1 arg1
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.addi v0 c2_i32
  let v2 : BitVec 32 := Scalar.addi v1 arg1
  let c49_i32 : BitVec 32 := 49#32
  let c0_i32 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel13.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x768 : Shape := ⟨3, ![2, 512, 768]⟩
abbrev S128x768 : Shape := ⟨2, ![128, 768]⟩
abbrev S512x128 : Shape := ⟨2, ![512, 128]⟩
abbrev S512x384 : Shape := ⟨2, ![512, 384]⟩
abbrev S768x384 : Shape := ⟨2, ![768, 384]⟩
abbrev S512x768 : Shape := ⟨2, ![512, 768]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S768x128 : Shape := ⟨2, ![768, 128]⟩
abbrev S1x512x768 : Shape := ⟨3, ![1, 512, 768]⟩
abbrev S128x256 : Shape := ⟨2, ![128, 256]⟩
abbrev S1x128x256 : Shape := ⟨3, ![1, 128, 256]⟩
abbrev S4x128x768 : Shape := ⟨3, ![4, 128, 768]⟩
abbrev S1x128x768 : Shape := ⟨3, ![1, 128, 768]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x768, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_36 : BitVec 32 := 0#32
  let c15_i32 : BitVec 32 := 15#32
  let v124 : BitVec 32 := Scalar.addi c0_i32_36 c15_i32
  let c1_i32_37 : BitVec 32 := 1#32
  ⟨c0_i32_36, v124, c1_i32_37⟩
@[reducible] def k0_t2_loop : Scf.Loop 32 :=
  let c0_i32_364 : BitVec 32 := 0#32
  let c10_i32 : BitVec 32 := 10#32
  let v602 : BitVec 32 := Scalar.addi c0_i32_364 c10_i32
  let c1_i32_365 : BitVec 32 := 1#32
  ⟨c0_i32_364, v602, c1_i32_365⟩
def k0_mult1 (i : grid0.Coords) : BitVec 32 :=
  let c4_i32 : BitVec 32 := 4#32
  let arg1 : BitVec 32 := BitVec.ofNat 32 (i 1).val
  let v0 : BitVec 32 := Scalar.addi c4_i32 arg1
  let c1_i32_71 : BitVec 32 := 1#32
  let v183 : BitVec 32 := Scalar.subi v0 c1_i32_71
  let c128_i32_72 : BitVec 32 := 128#32
  let v184 : BitVec 32 := Scalar.muli v183 c128_i32_72
  v184
def k0_off1 (i : grid0.Coords) : Fin 2 → Nat :=
  let c0_76 : Index := 0#32
  let c4_i32 : BitVec 32 := 4#32
  let arg1 : BitVec 32 := BitVec.ofNat 32 (i 1).val
  let v0 : BitVec 32 := Scalar.addi c4_i32 arg1
  let c1_i32_71 : BitVec 32 := 1#32
  let v183 : BitVec 32 := Scalar.subi v0 c1_i32_71
  let c128_i32_72 : BitVec 32 := 128#32
  let v184 : BitVec 32 := Scalar.muli v183 c128_i32_72
  let v185 : BitVec 32 := v184
  let v188 : Index := Scalar.indexCast v185
  ![0, v188.toNat]
def k0_mult2 (i : grid0.Coords) : BitVec 32 :=
  let c4_i32 : BitVec 32 := 4#32
  let arg1 : BitVec 32 := BitVec.ofNat 32 (i 1).val
  let v0 : BitVec 32 := Scalar.addi c4_i32 arg1
  let c1_i32_84 : BitVec 32 := 1#32
  let v199 : BitVec 32 := Scalar.subi v0 c1_i32_84
  let c128_i32_85 : BitVec 32 := 128#32
  let v200 : BitVec 32 := Scalar.muli v199 c128_i32_85
  v200
def k0_off2 (i : grid0.Coords) : Fin 2 → Nat :=
  let c128_89 : Index := 128#32
  let c4_i32 : BitVec 32 := 4#32
  let arg1 : BitVec 32 := BitVec.ofNat 32 (i 1).val
  let v0 : BitVec 32 := Scalar.addi c4_i32 arg1
  let c1_i32_84 : BitVec 32 := 1#32
  let v199 : BitVec 32 := Scalar.subi v0 c1_i32_84
  let c128_i32_85 : BitVec 32 := 128#32
  let v200 : BitVec 32 := Scalar.muli v199 c128_i32_85
  let v201 : BitVec 32 := v200
  let v204 : Index := Scalar.indexCast v201
  ![128, v204.toNat]
def k0_mult3 (i : grid0.Coords) : BitVec 32 :=
  let c4_i32 : BitVec 32 := 4#32
  let arg1 : BitVec 32 := BitVec.ofNat 32 (i 1).val
  let v0 : BitVec 32 := Scalar.addi c4_i32 arg1
  let c1_i32_96 : BitVec 32 := 1#32
  let v215 : BitVec 32 := Scalar.subi v0 c1_i32_96
  let c128_i32_97 : BitVec 32 := 128#32
  let v216 : BitVec 32 := Scalar.muli v215 c128_i32_97
  v216
def k0_off3 (i : grid0.Coords) : Fin 2 → Nat :=
  let c256_101 : Index := 256#32
  let c4_i32 : BitVec 32 := 4#32
  let arg1 : BitVec 32 := BitVec.ofNat 32 (i 1).val
  let v0 : BitVec 32 := Scalar.addi c4_i32 arg1
  let c1_i32_96 : BitVec 32 := 1#32
  let v215 : BitVec 32 := Scalar.subi v0 c1_i32_96
  let c128_i32_97 : BitVec 32 := 128#32
  let v216 : BitVec 32 := Scalar.muli v215 c128_i32_97
  let v217 : BitVec 32 := v216
  let v220 : Index := Scalar.indexCast v217
  ![256, v220.toNat]
def k0_mult4 (i : grid0.Coords) : BitVec 32 :=
  let c4_i32 : BitVec 32 := 4#32
  let arg1 : BitVec 32 := BitVec.ofNat 32 (i 1).val
  let v0 : BitVec 32 := Scalar.addi c4_i32 arg1
  let c1_i32_108 : BitVec 32 := 1#32
  let v231 : BitVec 32 := Scalar.subi v0 c1_i32_108
  let c128_i32_109 : BitVec 32 := 128#32
  let v232 : BitVec 32 := Scalar.muli v231 c128_i32_109
  v232
def k0_off4 (i : grid0.Coords) : Fin 2 → Nat :=
  let c384_113 : Index := 384#32
  let c4_i32 : BitVec 32 := 4#32
  let arg1 : BitVec 32 := BitVec.ofNat 32 (i 1).val
  let v0 : BitVec 32 := Scalar.addi c4_i32 arg1
  let c1_i32_108 : BitVec 32 := 1#32
  let v231 : BitVec 32 := Scalar.subi v0 c1_i32_108
  let c128_i32_109 : BitVec 32 := 128#32
  let v232 : BitVec 32 := Scalar.muli v231 c128_i32_109
  let v233 : BitVec 32 := v232
  let v236 : Index := Scalar.indexCast v233
  ![384, v236.toNat]
def k0_mult5 (i : grid0.Coords) : BitVec 32 :=
  let c4_i32 : BitVec 32 := 4#32
  let arg1 : BitVec 32 := BitVec.ofNat 32 (i 1).val
  let v0 : BitVec 32 := Scalar.addi c4_i32 arg1
  let c1_i32_151 : BitVec 32 := 1#32
  let v291 : BitVec 32 := Scalar.subi v0 c1_i32_151
  let c128_i32_152 : BitVec 32 := 128#32
  let v292 : BitVec 32 := Scalar.muli v291 c128_i32_152
  v292
def k0_mult6 (i : grid0.Coords) : BitVec 32 :=
  let c4_i32 : BitVec 32 := 4#32
  let arg1 : BitVec 32 := BitVec.ofNat 32 (i 1).val
  let v0 : BitVec 32 := Scalar.addi c4_i32 arg1
  let c1_i32_163 : BitVec 32 := 1#32
  let v307 : BitVec 32 := Scalar.subi v0 c1_i32_163
  let c128_i32_164 : BitVec 32 := 128#32
  let v308 : BitVec 32 := Scalar.muli v307 c128_i32_164
  v308
def k0_mult7 (i : grid0.Coords) : BitVec 32 :=
  let c4_i32 : BitVec 32 := 4#32
  let arg1 : BitVec 32 := BitVec.ofNat 32 (i 1).val
  let v0 : BitVec 32 := Scalar.addi c4_i32 arg1
  let c1_i32_175 : BitVec 32 := 1#32
  let v323 : BitVec 32 := Scalar.subi v0 c1_i32_175
  let c128_i32_176 : BitVec 32 := 128#32
  let v324 : BitVec 32 := Scalar.muli v323 c128_i32_176
  v324
def k0_mult8 (i : grid0.Coords) : BitVec 32 :=
  let c4_i32 : BitVec 32 := 4#32
  let arg1 : BitVec 32 := BitVec.ofNat 32 (i 1).val
  let v0 : BitVec 32 := Scalar.addi c4_i32 arg1
  let c1_i32_187 : BitVec 32 := 1#32
  let v339 : BitVec 32 := Scalar.subi v0 c1_i32_187
  let c128_i32_188 : BitVec 32 := 128#32
  let v340 : BitVec 32 := Scalar.muli v339 c128_i32_188
  v340
def k0_mult9 (i : grid0.Coords) : BitVec 32 :=
  let c4_i32 : BitVec 32 := 4#32
  let arg1 : BitVec 32 := BitVec.ofNat 32 (i 1).val
  let v0 : BitVec 32 := Scalar.addi c4_i32 arg1
  let c1_i32_226 : BitVec 32 := 1#32
  let v399 : BitVec 32 := Scalar.subi v0 c1_i32_226
  let c128_i32_227 : BitVec 32 := 128#32
  let v400 : BitVec 32 := Scalar.muli v399 c128_i32_227
  v400
def k0_mult10 (i : grid0.Coords) : BitVec 32 :=
  let c4_i32 : BitVec 32 := 4#32
  let arg1 : BitVec 32 := BitVec.ofNat 32 (i 1).val
  let v0 : BitVec 32 := Scalar.addi c4_i32 arg1
  let c1_i32_238 : BitVec 32 := 1#32
  let v415 : BitVec 32 := Scalar.subi v0 c1_i32_238
  let c128_i32_239 : BitVec 32 := 128#32
  let v416 : BitVec 32 := Scalar.muli v415 c128_i32_239
  v416
def k0_mult11 (i : grid0.Coords) : BitVec 32 :=
  let c4_i32 : BitVec 32 := 4#32
  let arg1 : BitVec 32 := BitVec.ofNat 32 (i 1).val
  let v0 : BitVec 32 := Scalar.addi c4_i32 arg1
  let c1_i32_250 : BitVec 32 := 1#32
  let v431 : BitVec 32 := Scalar.subi v0 c1_i32_250
  let c128_i32_251 : BitVec 32 := 128#32
  let v432 : BitVec 32 := Scalar.muli v431 c128_i32_251
  v432
def k0_mult12 (i : grid0.Coords) : BitVec 32 :=
  let c4_i32 : BitVec 32 := 4#32
  let arg1 : BitVec 32 := BitVec.ofNat 32 (i 1).val
  let v0 : BitVec 32 := Scalar.addi c4_i32 arg1
  let c1_i32_262 : BitVec 32 := 1#32
  let v447 : BitVec 32 := Scalar.subi v0 c1_i32_262
  let c128_i32_263 : BitVec 32 := 128#32
  let v448 : BitVec 32 := Scalar.muli v447 c128_i32_263
  v448
def k0_mult13 (i : grid0.Coords) : BitVec 32 :=
  let c4_i32 : BitVec 32 := 4#32
  let arg1 : BitVec 32 := BitVec.ofNat 32 (i 1).val
  let v0 : BitVec 32 := Scalar.addi c4_i32 arg1
  let c1_i32_301 : BitVec 32 := 1#32
  let v507 : BitVec 32 := Scalar.subi v0 c1_i32_301
  let c128_i32_302 : BitVec 32 := 128#32
  let v508 : BitVec 32 := Scalar.muli v507 c128_i32_302
  v508
def k0_mult14 (i : grid0.Coords) : BitVec 32 :=
  let c4_i32 : BitVec 32 := 4#32
  let arg1 : BitVec 32 := BitVec.ofNat 32 (i 1).val
  let v0 : BitVec 32 := Scalar.addi c4_i32 arg1
  let c1_i32_313 : BitVec 32 := 1#32
  let v523 : BitVec 32 := Scalar.subi v0 c1_i32_313
  let c128_i32_314 : BitVec 32 := 128#32
  let v524 : BitVec 32 := Scalar.muli v523 c128_i32_314
  v524
def k0_mult15 (i : grid0.Coords) : BitVec 32 :=
  let c4_i32 : BitVec 32 := 4#32
  let arg1 : BitVec 32 := BitVec.ofNat 32 (i 1).val
  let v0 : BitVec 32 := Scalar.addi c4_i32 arg1
  let c1_i32_325 : BitVec 32 := 1#32
  let v539 : BitVec 32 := Scalar.subi v0 c1_i32_325
  let c128_i32_326 : BitVec 32 := 128#32
  let v540 : BitVec 32 := Scalar.muli v539 c128_i32_326
  v540
def k0_mult16 (i : grid0.Coords) : BitVec 32 :=
  let c4_i32 : BitVec 32 := 4#32
  let arg1 : BitVec 32 := BitVec.ofNat 32 (i 1).val
  let v0 : BitVec 32 := Scalar.addi c4_i32 arg1
  let c1_i32_337 : BitVec 32 := 1#32
  let v555 : BitVec 32 := Scalar.subi v0 c1_i32_337
  let c128_i32_338 : BitVec 32 := 128#32
  let v556 : BitVec 32 := Scalar.muli v555 c128_i32_338
  v556
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.addi v0 c4_i32
  let v2 : BitVec 32 := Scalar.addi v1 arg1
  let c1_i32 : BitVec 32 := 1#32
  let c0_i32 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.addi v0 c4_i32
  let v2 : BitVec 32 := Scalar.addi v1 arg1
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.addi v0 c4_i32
  let v2 : BitVec 32 := Scalar.addi v1 arg1
  let c49_i32 : BitVec 32 := 49#32
  let c0_i32 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel14.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x1024 : Shape := ⟨3, ![2, 512, 1024]⟩
abbrev S512x128 : Shape := ⟨2, ![512, 128]⟩
abbrev S512x384 : Shape := ⟨2, ![512, 384]⟩
abbrev S1024x384 : Shape := ⟨2, ![1024, 384]⟩
abbrev S512x1024 : Shape := ⟨2, ![512, 1024]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1024x128 : Shape := ⟨2, ![1024, 128]⟩
abbrev S1x512x1024 : Shape := ⟨3, ![1, 512, 1024]⟩
abbrev S128x256 : Shape := ⟨2, ![128, 256]⟩
abbrev S1x128x256 : Shape := ⟨3, ![1, 128, 256]⟩
abbrev S4x128x1024 : Shape := ⟨3, ![4, 128, 1024]⟩
abbrev S1x128x1024 : Shape := ⟨3, ![1, 128, 1024]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x1024, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_36 : BitVec 32 := 0#32
  let c15_i32 : BitVec 32 := 15#32
  let v124 : BitVec 32 := Scalar.addi c0_i32_36 c15_i32
  let c1_i32_37 : BitVec 32 := 1#32
  ⟨c0_i32_36, v124, c1_i32_37⟩
@[reducible] def k0_t2_loop : Scf.Loop 32 :=
  let c0_i32_364 : BitVec 32 := 0#32
  let c11_i32 : BitVec 32 := 11#32
  let v602 : BitVec 32 := Scalar.addi c0_i32_364 c11_i32
  let c1_i32_365 : BitVec 32 := 1#32
  ⟨c0_i32_364, v602, c1_i32_365⟩
def k0_mult1 (i : grid0.Coords) : BitVec 32 :=
  let c6_i32 : BitVec 32 := 6#32
  let arg1 : BitVec 32 := BitVec.ofNat 32 (i 1).val
  let v0 : BitVec 32 := Scalar.addi c6_i32 arg1
  let c1_i32_71 : BitVec 32 := 1#32
  let v183 : BitVec 32 := Scalar.subi v0 c1_i32_71
  let c128_i32_72 : BitVec 32 := 128#32
  let v184 : BitVec 32 := Scalar.muli v183 c128_i32_72
  v184
def k0_off1 (i : grid0.Coords) : Fin 2 → Nat :=
  let c0_76 : Index := 0#32
  let c6_i32 : BitVec 32 := 6#32
  let arg1 : BitVec 32 := BitVec.ofNat 32 (i 1).val
  let v0 : BitVec 32 := Scalar.addi c6_i32 arg1
  let c1_i32_71 : BitVec 32 := 1#32
  let v183 : BitVec 32 := Scalar.subi v0 c1_i32_71
  let c128_i32_72 : BitVec 32 := 128#32
  let v184 : BitVec 32 := Scalar.muli v183 c128_i32_72
  let v185 : BitVec 32 := v184
  let v188 : Index := Scalar.indexCast v185
  ![0, v188.toNat]
def k0_mult2 (i : grid0.Coords) : BitVec 32 :=
  let c6_i32 : BitVec 32 := 6#32
  let arg1 : BitVec 32 := BitVec.ofNat 32 (i 1).val
  let v0 : BitVec 32 := Scalar.addi c6_i32 arg1
  let c1_i32_84 : BitVec 32 := 1#32
  let v199 : BitVec 32 := Scalar.subi v0 c1_i32_84
  let c128_i32_85 : BitVec 32 := 128#32
  let v200 : BitVec 32 := Scalar.muli v199 c128_i32_85
  v200
def k0_off2 (i : grid0.Coords) : Fin 2 → Nat :=
  let c128_89 : Index := 128#32
  let c6_i32 : BitVec 32 := 6#32
  let arg1 : BitVec 32 := BitVec.ofNat 32 (i 1).val
  let v0 : BitVec 32 := Scalar.addi c6_i32 arg1
  let c1_i32_84 : BitVec 32 := 1#32
  let v199 : BitVec 32 := Scalar.subi v0 c1_i32_84
  let c128_i32_85 : BitVec 32 := 128#32
  let v200 : BitVec 32 := Scalar.muli v199 c128_i32_85
  let v201 : BitVec 32 := v200
  let v204 : Index := Scalar.indexCast v201
  ![128, v204.toNat]
def k0_mult3 (i : grid0.Coords) : BitVec 32 :=
  let c6_i32 : BitVec 32 := 6#32
  let arg1 : BitVec 32 := BitVec.ofNat 32 (i 1).val
  let v0 : BitVec 32 := Scalar.addi c6_i32 arg1
  let c1_i32_96 : BitVec 32 := 1#32
  let v215 : BitVec 32 := Scalar.subi v0 c1_i32_96
  let c128_i32_97 : BitVec 32 := 128#32
  let v216 : BitVec 32 := Scalar.muli v215 c128_i32_97
  v216
def k0_off3 (i : grid0.Coords) : Fin 2 → Nat :=
  let c256_101 : Index := 256#32
  let c6_i32 : BitVec 32 := 6#32
  let arg1 : BitVec 32 := BitVec.ofNat 32 (i 1).val
  let v0 : BitVec 32 := Scalar.addi c6_i32 arg1
  let c1_i32_96 : BitVec 32 := 1#32
  let v215 : BitVec 32 := Scalar.subi v0 c1_i32_96
  let c128_i32_97 : BitVec 32 := 128#32
  let v216 : BitVec 32 := Scalar.muli v215 c128_i32_97
  let v217 : BitVec 32 := v216
  let v220 : Index := Scalar.indexCast v217
  ![256, v220.toNat]
def k0_mult4 (i : grid0.Coords) : BitVec 32 :=
  let c6_i32 : BitVec 32 := 6#32
  let arg1 : BitVec 32 := BitVec.ofNat 32 (i 1).val
  let v0 : BitVec 32 := Scalar.addi c6_i32 arg1
  let c1_i32_108 : BitVec 32 := 1#32
  let v231 : BitVec 32 := Scalar.subi v0 c1_i32_108
  let c128_i32_109 : BitVec 32 := 128#32
  let v232 : BitVec 32 := Scalar.muli v231 c128_i32_109
  v232
def k0_off4 (i : grid0.Coords) : Fin 2 → Nat :=
  let c384_113 : Index := 384#32
  let c6_i32 : BitVec 32 := 6#32
  let arg1 : BitVec 32 := BitVec.ofNat 32 (i 1).val
  let v0 : BitVec 32 := Scalar.addi c6_i32 arg1
  let c1_i32_108 : BitVec 32 := 1#32
  let v231 : BitVec 32 := Scalar.subi v0 c1_i32_108
  let c128_i32_109 : BitVec 32 := 128#32
  let v232 : BitVec 32 := Scalar.muli v231 c128_i32_109
  let v233 : BitVec 32 := v232
  let v236 : Index := Scalar.indexCast v233
  ![384, v236.toNat]
def k0_mult5 (i : grid0.Coords) : BitVec 32 :=
  let c6_i32 : BitVec 32 := 6#32
  let arg1 : BitVec 32 := BitVec.ofNat 32 (i 1).val
  let v0 : BitVec 32 := Scalar.addi c6_i32 arg1
  let c1_i32_151 : BitVec 32 := 1#32
  let v291 : BitVec 32 := Scalar.subi v0 c1_i32_151
  let c128_i32_152 : BitVec 32 := 128#32
  let v292 : BitVec 32 := Scalar.muli v291 c128_i32_152
  v292
def k0_mult6 (i : grid0.Coords) : BitVec 32 :=
  let c6_i32 : BitVec 32 := 6#32
  let arg1 : BitVec 32 := BitVec.ofNat 32 (i 1).val
  let v0 : BitVec 32 := Scalar.addi c6_i32 arg1
  let c1_i32_163 : BitVec 32 := 1#32
  let v307 : BitVec 32 := Scalar.subi v0 c1_i32_163
  let c128_i32_164 : BitVec 32 := 128#32
  let v308 : BitVec 32 := Scalar.muli v307 c128_i32_164
  v308
def k0_mult7 (i : grid0.Coords) : BitVec 32 :=
  let c6_i32 : BitVec 32 := 6#32
  let arg1 : BitVec 32 := BitVec.ofNat 32 (i 1).val
  let v0 : BitVec 32 := Scalar.addi c6_i32 arg1
  let c1_i32_175 : BitVec 32 := 1#32
  let v323 : BitVec 32 := Scalar.subi v0 c1_i32_175
  let c128_i32_176 : BitVec 32 := 128#32
  let v324 : BitVec 32 := Scalar.muli v323 c128_i32_176
  v324
def k0_mult8 (i : grid0.Coords) : BitVec 32 :=
  let c6_i32 : BitVec 32 := 6#32
  let arg1 : BitVec 32 := BitVec.ofNat 32 (i 1).val
  let v0 : BitVec 32 := Scalar.addi c6_i32 arg1
  let c1_i32_187 : BitVec 32 := 1#32
  let v339 : BitVec 32 := Scalar.subi v0 c1_i32_187
  let c128_i32_188 : BitVec 32 := 128#32
  let v340 : BitVec 32 := Scalar.muli v339 c128_i32_188
  v340
def k0_mult9 (i : grid0.Coords) : BitVec 32 :=
  let c6_i32 : BitVec 32 := 6#32
  let arg1 : BitVec 32 := BitVec.ofNat 32 (i 1).val
  let v0 : BitVec 32 := Scalar.addi c6_i32 arg1
  let c1_i32_226 : BitVec 32 := 1#32
  let v399 : BitVec 32 := Scalar.subi v0 c1_i32_226
  let c128_i32_227 : BitVec 32 := 128#32
  let v400 : BitVec 32 := Scalar.muli v399 c128_i32_227
  v400
def k0_mult10 (i : grid0.Coords) : BitVec 32 :=
  let c6_i32 : BitVec 32 := 6#32
  let arg1 : BitVec 32 := BitVec.ofNat 32 (i 1).val
  let v0 : BitVec 32 := Scalar.addi c6_i32 arg1
  let c1_i32_238 : BitVec 32 := 1#32
  let v415 : BitVec 32 := Scalar.subi v0 c1_i32_238
  let c128_i32_239 : BitVec 32 := 128#32
  let v416 : BitVec 32 := Scalar.muli v415 c128_i32_239
  v416
def k0_mult11 (i : grid0.Coords) : BitVec 32 :=
  let c6_i32 : BitVec 32 := 6#32
  let arg1 : BitVec 32 := BitVec.ofNat 32 (i 1).val
  let v0 : BitVec 32 := Scalar.addi c6_i32 arg1
  let c1_i32_250 : BitVec 32 := 1#32
  let v431 : BitVec 32 := Scalar.subi v0 c1_i32_250
  let c128_i32_251 : BitVec 32 := 128#32
  let v432 : BitVec 32 := Scalar.muli v431 c128_i32_251
  v432
def k0_mult12 (i : grid0.Coords) : BitVec 32 :=
  let c6_i32 : BitVec 32 := 6#32
  let arg1 : BitVec 32 := BitVec.ofNat 32 (i 1).val
  let v0 : BitVec 32 := Scalar.addi c6_i32 arg1
  let c1_i32_262 : BitVec 32 := 1#32
  let v447 : BitVec 32 := Scalar.subi v0 c1_i32_262
  let c128_i32_263 : BitVec 32 := 128#32
  let v448 : BitVec 32 := Scalar.muli v447 c128_i32_263
  v448
def k0_mult13 (i : grid0.Coords) : BitVec 32 :=
  let c6_i32 : BitVec 32 := 6#32
  let arg1 : BitVec 32 := BitVec.ofNat 32 (i 1).val
  let v0 : BitVec 32 := Scalar.addi c6_i32 arg1
  let c1_i32_301 : BitVec 32 := 1#32
  let v507 : BitVec 32 := Scalar.subi v0 c1_i32_301
  let c128_i32_302 : BitVec 32 := 128#32
  let v508 : BitVec 32 := Scalar.muli v507 c128_i32_302
  v508
def k0_mult14 (i : grid0.Coords) : BitVec 32 :=
  let c6_i32 : BitVec 32 := 6#32
  let arg1 : BitVec 32 := BitVec.ofNat 32 (i 1).val
  let v0 : BitVec 32 := Scalar.addi c6_i32 arg1
  let c1_i32_313 : BitVec 32 := 1#32
  let v523 : BitVec 32 := Scalar.subi v0 c1_i32_313
  let c128_i32_314 : BitVec 32 := 128#32
  let v524 : BitVec 32 := Scalar.muli v523 c128_i32_314
  v524
def k0_mult15 (i : grid0.Coords) : BitVec 32 :=
  let c6_i32 : BitVec 32 := 6#32
  let arg1 : BitVec 32 := BitVec.ofNat 32 (i 1).val
  let v0 : BitVec 32 := Scalar.addi c6_i32 arg1
  let c1_i32_325 : BitVec 32 := 1#32
  let v539 : BitVec 32 := Scalar.subi v0 c1_i32_325
  let c128_i32_326 : BitVec 32 := 128#32
  let v540 : BitVec 32 := Scalar.muli v539 c128_i32_326
  v540
def k0_mult16 (i : grid0.Coords) : BitVec 32 :=
  let c6_i32 : BitVec 32 := 6#32
  let arg1 : BitVec 32 := BitVec.ofNat 32 (i 1).val
  let v0 : BitVec 32 := Scalar.addi c6_i32 arg1
  let c1_i32_337 : BitVec 32 := 1#32
  let v555 : BitVec 32 := Scalar.subi v0 c1_i32_337
  let c128_i32_338 : BitVec 32 := 128#32
  let v556 : BitVec 32 := Scalar.muli v555 c128_i32_338
  v556
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c6_i32 : BitVec 32 := 6#32
  let v1 : BitVec 32 := Scalar.addi v0 c6_i32
  let v2 : BitVec 32 := Scalar.addi v1 arg1
  let c1_i32 : BitVec 32 := 1#32
  let c0_i32 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c6_i32 : BitVec 32 := 6#32
  let v1 : BitVec 32 := Scalar.addi v0 c6_i32
  let v2 : BitVec 32 := Scalar.addi v1 arg1
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c6_i32 : BitVec 32 := 6#32
  let v1 : BitVec 32 := Scalar.addi v0 c6_i32
  let v2 : BitVec 32 := Scalar.addi v1 arg1
  let c49_i32 : BitVec 32 := 49#32
  let c0_i32 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel15.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x1280 : Shape := ⟨3, ![2, 512, 1280]⟩
abbrev S128x1280 : Shape := ⟨2, ![128, 1280]⟩
abbrev S512x128 : Shape := ⟨2, ![512, 128]⟩
abbrev S512x384 : Shape := ⟨2, ![512, 384]⟩
abbrev S1280x384 : Shape := ⟨2, ![1280, 384]⟩
abbrev S512x1280 : Shape := ⟨2, ![512, 1280]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1280x128 : Shape := ⟨2, ![1280, 128]⟩
abbrev S1x512x1280 : Shape := ⟨3, ![1, 512, 1280]⟩
abbrev S128x256 : Shape := ⟨2, ![128, 256]⟩
abbrev S1x128x256 : Shape := ⟨3, ![1, 128, 256]⟩
abbrev S4x128x1280 : Shape := ⟨3, ![4, 128, 1280]⟩
abbrev S1x128x1280 : Shape := ⟨3, ![1, 128, 1280]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x1280, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_36 : BitVec 32 := 0#32
  let c15_i32 : BitVec 32 := 15#32
  let v124 : BitVec 32 := Scalar.addi c0_i32_36 c15_i32
  let c1_i32_37 : BitVec 32 := 1#32
  ⟨c0_i32_36, v124, c1_i32_37⟩
@[reducible] def k0_t2_loop : Scf.Loop 32 :=
  let c0_i32_364 : BitVec 32 := 0#32
  let c11_i32 : BitVec 32 := 11#32
  let v602 : BitVec 32 := Scalar.addi c0_i32_364 c11_i32
  let c1_i32_365 : BitVec 32 := 1#32
  ⟨c0_i32_364, v602, c1_i32_365⟩
def k0_mult1 (i : grid0.Coords) : BitVec 32 :=
  let c8_i32 : BitVec 32 := 8#32
  let arg1 : BitVec 32 := BitVec.ofNat 32 (i 1).val
  let v0 : BitVec 32 := Scalar.addi c8_i32 arg1
  let c1_i32_71 : BitVec 32 := 1#32
  let v183 : BitVec 32 := Scalar.subi v0 c1_i32_71
  let c128_i32_72 : BitVec 32 := 128#32
  let v184 : BitVec 32 := Scalar.muli v183 c128_i32_72
  v184
def k0_off1 (i : grid0.Coords) : Fin 2 → Nat :=
  let c0_76 : Index := 0#32
  let c8_i32 : BitVec 32 := 8#32
  let arg1 : BitVec 32 := BitVec.ofNat 32 (i 1).val
  let v0 : BitVec 32 := Scalar.addi c8_i32 arg1
  let c1_i32_71 : BitVec 32 := 1#32
  let v183 : BitVec 32 := Scalar.subi v0 c1_i32_71
  let c128_i32_72 : BitVec 32 := 128#32
  let v184 : BitVec 32 := Scalar.muli v183 c128_i32_72
  let v185 : BitVec 32 := v184
  let v188 : Index := Scalar.indexCast v185
  ![0, v188.toNat]
def k0_mult2 (i : grid0.Coords) : BitVec 32 :=
  let c8_i32 : BitVec 32 := 8#32
  let arg1 : BitVec 32 := BitVec.ofNat 32 (i 1).val
  let v0 : BitVec 32 := Scalar.addi c8_i32 arg1
  let c1_i32_84 : BitVec 32 := 1#32
  let v199 : BitVec 32 := Scalar.subi v0 c1_i32_84
  let c128_i32_85 : BitVec 32 := 128#32
  let v200 : BitVec 32 := Scalar.muli v199 c128_i32_85
  v200
def k0_off2 (i : grid0.Coords) : Fin 2 → Nat :=
  let c128_89 : Index := 128#32
  let c8_i32 : BitVec 32 := 8#32
  let arg1 : BitVec 32 := BitVec.ofNat 32 (i 1).val
  let v0 : BitVec 32 := Scalar.addi c8_i32 arg1
  let c1_i32_84 : BitVec 32 := 1#32
  let v199 : BitVec 32 := Scalar.subi v0 c1_i32_84
  let c128_i32_85 : BitVec 32 := 128#32
  let v200 : BitVec 32 := Scalar.muli v199 c128_i32_85
  let v201 : BitVec 32 := v200
  let v204 : Index := Scalar.indexCast v201
  ![128, v204.toNat]
def k0_mult3 (i : grid0.Coords) : BitVec 32 :=
  let c8_i32 : BitVec 32 := 8#32
  let arg1 : BitVec 32 := BitVec.ofNat 32 (i 1).val
  let v0 : BitVec 32 := Scalar.addi c8_i32 arg1
  let c1_i32_96 : BitVec 32 := 1#32
  let v215 : BitVec 32 := Scalar.subi v0 c1_i32_96
  let c128_i32_97 : BitVec 32 := 128#32
  let v216 : BitVec 32 := Scalar.muli v215 c128_i32_97
  v216
def k0_off3 (i : grid0.Coords) : Fin 2 → Nat :=
  let c256_101 : Index := 256#32
  let c8_i32 : BitVec 32 := 8#32
  let arg1 : BitVec 32 := BitVec.ofNat 32 (i 1).val
  let v0 : BitVec 32 := Scalar.addi c8_i32 arg1
  let c1_i32_96 : BitVec 32 := 1#32
  let v215 : BitVec 32 := Scalar.subi v0 c1_i32_96
  let c128_i32_97 : BitVec 32 := 128#32
  let v216 : BitVec 32 := Scalar.muli v215 c128_i32_97
  let v217 : BitVec 32 := v216
  let v220 : Index := Scalar.indexCast v217
  ![256, v220.toNat]
def k0_mult4 (i : grid0.Coords) : BitVec 32 :=
  let c8_i32 : BitVec 32 := 8#32
  let arg1 : BitVec 32 := BitVec.ofNat 32 (i 1).val
  let v0 : BitVec 32 := Scalar.addi c8_i32 arg1
  let c1_i32_108 : BitVec 32 := 1#32
  let v231 : BitVec 32 := Scalar.subi v0 c1_i32_108
  let c128_i32_109 : BitVec 32 := 128#32
  let v232 : BitVec 32 := Scalar.muli v231 c128_i32_109
  v232
def k0_off4 (i : grid0.Coords) : Fin 2 → Nat :=
  let c384_113 : Index := 384#32
  let c8_i32 : BitVec 32 := 8#32
  let arg1 : BitVec 32 := BitVec.ofNat 32 (i 1).val
  let v0 : BitVec 32 := Scalar.addi c8_i32 arg1
  let c1_i32_108 : BitVec 32 := 1#32
  let v231 : BitVec 32 := Scalar.subi v0 c1_i32_108
  let c128_i32_109 : BitVec 32 := 128#32
  let v232 : BitVec 32 := Scalar.muli v231 c128_i32_109
  let v233 : BitVec 32 := v232
  let v236 : Index := Scalar.indexCast v233
  ![384, v236.toNat]
def k0_mult5 (i : grid0.Coords) : BitVec 32 :=
  let c8_i32 : BitVec 32 := 8#32
  let arg1 : BitVec 32 := BitVec.ofNat 32 (i 1).val
  let v0 : BitVec 32 := Scalar.addi c8_i32 arg1
  let c1_i32_151 : BitVec 32 := 1#32
  let v291 : BitVec 32 := Scalar.subi v0 c1_i32_151
  let c128_i32_152 : BitVec 32 := 128#32
  let v292 : BitVec 32 := Scalar.muli v291 c128_i32_152
  v292
def k0_mult6 (i : grid0.Coords) : BitVec 32 :=
  let c8_i32 : BitVec 32 := 8#32
  let arg1 : BitVec 32 := BitVec.ofNat 32 (i 1).val
  let v0 : BitVec 32 := Scalar.addi c8_i32 arg1
  let c1_i32_163 : BitVec 32 := 1#32
  let v307 : BitVec 32 := Scalar.subi v0 c1_i32_163
  let c128_i32_164 : BitVec 32 := 128#32
  let v308 : BitVec 32 := Scalar.muli v307 c128_i32_164
  v308
def k0_mult7 (i : grid0.Coords) : BitVec 32 :=
  let c8_i32 : BitVec 32 := 8#32
  let arg1 : BitVec 32 := BitVec.ofNat 32 (i 1).val
  let v0 : BitVec 32 := Scalar.addi c8_i32 arg1
  let c1_i32_175 : BitVec 32 := 1#32
  let v323 : BitVec 32 := Scalar.subi v0 c1_i32_175
  let c128_i32_176 : BitVec 32 := 128#32
  let v324 : BitVec 32 := Scalar.muli v323 c128_i32_176
  v324
def k0_mult8 (i : grid0.Coords) : BitVec 32 :=
  let c8_i32 : BitVec 32 := 8#32
  let arg1 : BitVec 32 := BitVec.ofNat 32 (i 1).val
  let v0 : BitVec 32 := Scalar.addi c8_i32 arg1
  let c1_i32_187 : BitVec 32 := 1#32
  let v339 : BitVec 32 := Scalar.subi v0 c1_i32_187
  let c128_i32_188 : BitVec 32 := 128#32
  let v340 : BitVec 32 := Scalar.muli v339 c128_i32_188
  v340
def k0_mult9 (i : grid0.Coords) : BitVec 32 :=
  let c8_i32 : BitVec 32 := 8#32
  let arg1 : BitVec 32 := BitVec.ofNat 32 (i 1).val
  let v0 : BitVec 32 := Scalar.addi c8_i32 arg1
  let c1_i32_226 : BitVec 32 := 1#32
  let v399 : BitVec 32 := Scalar.subi v0 c1_i32_226
  let c128_i32_227 : BitVec 32 := 128#32
  let v400 : BitVec 32 := Scalar.muli v399 c128_i32_227
  v400
def k0_mult10 (i : grid0.Coords) : BitVec 32 :=
  let c8_i32 : BitVec 32 := 8#32
  let arg1 : BitVec 32 := BitVec.ofNat 32 (i 1).val
  let v0 : BitVec 32 := Scalar.addi c8_i32 arg1
  let c1_i32_238 : BitVec 32 := 1#32
  let v415 : BitVec 32 := Scalar.subi v0 c1_i32_238
  let c128_i32_239 : BitVec 32 := 128#32
  let v416 : BitVec 32 := Scalar.muli v415 c128_i32_239
  v416
def k0_mult11 (i : grid0.Coords) : BitVec 32 :=
  let c8_i32 : BitVec 32 := 8#32
  let arg1 : BitVec 32 := BitVec.ofNat 32 (i 1).val
  let v0 : BitVec 32 := Scalar.addi c8_i32 arg1
  let c1_i32_250 : BitVec 32 := 1#32
  let v431 : BitVec 32 := Scalar.subi v0 c1_i32_250
  let c128_i32_251 : BitVec 32 := 128#32
  let v432 : BitVec 32 := Scalar.muli v431 c128_i32_251
  v432
def k0_mult12 (i : grid0.Coords) : BitVec 32 :=
  let c8_i32 : BitVec 32 := 8#32
  let arg1 : BitVec 32 := BitVec.ofNat 32 (i 1).val
  let v0 : BitVec 32 := Scalar.addi c8_i32 arg1
  let c1_i32_262 : BitVec 32 := 1#32
  let v447 : BitVec 32 := Scalar.subi v0 c1_i32_262
  let c128_i32_263 : BitVec 32 := 128#32
  let v448 : BitVec 32 := Scalar.muli v447 c128_i32_263
  v448
def k0_mult13 (i : grid0.Coords) : BitVec 32 :=
  let c8_i32 : BitVec 32 := 8#32
  let arg1 : BitVec 32 := BitVec.ofNat 32 (i 1).val
  let v0 : BitVec 32 := Scalar.addi c8_i32 arg1
  let c1_i32_301 : BitVec 32 := 1#32
  let v507 : BitVec 32 := Scalar.subi v0 c1_i32_301
  let c128_i32_302 : BitVec 32 := 128#32
  let v508 : BitVec 32 := Scalar.muli v507 c128_i32_302
  v508
def k0_mult14 (i : grid0.Coords) : BitVec 32 :=
  let c8_i32 : BitVec 32 := 8#32
  let arg1 : BitVec 32 := BitVec.ofNat 32 (i 1).val
  let v0 : BitVec 32 := Scalar.addi c8_i32 arg1
  let c1_i32_313 : BitVec 32 := 1#32
  let v523 : BitVec 32 := Scalar.subi v0 c1_i32_313
  let c128_i32_314 : BitVec 32 := 128#32
  let v524 : BitVec 32 := Scalar.muli v523 c128_i32_314
  v524
def k0_mult15 (i : grid0.Coords) : BitVec 32 :=
  let c8_i32 : BitVec 32 := 8#32
  let arg1 : BitVec 32 := BitVec.ofNat 32 (i 1).val
  let v0 : BitVec 32 := Scalar.addi c8_i32 arg1
  let c1_i32_325 : BitVec 32 := 1#32
  let v539 : BitVec 32 := Scalar.subi v0 c1_i32_325
  let c128_i32_326 : BitVec 32 := 128#32
  let v540 : BitVec 32 := Scalar.muli v539 c128_i32_326
  v540
def k0_mult16 (i : grid0.Coords) : BitVec 32 :=
  let c8_i32 : BitVec 32 := 8#32
  let arg1 : BitVec 32 := BitVec.ofNat 32 (i 1).val
  let v0 : BitVec 32 := Scalar.addi c8_i32 arg1
  let c1_i32_337 : BitVec 32 := 1#32
  let v555 : BitVec 32 := Scalar.subi v0 c1_i32_337
  let c128_i32_338 : BitVec 32 := 128#32
  let v556 : BitVec 32 := Scalar.muli v555 c128_i32_338
  v556
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.addi v0 c8_i32
  let v2 : BitVec 32 := Scalar.addi v1 arg1
  let c1_i32 : BitVec 32 := 1#32
  let c0_i32 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.addi v0 c8_i32
  let v2 : BitVec 32 := Scalar.addi v1 arg1
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.addi v0 c8_i32
  let v2 : BitVec 32 := Scalar.addi v1 arg1
  let c49_i32 : BitVec 32 := 49#32
  let c0_i32 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel16.lean ====
abbrev S8192x6400 : Shape := ⟨2, ![8192, 6400]⟩
abbrev S8192x512 : Shape := ⟨2, ![8192, 512]⟩
abbrev S8192x384 : Shape := ⟨2, ![8192, 384]⟩
abbrev S16x128x256 : Shape := ⟨3, ![16, 128, 256]⟩
abbrev S1024x2048 : Shape := ⟨2, ![1024, 2048]⟩
abbrev S128x2048 : Shape := ⟨2, ![128, 2048]⟩
abbrev S2048x512 : Shape := ⟨2, ![2048, 512]⟩
abbrev S128x1024 : Shape := ⟨2, ![128, 1024]⟩
abbrev S2048x384 : Shape := ⟨2, ![2048, 384]⟩
abbrev S128x128 : Shape := ⟨2, ![128, 128]⟩
abbrev S2x512x1536 : Shape := ⟨3, ![2, 512, 1536]⟩
abbrev S128x1536 : Shape := ⟨2, ![128, 1536]⟩
abbrev S512x128 : Shape := ⟨2, ![512, 128]⟩
abbrev S512x384 : Shape := ⟨2, ![512, 384]⟩
abbrev S1536x384 : Shape := ⟨2, ![1536, 384]⟩
abbrev S512x1536 : Shape := ⟨2, ![512, 1536]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1536x128 : Shape := ⟨2, ![1536, 128]⟩
abbrev S1x512x1536 : Shape := ⟨3, ![1, 512, 1536]⟩
abbrev S128x256 : Shape := ⟨2, ![128, 256]⟩
abbrev S1x128x256 : Shape := ⟨3, ![1, 128, 256]⟩
abbrev S4x128x1536 : Shape := ⟨3, ![4, 128, 1536]⟩
abbrev S1x128x1536 : Shape := ⟨3, ![1, 128, 1536]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x6400, .f32⟩
  | .hbm, ⟨1, _⟩ => ⟨S8192x512, .bf16⟩
  | .hbm, ⟨2, _⟩ => ⟨S8192x512, .bf16⟩
  | .hbm, ⟨3, _⟩ => ⟨S8192x384, .bf16⟩
  | .hbm, ⟨4, _⟩ => ⟨S16x128x256, .f32⟩
  | .hbm, ⟨5, _⟩ => ⟨S1024x2048, .bf16⟩
  | .local _ .vmem, ⟨0, _⟩ => ⟨S128x2048, .f32⟩
  | .local _ .vmem, ⟨1, _⟩ => ⟨S128x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S128x1024, .f32⟩
  | .local _ .vmem, ⟨7, _⟩ => ⟨S128x1024, .f32⟩
  | .local _ .vmem, ⟨8, _⟩ => ⟨S2048x384, .bf16⟩
  | .local _ .vmem, ⟨9, _⟩ => ⟨S2048x384, .bf16⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x2048, .bf16⟩
  | .local _ .vmem, ⟨14, _⟩ => ⟨S128x2048, .bf16⟩
  | .local _ .vmem, ⟨15, _⟩ => ⟨S2x512x1536, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_36 : BitVec 32 := 0#32
  let c15_i32 : BitVec 32 := 15#32
  let v124 : BitVec 32 := Scalar.addi c0_i32_36 c15_i32
  let c1_i32_37 : BitVec 32 := 1#32
  ⟨c0_i32_36, v124, c1_i32_37⟩
@[reducible] def k0_t2_loop : Scf.Loop 32 :=
  let c0_i32_364 : BitVec 32 := 0#32
  let c11_i32 : BitVec 32 := 11#32
  let v602 : BitVec 32 := Scalar.addi c0_i32_364 c11_i32
  let c1_i32_365 : BitVec 32 := 1#32
  ⟨c0_i32_364, v602, c1_i32_365⟩
def k0_mult1 (i : grid0.Coords) : BitVec 32 :=
  let c10_i32 : BitVec 32 := 10#32
  let arg1 : BitVec 32 := BitVec.ofNat 32 (i 1).val
  let v0 : BitVec 32 := Scalar.addi c10_i32 arg1
  let c1_i32_71 : BitVec 32 := 1#32
  let v183 : BitVec 32 := Scalar.subi v0 c1_i32_71
  let c128_i32_72 : BitVec 32 := 128#32
  let v184 : BitVec 32 := Scalar.muli v183 c128_i32_72
  v184
def k0_off1 (i : grid0.Coords) : Fin 2 → Nat :=
  let c0_76 : Index := 0#32
  let c10_i32 : BitVec 32 := 10#32
  let arg1 : BitVec 32 := BitVec.ofNat 32 (i 1).val
  let v0 : BitVec 32 := Scalar.addi c10_i32 arg1
  let c1_i32_71 : BitVec 32 := 1#32
  let v183 : BitVec 32 := Scalar.subi v0 c1_i32_71
  let c128_i32_72 : BitVec 32 := 128#32
  let v184 : BitVec 32 := Scalar.muli v183 c128_i32_72
  let v185 : BitVec 32 := v184
  let v188 : Index := Scalar.indexCast v185
  ![0, v188.toNat]
def k0_mult2 (i : grid0.Coords) : BitVec 32 :=
  let c10_i32 : BitVec 32 := 10#32
  let arg1 : BitVec 32 := BitVec.ofNat 32 (i 1).val
  let v0 : BitVec 32 := Scalar.addi c10_i32 arg1
  let c1_i32_84 : BitVec 32 := 1#32
  let v199 : BitVec 32 := Scalar.subi v0 c1_i32_84
  let c128_i32_85 : BitVec 32 := 128#32
  let v200 : BitVec 32 := Scalar.muli v199 c128_i32_85
  v200
def k0_off2 (i : grid0.Coords) : Fin 2 → Nat :=
  let c128_89 : Index := 128#32
  let c10_i32 : BitVec 32 := 10#32
  let arg1 : BitVec 32 := BitVec.ofNat 32 (i 1).val
  let v0 : BitVec 32 := Scalar.addi c10_i32 arg1
  let c1_i32_84 : BitVec 32 := 1#32
  let v199 : BitVec 32 := Scalar.subi v0 c1_i32_84
  let c128_i32_85 : BitVec 32 := 128#32
  let v200 : BitVec 32 := Scalar.muli v199 c128_i32_85
  let v201 : BitVec 32 := v200
  let v204 : Index := Scalar.indexCast v201
  ![128, v204.toNat]
def k0_mult3 (i : grid0.Coords) : BitVec 32 :=
  let c10_i32 : BitVec 32 := 10#32
  let arg1 : BitVec 32 := BitVec.ofNat 32 (i 1).val
  let v0 : BitVec 32 := Scalar.addi c10_i32 arg1
  let c1_i32_96 : BitVec 32 := 1#32
  let v215 : BitVec 32 := Scalar.subi v0 c1_i32_96
  let c128_i32_97 : BitVec 32 := 128#32
  let v216 : BitVec 32 := Scalar.muli v215 c128_i32_97
  v216
def k0_off3 (i : grid0.Coords) : Fin 2 → Nat :=
  let c256_101 : Index := 256#32
  let c10_i32 : BitVec 32 := 10#32
  let arg1 : BitVec 32 := BitVec.ofNat 32 (i 1).val
  let v0 : BitVec 32 := Scalar.addi c10_i32 arg1
  let c1_i32_96 : BitVec 32 := 1#32
  let v215 : BitVec 32 := Scalar.subi v0 c1_i32_96
  let c128_i32_97 : BitVec 32 := 128#32
  let v216 : BitVec 32 := Scalar.muli v215 c128_i32_97
  let v217 : BitVec 32 := v216
  let v220 : Index := Scalar.indexCast v217
  ![256, v220.toNat]
def k0_mult4 (i : grid0.Coords) : BitVec 32 :=
  let c10_i32 : BitVec 32 := 10#32
  let arg1 : BitVec 32 := BitVec.ofNat 32 (i 1).val
  let v0 : BitVec 32 := Scalar.addi c10_i32 arg1
  let c1_i32_108 : BitVec 32 := 1#32
  let v231 : BitVec 32 := Scalar.subi v0 c1_i32_108
  let c128_i32_109 : BitVec 32 := 128#32
  let v232 : BitVec 32 := Scalar.muli v231 c128_i32_109
  v232
def k0_off4 (i : grid0.Coords) : Fin 2 → Nat :=
  let c384_113 : Index := 384#32
  let c10_i32 : BitVec 32 := 10#32
  let arg1 : BitVec 32 := BitVec.ofNat 32 (i 1).val
  let v0 : BitVec 32 := Scalar.addi c10_i32 arg1
  let c1_i32_108 : BitVec 32 := 1#32
  let v231 : BitVec 32 := Scalar.subi v0 c1_i32_108
  let c128_i32_109 : BitVec 32 := 128#32
  let v232 : BitVec 32 := Scalar.muli v231 c128_i32_109
  let v233 : BitVec 32 := v232
  let v236 : Index := Scalar.indexCast v233
  ![384, v236.toNat]
def k0_mult5 (i : grid0.Coords) : BitVec 32 :=
  let c10_i32 : BitVec 32 := 10#32
  let arg1 : BitVec 32 := BitVec.ofNat 32 (i 1).val
  let v0 : BitVec 32 := Scalar.addi c10_i32 arg1
  let c1_i32_151 : BitVec 32 := 1#32
  let v291 : BitVec 32 := Scalar.subi v0 c1_i32_151
  let c128_i32_152 : BitVec 32 := 128#32
  let v292 : BitVec 32 := Scalar.muli v291 c128_i32_152
  v292
def k0_mult6 (i : grid0.Coords) : BitVec 32 :=
  let c10_i32 : BitVec 32 := 10#32
  let arg1 : BitVec 32 := BitVec.ofNat 32 (i 1).val
  let v0 : BitVec 32 := Scalar.addi c10_i32 arg1
  let c1_i32_163 : BitVec 32 := 1#32
  let v307 : BitVec 32 := Scalar.subi v0 c1_i32_163
  let c128_i32_164 : BitVec 32 := 128#32
  let v308 : BitVec 32 := Scalar.muli v307 c128_i32_164
  v308
def k0_mult7 (i : grid0.Coords) : BitVec 32 :=
  let c10_i32 : BitVec 32 := 10#32
  let arg1 : BitVec 32 := BitVec.ofNat 32 (i 1).val
  let v0 : BitVec 32 := Scalar.addi c10_i32 arg1
  let c1_i32_175 : BitVec 32 := 1#32
  let v323 : BitVec 32 := Scalar.subi v0 c1_i32_175
  let c128_i32_176 : BitVec 32 := 128#32
  let v324 : BitVec 32 := Scalar.muli v323 c128_i32_176
  v324
def k0_mult8 (i : grid0.Coords) : BitVec 32 :=
  let c10_i32 : BitVec 32 := 10#32
  let arg1 : BitVec 32 := BitVec.ofNat 32 (i 1).val
  let v0 : BitVec 32 := Scalar.addi c10_i32 arg1
  let c1_i32_187 : BitVec 32 := 1#32
  let v339 : BitVec 32 := Scalar.subi v0 c1_i32_187
  let c128_i32_188 : BitVec 32 := 128#32
  let v340 : BitVec 32 := Scalar.muli v339 c128_i32_188
  v340
def k0_mult9 (i : grid0.Coords) : BitVec 32 :=
  let c10_i32 : BitVec 32 := 10#32
  let arg1 : BitVec 32 := BitVec.ofNat 32 (i 1).val
  let v0 : BitVec 32 := Scalar.addi c10_i32 arg1
  let c1_i32_226 : BitVec 32 := 1#32
  let v399 : BitVec 32 := Scalar.subi v0 c1_i32_226
  let c128_i32_227 : BitVec 32 := 128#32
  let v400 : BitVec 32 := Scalar.muli v399 c128_i32_227
  v400
def k0_mult10 (i : grid0.Coords) : BitVec 32 :=
  let c10_i32 : BitVec 32 := 10#32
  let arg1 : BitVec 32 := BitVec.ofNat 32 (i 1).val
  let v0 : BitVec 32 := Scalar.addi c10_i32 arg1
  let c1_i32_238 : BitVec 32 := 1#32
  let v415 : BitVec 32 := Scalar.subi v0 c1_i32_238
  let c128_i32_239 : BitVec 32 := 128#32
  let v416 : BitVec 32 := Scalar.muli v415 c128_i32_239
  v416
def k0_mult11 (i : grid0.Coords) : BitVec 32 :=
  let c10_i32 : BitVec 32 := 10#32
  let arg1 : BitVec 32 := BitVec.ofNat 32 (i 1).val
  let v0 : BitVec 32 := Scalar.addi c10_i32 arg1
  let c1_i32_250 : BitVec 32 := 1#32
  let v431 : BitVec 32 := Scalar.subi v0 c1_i32_250
  let c128_i32_251 : BitVec 32 := 128#32
  let v432 : BitVec 32 := Scalar.muli v431 c128_i32_251
  v432
def k0_mult12 (i : grid0.Coords) : BitVec 32 :=
  let c10_i32 : BitVec 32 := 10#32
  let arg1 : BitVec 32 := BitVec.ofNat 32 (i 1).val
  let v0 : BitVec 32 := Scalar.addi c10_i32 arg1
  let c1_i32_262 : BitVec 32 := 1#32
  let v447 : BitVec 32 := Scalar.subi v0 c1_i32_262
  let c128_i32_263 : BitVec 32 := 128#32
  let v448 : BitVec 32 := Scalar.muli v447 c128_i32_263
  v448
def k0_mult13 (i : grid0.Coords) : BitVec 32 :=
  let c10_i32 : BitVec 32 := 10#32
  let arg1 : BitVec 32 := BitVec.ofNat 32 (i 1).val
  let v0 : BitVec 32 := Scalar.addi c10_i32 arg1
  let c1_i32_301 : BitVec 32 := 1#32
  let v507 : BitVec 32 := Scalar.subi v0 c1_i32_301
  let c128_i32_302 : BitVec 32 := 128#32
  let v508 : BitVec 32 := Scalar.muli v507 c128_i32_302
  v508
def k0_mult14 (i : grid0.Coords) : BitVec 32 :=
  let c10_i32 : BitVec 32 := 10#32
  let arg1 : BitVec 32 := BitVec.ofNat 32 (i 1).val
  let v0 : BitVec 32 := Scalar.addi c10_i32 arg1
  let c1_i32_313 : BitVec 32 := 1#32
  let v523 : BitVec 32 := Scalar.subi v0 c1_i32_313
  let c128_i32_314 : BitVec 32 := 128#32
  let v524 : BitVec 32 := Scalar.muli v523 c128_i32_314
  v524
def k0_mult15 (i : grid0.Coords) : BitVec 32 :=
  let c10_i32 : BitVec 32 := 10#32
  let arg1 : BitVec 32 := BitVec.ofNat 32 (i 1).val
  let v0 : BitVec 32 := Scalar.addi c10_i32 arg1
  let c1_i32_325 : BitVec 32 := 1#32
  let v539 : BitVec 32 := Scalar.subi v0 c1_i32_325
  let c128_i32_326 : BitVec 32 := 128#32
  let v540 : BitVec 32 := Scalar.muli v539 c128_i32_326
  v540
def k0_mult16 (i : grid0.Coords) : BitVec 32 :=
  let c10_i32 : BitVec 32 := 10#32
  let arg1 : BitVec 32 := BitVec.ofNat 32 (i 1).val
  let v0 : BitVec 32 := Scalar.addi c10_i32 arg1
  let c1_i32_337 : BitVec 32 := 1#32
  let v555 : BitVec 32 := Scalar.subi v0 c1_i32_337
  let c128_i32_338 : BitVec 32 := 128#32
  let v556 : BitVec 32 := Scalar.muli v555 c128_i32_338
  v556
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c10_i32 : BitVec 32 := 10#32
  let v1 : BitVec 32 := Scalar.addi v0 c10_i32
  let v2 : BitVec 32 := Scalar.addi v1 arg1
  let c1_i32 : BitVec 32 := 1#32
  let c0_i32 : BitVec 32 := 0#32
  ![v2.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c10_i32 : BitVec 32 := 10#32
  let v1 : BitVec 32 := Scalar.addi v0 c10_i32
  let v2 : BitVec 32 := Scalar.addi v1 arg1
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c10_i32 : BitVec 32 := 10#32
  let v1 : BitVec 32 := Scalar.addi v0 c10_i32
  let v2 : BitVec 32 := Scalar.addi v1 arg1
  let c49_i32 : BitVec 32 := 49#32
  let c0_i32 : BitVec 32 := 0#32
  ![v2.toNat, c49_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.FfnSpec.lean ====
/- The gated feed-forward half-step as a function of its arrays, read at one element over the extended reals. Nothing
   here names a program: the kernel and the reference are each shown equal to it. -/
module

public import Idealize.ShloMosaic.Lib.Pointwise

@[expose] public section

noncomputable section

namespace Cert.FfnSpec

open Idealize.ShloMosaic

/-- One row scaled by the reciprocal root of its mean square (plus a small constant) and by a gain. -/
def norm {K : ℕ} (x g : Fin K → EReal) (k : Fin K) : EReal :=
  x k * Ideal.rsqrt (Ideal.div (∑ l, x l * x l) (Ideal.ofBits .f32 0x45800000#32) + Ideal.ofBits .f32 0x358637BD#32) * g k

/-- One hidden unit: `a · σ(a) · b`, `a` and `b` the row's products with the unit's two columns. -/
def unit {K : ℕ} (h a b : Fin K → EReal) : EReal :=
  (∑ k, h k * a k) * Ideal.logistic (∑ k, h k * a k) * ∑ k, h k * b k

/-- Column `j` of a matrix stored as 43 column tiles of width 256: the column `j % 256` of tile `j / 256`. -/
def col (w : (⟨3, ![43, 4096, 256]⟩ : Shape).Idx → EReal) (j : Fin 11008) (k : Fin 4096) : EReal :=
  w (ix3 ⟨j.val / 256, by have := j.isLt; omega⟩ k ⟨j.val % 256, Nat.mod_lt _ (by decide)⟩)

/-- What tile `t` of the hidden units adds to column `n` of the row's product with the down matrix. -/
def tileTerm (h : Fin 4096 → EReal) (wg wu : (⟨3, ![43, 4096, 256]⟩ : Shape).Idx → EReal)
    (wd : (⟨2, ![11008, 4096]⟩ : Shape).Idx → EReal) (n : Fin 4096) (t : Fin 43) : EReal :=
  ∑ c : Fin 256, unit h (fun k => wg (ix3 t k c)) (fun k => wu (ix3 t k c))
    * wd (ix2 ⟨t.val * 256 + c.val, by have := t.isLt; have := c.isLt; omega⟩ n)

/-- The row's whole product with the down matrix: all 11008 hidden units. -/
def down (h : Fin 4096 → EReal) (wg wu : (⟨3, ![43, 4096, 256]⟩ : Shape).Idx → EReal)
    (wd : (⟨2, ![11008, 4096]⟩ : Shape).Idx → EReal) (n : Fin 4096) : EReal :=
  ∑ j : Fin 11008, unit h (col wg j) (col wu j) * wd (ix2 j n)

/-- Half a residual step at element `(r, n)`. -/
def out (x : (⟨2, ![8192, 4096]⟩ : Shape).Idx → EReal) (g : (⟨1, ![4096]⟩ : Shape).Idx → EReal)
    (wg wu : (⟨3, ![43, 4096, 256]⟩ : Shape).Idx → EReal) (wd : (⟨2, ![11008, 4096]⟩ : Shape).Idx → EReal)
    (r : Fin 8192) (n : Fin 4096) : EReal :=
  x (ix2 r n) + Ideal.ofBits .f32 0x3F000000#32
    * down (norm (fun k => x (ix2 r k)) fun k => g (ix1 k)) wg wu wd n

/-- The sum over all the hidden units is the sum over the tiles of the tiles' sums. -/
theorem down_eq_tiles (h : Fin 4096 → EReal) (wg wu : (⟨3, ![43, 4096, 256]⟩ : Shape).Idx → EReal)
    (wd : (⟨2, ![11008, 4096]⟩ : Shape).Idx → EReal) (n : Fin 4096) :
    down h wg wu wd n = ∑ t : Fin 43, tileTerm h wg wu wd n t := by
  unfold down tileTerm
  rw [Fin.sum_univ_tiles 43 256 (by decide)]
  refine Finset.sum_congr rfl fun t _ => Finset.sum_congr rfl fun c _ => ?_
  have ht : (⟨(t.val * 256 + c.val) / 256, by have := t.isLt; have := c.isLt; omega⟩ : Fin 43) = t :=
    Fin.ext (by show (t.val * 256 + c.val) / 256 = t.val; have := c.isLt; omega)
  have hc : (⟨(t.val * 256 + c.val) % 256, Nat.mod_lt _ (by decide)⟩ : Fin 256) = c :=
    Fin.ext (by show (t.val * 256 + c.val) % 256 = c.val; have := c.isLt; omega)
  unfold col
  simp only [ht, hc]

end Cert.FfnSpec
end
-- ==== Proof.FfnPay.lean ====
/- The feed-forward kernel's payloads read at one element. -/
module

public import proofs.«01_k».proof.Proof.Gen.KernelIdeal.Skeleton
public import proofs.«01_k».proof.Proof.FfnSpec

@[expose] public section

set_option maxRecDepth 16384

noncomputable section

namespace Cert.Ffn

open Idealize.ShloMosaic Cert.KernelIdeal Cert.KernelIdeal.Gen

/-- The scratch payload: the row block, normalised. -/
theorem pay1_apply (x : Vec Ideal S512x4096 .f32) (g : Vec Ideal S1x4096 .f32) (r : Fin 512) (k : Fin 4096) :
    k0_pay1 x g (ix2 r k) = FfnSpec.norm (fun l => x (ix2 r l)) (fun l => g (ix2 0 l)) k := by
  pointwise [k0_pay1, FfnSpec.norm]

/-- The reset payload is zero. -/
theorem pay2_apply (j : S512x4096.Idx) : k0_pay2 (F := Ideal) j = 0 := by
  pointwise [k0_pay2]

/-- The accumulation payload: the accumulator plus the tile's contribution. -/
theorem pay3_apply (wg wu : Vec Ideal S1x4096x256 .bf16) (wd : Vec Ideal S256x4096 .bf16) (h : Vec Ideal S512x4096 .bf16)
    (a : Vec Ideal S512x4096 .f32) (r : Fin 512) (n : Fin 4096) :
    k0_pay3 wg wu wd h a (ix2 r n)
      = a (ix2 r n) + ∑ c : Fin 256, FfnSpec.unit (fun k => h (ix2 r k)) (fun k => wg (ix3 0 k c)) (fun k => wu (ix3 0 k c))
          * wd (ix2 c n) := by
  pointwise [k0_pay3, FfnSpec.unit]

/-- The closing payload: the row block plus half the accumulator. -/
theorem pay4_apply (x a : Vec Ideal S512x4096 .f32) (r : Fin 512) (n : Fin 4096) :
    k0_pay4 x a (ix2 r n) = x (ix2 r n) + Ideal.ofBits .f32 0x3F000000#32 * a (ix2 r n) := by
  pointwise [k0_pay4]

end Cert.Ffn
end
-- ==== Proof.FfnCases.lean ====
/- What each case of the feed-forward kernel's body leaves in the accumulator block and in the carried scratch. -/
module

public import proofs.«01_k».proof.Proof.Gen.KernelIdeal.Value
public import proofs.«01_k».proof.Proof.FfnPay

@[expose] public section

set_option maxRecDepth 16384

noncomputable section

namespace Cert.Ffn

open Idealize.ShloMosaic Idealize.ShloMosaic.TcCoe Idealize.SL.Sem Cert.KernelIdeal Cert.KernelIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

section
variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x4096 .bf16) (harg8 : arg8.IsWhole)
  (x0 : Vec F S512x4096 .f32) (x1 : Vec F S1x4096 .f32) (x2 : Vec F S1x4096x256 .bf16) (x3 : Vec F S1x4096x256 .bf16) (x4 : Vec F S256x4096 .bf16) (xo5 : Vec F S512x4096 .f32) (xs0 : Vec F S512x4096 .bf16)

/-- In the middle of a run of tiles the body adds the tile's contribution to the accumulator. -/
theorem out_mid (hc0 : ¬cond0_0 i) (hc1 : ¬cond0_1 i) :
    out0_B_5 c i arg2 harg2 arg3 harg3 arg4 harg4 arg5 harg5 arg6 harg6 arg7 harg7 arg8 harg8 hc0 hc1 x0 x1 x2 x3 x4 xo5 xs0
      = k0_pay3 x2 x3 x4 xs0 xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, View.ld_unit_zero (S := S512x4096) z2, View.ld_unit_zero (S := S256x4096) z2, View.ld_unit_zero (S := S1x4096x256) z3]

/-- At the last tile the body adds the contribution, then leaves the row block plus half the accumulator. -/
theorem out_last (hc0 : ¬cond0_0 i) (hc1 : cond0_1 i) :
    out0_C_5 c i arg2 harg2 arg3 harg3 arg4 harg4 arg5 harg5 arg6 harg6 arg7 harg7 arg8 harg8 hc0 hc1 x0 x1 x2 x3 x4 xo5 xs0
      = k0_pay4 x0 (k0_pay3 x2 x3 x4 xs0 xo5) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_cons_unit_zero (S := S512x4096) z2, View.readCov_unit_zero (S := S512x4096) _ z2]
  simp only [View.readAt_eq_ld, harg2.read_unread, harg3.read_unread, harg4.read_unread, harg5.read_unread, harg6.read_unread, harg7.read_unread, harg8.read_unread, View.ld_unit_zero (S := S512x4096) z2, View.ld_unit_zero (S := S256x4096) z2, View.ld_unit_zero (S := S1x4096x256) z3]

/-- At the first tile the body resets the accumulator and adds the contribution, with the scratch it has just stored. -/
theorem out_first (hc0 : cond0_0 i) (hc1 : ¬cond0_1 i) :
    out0_A_5 c i arg2 harg2 arg3 harg3 arg4 harg4 arg5 harg5 arg6 harg6 arg7 harg7 arg8 harg8 hc0 hc1 x0 x1 x2 x3 x4
      = k0_pay3 x2 x3 x4 (k0_pay1 x0 x1) (k0_pay2) := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x4096) z2]
  simp only [View.readCov_unit_zero (S := S512x4096) _ z2, View.readAt_eq_ld, harg2.read_unread, harg3.read_unread, harg4.read_unread, harg5.read_unread, harg6.read_unread, harg7.read_unread, harg8.read_unread, View.ld_unit_zero (S := S512x4096) z2, View.ld_unit_zero (S := S256x4096) z2, View.ld_unit_zero (S := S1x4096) z2, View.ld_unit_zero (S := S1x4096x256) z3]

/-- At the first tile the body stores the normalised rows in the scratch. -/
theorem scratch_first (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero z2]
  simp only [View.readAt_eq_ld, harg2.read_unread, harg3.read_unread, View.ld_unit_zero (S := S512x4096) z2, View.ld_unit_zero (S := S1x4096) z2]

end

end Cert.Ffn
end
-- ==== Proof.FfnBlocks.lean ====
/- The feed-forward kernel's input blocks, element by element, as the launched arrays. -/
module

public import proofs.«01_k».proof.Proof.Gen.KernelIdeal.Value
public import proofs.«01_k».proof.Proof.FfnSpec

@[expose] public section

set_option maxRecDepth 16384

noncomputable section

namespace Cert.Ffn

open Idealize.ShloMosaic Idealize.ShloMosaic.TcCoe Idealize.SL.Sem Cert.KernelIdeal Cert.KernelIdeal.Gen

variable (m : (ℓ : Loc nD τ sig) → Buf (Elt Ideal) ℓ)

/-- The block numbers of the five input windows: the row block is `t / 43`, the tile of hidden units `t % 43`. -/
theorem blockNo : ∀ t : Fin cfg0.N,
    win0_0.index t (0 : Fin 2) = t.val / 43 ∧ win0_0.index t (1 : Fin 2) = 0
    ∧ win0_1.index t (0 : Fin 2) = 0 ∧ win0_1.index t (1 : Fin 2) = 0
    ∧ win0_2.index t (0 : Fin 3) = t.val % 43 ∧ win0_2.index t (1 : Fin 3) = 0 ∧ win0_2.index t (2 : Fin 3) = 0
    ∧ win0_3.index t (0 : Fin 3) = t.val % 43 ∧ win0_3.index t (1 : Fin 3) = 0 ∧ win0_3.index t (2 : Fin 3) = 0
    ∧ win0_4.index t (0 : Fin 2) = t.val % 43 ∧ win0_4.index t (1 : Fin 2) = 0 := by
  decide +kernel

theorem lt_points (t : Fin cfg0.N) : t.val < 688 := lt_of_lt_of_eq t.isLt (show cfg0.N = 688 from N_0)

/-- Row `r` of row block `q` in the whole array. -/
def row (q : ℕ) (hq : q < 16) (r : Fin 512) : Fin 8192 := ⟨q * 512 + r.val, by have := r.isLt; omega⟩

theorem q_lt (t : Fin cfg0.N) : t.val / 43 < 16 := by have := lt_points t; omega

/-- The row block is the array's. -/
theorem iblk0_apply (c : Dev nD) (t : Fin cfg0.N) (r : Fin 512) (k : Fin 4096) :
    (iblk m c 0 t : Vec Ideal S512x4096 .f32) (ix2 r k)
      = m ((c : Thread nD τ).loc main_arg0) (ix2 (row (t.val / 43) (q_lt t) r) k) := by
  unfold iblk
  rw [View.read_apply]
  show V m c main_arg0 _ = _
  rw [V_main_arg0]
  congr 1
  funext a
  apply Fin.ext
  match a with
  | ⟨0, _⟩ =>
    show win0_0.index t (0 : Fin 2) * 512 + 1 * r.val = t.val / 43 * 512 + r.val
    rw [(blockNo t).1]; omega
  | ⟨1, _⟩ =>
    show win0_0.index t (1 : Fin 2) * 4096 + 1 * k.val = k.val
    rw [(blockNo t).2.1]; omega

/-- A vector laid out as one row. -/
theorem asRow_apply (g : Vec Ideal S4096 .f32) (k : Fin 4096) :
    shapeCast S1x4096 g shapeCasts_S4096_S1x4096 (ix2 0 k) = g (ix1 k) := by
  pointwise []

/-- The gain, laid out as one row, is the array's. -/
theorem iblk1_apply (c : Dev nD) (t : Fin cfg0.N) (k : Fin 4096) :
    (iblk m c 1 t : Vec Ideal S1x4096 .f32) (ix2 0 k) = m ((c : Thread nD τ).loc main_arg1) (ix1 k) := by
  have hv : (V m c main_v0 : S1x4096.Idx → EReal)
      = shapeCast S1x4096 (m ((c : Thread nD τ).loc main_arg1) : S4096.Idx → EReal) shapeCasts_S4096_S1x4096 := by
    show StableHlo.after hostOps0 (fun b => m (c, b)) (Proc.devRef .tc main_v0) = _
    after_results
    rfl
  unfold iblk
  rw [View.read_apply]
  show V m c main_v0 _ = _
  have hi : ((cfg0.win 1).blk t).view.emb (ix2 (0 : Fin 1) k) = (ix2 (0 : Fin 1) k : S1x4096.Idx) := by
    funext a
    apply Fin.ext
    match a with
    | ⟨0, _⟩ =>
      show win0_1.index t (0 : Fin 2) * 1 + 1 * 0 = 0
      rw [(blockNo t).2.2.1]
    | ⟨1, _⟩ =>
      show win0_1.index t (1 : Fin 2) * 4096 + 1 * k.val = k.val
      rw [(blockNo t).2.2.2.1]; omega
  refine (congrArg (V m c main_v0 : S1x4096.Idx → EReal) hi).trans ?_
  rw [hv]
  exact asRow_apply _ k

/-- The gate's tile is the array's. -/
theorem iblk2_apply (c : Dev nD) (t : Fin cfg0.N) (k : Fin 4096) (u : Fin 256) :
    (iblk m c 2 t : Vec Ideal S1x4096x256 .bf16) (ix3 0 k u)
      = m ((c : Thread nD τ).loc main_arg2) (ix3 (⟨t.val % 43, Nat.mod_lt _ (by decide)⟩ : Fin 43) k u) := by
  unfold iblk
  rw [View.read_apply]
  show V m c main_arg2 _ = _
  rw [V_main_arg2]
  congr 1
  funext a
  apply Fin.ext
  match a with
  | ⟨0, _⟩ =>
    show win0_2.index t (0 : Fin 3) * 1 + 1 * 0 = t.val % 43
    rw [(blockNo t).2.2.2.2.1]; omega
  | ⟨1, _⟩ =>
    show win0_2.index t (1 : Fin 3) * 4096 + 1 * k.val = k.val
    rw [(blockNo t).2.2.2.2.2.1]; omega
  | ⟨2, _⟩ =>
    show win0_2.index t (2 : Fin 3) * 256 + 1 * u.val = u.val
    rw [(blockNo t).2.2.2.2.2.2.1]; omega

/-- The up-projection's tile is the array's. -/
theorem iblk3_apply (c : Dev nD) (t : Fin cfg0.N) (k : Fin 4096) (u : Fin 256) :
    (iblk m c 3 t : Vec Ideal S1x4096x256 .bf16) (ix3 0 k u)
      = m ((c : Thread nD τ).loc main_arg3) (ix3 (⟨t.val % 43, Nat.mod_lt _ (by decide)⟩ : Fin 43) k u) := by
  unfold iblk
  rw [View.read_apply]
  show V m c main_arg3 _ = _
  rw [V_main_arg3]
  congr 1
  funext a
  apply Fin.ext
  match a with
  | ⟨0, _⟩ =>
    show win0_3.index t (0 : Fin 3) * 1 + 1 * 0 = t.val % 43
    rw [(blockNo t).2.2.2.2.2.2.2.1]; omega
  | ⟨1, _⟩ =>
    show win0_3.index t (1 : Fin 3) * 4096 + 1 * k.val = k.val
    rw [(blockNo t).2.2.2.2.2.2.2.2.1]; omega
  | ⟨2, _⟩ =>
    show win0_3.index t (2 : Fin 3) * 256 + 1 * u.val = u.val
    rw [(blockNo t).2.2.2.2.2.2.2.2.2.1]; omega

/-- The down-projection's rows are the array's. -/
theorem iblk4_apply (c : Dev nD) (t : Fin cfg0.N) (u : Fin 256) (n : Fin 4096) :
    (iblk m c 4 t : Vec Ideal S256x4096 .bf16) (ix2 u n)
      = m ((c : Thread nD τ).loc main_arg4)
          (ix2 (⟨t.val % 43 * 256 + u.val, by have := u.isLt; have := Nat.mod_lt t.val (show 0 < 43 by decide); omega⟩ : Fin 11008) n) := by
  unfold iblk
  rw [View.read_apply]
  show V m c main_arg4 _ = _
  rw [V_main_arg4]
  congr 1
  funext a
  apply Fin.ext
  match a with
  | ⟨0, _⟩ =>
    show win0_4.index t (0 : Fin 2) * 256 + 1 * u.val = t.val % 43 * 256 + u.val
    rw [(blockNo t).2.2.2.2.2.2.2.2.2.2.1]; omega
  | ⟨1, _⟩ =>
    show win0_4.index t (1 : Fin 2) * 4096 + 1 * n.val = n.val
    rw [(blockNo t).2.2.2.2.2.2.2.2.2.2.2]; omega

end Cert.Ffn
end
-- ==== Proof.FfnKer.lean ====
/- The feed-forward kernel's result: the accumulator is followed over the tiles of hidden units, by induction over the
   grid points, and read at the point that writes each row block back. -/
module

public import proofs.«01_k».proof.Proof.FfnCases
public import proofs.«01_k».proof.Proof.FfnBlocks

@[expose] public section

set_option maxRecDepth 16384

noncomputable section

namespace Cert.Ffn

open Idealize.ShloMosaic Idealize.ShloMosaic.TcCoe Idealize.SL.Sem Cert.KernelIdeal Cert.KernelIdeal.Gen

/-- One accumulation over a tile adds the tile's term, when the operands are the tile's blocks. -/
theorem pay3_tile (h : Vec Ideal S512x4096 .bf16) (a : Vec Ideal S512x4096 .f32) (bg bu : Vec Ideal S1x4096x256 .bf16)
    (bd : Vec Ideal S256x4096 .bf16) (wg wu : S43x4096x256.Idx → EReal) (wd : S11008x4096.Idx → EReal) (t : Fin 43)
    (hg : ∀ k u, bg (ix3 0 k u) = wg (ix3 t k u)) (hu : ∀ k u, bu (ix3 0 k u) = wu (ix3 t k u))
    (hd : ∀ (u : Fin 256) (n : Fin 4096), bd (ix2 u n) = wd (ix2 ⟨t.val * 256 + u.val, by have := t.isLt; have := u.isLt; omega⟩ n))
    (r : Fin 512) (n : Fin 4096) :
    k0_pay3 bg bu bd h a (ix2 r n) = a (ix2 r n) + FfnSpec.tileTerm (fun k => h (ix2 r k)) wg wu wd n t := by
  rw [pay3_apply]
  simp only [hg, hu, hd]
  rfl

/-- The sum of the first `s` tiles' terms. -/
def partSum (h : Fin 4096 → EReal) (wg wu : S43x4096x256.Idx → EReal) (wd : S11008x4096.Idx → EReal) (n : Fin 4096) (s : ℕ) : EReal :=
  ∑ i ∈ Finset.range s, if hi : i < 43 then FfnSpec.tileTerm h wg wu wd n ⟨i, hi⟩ else 0

theorem partSum_succ (h : Fin 4096 → EReal) (wg wu : S43x4096x256.Idx → EReal) (wd : S11008x4096.Idx → EReal) (n : Fin 4096)
    (s : ℕ) (hs : s < 43) :
    partSum h wg wu wd n (s + 1) = partSum h wg wu wd n s + FfnSpec.tileTerm h wg wu wd n ⟨s, hs⟩ := by
  unfold partSum
  rw [Finset.sum_range_succ, dif_pos hs]

/-- All the tiles make the whole product. -/
theorem partSum_all (h : Fin 4096 → EReal) (wg wu : S43x4096x256.Idx → EReal) (wd : S11008x4096.Idx → EReal) (n : Fin 4096) :
    partSum h wg wu wd n 43 = FfnSpec.down h wg wu wd n := by
  rw [FfnSpec.down_eq_tiles]
  unfold partSum
  rw [Finset.sum_range]
  exact Finset.sum_congr rfl fun t _ => dif_pos t.isLt

variable (m : (ℓ : Loc nD τ sig) → Buf (Elt Ideal) ℓ)

/-- The launched arrays, by name. -/
abbrev ax (c : Dev nD) : S8192x4096.Idx → EReal := m ((c : Thread nD τ).loc main_arg0)
abbrev ag (c : Dev nD) : S4096.Idx → EReal := m ((c : Thread nD τ).loc main_arg1)
abbrev awg (c : Dev nD) : S43x4096x256.Idx → EReal := m ((c : Thread nD τ).loc main_arg2)
abbrev awu (c : Dev nD) : S43x4096x256.Idx → EReal := m ((c : Thread nD τ).loc main_arg3)
abbrev awd (c : Dev nD) : S11008x4096.Idx → EReal := m ((c : Thread nD τ).loc main_arg4)

/-- The normalised row `R` of the input. -/
def hid (c : Dev nD) (R : Fin 8192) (k : Fin 4096) : EReal :=
  FfnSpec.norm (fun l => ax m c (ix2 R l)) (fun l => ag m c (ix1 l)) k

/-- What the accumulator holds after tile `s` of a row: the tiles so far, and after the last tile the result. -/
def accVal (c : Dev nD) (R : Fin 8192) (n : Fin 4096) (s : ℕ) : EReal :=
  if s = 42 then FfnSpec.out (ax m c) (ag m c) (awg m c) (awu m c) (awd m c) R n
  else partSum (hid m c R) (awg m c) (awu m c) (awd m c) n (s + 1)

/-- At a first tile. -/
theorem first_point (c : Dev nD) (t : Fin cfg0.N) (h0 : t.val % 43 = 0) (r : Fin 512) (n : Fin 4096) :
    (outsAt0 m c t.val t.isLt).1 (ix2 r n) = accVal m c (row (t.val / 43) (q_lt t) r) n (t.val % 43)
    ∧ (outsAt0 m c t.val t.isLt).2 (ix2 r n) = hid m c (row (t.val / 43) (q_lt t) r) n := by
  have h1 : ¬t.val % 43 = 42 := by omega
  have hs : ∀ k, k0_pay1 (iblk m c 0 t) (iblk m c 1 t) (ix2 r k) = hid m c (row (t.val / 43) (q_lt t) r) k := by
    intro k
    refine (pay1_apply _ _ r k).trans ?_
    unfold hid
    congr 1
    · funext l; exact iblk0_apply m c t r l
    · funext l; exact iblk1_apply m c t l
  rw [outsAt0_A m c t h0 h1]
  dsimp only
  rw [out_first, scratch_first]
  refine ⟨?_, hs n⟩
  refine (pay3_tile _ _ _ _ _ (awg m c) (awu m c) (awd m c) ⟨t.val % 43, Nat.mod_lt _ (by decide)⟩
    (iblk2_apply m c t) (iblk3_apply m c t) (iblk4_apply m c t) r n).trans ?_
  rw [pay2_apply, show (fun k => k0_pay1 (iblk m c 0 t) (iblk m c 1 t) (ix2 r k)) = hid m c (row (t.val / 43) (q_lt t) r) from funext hs]
  unfold accVal
  rw [if_neg h1, partSum_succ _ _ _ _ _ _ (Nat.mod_lt _ (by decide))]
  congr 1
  rw [h0]
  rfl

/-- At a later tile, over what the tile before left. -/
theorem later_point (c : Dev nD) (t : Fin cfg0.N) (h0 : ¬t.val % 43 = 0) (r : Fin 512)
    (hp : ∀ n, (outsAt0 m c (t.val - 1) (Nat.lt_of_le_of_lt (Nat.sub_le _ _) t.isLt)).1 (ix2 r n)
        = accVal m c (row (t.val / 43) (q_lt t) r) n (t.val % 43 - 1))
    (hq : ∀ n, (outsAt0 m c (t.val - 1) (Nat.lt_of_le_of_lt (Nat.sub_le _ _) t.isLt)).2 (ix2 r n)
        = hid m c (row (t.val / 43) (q_lt t) r) n)
    (n : Fin 4096) :
    (outsAt0 m c t.val t.isLt).1 (ix2 r n) = accVal m c (row (t.val / 43) (q_lt t) r) n (t.val % 43)
    ∧ (outsAt0 m c t.val t.isLt).2 (ix2 r n) = hid m c (row (t.val / 43) (q_lt t) r) n := by
  have hlt : t.val % 43 < 43 := Nat.mod_lt _ (by decide)
  have hstep : k0_pay3 (iblk m c 2 t) (iblk m c 3 t) (iblk m c 4 t)
      (outsAt0 m c (t.val - 1) (Nat.lt_of_le_of_lt (Nat.sub_le _ _) t.isLt)).2
      (outsAt0 m c (t.val - 1) (Nat.lt_of_le_of_lt (Nat.sub_le _ _) t.isLt)).1 (ix2 r n)
      = partSum (hid m c (row (t.val / 43) (q_lt t) r)) (awg m c) (awu m c) (awd m c) n (t.val % 43 + 1) := by
    refine (pay3_tile _ _ _ _ _ (awg m c) (awu m c) (awd m c) ⟨t.val % 43, hlt⟩
      (iblk2_apply m c t) (iblk3_apply m c t) (iblk4_apply m c t) r n).trans ?_
    rw [hp n, funext hq, partSum_succ _ _ _ _ _ _ hlt]
    unfold accVal
    rw [if_neg (by omega), show t.val % 43 - 1 + 1 = t.val % 43 by omega]
  by_cases h1 : t.val % 43 = 42
  · rw [outsAt0_C m c t h0 h1]
    dsimp only
    rw [out_last]
    refine ⟨?_, hq n⟩
    refine (pay4_apply _ _ r n).trans ?_
    rw [hstep]
    unfold accVal
    rw [if_pos h1, h1, partSum_all]
    unfold FfnSpec.out
    congr 1
    exact iblk0_apply m c t r n
  · rw [outsAt0_B m c t h0 h1]
    dsimp only
    rw [out_mid]
    refine ⟨?_, hq n⟩
    rw [hstep]
    unfold accVal
    rw [if_neg h1]

/-- After every grid point: the accumulator block and the scratch. -/
theorem after_point (c : Dev nD) (r : Fin 512) : ∀ (N : ℕ) (hN : N < cfg0.N) (n : Fin 4096),
    (outsAt0 m c N hN).1 (ix2 r n) = accVal m c (row (N / 43) (q_lt ⟨N, hN⟩) r) n (N % 43)
    ∧ (outsAt0 m c N hN).2 (ix2 r n) = hid m c (row (N / 43) (q_lt ⟨N, hN⟩) r) n := by
  intro N
  induction N with
  | zero => intro hN n; exact first_point m c ⟨0, hN⟩ rfl r n
  | succ N ih =>
    intro hN n
    by_cases h0 : (N + 1) % 43 = 0
    · exact first_point m c ⟨N + 1, hN⟩ h0 r n
    · have hd : (N + 1) / 43 = N / 43 := by omega
      have hm : (N + 1) % 43 - 1 = N % 43 := by omega
      have hr : row ((N + 1) / 43) (q_lt ⟨N + 1, hN⟩) r = row (N / 43) (q_lt ⟨N, Nat.lt_of_succ_lt hN⟩) r :=
        Fin.ext (by show (N + 1) / 43 * 512 + r.val = N / 43 * 512 + r.val; rw [hd])
      refine later_point m c ⟨N + 1, hN⟩ h0 r (fun k => ?_) (fun k => ?_) n
      · refine ((ih (Nat.lt_of_succ_lt hN) k).1).trans ?_
        show _ = accVal m c (row ((N + 1) / 43) _ r) k ((N + 1) % 43 - 1)
        rw [hr, hm]
      · refine ((ih (Nat.lt_of_succ_lt hN) k).2).trans ?_
        show _ = hid m c (row ((N + 1) / 43) _ r) k
        rw [hr]

/-- The array the kernel leaves, at one element: half a residual step of the launched arrays. -/
theorem final_apply (c : Dev nD) (R : Fin 8192) (n : Fin 4096) :
    Value.G5 m c (ix2 R n) = FfnSpec.out (ax m c) (ag m c) (awg m c) (awu m c) (awd m c) R n := by
  have hR := R.isLt
  have hpt : Value.pt5Of (ix2 R n) = 43 * (R.val / 512) + 42 := by
    show 43 * (1 * (R.val / 512 - 0) + 1 * (n.val / 4096 - 0)) + 42 = _
    have := n.isLt; omega
  have hlt : Value.pt5Of (ix2 R n) < cfg0.N := by
    rw [hpt, show cfg0.N = 688 from N_0]; omega
  have hloc : Value.loc5Of (ix2 R n) = (ix2 (⟨R.val % 512, Nat.mod_lt _ (by decide)⟩ : Fin 512) n : S512x4096.Idx) := by
    funext a
    apply Fin.ext
    match a with
    | ⟨0, _⟩ => rfl
    | ⟨1, _⟩ => exact Nat.mod_eq_of_lt n.isLt
  unfold Value.G5
  rw [dif_pos hlt, ← Value.outsAt0_sweep m c _ hlt, hloc, (after_point m c _ _ hlt n).1]
  unfold accVal
  rw [if_pos (by omega)]
  congr 1
  apply Fin.ext
  show Value.pt5Of (ix2 R n) / 43 * 512 + R.val % 512 = R.val
  omega

end Cert.Ffn
end
-- ==== Proof.FfnRef.lean ====
/- The reference of the feed-forward half-step read at one element. -/
module

public import proofs.«01_k».proof.Proof.Gen.ReferenceIdeal.Run
public import proofs.«01_k».proof.Proof.FfnSpec

@[expose] public section

set_option maxRecDepth 16384

noncomputable section

namespace Cert.FfnRef

open Idealize.ShloMosaic Cert.ReferenceIdeal Cert.ReferenceIdeal.Gen Idealize.ShloMosaic.TcCoe Idealize.SL.Sem

/-- The reference's normalised rows. -/
def rows (x : FVec Ideal S8192x4096 .f32) (g : FVec Ideal S4096 .f32) : FVec Ideal S8192x4096 .f32 :=
  mulf (mulf x (broadcastInDim S8192x4096 ![0, 1] bcast_S8192x1_S8192x4096_0_1
    (Host.rsqrt (addf (Host.divf (broadcastInDim S8192x1 ![0] bcast_S8192_S8192x1_0
        (Host.reduceAdd (mulf x x) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The reference's flat weight matrix, of the tiled one. -/
def flat (w : FVec Ideal S43x4096x256 .bf16) : FVec Ideal S4096x11008 .f32 :=
  shapeCast _ (transpose S4096x43x256 [1, 0, 2] (extf .f32 w bitsLt_bf16_f32) transposes_S43x4096x256_S4096x43x256_1_0_2)
    shapeCasts_S4096x43x256_S4096x11008

/-- The reference's products of the rows with a flat weight matrix. -/
def prod (h : FVec Ideal S8192x4096 .f32) (w : FVec Ideal S4096x11008 .f32) : FVec Ideal S8192x11008 .f32 :=
  Host.dotGeneral dot_S8192x4096_S4096x11008_S8192x11008_1_0_0_1_n_n none h w

/-- The reference's hidden units, of the two products. -/
def units (a b : FVec Ideal S8192x11008 .f32) : FVec Ideal S8192x11008 .f32 :=
  mulf (mulf a (Host.divf (broadcastInDim S8192x11008 ![] bcast_S_S8192x11008 (constant S_ .f32 0x3F800000#32))
    (addf (broadcastInDim S8192x11008 ![] bcast_S_S8192x11008 (constant S_ .f32 0x3F800000#32)) (Host.exp (Host.negf a))))) b

/-- The reference's result. -/
def result (x : FVec Ideal S8192x4096 .f32) (g : FVec Ideal S4096 .f32) (wg wu : FVec Ideal S43x4096x256 .bf16)
    (wd : FVec Ideal S11008x4096 .bf16) : FVec Ideal S8192x4096 .f32 :=
  addf x (mulf (broadcastInDim S8192x4096 ![] bcast_S_S8192x4096 (constant S_ .f32 0x3F000000#32))
    (Host.dotGeneral dot_S8192x11008_S11008x4096_S8192x4096_1_0_0_1_n_n none
      (units (prod (rows x g) (flat wg)) (prod (rows x g) (flat wu))) (extf .f32 wd bitsLt_bf16_f32)))

theorem rows_apply (x : FVec Ideal S8192x4096 .f32) (g : FVec Ideal S4096 .f32) (r : Fin 8192) (k : Fin 4096) :
    rows x g (ix2 r k) = FfnSpec.norm (fun l => x (ix2 r l)) (fun l => g (ix1 l)) k := by
  pointwise [rows, FfnSpec.norm]

theorem flat_apply (w : FVec Ideal S43x4096x256 .bf16) (k : Fin 4096) (j : Fin 11008) :
    flat w (ix2 k j) = FfnSpec.col w j k := by
  pointwise [flat, FfnSpec.col]

theorem prod_apply (h : FVec Ideal S8192x4096 .f32) (w : FVec Ideal S4096x11008 .f32) (r : Fin 8192) (j : Fin 11008) :
    prod h w (ix2 r j) = ∑ k : Fin 4096, h (ix2 r k) * w (ix2 k j) := by
  pointwise [prod]

theorem units_apply (a b : FVec Ideal S8192x11008 .f32) (r : Fin 8192) (j : Fin 11008) :
    units a b (ix2 r j) = a (ix2 r j) * Ideal.logistic (a (ix2 r j)) * b (ix2 r j) := by
  pointwise [units, Ideal.logistic]

/-- The reference's result at an element is the half-step there. -/
theorem result_apply (x : FVec Ideal S8192x4096 .f32) (g : FVec Ideal S4096 .f32) (wg wu : FVec Ideal S43x4096x256 .bf16)
    (wd : FVec Ideal S11008x4096 .bf16) (r : Fin 8192) (n : Fin 4096) :
    result x g wg wu wd (ix2 r n) = FfnSpec.out x g wg wu wd r n := by
  have e : result x g wg wu wd (ix2 r n) = x (ix2 r n) + Ideal.ofBits .f32 0x3F000000#32
      * ∑ j : Fin 11008, units (prod (rows x g) (flat wg)) (prod (rows x g) (flat wu)) (ix2 r j) * wd (ix2 j n) := by
    pointwise [result]
  rw [e]
  unfold FfnSpec.out FfnSpec.down FfnSpec.unit
  simp only [units_apply, prod_apply, rows_apply, flat_apply]

/-- The reference's run: it ends with the half-step in its result and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = result (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.FfnRef
end
-- ==== Proof.FfnClaim.lean ====
/- The feed-forward call's claims: the reference's frame, and the kernel's result against the reference's. -/
module

public import proofs.«01_k».proof.Defs
public import proofs.«01_k».proof.Proof.FfnKer
public import proofs.«01_k».proof.Proof.FfnRef

@[expose] public section

set_option maxRecDepth 16384

noncomputable section

namespace Cert.Ffn

open Idealize.ShloMosaic Idealize.ShloMosaic.TcCoe Idealize.SL.Sem

local instance : Cert.KernelIdeal.Facts := Cert.KernelIdeal.Gen.facts
local instance : Cert.ReferenceIdeal.Facts := Cert.ReferenceIdeal.Gen.facts

/-- The reference runs, keeps its arguments and leaves no counter behind (it has none). -/
theorem frame_ref : Cert.quiescent_ReferenceIdeal := fun m ρ _ =>
  (θ_run _ _ _).mono (fun r h => ⟨fun c => (h c).2, sem_eq_zero_of_no_sems (by decide) r.2⟩) (FfnRef.run m ρ)

/-- The kernel's array is the reference's result on the same arguments. -/
theorem final_eq (m : (ℓ : Loc KernelIdeal.nD KernelIdeal.τ KernelIdeal.sig) → Buf (Elt Ideal) ℓ) (c : Dev KernelIdeal.nD) :
    KernelIdeal.Value.G5 m c = FfnRef.result (ax m c) (ag m c) (awg m c) (awu m c) (awd m c) := by
  funext i
  have hi : (i : KernelIdeal.S8192x4096.Idx) = ix2 (i 0) (i 1) := eq_ix2 i
  rw [hi]
  exact (final_apply m c (i 0) (i 1)).trans (FfnRef.result_apply _ _ _ _ _ (i 0) (i 1)).symm

/-- Kernel and reference agree over the extended reals, from any arguments. -/
theorem algebraic : Cert.algebraic_KernelIdeal_ReferenceIdeal := fun m ρ m' ρ' _ hag =>
  ⟨fun c => KernelIdeal.Value.G5 m c, KernelIdeal.Value.run m ρ,
    (θ_run _ _ _).mono (fun r h c => by
      refine ⟨(h c).1.trans ?_, (h c).2⟩
      rw [(hag c).1, (hag c).2.1, (hag c).2.2.1, (hag c).2.2.2.1, (hag c).2.2.2.2]
      exact (final_eq m c).symm) (FfnRef.run m' ρ')⟩

end Cert.Ffn
end
-- ==== Proof.PoolSpec.lean ====
/- The trailing-window pooling as a function of its arrays, element by element over the extended reals. -/
module

public import Idealize.ShloMosaic.Lib.Pointwise

@[expose] public section

set_option maxRecDepth 16384

noncomputable section

namespace Cert.PoolSpec

open Idealize.ShloMosaic Ideal

/-- How many rows a window of `W` holds at the `n`-th row of a sequence (counted from one): the smaller of the two, as a float. -/
def count (n W : ℕ) : EReal := FloatOps.sitofp (F := Idealize.ShloMosaic.Ideal) .f32 (IntOp.minsi (BitVec.ofNat 32 n) (BitVec.ofNat 32 W))

/-- One output element: the mean of the last `W` rows less the current row, times the group's weight column, scaled. `past k d`
    is column `k` of the group `d` rows back. -/
def out (W : ℕ) (past : Fin 512 → ℕ → EReal) (n : EReal) (cur w : Fin 512 → EReal) (s : EReal) : EReal :=
  (∑ k : Fin 512, (div (∑ d ∈ Finset.range W, past k d) n - cur k) * w k) * s

theorem out_congr {W : ℕ} {past past' : Fin 512 → ℕ → EReal} {n n' : EReal} {cur cur' w w' : Fin 512 → EReal} {s s' : EReal}
    (hp : ∀ k, ∀ d < W, past k d = past' k d) (hn : n = n') (hc : ∀ k, cur k = cur' k) (hw : ∀ k, w k = w' k) (hs : s = s') :
    out W past n cur w s = out W past' n' cur' w' s' := by
  subst hn hs
  unfold out
  refine congrArg (fun a : EReal => a * s) (Finset.sum_congr rfl fun k _ => ?_)
  rw [hc k, hw k, Finset.sum_congr rfl fun d hd => hp k d (Finset.mem_range.mp hd)]

/-- Column `c` of the row `d` rows before row `r` of the same sequence of 2048 rows; zero before its start. -/
def trail (u : (⟨2, ![8192, 6400]⟩ : Shape).Idx → EReal) (r : Fin 8192) (c : Fin 2048) (d : ℕ) : EReal :=
  if d ≤ r.val % 2048 then u (ix2 (⟨r.val - d, by have := r.isLt; omega⟩ : Fin 8192) (⟨c.val, by have := c.isLt; omega⟩ : Fin 6400)) else 0

/-- Column `k` of group `g`. -/
def col (g : Fin 4) (k : Fin 512) : Fin 2048 := ⟨g.val * 512 + k.val, by have := g.isLt; have := k.isLt; omega⟩

/-- The prompt's pooled element at row `r`, column `l` of group `g`; the groups' windows are 2, 4, 8 and 16. -/
def prompt (u : (⟨2, ![8192, 6400]⟩ : Shape).Idx → EReal) (w : (⟨3, ![4, 512, 512]⟩ : Shape).Idx → EReal)
    (s : (⟨2, ![1, 2048]⟩ : Shape).Idx → EReal) (r : Fin 8192) (g : Fin 4) (l : Fin 512) : EReal :=
  out (2 ^ (g.val + 1)) (fun k d => trail u r (col g k) d) (count (r.val % 2048 + 1) (2 ^ (g.val + 1)))
    (fun k => u (ix2 r (⟨(col g k).val, by have := (col g k).isLt; omega⟩ : Fin 6400))) (fun k => w (ix3 g k l)) (s (ix2 0 (col g l)))

end Cert.PoolSpec
end
-- ==== Proof.PoolPay.lean ====
/- What the prompt pooling stores for one group of columns, read at one element. -/
module

public import proofs.«01_k».proof.Proof.Gen.Kernel2Ideal.Frame
public import proofs.«01_k».proof.Proof.PoolSpec

@[expose] public section

set_option maxRecDepth 16384

noncomputable section

namespace Cert.Pool

open Idealize.ShloMosaic Idealize.ShloMosaic.TcCoe Idealize.SL.Sem Cert.Kernel2Ideal Ideal Cert.Kernel2Ideal.Gen

/-- The kernel's row number is the row's place in its sequence. -/
theorem pos_eq (a r : ℕ) : IntOp.addi (IntOp.addi (Scalar.muli (BitVec.ofNat 32 a) 256#32) (BitVec.ofNat 32 r)) 1#32
    = BitVec.ofNat 32 (a * 256 + r + 1) := by
  rw [BitVec.ofNat_add, BitVec.ofNat_add, BitVec.ofNat_mul]
  rfl

variable (i : grid0.Coords) (r : Fin 256) (l : Fin 512) (past : Fin 512 → ℕ → EReal)

/-- The group of window 2: the stored element from the 2 shifted blocks. -/
theorem group2_apply (e0 e1 u : Vec Ideal S256x512 .f32) (w : Vec Ideal S1x512x512 .bf16) (s : Vec Ideal S1x512 .f32)
    (h0 : ∀ k, e0 (ix2 r k) = past k 0) (h1 : ∀ k, e1 (ix2 r k) = past k 1) :
    k0_pay6 (k0_pay5 i e0 e1 u w) s (ix2 r l)
      = PoolSpec.out 2 past (PoolSpec.count ((i 1).val * 256 + r.val + 1) 2) (fun k => u (ix2 r k)) (fun k => w (ix3 0 k l)) (s (ix2 0 l)) := by
  pointwise [k0_pay6, k0_pay5, k0_pay4]
  unfold PoolSpec.out PoolSpec.count
  simp only [Finset.sum_range_succ, Finset.sum_range_zero, zero_add, pos_eq, h0, h1]

/-- The group of window 4: the stored element from the 4 shifted blocks. -/
theorem group4_apply (e0 e1 e2 e3 u : Vec Ideal S256x512 .f32) (w : Vec Ideal S1x512x512 .bf16) (s : Vec Ideal S1x512 .f32)
    (h0 : ∀ k, e0 (ix2 r k) = past k 0) (h1 : ∀ k, e1 (ix2 r k) = past k 1) (h2 : ∀ k, e2 (ix2 r k) = past k 2) (h3 : ∀ k, e3 (ix2 r k) = past k 3) :
    k0_pay7 (k0_pay4 i) e0 e1 e2 e3 u w s (ix2 r l)
      = PoolSpec.out 4 past (PoolSpec.count ((i 1).val * 256 + r.val + 1) 4) (fun k => u (ix2 r k)) (fun k => w (ix3 0 k l)) (s (ix2 0 l)) := by
  pointwise [k0_pay7, k0_pay4]
  unfold PoolSpec.out PoolSpec.count
  simp only [Finset.sum_range_succ, Finset.sum_range_zero, zero_add, pos_eq, h0, h1, h2, h3]

/-- The group of window 8: the stored element from the 8 shifted blocks. -/
theorem group8_apply (e0 e1 e2 e3 e4 e5 e6 e7 u : Vec Ideal S256x512 .f32) (w : Vec Ideal S1x512x512 .bf16) (s : Vec Ideal S1x512 .f32)
    (h0 : ∀ k, e0 (ix2 r k) = past k 0) (h1 : ∀ k, e1 (ix2 r k) = past k 1) (h2 : ∀ k, e2 (ix2 r k) = past k 2) (h3 : ∀ k, e3 (ix2 r k) = past k 3) (h4 : ∀ k, e4 (ix2 r k) = past k 4) (h5 : ∀ k, e5 (ix2 r k) = past k 5) (h6 : ∀ k, e6 (ix2 r k) = past k 6) (h7 : ∀ k, e7 (ix2 r k) = past k 7) :
    k0_pay9 (k0_pay4 i) (k0_pay8 e0 e1) e2 e3 e4 e5 e6 e7 u w s (ix2 r l)
      = PoolSpec.out 8 past (PoolSpec.count ((i 1).val * 256 + r.val + 1) 8) (fun k => u (ix2 r k)) (fun k => w (ix3 0 k l)) (s (ix2 0 l)) := by
  pointwise [k0_pay9, k0_pay8, k0_pay4]
  unfold PoolSpec.out PoolSpec.count
  simp only [Finset.sum_range_succ, Finset.sum_range_zero, zero_add, pos_eq, h0, h1, h2, h3, h4, h5, h6, h7]

/-- The group of window 16: the stored element from the 16 shifted blocks. -/
theorem group16_apply (e0 e1 e2 e3 e4 e5 e6 e7 e8 e9 e10 e11 e12 e13 e14 e15 u : Vec Ideal S256x512 .f32) (w : Vec Ideal S1x512x512 .bf16) (s : Vec Ideal S1x512 .f32)
    (h0 : ∀ k, e0 (ix2 r k) = past k 0) (h1 : ∀ k, e1 (ix2 r k) = past k 1) (h2 : ∀ k, e2 (ix2 r k) = past k 2) (h3 : ∀ k, e3 (ix2 r k) = past k 3) (h4 : ∀ k, e4 (ix2 r k) = past k 4) (h5 : ∀ k, e5 (ix2 r k) = past k 5) (h6 : ∀ k, e6 (ix2 r k) = past k 6) (h7 : ∀ k, e7 (ix2 r k) = past k 7) (h8 : ∀ k, e8 (ix2 r k) = past k 8) (h9 : ∀ k, e9 (ix2 r k) = past k 9) (h10 : ∀ k, e10 (ix2 r k) = past k 10) (h11 : ∀ k, e11 (ix2 r k) = past k 11) (h12 : ∀ k, e12 (ix2 r k) = past k 12) (h13 : ∀ k, e13 (ix2 r k) = past k 13) (h14 : ∀ k, e14 (ix2 r k) = past k 14) (h15 : ∀ k, e15 (ix2 r k) = past k 15) :
    k0_pay1 (k0_pay11 (k0_pay10 e0 e1) e2 e3 e4 e5 e6 e7 e8 e9 e10 e11 e12 e13 e14 e15) (k0_pay12 (k0_pay4 i)) 16#32 u w s (ix2 r l)
      = PoolSpec.out 16 past (PoolSpec.count ((i 1).val * 256 + r.val + 1) 16) (fun k => u (ix2 r k)) (fun k => w (ix3 0 k l)) (s (ix2 0 l)) := by
  pointwise [k0_pay1, k0_pay11, k0_pay10, k0_pay12, k0_pay4]
  unfold PoolSpec.out PoolSpec.count
  simp only [Finset.sum_range_succ, Finset.sum_range_zero, zero_add, pos_eq, h0, h1, h2, h3, h4, h5, h6, h7, h8, h9, h10, h11, h12, h13, h14, h15]

/-- The rows above the block: those of the halo, zero at a sequence's first block. -/
theorem halo_apply (x : Vec Ideal S16x2048 .f32) (a : Fin 16) (b : Fin 2048) :
    k0_pay2 i x (ix2 a b) = if (i 1).val = 0 then 0 else x (ix2 a b) := by
  pointwise [k0_pay2]
  have hi : (i 1).val < 8 := (i 1).isLt
  have key : ∀ n : Fin 8, Scalar.cmpi CmpIPredicate.eq (BitVec.ofNat 32 n.val) 0#32 = if n.val = 0 then 1#1 else 0#1 := by decide
  rw [key ⟨(i 1).val, hi⟩]
  by_cases h : (i 1).val = 0
  · simp only [h, if_true]; rfl
  · simp only [h, if_false]; rfl

theorem body_eq (x : Vec Ideal S256x2048 .f32) : k0_pay3 x = x := by
  unfold k0_pay3
  exact shapeCast_self _ _

end Cert.Pool
end
-- ==== Proof.PoolBlock.lean ====
/- What one grid point of the prompt pooling leaves in its output block. -/
module

public import proofs.«01_k».proof.Proof.PoolPay
public import Idealize.ShloMosaic.Lib.Pipeline.ValueKit.Tiles

@[expose] public section

set_option maxRecDepth 16384

noncomputable section

namespace Cert.Pool

open Idealize.ShloMosaic Idealize.ShloMosaic.TcCoe Idealize.SL.Sem Cert.Kernel2Ideal Ideal Cert.Kernel2Ideal.Gen

theorem z2 : (![0, 0] : Fin 2 → ℕ) = fun _ => 0 := by
  funext a
  match a with
  | ⟨0, _⟩ => rfl
  | ⟨1, _⟩ => rfl

variable (c : Dev nD) (i : grid0.Coords) (arg2 : Memref sig .tc .vmem S256x2048 .f32) (harg2 : arg2.IsWhole) (arg3 : Memref sig .tc .vmem S16x2048 .f32) (harg3 : arg3.IsWhole) (arg4 : Memref sig .tc .vmem S4x512x512 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S272x2048 .f32) (harg7 : arg7.IsWhole)
    (x0 : Vec Ideal S256x2048 .f32) (x1 : Vec Ideal S16x2048 .f32) (x2 : Vec Ideal S4x512x512 .bf16) (x3 : Vec Ideal S1x2048 .f32)

/-- The scratch: sixteen rows above the block, then the block, by row and column number. -/
def extV (a b : ℕ) : EReal :=
  if hb : b < 2048 then
    if ha : a < 16 then k0_pay2 i x1 (ix2 (⟨a, ha⟩ : Fin 16) (⟨b, hb⟩ : Fin 2048))
    else if ha' : a < 272 then x0 (ix2 (⟨a - 16, by omega⟩ : Fin 256) (⟨b, hb⟩ : Fin 2048)) else 0
  else 0

/-- What the scratch holds after the body's two stores. -/
theorem canon_ext : (View.canon [(⟨Rect.unit ![16, 0] ![256, 2048] inb_S272x2048_S256x2048_16_0, k0_pay3 x0⟩ : View.Piece (Elt Ideal) S272x2048 .f32),
      ⟨Rect.unit ![0, 0] ![16, 2048] inb_S272x2048_S16x2048_0_0, k0_pay2 i x1⟩]) = fun y => extV i x0 x1 (y 0).val (y 1).val := by
  funext y
  have hy0 : (y 0).val < 272 := (y 0).isLt
  have hy1 : (y 1).val < 2048 := (y 1).isLt
  refine View.canon_apply_of_pieces (Val := Elt Ideal) (e := .f32) (fun y => extV i x0 x1 (y 0).val (y 1).val) _ ?_ y ?_
  · intro p hp
    simp only [List.mem_cons, List.mem_nil_iff, or_false] at hp
    rcases hp with rfl | rfl
    · intro x
      have h0 : (x 0).val < 256 := (x 0).isLt
      have h1 : (x 1).val < 2048 := (x 1).isLt
      show k0_pay3 x0 x = extV i x0 x1 (16 + 1 * (x 0).val) (0 + 1 * (x 1).val)
      unfold extV
      rw [body_eq, dif_pos (by omega), dif_neg (by omega), dif_pos (by omega)]
      refine congrArg x0 (funext fun a => Fin.ext ?_)
      match a with
      | ⟨0, _⟩ => show (x 0).val = 16 + 1 * (x 0).val - 16; omega
      | ⟨1, _⟩ => show (x 1).val = 0 + 1 * (x 1).val; omega
    · intro x
      have h0 : (x 0).val < 16 := (x 0).isLt
      have h1 : (x 1).val < 2048 := (x 1).isLt
      show k0_pay2 i x1 x = extV i x0 x1 (0 + 1 * (x 0).val) (0 + 1 * (x 1).val)
      unfold extV
      rw [dif_pos (by omega), dif_pos (by omega)]
      refine congrArg (k0_pay2 i x1) (funext fun a => Fin.ext ?_)
      match a with
      | ⟨0, _⟩ => show (x 0).val = 0 + 1 * (x 0).val; omega
      | ⟨1, _⟩ => show (x 1).val = 0 + 1 * (x 1).val; omega
  · rcases (by omega : (16 ≤ (y 0).val ∧ (y 0).val < 16 + 256) ∨ (0 ≤ (y 0).val ∧ (y 0).val < 0 + 16)) with h | h
    · refine ⟨_, List.Mem.head _, ?_⟩
      show y ∈ (Rect.unit (s := S272x2048) ![16, 0] ![256, 2048] inb_S272x2048_S256x2048_16_0).set
      rw [Rect.mem_set_unit]
      intro a
      match a with
      | ⟨0, _⟩ => exact h
      | ⟨1, _⟩ => exact ⟨Nat.zero_le _, by show (y 1).val < 0 + 2048; omega⟩
    · refine ⟨_, List.Mem.tail _ (List.Mem.head _), ?_⟩
      show y ∈ (Rect.unit (s := S272x2048) ![0, 0] ![16, 2048] inb_S272x2048_S16x2048_0_0).set
      rw [Rect.mem_set_unit]
      intro a
      match a with
      | ⟨0, _⟩ => exact h
      | ⟨1, _⟩ => exact ⟨Nat.zero_le _, by show (y 1).val < 0 + 2048; omega⟩

/-- The block's element at row `r`, column `l` of group `g`. -/
def tile (g : Fin 4) (r : Fin 256) (l : Fin 512) : EReal :=
  PoolSpec.out (2 ^ (g.val + 1)) (fun k d => extV i x0 x1 (16 - d + r.val) (g.val * 512 + k.val))
    (PoolSpec.count ((i 1).val * 256 + r.val + 1) (2 ^ (g.val + 1)))
    (fun k => x0 (ix2 r (PoolSpec.col g k))) (fun k => x2 (ix3 g k l)) (x3 (ix2 0 (PoolSpec.col g l)))

/-- The whole block. -/
def block (y : S256x2048.Idx) : EReal :=
  tile i x0 x1 x2 x3 ⟨(y 1).val / 512, by have h : (y 1).val < 2048 := (y 1).isLt; show (y 1).val / 512 < 4; omega⟩ (y 0 : Fin 256)
    ⟨(y 1).val % 512, Nat.mod_lt _ (by decide)⟩

theorem block_at (y : S256x2048.Idx) (g : Fin 4) (r : Fin 256) (l : Fin 512) (h0 : (y 0).val = r.val) (h1 : (y 1).val = g.val * 512 + l.val) :
    block i x0 x1 x2 x3 y = tile i x0 x1 x2 x3 g r l := by
  have hl := l.isLt
  unfold block
  rw [show (y 0 : Fin 256) = r from Fin.ext h0]
  have e1 : (⟨(y 1).val / 512, by have h : (y 1).val < 2048 := (y 1).isLt; show (y 1).val / 512 < 4; omega⟩ : Fin 4) = g := Fin.ext (by show (y 1).val / 512 = g.val; omega)
  have e2 : (⟨(y 1).val % 512, Nat.mod_lt _ (by decide)⟩ : Fin 512) = l := Fin.ext (by show (y 1).val % 512 = l.val; omega)
  rw [e1, e2]

theorem ext_at (o p a b : ℕ) : extV i x0 x1 (o + 1 * a) (p + 1 * b) = extV i x0 x1 (o + a) (p + b) := by rw [one_mul, one_mul]

/-- The loads of the current columns, the weights and the scales of one group. -/
theorem cur_at (g : Fin 4) (o : ℕ) (ho : o = g.val * 512) (inb : ∀ a, (![0, o] : Fin 2 → ℕ) a + (![256, 512] : Fin 2 → ℕ) a ≤ S256x2048.size a) (r : Fin 256) (k : Fin 512) :
    View.ld x0 (Rect.unit (s := S256x2048) ![0, o] ![256, 512] inb) (ix2 r k) = x0 (ix2 r (PoolSpec.col g k)) := by
  subst ho
  refine congrArg x0 (funext fun a => Fin.ext ?_)
  match a with
  | ⟨0, _⟩ => show 0 + 1 * r.val = r.val; omega
  | ⟨1, _⟩ => show g.val * 512 + 1 * k.val = g.val * 512 + k.val; omega

theorem weight_at (g : Fin 4) (o : ℕ) (ho : o = g.val) (inb : ∀ a, (![o, 0, 0] : Fin 3 → ℕ) a + (![1, 512, 512] : Fin 3 → ℕ) a ≤ S4x512x512.size a) (k l : Fin 512) :
    View.ld x2 (Rect.unit (s := S4x512x512) ![o, 0, 0] ![1, 512, 512] inb) (ix3 (0 : Fin 1) k l) = x2 (ix3 g k l) := by
  subst ho
  refine congrArg x2 (funext fun a => Fin.ext ?_)
  match a with
  | ⟨0, _⟩ => show g.val + 1 * 0 = g.val; omega
  | ⟨1, _⟩ => show 0 + 1 * k.val = k.val; omega
  | ⟨2, _⟩ => show 0 + 1 * l.val = l.val; omega

theorem scale_at (g : Fin 4) (o : ℕ) (ho : o = g.val * 512) (inb : ∀ a, (![0, o] : Fin 2 → ℕ) a + (![1, 512] : Fin 2 → ℕ) a ≤ S1x2048.size a) (l : Fin 512) :
    View.ld x3 (Rect.unit (s := S1x2048) ![0, o] ![1, 512] inb) (ix2 (0 : Fin 1) l) = x3 (ix2 0 (PoolSpec.col g l)) := by
  subst ho
  refine congrArg x3 (funext fun a => Fin.ext ?_)
  match a with
  | ⟨0, _⟩ => show 0 + 1 * 0 = 0; omega
  | ⟨1, _⟩ => show g.val * 512 + 1 * l.val = g.val * 512 + l.val; omega

/-- One group's stored columns are the block's. -/
theorem piece (g : Fin 4) (p : FVec Ideal S256x512 .bf16) (o W : ℕ) (ho : o = g.val * 512) (hW : W = 2 ^ (g.val + 1))
    (cur : FVec Ideal S256x512 .f32) (w : FVec Ideal S1x512x512 .bf16) (s : FVec Ideal S1x512 .f32)
    (hp : ∀ r l, p (ix2 r l) = PoolSpec.out W (fun k d => extV i x0 x1 (16 - d + r.val) (o + k.val)) (PoolSpec.count ((i 1).val * 256 + r.val + 1) W)
      (fun k => cur (ix2 r k)) (fun k => w (ix3 0 k l)) (s (ix2 0 l)))
    (hc : ∀ r k, cur (ix2 r k) = x0 (ix2 r (PoolSpec.col g k))) (hw : ∀ k l, w (ix3 0 k l) = x2 (ix3 g k l)) (hs : ∀ l, s (ix2 0 l) = x3 (ix2 0 (PoolSpec.col g l)))
    (x : S256x512.Idx) (y : S256x2048.Idx) (h0 : (y 0).val = (x 0).val) (h1 : (y 1).val = o + (x 1).val) : p x = block i x0 x1 x2 x3 y := by
  subst ho hW
  have hx : x = ix2 (x 0) (x 1) := eq_ix2 x
  rw [block_at i x0 x1 x2 x3 y g (x 0 : Fin 256) (x 1 : Fin 512) h0 h1]
  refine (congrArg p hx).trans ((hp (x 0) (x 1)).trans ?_)
  unfold tile
  exact PoolSpec.out_congr (fun _ _ _ => rfl) rfl (hc (x 0)) (fun k => hw k (x 1)) (hs (x 1))

theorem mem_cols (o : ℕ) (inb : ∀ a, (![0, o] : Fin 2 → ℕ) a + (![256, 512] : Fin 2 → ℕ) a ≤ S256x2048.size a)
    (y : S256x2048.Idx) (hl : o ≤ (y 1).val) (hh : (y 1).val < o + 512) :
    y ∈ (Rect.unit (s := S256x2048) ![0, o] ![256, 512] inb).set := by
  rw [Rect.mem_set_unit]
  intro a
  match a with
  | ⟨0, _⟩ => exact ⟨Nat.zero_le _, by have h : (y 0).val < 256 := (y 0).isLt; show (y 0).val < 0 + 256; omega⟩
  | ⟨1, _⟩ => exact ⟨hl, hh⟩

/-- What the body leaves in its output block. -/
theorem out_A : out0_A_4 c i arg2 harg2 arg3 harg3 arg4 harg4 arg5 harg5 arg6 harg6 arg7 harg7 x0 x1 x2 x3 = block i x0 x1 x2 x3 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  simp only [View.readCov_eq_canon', View.readAt_eq_ld, harg2.read_unread, harg3.read_unread, harg4.read_unread, harg5.read_unread, View.ld_unit_zero (S := S16x2048) z2, View.ld_unit_zero (S := S256x2048) z2, canon_ext]
  funext y
  have hy : (y 1).val < 2048 := (y 1).isLt
  refine View.canon_apply_of_pieces (Val := Elt Ideal) (e := .bf16) (block i x0 x1 x2 x3) _ ?_ y ?_
  · intro p hp
    simp only [List.mem_cons, List.mem_nil_iff, or_false] at hp
    rcases hp with rfl | rfl | rfl | rfl
    · exact fun x => piece i x0 x1 x2 x3 3 _ 1536 16 rfl rfl _ _ _ (fun r l => group16_apply i r l (fun k d => extV i x0 x1 (16 - d + r.val) (1536 + k.val)) _ _ _ _ _ _ _ _ _ _ _ _ _ _ _ _ _ _ _
          (fun k => ext_at i x0 x1 16 1536 r.val k.val) (fun k => ext_at i x0 x1 15 1536 r.val k.val) (fun k => ext_at i x0 x1 14 1536 r.val k.val) (fun k => ext_at i x0 x1 13 1536 r.val k.val) (fun k => ext_at i x0 x1 12 1536 r.val k.val) (fun k => ext_at i x0 x1 11 1536 r.val k.val) (fun k => ext_at i x0 x1 10 1536 r.val k.val) (fun k => ext_at i x0 x1 9 1536 r.val k.val) (fun k => ext_at i x0 x1 8 1536 r.val k.val) (fun k => ext_at i x0 x1 7 1536 r.val k.val) (fun k => ext_at i x0 x1 6 1536 r.val k.val) (fun k => ext_at i x0 x1 5 1536 r.val k.val) (fun k => ext_at i x0 x1 4 1536 r.val k.val) (fun k => ext_at i x0 x1 3 1536 r.val k.val) (fun k => ext_at i x0 x1 2 1536 r.val k.val) (fun k => ext_at i x0 x1 1 1536 r.val k.val))
        (cur_at x0 3 1536 rfl inb_S256x2048_S256x512_0_1536) (weight_at x2 3 3 rfl inb_S4x512x512_S1x512x512_3_0_0) (scale_at x3 3 1536 rfl inb_S1x2048_S1x512_0_1536) x _ (show 0 + 1 * (x 0).val = (x 0).val by omega) (show 1536 + 1 * (x 1).val = 1536 + (x 1).val by omega)
    · exact fun x => piece i x0 x1 x2 x3 2 _ 1024 8 rfl rfl _ _ _ (fun r l => group8_apply i r l (fun k d => extV i x0 x1 (16 - d + r.val) (1024 + k.val)) _ _ _ _ _ _ _ _ _ _ _
          (fun k => ext_at i x0 x1 16 1024 r.val k.val) (fun k => ext_at i x0 x1 15 1024 r.val k.val) (fun k => ext_at i x0 x1 14 1024 r.val k.val) (fun k => ext_at i x0 x1 13 1024 r.val k.val) (fun k => ext_at i x0 x1 12 1024 r.val k.val) (fun k => ext_at i x0 x1 11 1024 r.val k.val) (fun k => ext_at i x0 x1 10 1024 r.val k.val) (fun k => ext_at i x0 x1 9 1024 r.val k.val))
        (cur_at x0 2 1024 rfl inb_S256x2048_S256x512_0_1024) (weight_at x2 2 2 rfl inb_S4x512x512_S1x512x512_2_0_0) (scale_at x3 2 1024 rfl inb_S1x2048_S1x512_0_1024) x _ (show 0 + 1 * (x 0).val = (x 0).val by omega) (show 1024 + 1 * (x 1).val = 1024 + (x 1).val by omega)
    · exact fun x => piece i x0 x1 x2 x3 1 _ 512 4 rfl rfl _ _ _ (fun r l => group4_apply i r l (fun k d => extV i x0 x1 (16 - d + r.val) (512 + k.val)) _ _ _ _ _ _ _
          (fun k => ext_at i x0 x1 16 512 r.val k.val) (fun k => ext_at i x0 x1 15 512 r.val k.val) (fun k => ext_at i x0 x1 14 512 r.val k.val) (fun k => ext_at i x0 x1 13 512 r.val k.val))
        (cur_at x0 1 512 rfl inb_S256x2048_S256x512_0_512) (weight_at x2 1 1 rfl inb_S4x512x512_S1x512x512_1_0_0) (scale_at x3 1 512 rfl inb_S1x2048_S1x512_0_512) x _ (show 0 + 1 * (x 0).val = (x 0).val by omega) (show 512 + 1 * (x 1).val = 512 + (x 1).val by omega)
    · exact fun x => piece i x0 x1 x2 x3 0 _ 0 2 rfl rfl _ _ _ (fun r l => group2_apply i r l (fun k d => extV i x0 x1 (16 - d + r.val) (0 + k.val)) _ _ _ _ _
          (fun k => ext_at i x0 x1 16 0 r.val k.val) (fun k => ext_at i x0 x1 15 0 r.val k.val))
        (cur_at x0 0 0 rfl inb_S256x2048_S256x512_0_0) (weight_at x2 0 0 rfl inb_S4x512x512_S1x512x512_0_0_0) (scale_at x3 0 0 rfl inb_S1x2048_S1x512_0_0) x _ (show 0 + 1 * (x 0).val = (x 0).val by omega) (show 0 + 1 * (x 1).val = 0 + (x 1).val by omega)
  · rcases (by omega : (1536 ≤ (y 1).val ∧ (y 1).val < 1536 + 512) ∨ (1024 ≤ (y 1).val ∧ (y 1).val < 1024 + 512) ∨ (512 ≤ (y 1).val ∧ (y 1).val < 512 + 512) ∨ (0 ≤ (y 1).val ∧ (y 1).val < 0 + 512)) with h | h | h | h
    · exact ⟨_, List.Mem.head _, mem_cols 1536 inb_S256x2048_S256x512_0_1536 y h.1 h.2⟩
    · exact ⟨_, List.Mem.tail _ (List.Mem.head _), mem_cols 1024 inb_S256x2048_S256x512_0_1024 y h.1 h.2⟩
    · exact ⟨_, List.Mem.tail _ (List.Mem.tail _ (List.Mem.head _)), mem_cols 512 inb_S256x2048_S256x512_0_512 y h.1 h.2⟩
    · exact ⟨_, List.Mem.tail _ (List.Mem.tail _ (List.Mem.tail _ (List.Mem.head _))), mem_cols 0 inb_S256x2048_S256x512_0_0 y h.1 h.2⟩

end Cert.Pool
end
-- ==== Proof.Pool.lean ====
/- The prompt pooling: the array after the run. -/
module

public import proofs.«01_k».proof.Proof.PoolBlock
public import proofs.«01_k».proof.Proof.Gen.Kernel2Ideal.Value

@[expose] public section

set_option maxRecDepth 16384

noncomputable section

namespace Cert.Pool

open Idealize.ShloMosaic Idealize.ShloMosaic.TcCoe Idealize.SL.Sem Cert.Kernel2Ideal Ideal Cert.Kernel2Ideal.Gen

variable (m : (ℓ : Loc nD τ sig) → Buf (Elt Ideal) ℓ)

theorem lt_points (t : Fin cfg0.N) : t.val < 32 := lt_of_lt_of_eq t.isLt (show cfg0.N = 32 from N_0)

/-- The block numbers of the windows. -/
theorem blockNo : ∀ t : Fin cfg0.N,
    win0_0.index t (0 : Fin 2) = t.val ∧ win0_0.index t (1 : Fin 2) = 0
    ∧ win0_1.index t (0 : Fin 2) = t.val * 16 - 1 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 := by
  decide +kernel

/-- The second grid coordinate: the block's place in its sequence. -/
theorem coord : ∀ t : Fin cfg0.N, ((grid0.coords t) 1).val = t.val % 8 :=
  (by decide +kernel : ∀ t : Fin grid0.N, ((grid0.coords t) 1).val = t.val % 8)

/-- Row `r` of block `t` in the whole array. -/
def row (t : Fin cfg0.N) (r : Fin 256) : Fin 8192 := ⟨t.val * 256 + r.val, by have := r.isLt; have := lt_points t; omega⟩

theorem x0_apply (c : Dev nD) (t : Fin cfg0.N) (r : Fin 256) (k : Fin 2048) :
    (X0_0 m c t : Vec Ideal S256x2048 .f32) (ix2 r k)
      = m ((c : Thread nD τ).loc main_arg0) (ix2 (row t r) (⟨k.val, by have := k.isLt; omega⟩ : Fin 6400)) := by
  unfold X0_0 Pipeline.Window.fill
  rw [dif_pos (moved0_0 t _)]
  unfold iblk
  rw [View.read_apply]
  show V m c main_arg0 _ = _
  rw [V_main_arg0]
  congr 1
  funext a
  apply Fin.ext
  obtain ⟨h0, h1, -⟩ := blockNo t
  match a with
  | ⟨0, _⟩ => show win0_0.index t (0 : Fin 2) * 256 + 1 * r.val = t.val * 256 + r.val; omega
  | ⟨1, _⟩ => show win0_0.index t (1 : Fin 2) * 2048 + 1 * k.val = k.val; omega

theorem x1_apply (c : Dev nD) (t : Fin cfg0.N) (ht : 0 < t.val) (a : Fin 16) (k : Fin 2048) :
    (X0_1 m c t : Vec Ideal S16x2048 .f32) (ix2 a k)
      = m ((c : Thread nD τ).loc main_arg0) (ix2 (⟨t.val * 256 - 16 + a.val, by have := a.isLt; have := lt_points t; omega⟩ : Fin 8192)
          (⟨k.val, by have := k.isLt; omega⟩ : Fin 6400)) := by
  unfold X0_1 Pipeline.Window.fill
  rw [dif_pos (moved0_1 t _)]
  unfold iblk
  rw [View.read_apply]
  show V m c main_arg0 _ = _
  rw [V_main_arg0]
  congr 1
  funext b
  apply Fin.ext
  obtain ⟨-, -, h0, h1, -⟩ := blockNo t
  match b with
  | ⟨0, _⟩ => show win0_1.index t (0 : Fin 2) * 16 + 1 * a.val = t.val * 256 - 16 + a.val; omega
  | ⟨1, _⟩ => show win0_1.index t (1 : Fin 2) * 2048 + 1 * k.val = k.val; omega

theorem iblk2_apply (c : Dev nD) (t : Fin cfg0.N) (g : Fin 4) (k l : Fin 512) :
    (iblk m c 2 t : Vec Ideal S4x512x512 .bf16) (ix3 g k l) = m ((c : Thread nD τ).loc main_arg1) (ix3 g k l) := by
  unfold iblk
  rw [View.read_apply]
  show V m c main_arg1 _ = _
  rw [V_main_arg1]
  congr 1
  funext b
  apply Fin.ext
  obtain ⟨-, -, -, -, h0, h1, h2, -⟩ := blockNo t
  match b with
  | ⟨0, _⟩ => show win0_2.index t (0 : Fin 3) * 4 + 1 * g.val = g.val; omega
  | ⟨1, _⟩ => show win0_2.index t (1 : Fin 3) * 512 + 1 * k.val = k.val; omega
  | ⟨2, _⟩ => show win0_2.index t (2 : Fin 3) * 512 + 1 * l.val = l.val; omega

theorem iblk3_apply (c : Dev nD) (t : Fin cfg0.N) (k : Fin 2048) :
    (iblk m c 3 t : Vec Ideal S1x2048 .f32) (ix2 0 k) = m ((c : Thread nD τ).loc main_arg2) (ix2 0 k) := by
  unfold iblk
  rw [View.read_apply]
  show V m c main_arg2 _ = _
  rw [V_main_arg2]
  congr 1
  funext b
  apply Fin.ext
  obtain ⟨-, -, -, -, -, -, -, h0, h1, -⟩ := blockNo t
  match b with
  | ⟨0, _⟩ => show win0_3.index t (0 : Fin 2) * 1 + 1 * 0 = 0; omega
  | ⟨1, _⟩ => show win0_3.index t (1 : Fin 2) * 2048 + 1 * k.val = k.val; omega

/-- The rows the scratch holds are the sequence's trailing rows. -/
theorem ext_eq (c : Dev nD) (t : Fin cfg0.N) (r : Fin 256) (k : Fin 2048) (d : ℕ) (hd : d < 16) :
    extV (grid0.coords t) (X0_0 m c t) (X0_1 m c t) (16 - d + r.val) k.val
      = PoolSpec.trail (m ((c : Thread nD τ).loc main_arg0)) (row t r) k d := by
  have hr := r.isLt
  have ht := lt_points t
  unfold extV PoolSpec.trail
  rw [dif_pos k.isLt]
  by_cases h : 16 - d + r.val < 16
  · rw [dif_pos h]
    refine (halo_apply _ _ _ _).trans ?_
    rw [coord t]
    by_cases h8 : t.val % 8 = 0
    · rw [if_pos h8, if_neg (by show ¬ d ≤ (t.val * 256 + r.val) % 2048; omega)]
    · rw [if_neg h8, if_pos (by show d ≤ (t.val * 256 + r.val) % 2048; omega)]
      refine (x1_apply m c t (by omega) _ _).trans (congrArg _ (congrArg (fun a : Fin 8192 => ix2 a _) (Fin.ext ?_)))
      show t.val * 256 - 16 + (16 - d + r.val) = t.val * 256 + r.val - d
      omega
  · rw [dif_neg h, dif_pos (by omega), if_pos (by show d ≤ (t.val * 256 + r.val) % 2048; omega)]
    refine (x0_apply m c t _ _).trans (congrArg _ (congrArg (fun a : Fin 8192 => ix2 a _) (Fin.ext ?_)))
    show t.val * 256 + (16 - d + r.val - 16) = t.val * 256 + r.val - d
    omega

/-- The result as a function of the launched arrays. -/
def result (c : Dev nD) : S8192x2048.Idx → EReal := fun y =>
  PoolSpec.prompt (m ((c : Thread nD τ).loc main_arg0)) (m ((c : Thread nD τ).loc main_arg1)) (m ((c : Thread nD τ).loc main_arg2)) (y 0 : Fin 8192)
    ⟨(y 1).val / 512, by have h : (y 1).val < 2048 := (y 1).isLt; show (y 1).val / 512 < 4; omega⟩ ⟨(y 1).val % 512, Nat.mod_lt _ (by decide)⟩

/-- One element of a point's block. -/
theorem tile_eq (c : Dev nD) (t : Fin cfg0.N) (g : Fin 4) (r : Fin 256) (l : Fin 512) :
    tile (grid0.coords t) (X0_0 m c t) (X0_1 m c t) (iblk m c 2 t) (iblk m c 3 t) g r l
      = PoolSpec.prompt (m ((c : Thread nD τ).loc main_arg0)) (m ((c : Thread nD τ).loc main_arg1)) (m ((c : Thread nD τ).loc main_arg2)) (row t r) g l := by
  have hr := r.isLt
  have hg := g.isLt
  have hW : 2 ^ (g.val + 1) ≤ 16 := (by decide : ∀ g : Fin 4, 2 ^ (g.val + 1) ≤ 16) g
  unfold tile PoolSpec.prompt
  refine PoolSpec.out_congr (fun k d hd => ext_eq m c t r (PoolSpec.col g k) d (by omega)) ?_ (fun k => x0_apply m c t r (PoolSpec.col g k))
    (fun k => iblk2_apply m c t g k l) (iblk3_apply m c t (PoolSpec.col g l))
  rw [coord t]
  refine congrArg (fun n => PoolSpec.count n _) ?_
  show t.val % 8 * 256 + r.val + 1 = (t.val * 256 + r.val) % 2048 + 1
  omega

/-- Every point writes back its block of the result. -/
theorem flushed_eq (c : Dev nD) (t : Fin cfg0.N) :
    (dats m 0 c).flushed 4 t = ((cfg0.win 4).blk t).view.read (Elt Ideal) (result m c) := by
  rw [Value.flushed4_A, out_A]
  funext y
  have he : (((cfg0.win 4).blk t).view.emb y : S8192x2048.Idx) = ix2 (row t (y 0)) (y 1 : Fin 2048) := by
    funext a
    apply Fin.ext
    obtain ⟨-, -, -, -, -, -, -, -, -, h0, h1⟩ := blockNo t
    match a with
    | ⟨0, _⟩ => show win0_4.index t (0 : Fin 2) * 256 + 1 * (y 0).val = t.val * 256 + (y 0).val; omega
    | ⟨1, _⟩ => show win0_4.index t (1 : Fin 2) * 2048 + 1 * (y 1).val = (y 1).val; omega
  rw [View.read_apply]
  show block (grid0.coords t) (X0_0 m c t) (X0_1 m c t) (iblk m c 2 t) (iblk m c 3 t) ((cfg0.win 4).xinj (grid0.coords t) y)
    = result m c (((cfg0.win 4).blk t).view.emb y)
  rw [he]
  exact tile_eq m c t _ _ _

/-- Every element is in some point's block. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 32 := N_0
  obtain ⟨t, ht⟩ : ∃ t : Fin cfg0.N, t.val = (i 0).val / 256 := ⟨⟨(i 0).val / 256, by omega⟩, rfl⟩
  refine ⟨t, flush0_4 t, ?_⟩
  show i ∈ ((View.whole main_v0).slice (win0_4.rect t)).set
  rw [View.set_slice_whole, Rect.mem_set_unit]
  obtain ⟨-, -, -, -, -, -, -, -, -, e0, e1⟩ := blockNo t
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- The array after the run. -/
theorem final (c : Dev nD) : (dats m 0 c).arrAt 4 cfg0.N = result m c :=
  (dats m 0 c).arrAt_eq_of_cover 4 _ (fun t _ => flushed_eq m c t) covered

end Cert.Pool
end
-- ==== Proof.PoolRef.lean ====
/- The reference of the prompt pooling, read at one element. -/
module

public import proofs.«01_k».proof.Proof.Gen.Reference2Ideal.Run
public import proofs.«01_k».proof.Proof.PoolSpec

@[expose] public section

set_option maxRecDepth 16384

noncomputable section

namespace Cert.PoolRef

open Idealize.ShloMosaic Idealize.ShloMosaic.TcCoe Idealize.SL.Sem Cert.Reference2Ideal Ideal Cert.Reference2Ideal.Gen

/-- The rows, as four sequences. -/
def seqs (u : FVec Ideal S8192x6400 .f32) : FVec Ideal S4x2048x2048 .f32 :=
  shapeCast _ (extractStridedSlice S8192x2048 ![0, 0] u slices_S8192x6400_S8192x2048_0_0) shapeCasts_S8192x2048_S4x2048x2048

/-- The sequences after fifteen rows of zeros. -/
def ext (u : FVec Ideal S8192x6400 .f32) : FVec Ideal S4x2063x2048 .f32 :=
  concatenate S4x2063x2048 1 [⟨S4x15x2048, (broadcastInDim S4x15x2048 ![] bcast_S_S4x15x2048 (constant S_ .f32 0x00000000#32))⟩, ⟨S4x2048x2048, seqs u⟩] concatenates_S4x15x2048_S4x2048x2048_S4x2063x2048_d1

/-- One shifted copy of the sequences. -/
def shifted (E : FVec Ideal S4x2063x2048 .f32) (o : ℕ) (h : S4x2063x2048.Slices ![0, o, 0] S4x2048x2048) : FVec Ideal S1x4x2048x2048 .f32 :=
  broadcastInDim S1x4x2048x2048 ![1, 2, 3] bcast_S4x2048x2048_S1x4x2048x2048_1_2_3 (extractStridedSlice S4x2048x2048 ![0, o, 0] E h)

/-- Sixteen arrays stacked. -/
def stack (p : Fin 16 → FVec Ideal S1x4x2048x2048 .f32) : FVec Ideal S16x4x2048x2048 .f32 :=
  concatenate S16x4x2048x2048 0 [⟨S1x4x2048x2048, p 0⟩, ⟨S1x4x2048x2048, p 1⟩, ⟨S1x4x2048x2048, p 2⟩, ⟨S1x4x2048x2048, p 3⟩, ⟨S1x4x2048x2048, p 4⟩, ⟨S1x4x2048x2048, p 5⟩, ⟨S1x4x2048x2048, p 6⟩, ⟨S1x4x2048x2048, p 7⟩, ⟨S1x4x2048x2048, p 8⟩, ⟨S1x4x2048x2048, p 9⟩, ⟨S1x4x2048x2048, p 10⟩, ⟨S1x4x2048x2048, p 11⟩, ⟨S1x4x2048x2048, p 12⟩, ⟨S1x4x2048x2048, p 13⟩, ⟨S1x4x2048x2048, p 14⟩, ⟨S1x4x2048x2048, p 15⟩] concatenates_S1x4x2048x2048_S1x4x2048x2048_S1x4x2048x2048_S1x4x2048x2048_S1x4x2048x2048_S1x4x2048x2048_S1x4x2048x2048_S1x4x2048x2048_S1x4x2048x2048_S1x4x2048x2048_S1x4x2048x2048_S1x4x2048x2048_S1x4x2048x2048_S1x4x2048x2048_S1x4x2048x2048_S1x4x2048x2048_S16x4x2048x2048_d0

/-- The shifted copies. -/
def copies (E : FVec Ideal S4x2063x2048 .f32) : Fin 16 → FVec Ideal S1x4x2048x2048 .f32 :=
  ![shifted E 15 slices_S4x2063x2048_S4x2048x2048_0_15_0, shifted E 14 slices_S4x2063x2048_S4x2048x2048_0_14_0, shifted E 13 slices_S4x2063x2048_S4x2048x2048_0_13_0, shifted E 12 slices_S4x2063x2048_S4x2048x2048_0_12_0, shifted E 11 slices_S4x2063x2048_S4x2048x2048_0_11_0, shifted E 10 slices_S4x2063x2048_S4x2048x2048_0_10_0, shifted E 9 slices_S4x2063x2048_S4x2048x2048_0_9_0, shifted E 8 slices_S4x2063x2048_S4x2048x2048_0_8_0, shifted E 7 slices_S4x2063x2048_S4x2048x2048_0_7_0, shifted E 6 slices_S4x2063x2048_S4x2048x2048_0_6_0, shifted E 5 slices_S4x2063x2048_S4x2048x2048_0_5_0, shifted E 4 slices_S4x2063x2048_S4x2048x2048_0_4_0, shifted E 3 slices_S4x2063x2048_S4x2048x2048_0_3_0, shifted E 2 slices_S4x2063x2048_S4x2048x2048_0_2_0, shifted E 1 slices_S4x2063x2048_S4x2048x2048_0_1_0, shifted E 0 slices_S4x2063x2048_S4x2048x2048_0_0_0]

/-- The window of each column. -/
def window : IVec S2048 32 :=
  shapeCast _ (broadcastInDim S4x512 ![0] bcast_S4_S4x512_0 ((fun i => lit0 (S4.rowMajor i)))) shapeCasts_S4x512_S2048

/-- The windowed sums. -/
def sums (T : FVec Ideal S16x4x2048x2048 .f32) (wn : IVec S2048 32) : FVec Ideal S4x2048x2048 .f32 :=
  Host.reduceAdd (select (broadcastInDim S16x4x2048x2048 ![0, 1, 2, 3] bcast_S16x1x1x2048_S16x4x2048x2048_0_1_2_3 (cmpi .slt (broadcastInDim S16x1x1x2048 ![0, 1, 2, 3] bcast_S16x1x1x1_S16x1x1x2048_0_1_2_3 (broadcastInDim S16x1x1x1 ![0] bcast_S16_S16x1x1x1_0 (iotaInDim S16 32 0))) (broadcastInDim S16x1x1x2048 ![0, 1, 2, 3] bcast_S1x1x1x2048_S16x1x1x2048_0_1_2_3 (broadcastInDim S1x1x1x2048 ![3] bcast_S2048_S1x1x1x2048_3 wn)))) T (broadcastInDim S16x4x2048x2048 ![] bcast_S_S16x4x2048x2048 (id (constant S_ .f32 0x00000000#32)))) (constant S_ .f32 0x00000000#32) reducesTo_S16x4x2048x2048_S4x2048x2048_d0 h_S_

/-- The means less the current rows. -/
def diffs (S U : FVec Ideal S4x2048x2048 .f32) (wn : IVec S2048 32) : FVec Ideal S4x2048x4x512 .f32 :=
  shapeCast _ (subf (Host.divf S (broadcastInDim S4x2048x2048 ![0, 1, 2] bcast_S1x2048x2048_S4x2048x2048_0_1_2 (broadcastInDim S1x2048x2048 ![1, 2] bcast_S2048x2048_S1x2048x2048_1_2 (sitofp .f32 (minsi (broadcastInDim S2048x2048 ![0, 1] bcast_S2048x1_S2048x2048_0_1 (addi (broadcastInDim S2048x1 ![0] bcast_S2048_S2048x1_0 (iotaInDim S2048 32 0)) (broadcastInDim S2048x1 ![] bcast_S_S2048x1 (constantI S_ 32 1#32)))) (broadcastInDim S2048x2048 ![0, 1] bcast_S1x2048_S2048x2048_0_1 (broadcastInDim S1x2048 ![1] bcast_S2048_S1x2048_1 wn))))))) U) shapeCasts_S4x2048x2048_S4x2048x4x512

/-- The groups' products, scaled. -/
def mixed (D : FVec Ideal S4x2048x4x512 .f32) (w : FVec Ideal S4x512x512 .bf16) (s : FVec Ideal S1x2048 .f32) : FVec Ideal S8192x2048 .bf16 :=
  truncf .bf16 (shapeCast _ (mulf (shapeCast _ (transpose S4x2048x4x512 [2, 3, 0, 1] (Host.dotGeneral dot_S4x512x512_S4x2048x4x512_S4x512x4x2048_1_3_2_01_0_2 none (extf .f32 w bitsLt_bf16_f32) D) transposes_S4x512x4x2048_S4x2048x4x512_2_3_0_1) shapeCasts_S4x2048x4x512_S4x2048x2048) (broadcastInDim S4x2048x2048 ![0, 1, 2] bcast_S1x1x2048_S4x2048x2048_0_1_2 (broadcastInDim S1x1x2048 ![2] bcast_S2048_S1x1x2048_2 (shapeCast _ s shapeCasts_S1x2048_S2048)))) shapeCasts_S4x2048x2048_S8192x2048) bitsLt_bf16_f32

/-- The reference's result. -/
def ref (u : FVec Ideal S8192x6400 .f32) (w : FVec Ideal S4x512x512 .bf16) (s : FVec Ideal S1x2048 .f32) : FVec Ideal S8192x2048 .bf16 :=
  mixed (diffs (sums (stack (copies (ext u))) window) (seqs u) window) w s

theorem res_eq (m : (ℓ : Loc nD τ sig) → Buf (Elt Ideal) ℓ) (c : Dev nD) :
    Value.res_main_v70 m c = ref (m ((c.tc : Thread nD τ).loc main_arg0)) (m ((c.tc : Thread nD τ).loc main_arg1)) (m ((c.tc : Thread nD τ).loc main_arg2)) := rfl

/-- Row `s` of sequence `b`. -/
def rowOf (b : Fin 4) (s : Fin 2048) : Fin 8192 := ⟨b.val * 2048 + s.val, by have := b.isLt; have := s.isLt; omega⟩

theorem seqs_apply (u : FVec Ideal S8192x6400 .f32) (b : Fin 4) (s n : Fin 2048) :
    seqs u (ix3 b s n) = u (ix2 (rowOf b s) (⟨n.val, by have := n.isLt; omega⟩ : Fin 6400)) := by
  pointwise [seqs, rowOf]

theorem joined_apply (z : FVec Ideal S4x15x2048 .f32) (U : FVec Ideal S4x2048x2048 .f32) (b : Fin 4) (s : Fin 2063) (n : Fin 2048) :
    (concatenate S4x2063x2048 1 [⟨S4x15x2048, z⟩, ⟨S4x2048x2048, U⟩] concatenates_S4x15x2048_S4x2048x2048_S4x2063x2048_d1 : FVec Ideal S4x2063x2048 .f32) (ix3 b s n)
      = if h : s.val < 15 then z (ix3 b ⟨s.val, h⟩ n) else U (ix3 b (⟨s.val - 15, by have := s.isLt; omega⟩ : Fin 2048) n) := by
  pointwise []

theorem zeros_apply (b : Fin 4) (s : Fin 15) (n : Fin 2048) :
    (broadcastInDim S4x15x2048 ![] bcast_S_S4x15x2048 (constant S_ .f32 0x00000000#32) : FVec Ideal S4x15x2048 .f32) (ix3 b s n) = 0 := by
  pointwise []

theorem shifted_apply (E : FVec Ideal S4x2063x2048 .f32) (o : ℕ) (h : S4x2063x2048.Slices ![0, o, 0] S4x2048x2048) (ho : o ≤ 15)
    (b : Fin 4) (s n : Fin 2048) :
    shifted E o h (ix4 0 b s n) = E (ix3 b (⟨o + s.val, by have := s.isLt; omega⟩ : Fin 2063) n) := by
  unfold shifted
  refine congrArg E (funext fun a => Fin.ext ?_)
  match a with
  | ⟨0, _⟩ => show 0 + b.val = b.val; omega
  | ⟨1, _⟩ => rfl
  | ⟨2, _⟩ => show 0 + n.val = n.val; omega

theorem copies_apply (E : FVec Ideal S4x2063x2048 .f32) (d : Fin 16) (b : Fin 4) (s n : Fin 2048) :
    copies E d (ix4 0 b s n) = E (ix3 b (⟨15 - d.val + s.val, by have := s.isLt; have := d.isLt; omega⟩ : Fin 2063) n) := by
  match d with
  | ⟨0, _⟩ => exact shifted_apply E 15 slices_S4x2063x2048_S4x2048x2048_0_15_0 (by decide) b s n
  | ⟨1, _⟩ => exact shifted_apply E 14 slices_S4x2063x2048_S4x2048x2048_0_14_0 (by decide) b s n
  | ⟨2, _⟩ => exact shifted_apply E 13 slices_S4x2063x2048_S4x2048x2048_0_13_0 (by decide) b s n
  | ⟨3, _⟩ => exact shifted_apply E 12 slices_S4x2063x2048_S4x2048x2048_0_12_0 (by decide) b s n
  | ⟨4, _⟩ => exact shifted_apply E 11 slices_S4x2063x2048_S4x2048x2048_0_11_0 (by decide) b s n
  | ⟨5, _⟩ => exact shifted_apply E 10 slices_S4x2063x2048_S4x2048x2048_0_10_0 (by decide) b s n
  | ⟨6, _⟩ => exact shifted_apply E 9 slices_S4x2063x2048_S4x2048x2048_0_9_0 (by decide) b s n
  | ⟨7, _⟩ => exact shifted_apply E 8 slices_S4x2063x2048_S4x2048x2048_0_8_0 (by decide) b s n
  | ⟨8, _⟩ => exact shifted_apply E 7 slices_S4x2063x2048_S4x2048x2048_0_7_0 (by decide) b s n
  | ⟨9, _⟩ => exact shifted_apply E 6 slices_S4x2063x2048_S4x2048x2048_0_6_0 (by decide) b s n
  | ⟨10, _⟩ => exact shifted_apply E 5 slices_S4x2063x2048_S4x2048x2048_0_5_0 (by decide) b s n
  | ⟨11, _⟩ => exact shifted_apply E 4 slices_S4x2063x2048_S4x2048x2048_0_4_0 (by decide) b s n
  | ⟨12, _⟩ => exact shifted_apply E 3 slices_S4x2063x2048_S4x2048x2048_0_3_0 (by decide) b s n
  | ⟨13, _⟩ => exact shifted_apply E 2 slices_S4x2063x2048_S4x2048x2048_0_2_0 (by decide) b s n
  | ⟨14, _⟩ => exact shifted_apply E 1 slices_S4x2063x2048_S4x2048x2048_0_1_0 (by decide) b s n
  | ⟨15, _⟩ => exact shifted_apply E 0 slices_S4x2063x2048_S4x2048x2048_0_0_0 (by decide) b s n
  | ⟨n + 16, h⟩ => exact absurd h (by omega)

set_option maxHeartbeats 4000000 in
theorem stack_apply (p : Fin 16 → FVec Ideal S1x4x2048x2048 .f32) (d : Fin 16) (b : Fin 4) (s n : Fin 2048) :
    stack p (ix4 d b s n) = p d (ix4 0 b s n) := by
  match d with
  | ⟨0, _⟩ => pointwise [stack]
  | ⟨1, _⟩ => pointwise [stack]
  | ⟨2, _⟩ => pointwise [stack]
  | ⟨3, _⟩ => pointwise [stack]
  | ⟨4, _⟩ => pointwise [stack]
  | ⟨5, _⟩ => pointwise [stack]
  | ⟨6, _⟩ => pointwise [stack]
  | ⟨7, _⟩ => pointwise [stack]
  | ⟨8, _⟩ => pointwise [stack]
  | ⟨9, _⟩ => pointwise [stack]
  | ⟨10, _⟩ => pointwise [stack]
  | ⟨11, _⟩ => pointwise [stack]
  | ⟨12, _⟩ => pointwise [stack]
  | ⟨13, _⟩ => pointwise [stack]
  | ⟨14, _⟩ => pointwise [stack]
  | ⟨15, _⟩ => pointwise [stack]
  | ⟨n + 16, h⟩ => exact absurd h (by omega)

theorem ext_apply (u : FVec Ideal S8192x6400 .f32) (d : ℕ) (hd : d < 16) (b : Fin 4) (s n : Fin 2048) :
    ext u (ix3 b (⟨15 - d + s.val, by have := s.isLt; omega⟩ : Fin 2063) n) = PoolSpec.trail u (rowOf b s) n d := by
  have hs := s.isLt
  unfold ext PoolSpec.trail
  rw [joined_apply]
  by_cases h : 15 - d + s.val < 15
  · rw [dif_pos h, zeros_apply, if_neg (by show ¬ d ≤ (b.val * 2048 + s.val) % 2048; omega)]
  · rw [dif_neg h, if_pos (by show d ≤ (b.val * 2048 + s.val) % 2048; omega), seqs_apply]
    refine congrArg u (congrArg (fun a : Fin 8192 => ix2 a _) (Fin.ext ?_))
    show b.val * 2048 + (15 - d + s.val - 15) = b.val * 2048 + s.val - d
    omega

theorem window_apply (g : Fin 4) (k : Fin 512) : window (ix1 (PoolSpec.col g k)) = BitVec.ofNat 32 (2 ^ (g.val + 1)) := by
  have e : window (ix1 (PoolSpec.col g k)) = lit0 (S4.rowMajor (ix1 g)) := by
    pointwise [window, PoolSpec.col]
  rw [e]
  exact (by decide : ∀ g : Fin 4, lit0 (S4.rowMajor (ix1 g)) = BitVec.ofNat 32 (2 ^ (g.val + 1))) g

theorem sums_apply (T : FVec Ideal S16x4x2048x2048 .f32) (wn : IVec S2048 32) (b : Fin 4) (s n : Fin 2048) :
    sums T wn (ix3 b s n) = ∑ d : Fin 16, Scalar.select (IntOp.cmpi .slt (BitVec.ofNat 32 d.val) (wn (ix1 n))) (T (ix4 d b s n)) 0 := by
  unfold sums
  dsimp only [id]
  pointwise []

/-- Summing sixteen terms of which those past the window are zero is summing the window's. -/
theorem masked_sum (g : Fin 4) (f : ℕ → EReal) :
    (∑ d : Fin 16, Scalar.select (IntOp.cmpi .slt (BitVec.ofNat 32 d.val) (BitVec.ofNat 32 (2 ^ (g.val + 1)))) (f d.val) 0)
      = ∑ d ∈ Finset.range (2 ^ (g.val + 1)), f d := by
  have key : ∀ (g : Fin 4) (d : Fin 16), IntOp.cmpi .slt (BitVec.ofNat 32 d.val) (BitVec.ofNat 32 (2 ^ (g.val + 1))) = if d.val < 2 ^ (g.val + 1) then 1#1 else 0#1 := by decide
  have hW : 2 ^ (g.val + 1) ≤ 16 := (by decide : ∀ g : Fin 4, 2 ^ (g.val + 1) ≤ 16) g
  have e : ∀ d : Fin 16, Scalar.select (IntOp.cmpi .slt (BitVec.ofNat 32 d.val) (BitVec.ofNat 32 (2 ^ (g.val + 1)))) (f d.val) 0
      = if d.val < 2 ^ (g.val + 1) then f d.val else 0 := fun d => by
    rw [key g d]
    by_cases h : d.val < 2 ^ (g.val + 1)
    · rw [if_pos h, if_pos h]; rfl
    · rw [if_neg h, if_neg h]; rfl
  rw [Finset.sum_congr rfl fun d _ => e d, Fin.sum_univ_eq_sum_range (fun d => if d < 2 ^ (g.val + 1) then f d else 0) 16, ← Finset.sum_filter]
  refine Finset.sum_congr (Finset.ext fun d => ?_) fun _ _ => rfl
  simp only [Finset.mem_filter, Finset.mem_range]
  omega

theorem diffs_apply (S U : FVec Ideal S4x2048x2048 .f32) (wn : IVec S2048 32) (b : Fin 4) (s : Fin 2048) (g : Fin 4) (k : Fin 512) :
    diffs S U wn (ix4 b s g k) = div (S (ix3 b s (PoolSpec.col g k)))
        (FloatOps.sitofp (F := Idealize.ShloMosaic.Ideal) .f32 (IntOp.minsi (IntOp.addi (BitVec.ofNat 32 s.val) 1#32) (wn (ix1 (PoolSpec.col g k)))))
      - U (ix3 b s (PoolSpec.col g k)) := by
  pointwise [diffs, PoolSpec.col]

theorem mixed_apply (D : FVec Ideal S4x2048x4x512 .f32) (w : FVec Ideal S4x512x512 .bf16) (sc : FVec Ideal S1x2048 .f32) (b : Fin 4) (s : Fin 2048) (g : Fin 4) (l : Fin 512) :
    mixed D w sc (ix2 (rowOf b s) (PoolSpec.col g l)) = (∑ k : Fin 512, w (ix3 g k l) * D (ix4 b s g k)) * sc (ix2 0 (PoolSpec.col g l)) := by
  pointwise [mixed, rowOf, PoolSpec.col]

/-- The reference's element is the pooled element. -/
theorem ref_apply' (u : FVec Ideal S8192x6400 .f32) (w : FVec Ideal S4x512x512 .bf16) (sc : FVec Ideal S1x2048 .f32) (b : Fin 4) (s : Fin 2048) (g : Fin 4) (l : Fin 512) :
    ref u w sc (ix2 (rowOf b s) (PoolSpec.col g l)) = PoolSpec.prompt u w sc (rowOf b s) g l := by
  have hs := s.isLt
  unfold ref
  rw [mixed_apply]
  unfold PoolSpec.prompt PoolSpec.out
  refine congrArg (fun a : EReal => a * _) (Finset.sum_congr rfl fun k _ => ?_)
  rw [mul_comm, diffs_apply, sums_apply, seqs_apply, window_apply]
  refine congrArg (fun a : EReal => a * _) (congrArg (fun a : EReal => a - _) (congrArg₂ div ?_ ?_))
  · rw [← masked_sum g]
    refine Finset.sum_congr rfl fun d _ => congrArg (fun a : EReal => Scalar.select _ a 0) ?_
    rw [stack_apply, copies_apply]
    exact ext_apply u d.val d.isLt b s (PoolSpec.col g k)
  · unfold PoolSpec.count
    refine congrArg (fun a : BitVec 32 => FloatOps.sitofp (F := Idealize.ShloMosaic.Ideal) .f32 (IntOp.minsi a _)) ?_
    show BitVec.ofNat 32 s.val + BitVec.ofNat 32 1 = _
    rw [← BitVec.ofNat_add]
    refine congrArg (BitVec.ofNat 32) ?_
    show s.val + 1 = (b.val * 2048 + s.val) % 2048 + 1
    omega

theorem ref_apply (u : FVec Ideal S8192x6400 .f32) (w : FVec Ideal S4x512x512 .bf16) (sc : FVec Ideal S1x2048 .f32) (y : S8192x2048.Idx) :
    ref u w sc y = PoolSpec.prompt u w sc (y 0 : Fin 8192)
      ⟨(y 1).val / 512, by have h : (y 1).val < 2048 := (y 1).isLt; show (y 1).val / 512 < 4; omega⟩ ⟨(y 1).val % 512, Nat.mod_lt _ (by decide)⟩ := by
  have h0 : (y 0).val < 8192 := (y 0).isLt
  have h1 : (y 1).val < 2048 := (y 1).isLt
  have hg : (y 1).val / 512 < 4 := by omega
  have e0 : rowOf ⟨(y 0).val / 2048, by omega⟩ ⟨(y 0).val % 2048, Nat.mod_lt _ (by decide)⟩ = (y 0 : Fin 8192) :=
    Fin.ext (by show (y 0).val / 2048 * 2048 + (y 0).val % 2048 = (y 0).val; omega)
  have e1 : PoolSpec.col ⟨(y 1).val / 512, hg⟩ ⟨(y 1).val % 512, Nat.mod_lt _ (by decide)⟩ = (y 1 : Fin 2048) :=
    Fin.ext (by show (y 1).val / 512 * 512 + (y 1).val % 512 = (y 1).val; omega)
  have key := ref_apply' u w sc ⟨(y 0).val / 2048, by omega⟩ ⟨(y 0).val % 2048, Nat.mod_lt _ (by decide)⟩ ⟨(y 1).val / 512, hg⟩ ⟨(y 1).val % 512, Nat.mod_lt _ (by decide)⟩
  rw [e0, e1] at key
  exact (congrArg (ref u w sc) (eq_ix2 y)).trans key

end Cert.PoolRef
end
-- ==== Proof.PoolClaim.lean ====
/- The prompt pooling's claims: the reference's frame, and the kernel's result against the reference's. -/
module

public import proofs.«01_k».proof.Defs
public import proofs.«01_k».proof.Proof.Pool
public import proofs.«01_k».proof.Proof.PoolRef

@[expose] public section

set_option maxRecDepth 16384

noncomputable section

namespace Cert.Pool

open Idealize.ShloMosaic Idealize.ShloMosaic.TcCoe Idealize.SL.Sem

local instance : Cert.Kernel2Ideal.Facts := Cert.Kernel2Ideal.Gen.facts
local instance : Cert.Reference2Ideal.Facts := Cert.Reference2Ideal.Gen.facts

/-- The reference runs, keeps its arguments and leaves no counter behind (it has none). -/
theorem frame_ref : Cert.quiescent_Reference2Ideal := fun m ρ _ =>
  (θ_run _ _ _).mono (fun r h => ⟨fun c => (h c).2, sem_eq_zero_of_no_sems (by decide) r.2⟩) (Reference2Ideal.Value.run m ρ)

/-- The kernel's array is the reference's result on the same arguments. -/
theorem final_eq (m : (ℓ : Loc Kernel2Ideal.nD Kernel2Ideal.τ Kernel2Ideal.sig) → Buf (Elt Ideal) ℓ) (c : Dev Kernel2Ideal.nD) :
    result m c = PoolRef.ref (m ((c.tc : Thread _ _).loc Kernel2Ideal.main_arg0)) (m ((c.tc : Thread _ _).loc Kernel2Ideal.main_arg1))
      (m ((c.tc : Thread _ _).loc Kernel2Ideal.main_arg2)) := by
  funext y
  exact (PoolRef.ref_apply _ _ _ y).symm

/-- Kernel and reference agree over the extended reals, from any arguments. -/
theorem algebraic : Cert.algebraic_Kernel2Ideal_Reference2Ideal := fun m ρ m' ρ' _ hag =>
  ⟨fun c => result m c,
    (θ_run _ _ _).mono (fun r h c => ⟨(h c).1.trans (final m c), (h c).2⟩) (Kernel2Ideal.Value.run_blocks m ρ),
    (θ_run _ _ _).mono (fun r h c => by
      refine ⟨(h c).1.trans ?_, (h c).2⟩
      refine (PoolRef.res_eq m' c).trans ?_
      rw [(hag c).1, (hag c).2.1, (hag c).2.2]
      exact (final_eq m c).symm) (Reference2Ideal.Value.run m' ρ')⟩

end Cert.Pool
end
-- ==== Proof.ProjSpec.lean ====
/- The input projection, written at one row: the combined product's columns, with the heads of queries, keys and
   indexer keys normalised and scaled. -/
module

public import proofs.«01_k».proof.Proof.FfnSpec

@[expose] public section

set_option maxRecDepth 16384

noncomputable section

namespace Cert.ProjSpec

open Idealize.ShloMosaic

/-- Entry `l` of a head of 128 columns, normalised by the head's root mean square and scaled. -/
def headNorm (u : Fin 128 → EReal) (g : EReal) (l : Fin 128) : EReal :=
  u l * Ideal.rsqrt (Ideal.div (∑ k, u k * u k) (Ideal.ofBits .f32 0x43000000#32) + Ideal.ofBits .f32 0x358637BD#32) * g

/-- The heads that are normalised: the queries' 16, the keys' 4 and the indexer key's. -/
def normed (b : ℕ) : Bool := (decide (16 ≤ b) && decide (b < 36)) || decide (b = 48)

/-- Column `c` of a tile of 1280 columns, whose first head is head `b0`. -/
def tileOut (b0 : ℕ) (u g : Fin 1280 → EReal) (c : Fin 1280) : EReal :=
  if normed (b0 + c.val / 128) then
    headNorm (fun l => u ⟨c.val / 128 * 128 + l.val, by have := c.isLt; have := l.isLt; omega⟩) (g c) ⟨c.val % 128, Nat.mod_lt _ (by decide)⟩
  else u c

/-- Column `c` of the 6400 columns. -/
def colOut (u g : Fin 6400 → EReal) (c : Fin 6400) : EReal :=
  if normed (c.val / 128) then
    headNorm (fun l => u ⟨c.val / 128 * 128 + l.val, by have := c.isLt; have := l.isLt; omega⟩) (g c) ⟨c.val % 128, Nat.mod_lt _ (by decide)⟩
  else u c

/-- A tile's column that lies in a normalised head. -/
theorem tileOut_head (b0 : ℕ) (u g : Fin 1280 → EReal) (b : ℕ) (hb : b < 10) (hn : normed (b0 + b) = true) (l : Fin 128)
    (h : b * 128 + 128 ≤ 1280) :
    tileOut b0 u g ⟨b * 128 + l.val, by have := l.isLt; omega⟩
      = headNorm (fun k => u ⟨b * 128 + k.val, by have := k.isLt; omega⟩) (g ⟨b * 128 + l.val, by have := l.isLt; omega⟩) l := by
  have hl := l.isLt
  have e : (b * 128 + l.val) / 128 = b := by omega
  have el : (b * 128 + l.val) % 128 = l.val := by omega
  unfold tileOut
  simp only [e, el, hn, if_true]

/-- A tile's column that lies in no normalised head. -/
theorem tileOut_plain (b0 : ℕ) (u g : Fin 1280 → EReal) (c : Fin 1280) (hn : normed (b0 + c.val / 128) = false) :
    tileOut b0 u g c = u c := by
  unfold tileOut
  simp only [hn, Bool.false_eq_true, if_false]

/-- A tile's columns are the columns of the whole at the tile. -/
theorem tileOut_col (j : Fin 5) (u g : Fin 6400 → EReal) (c : Fin 1280) :
    tileOut (10 * j.val) (fun k => u ⟨j.val * 1280 + k.val, by have := j.isLt; have := k.isLt; omega⟩)
        (fun k => g ⟨j.val * 1280 + k.val, by have := j.isLt; have := k.isLt; omega⟩) c
      = colOut u g ⟨j.val * 1280 + c.val, by have := j.isLt; have := c.isLt; omega⟩ := by
  have hj := j.isLt
  have hc := c.isLt
  have e : (j.val * 1280 + c.val) / 128 = 10 * j.val + c.val / 128 := by omega
  have el : (j.val * 1280 + c.val) % 128 = c.val % 128 := by omega
  have eo : ∀ l : ℕ, j.val * 1280 + (c.val / 128 * 128 + l) = (10 * j.val + c.val / 128) * 128 + l := by intro l; omega
  unfold tileOut colOut
  simp only [e, el, eo]

/-- Column `n` of a row's product with the weights, the row normalised first. -/
def prod (x g : Fin 4096 → EReal) (w : Fin 4096 → Fin 6280 → EReal) (n : Fin 6280) : EReal :=
  ∑ k, FfnSpec.norm x g k * w k n

/-- A column that lies in no normalised head. -/
theorem colOut_plain (u g : Fin 6400 → EReal) (c : Fin 6400) (hn : normed (c.val / 128) = false) : colOut u g c = u c := by
  unfold colOut
  simp only [hn, Bool.false_eq_true, if_false]

/-- A column that lies in the normalised head `b`. -/
theorem colOut_head (u g : Fin 6400 → EReal) (c : Fin 6400) (b : ℕ) (hb : b < 50) (hn : normed b = true) (l : Fin 128) (hc : c.val = b * 128 + l.val) :
    colOut u g c = headNorm (fun k => u ⟨b * 128 + k.val, by have := k.isLt; omega⟩) (g c) l := by
  have hl := l.isLt
  have e : c.val / 128 = b := by omega
  have el : c.val % 128 = l.val := by omega
  unfold colOut
  simp only [e, el, hn, if_true]

end Cert.ProjSpec
end
-- ==== Proof.ProjPay.lean ====
/- What one tile of the input projection stores, read at one element. -/
module

public import proofs.«01_k».proof.Proof.Gen.Kernel3Ideal.Frame
public import proofs.«01_k».proof.Proof.ProjSpec
public import Idealize.ShloMosaic.Lib.Pointwise

@[expose] public section

set_option maxRecDepth 16384

noncomputable section

namespace Cert.Proj

open Idealize.ShloMosaic Idealize.ShloMosaic.TcCoe Idealize.SL.Sem Cert.Kernel3Ideal Ideal Cert.Kernel3Ideal.Gen

variable (U : FVec Ideal S512x1280 .f32) (G : FVec Ideal S1x1280 .f32) (r : Fin 512) (l : Fin 128)

/-- The head of 128 columns at column `o` of a tile, normalised and scaled. -/
def head (o : ℕ) (h : o + 128 ≤ 1280) : EReal :=
  ProjSpec.headNorm (fun k : Fin 128 => U (ix2 r ⟨o + k.val, by have := k.isLt; omega⟩)) (G (ix2 0 ⟨o + l.val, by have := l.isLt; omega⟩)) l

/-- The kernel's normalised rows. -/
theorem pay1_apply (x : Vec Ideal S512x4096 .f32) (g : Vec Ideal S1x4096 .f32) (k : Fin 4096) :
    k0_pay1 x g (ix2 r k) = FfnSpec.norm (fun l => x (ix2 r l)) (fun l => g (ix2 0 l)) k := by
  pointwise [k0_pay1, FfnSpec.norm]

/-- A row's product with a column of the weight tile. -/
theorem pay2_apply (h : Vec Ideal S512x4096 .bf16) (w : Vec Ideal S4096x1280 .bf16) (n : Fin 1280) :
    k0_pay2 h w (ix2 r n) = ∑ k : Fin 4096, h (ix2 r k) * w (ix2 k n) := by
  pointwise [k0_pay2]

theorem pay3_eq (g : Vec Ideal S1x1280 .f32) : k0_pay3 g = g := by
  unfold k0_pay3
  exact shapeCast_self _ _

theorem pay14_apply : k0_pay14 U G (ix2 r l) = head U G r l 768 (by decide) := by
  pointwise [k0_pay14, head, ProjSpec.headNorm]

theorem pay15_apply : k0_pay15 U G (ix2 r l) = head U G r l 896 (by decide) := by
  pointwise [k0_pay15, head, ProjSpec.headNorm]

theorem pay18_apply : k0_pay18 U G (ix2 r l) = head U G r l 0 (by decide) := by
  pointwise [k0_pay18, head, ProjSpec.headNorm]

theorem pay19_apply : k0_pay19 U G (ix2 r l) = head U G r l 128 (by decide) := by
  pointwise [k0_pay19, head, ProjSpec.headNorm]

theorem pay20_apply : k0_pay20 U G (ix2 r l) = head U G r l 256 (by decide) := by
  pointwise [k0_pay20, head, ProjSpec.headNorm]

theorem pay21_apply : k0_pay21 U G (ix2 r l) = head U G r l 384 (by decide) := by
  pointwise [k0_pay21, head, ProjSpec.headNorm]

theorem pay22_apply : k0_pay22 U G (ix2 r l) = head U G r l 512 (by decide) := by
  pointwise [k0_pay22, head, ProjSpec.headNorm]

theorem pay26_apply : k0_pay26 U G (ix2 r l) = head U G r l 768 (by decide) := by
  pointwise [k0_pay26, head, ProjSpec.headNorm]

theorem pay27_apply : k0_pay27 U G (ix2 r l) = head U G r l 896 (by decide) := by
  pointwise [k0_pay27, head, ProjSpec.headNorm]

theorem pay30_apply : k0_pay30 U G (ix2 r l) = head U G r l 0 (by decide) := by
  pointwise [k0_pay30, head, ProjSpec.headNorm]

theorem pay31_apply : k0_pay31 U G (ix2 r l) = head U G r l 128 (by decide) := by
  pointwise [k0_pay31, head, ProjSpec.headNorm]

theorem pay32_apply : k0_pay32 U G (ix2 r l) = head U G r l 256 (by decide) := by
  pointwise [k0_pay32, head, ProjSpec.headNorm]

theorem pay33_apply : k0_pay33 U G (ix2 r l) = head U G r l 384 (by decide) := by
  pointwise [k0_pay33, head, ProjSpec.headNorm]

theorem pay34_apply : k0_pay34 U G (ix2 r l) = head U G r l 512 (by decide) := by
  pointwise [k0_pay34, head, ProjSpec.headNorm]

theorem pay25_apply : k0_pay25 (k0_pay23 U) (k0_pay24 G) (ix2 r l) = head U G r l 640 (by decide) := by
  pointwise [k0_pay25, k0_pay23, k0_pay24, head, ProjSpec.headNorm]

theorem pay8_apply : k0_pay8 (k0_pay35 U) (k0_pay36 G) (ix2 r l) = head U G r l 640 (by decide) := by
  pointwise [k0_pay8, k0_pay35, k0_pay36, head, ProjSpec.headNorm]

theorem pay4_apply : k0_pay4 G (k0_pay16 U) (k0_pay17 U) (ix2 r l) = head U G r l 1024 (by decide) := by
  pointwise [k0_pay4, k0_pay16, k0_pay17, k0_pay3, head, ProjSpec.headNorm]

theorem pay6_apply : k0_pay6 G (k0_pay28 U) (k0_pay29 U) (ix2 r l) = head U G r l 1024 (by decide) := by
  pointwise [k0_pay6, k0_pay28, k0_pay29, k0_pay3, head, ProjSpec.headNorm]

theorem pay5_apply (h : Vec Ideal S512x4096 .bf16) (w : Vec Ideal S4096x1280 .bf16) :
    k0_pay5 h w G (ix2 r l) = head (k0_pay2 h w) G r l 1152 (by decide) := by
  pointwise [k0_pay5, head, ProjSpec.headNorm, k0_pay3]

theorem pay7_apply (h : Vec Ideal S512x4096 .bf16) (w : Vec Ideal S4096x1280 .bf16) :
    k0_pay7 h w G (ix2 r l) = head (k0_pay2 h w) G r l 1152 (by decide) := by
  pointwise [k0_pay7, head, ProjSpec.headNorm, k0_pay3]

theorem pay11_apply (h : Vec Ideal S512x4096 .bf16) (w : Vec Ideal S4096x1280 .bf16) :
    k0_pay11 h w G (ix2 r l) = head (k0_pay2 h w) G r l 1024 (by decide) := by
  pointwise [k0_pay11, head, ProjSpec.headNorm, k0_pay3]

/-- The columns stored as they are. -/
theorem pay13_apply (l : Fin 768) : k0_pay13 U (ix2 r l) = U (ix2 r ⟨l.val, by have := l.isLt; omega⟩) := by
  pointwise [k0_pay13]

theorem pay9_apply (h : Vec Ideal S512x4096 .bf16) (w : Vec Ideal S4096x1280 .bf16) (l : Fin 512) :
    k0_pay9 h w (ix2 r l) = k0_pay2 h w (ix2 r ⟨768 + l.val, by have := l.isLt; omega⟩) := by
  pointwise [k0_pay9]

theorem pay10_apply (h : Vec Ideal S512x4096 .bf16) (w : Vec Ideal S4096x1280 .bf16) (l : Fin 1024) :
    k0_pay10 h w (ix2 r l) = k0_pay2 h w (ix2 r ⟨l.val, by have := l.isLt; omega⟩) := by
  pointwise [k0_pay10]

theorem pay12_apply (h : Vec Ideal S512x4096 .bf16) (w : Vec Ideal S4096x1280 .bf16) (l : Fin 128) :
    k0_pay12 h w (ix2 r l) = k0_pay2 h w (ix2 r ⟨1152 + l.val, by have := l.isLt; omega⟩) := by
  pointwise [k0_pay12]

end Cert.Proj
end
-- ==== Proof.ProjCases.lean ====
/- What one grid point of the input projection leaves in its output tile and its scratch, case by case. -/
module

public import proofs.«01_k».proof.Proof.ProjPay
public import Idealize.ShloMosaic.Lib.Pipeline.ValueKit.Tiles

@[expose] public section

set_option maxRecDepth 16384

noncomputable section

namespace Cert.Proj

open Idealize.ShloMosaic Idealize.ShloMosaic.TcCoe Idealize.SL.Sem Cert.Kernel3Ideal Ideal Cert.Kernel3Ideal.Gen

theorem z2 : (![0, 0] : Fin 2 → ℕ) = fun _ => 0 := by
  funext a
  match a with
  | ⟨0, _⟩ => rfl
  | ⟨1, _⟩ => rfl

/-- The columns of one row of the tile. -/
def tile (b0 : ℕ) (U : FVec Ideal S512x1280 .f32) (G : FVec Ideal S1x1280 .f32) (i : S512x1280.Idx) : EReal :=
  ProjSpec.tileOut b0 (fun k => U (ix2 (i 0 : Fin 512) k)) (fun k => G (ix2 0 k)) (i 1 : Fin 1280)

theorem ix_eq (y : S512x1280.Idx) (r : Fin 512) (k : Fin 1280) (h0 : (y 0).val = r.val) (h1 : (y 1).val = k.val) :
    y = ix2 r k := by
  funext a
  match a with
  | ⟨0, _⟩ => exact Fin.ext h0
  | ⟨1, _⟩ => exact Fin.ext h1

/-- A stored head is the tile's. -/
theorem piece_head (b0 b : ℕ) (hb : b < 10) (hn : ProjSpec.normed (b0 + b) = true) (h : b * 128 + 128 ≤ 1280)
    (U : FVec Ideal S512x1280 .f32) (G : FVec Ideal S1x1280 .f32) (p : FVec Ideal S512x128 .f32)
    (hp : ∀ r l, p (ix2 r l) = head U G r l (b * 128) h) (x : S512x128.Idx) (y : S512x1280.Idx)
    (h0 : (y 0).val = (x 0).val) (h1 : (y 1).val = b * 128 + (x 1).val) : p x = tile b0 U G y := by
  have hx1 : (x 1).val < 128 := (x 1).isLt
  have hx : x = ix2 (x 0) (x 1) := eq_ix2 x
  rw [ix_eq y (x 0) ⟨b * 128 + (x 1).val, by omega⟩ h0 h1]
  refine (congrArg p hx).trans ((hp (x 0) (x 1)).trans ?_)
  exact (ProjSpec.tileOut_head b0 (fun k => U (ix2 (x 0) k)) (fun k => G (ix2 0 k)) b hb hn (x 1) h).symm

theorem normed_false (b : ℕ) (h : b < 16 ∨ (36 ≤ b ∧ b ≠ 48)) : ProjSpec.normed b = false := by
  unfold ProjSpec.normed
  simp only [Bool.or_eq_false_iff, Bool.and_eq_false_iff, decide_eq_false_iff_not]
  omega

/-- Columns stored as they are. -/
theorem piece_plain (b0 o n : ℕ) (h : o + n ≤ 1280) (hn : ∀ l < n, b0 + (o + l) / 128 < 16 ∨ (36 ≤ b0 + (o + l) / 128 ∧ b0 + (o + l) / 128 ≠ 48))
    (U : FVec Ideal S512x1280 .f32) (G : FVec Ideal S1x1280 .f32) (p : (⟨2, ![512, n]⟩ : Shape).Idx → EReal)
    (hp : ∀ (r : Fin 512) (l : Fin n), p (ix2 r l) = U (ix2 r ⟨o + l.val, by have := l.isLt; omega⟩)) (x : (⟨2, ![512, n]⟩ : Shape).Idx) (y : S512x1280.Idx)
    (h0 : (y 0).val = (x 0).val) (h1 : (y 1).val = o + (x 1).val) : p x = tile b0 U G y := by
  have hx1 : (x 1).val < n := (x 1).isLt
  have hx : x = ix2 (x 0) (x 1) := eq_ix2 x
  rw [ix_eq y (x 0) ⟨o + (x 1).val, by omega⟩ h0 h1]
  refine (congrArg p hx).trans ((hp (x 0) (x 1)).trans ?_)
  exact (ProjSpec.tileOut_plain b0 (fun k => U (ix2 (x 0) k)) (fun k => G (ix2 0 k)) ⟨o + (x 1).val, by omega⟩
    (normed_false _ (hn _ hx1))).symm

theorem at0 {n : ℕ} (h : n ≤ 1280) (U : FVec Ideal S512x1280 .f32) (r : Fin 512) (l : Fin n) :
    U (ix2 r ⟨l.val, by have := l.isLt; omega⟩) = U (ix2 r ⟨0 + l.val, by have := l.isLt; omega⟩) :=
  congrArg (fun k : Fin 1280 => U (ix2 r k)) (Fin.ext (Nat.zero_add _).symm)

/-- A column block of the tile. -/
theorem mem_cols (o n : ℕ) (inb : ∀ a, (![0, o] : Fin 2 → ℕ) a + (![512, n] : Fin 2 → ℕ) a ≤ S512x1280.size a)
    (y : S512x1280.Idx) (hl : o ≤ (y 1).val) (hh : (y 1).val < o + n) :
    y ∈ (Rect.unit (s := S512x1280) ![0, o] ![512, n] inb).set := by
  rw [Rect.mem_set_unit]
  intro a
  match a with
  | ⟨0, _⟩ => exact ⟨Nat.zero_le _, by have h : (y 0).val < 512 := (y 0).isLt; show (y 0).val < 0 + 512; omega⟩
  | ⟨1, _⟩ => exact ⟨hl, hh⟩

variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x1280 .bf16) (harg4 : arg4.IsWhole) (arg5 : Memref sig .tc .vmem S1x1280 .f32) (harg5 : arg5.IsWhole) (arg6 : Memref sig .tc .vmem S512x1280 .f32) (harg6 : arg6.IsWhole) (arg7 : Memref sig .tc .vmem S512x4096 .bf16) (harg7 : arg7.IsWhole)
  (x0 : Vec Ideal S512x4096 .f32) (x1 : Vec Ideal S1x4096 .f32) (x2 : Vec Ideal S4096x1280 .bf16) (x3 : Vec Ideal S1x1280 .f32) (xs0 : Vec Ideal S512x4096 .bf16)

/-- At the first tile: the tile of the plain columns. -/
theorem out_A (hc0 : cond0_0 i) (hc1 : cond0_1 i) (hc2 : ¬cond0_2 i) (hc3 : ¬cond0_3 i) (hc4 : ¬cond0_4 i) (hc5 : ¬cond0_5 i) :
    out0_A_4 c i arg2 harg2 arg3 harg3 arg4 harg4 arg5 harg5 arg6 harg6 arg7 harg7 hc0 hc1 hc2 hc3 hc4 hc5 x0 x1 x2 x3 = tile 0 (k0_pay2 (k0_pay1 x0 x1) x2) x3 := by
  unfold out0_A_4
  rw [View.read_writes_eq_canon _ _ _ (cover0_A_4 c i arg2 harg2 arg3 harg3 arg4 harg4 arg5 harg5 arg6 harg6 arg7 harg7 hc0 hc1 hc2 hc3 hc4 hc5 x0 x1 x2 x3)]
  unfold kernelRun0_A
  dsimp only
  sl_unfold_words
  rw [View.canon_unit_zero z2, View.readCov_unit_zero (S := S512x4096) _ z2]
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]
  funext y
  exact piece_plain 0 0 1280 (by decide) (fun l hl => Or.inl (by omega)) _ x3 _ (fun r l => at0 (by decide) _ r l) y y rfl (Nat.zero_add _).symm

/-- At the first tile the body stores the normalised rows in the scratch. -/
theorem scratch_A (hc0 : cond0_0 i) (hc1 : cond0_1 i) (hc2 : ¬cond0_2 i) (hc3 : ¬cond0_3 i) (hc4 : ¬cond0_4 i) (hc5 : ¬cond0_5 i) :
    sout0_A_0 c i arg2 harg2 arg3 harg3 arg4 harg4 arg5 harg5 arg6 harg6 arg7 harg7 hc0 hc1 hc2 hc3 hc4 hc5 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 hc1 hc2 hc3 hc4 hc5 x0 x1 x2 x3)]
  unfold kernelRun0_A
  dsimp only
  sl_unfold_words
  rw [View.canon_unit_zero z2]
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]

/-- At tile 1: the tile of the product of the carried rows. -/
theorem out_B (hc0 : ¬cond0_0 i) (hc1 : ¬cond0_1 i) (hc2 : cond0_2 i) (hc3 : ¬cond0_3 i) (hc4 : ¬cond0_4 i) (hc5 : ¬cond0_5 i) :
    out0_B_4 c i arg2 harg2 arg3 harg3 arg4 harg4 arg5 harg5 arg6 harg6 arg7 harg7 hc0 hc1 hc2 hc3 hc4 hc5 x0 x1 x2 x3 xs0 = tile 10 (k0_pay2 xs0 x2) x3 := by
  unfold out0_B_4
  rw [View.read_writes_eq_canon _ _ _ (cover0_B_4 c i arg2 harg2 arg3 harg3 arg4 harg4 arg5 harg5 arg6 harg6 arg7 harg7 hc0 hc1 hc2 hc3 hc4 hc5 x0 x1 x2 x3 xs0)]
  unfold kernelRun0_B
  dsimp only
  sl_unfold_words
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 10 (k0_pay2 xs0 x2) x3) _ ?_ y ?_
  · intro p hp
    simp only [List.mem_cons, List.mem_nil_iff, or_false] at hp
    rcases hp with rfl | rfl | rfl | rfl | rfl
    · exact fun x => piece_head 10 9 (by decide) (by decide) (by decide) _ x3 _ (fun r l => pay5_apply x3 r l xs0 x2) x _ (show 0 + 1 * (x 0).val = (x 0).val by omega) (show 1152 + 1 * (x 1).val = 9 * 128 + (x 1).val by omega)
    · exact fun x => piece_head 10 8 (by decide) (by decide) (by decide) _ x3 _ (pay4_apply (k0_pay2 xs0 x2) x3) x _ (show 0 + 1 * (x 0).val = (x 0).val by omega) (show 1024 + 1 * (x 1).val = 8 * 128 + (x 1).val by omega)
    · exact fun x => piece_head 10 7 (by decide) (by decide) (by decide) _ x3 _ (pay15_apply (k0_pay2 xs0 x2) x3) x _ (show 0 + 1 * (x 0).val = (x 0).val by omega) (show 896 + 1 * (x 1).val = 7 * 128 + (x 1).val by omega)
    · exact fun x => piece_head 10 6 (by decide) (by decide) (by decide) _ x3 _ (pay14_apply (k0_pay2 xs0 x2) x3) x _ (show 0 + 1 * (x 0).val = (x 0).val by omega) (show 768 + 1 * (x 1).val = 6 * 128 + (x 1).val by omega)
    · exact fun x => piece_plain 10 0 768 (by decide) (fun l hl => Or.inl (by omega)) _ x3 _ (fun r l => (pay13_apply (k0_pay2 xs0 x2) r l).trans (at0 (by decide) (k0_pay2 xs0 x2) r l)) x _ (show 0 + 1 * (x 0).val = (x 0).val by omega) (show 0 + 1 * (x 1).val = 0 + (x 1).val by omega)
  · rcases (by omega : (0 ≤ (y 1).val ∧ (y 1).val < 0 + 768) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128)) with h | h | h | h | h
    · exact ⟨_, List.Mem.tail _ (List.Mem.tail _ (List.Mem.tail _ (List.Mem.tail _ (List.Mem.head _)))), mem_cols 0 768 inb_S512x1280_S512x768_0_0 y h.1 h.2⟩
    · exact ⟨_, List.Mem.tail _ (List.Mem.tail _ (List.Mem.tail _ (List.Mem.head _))), mem_cols 768 128 inb_S512x1280_S512x128_0_768 y h.1 h.2⟩
    · exact ⟨_, List.Mem.tail _ (List.Mem.tail _ (List.Mem.head _)), mem_cols 896 128 inb_S512x1280_S512x128_0_896 y h.1 h.2⟩
    · exact ⟨_, List.Mem.tail _ (List.Mem.head _), mem_cols 1024 128 inb_S512x1280_S512x128_0_1024 y h.1 h.2⟩
    · exact ⟨_, List.Mem.head _, mem_cols 1152 128 inb_S512x1280_S512x128_0_1152 y h.1 h.2⟩

/-- At tile 2: the tile of the product of the carried rows. -/
theorem out_C (hc0 : ¬cond0_0 i) (hc1 : ¬cond0_1 i) (hc2 : ¬cond0_2 i) (hc3 : cond0_3 i) (hc4 : ¬cond0_4 i) (hc5 : ¬cond0_5 i) :
    out0_C_4 c i arg2 harg2 arg3 harg3 arg4 harg4 arg5 harg5 arg6 harg6 arg7 harg7 hc0 hc1 hc2 hc3 hc4 hc5 x0 x1 x2 x3 xs0 = tile 20 (k0_pay2 xs0 x2) x3 := by
  unfold out0_C_4
  rw [View.read_writes_eq_canon _ _ _ (cover0_C_4 c i arg2 harg2 arg3 harg3 arg4 harg4 arg5 harg5 arg6 harg6 arg7 harg7 hc0 hc1 hc2 hc3 hc4 hc5 x0 x1 x2 x3 xs0)]
  unfold kernelRun0_C
  dsimp only
  sl_unfold_words
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 20 (k0_pay2 xs0 x2) x3) _ ?_ y ?_
  · intro p hp
    simp only [List.mem_cons, List.mem_nil_iff, or_false] at hp
    rcases hp with rfl | rfl | rfl | rfl | rfl | rfl | rfl | rfl | rfl | rfl
    · exact fun x => piece_head 20 9 (by decide) (by decide) (by decide) _ x3 _ (fun r l => pay7_apply x3 r l xs0 x2) x _ (show 0 + 1 * (x 0).val = (x 0).val by omega) (show 1152 + 1 * (x 1).val = 9 * 128 + (x 1).val by omega)
    · exact fun x => piece_head 20 8 (by decide) (by decide) (by decide) _ x3 _ (pay6_apply (k0_pay2 xs0 x2) x3) x _ (show 0 + 1 * (x 0).val = (x 0).val by omega) (show 1024 + 1 * (x 1).val = 8 * 128 + (x 1).val by omega)
    · exact fun x => piece_head 20 7 (by decide) (by decide) (by decide) _ x3 _ (pay27_apply (k0_pay2 xs0 x2) x3) x _ (show 0 + 1 * (x 0).val = (x 0).val by omega) (show 896 + 1 * (x 1).val = 7 * 128 + (x 1).val by omega)
    · exact fun x => piece_head 20 6 (by decide) (by decide) (by decide) _ x3 _ (pay26_apply (k0_pay2 xs0 x2) x3) x _ (show 0 + 1 * (x 0).val = (x 0).val by omega) (show 768 + 1 * (x 1).val = 6 * 128 + (x 1).val by omega)
    · exact fun x => piece_head 20 5 (by decide) (by decide) (by decide) _ x3 _ (pay25_apply (k0_pay2 xs0 x2) x3) x _ (show 0 + 1 * (x 0).val = (x 0).val by omega) (show 640 + 1 * (x 1).val = 5 * 128 + (x 1).val by omega)
    · exact fun x => piece_head 20 4 (by decide) (by decide) (by decide) _ x3 _ (pay22_apply (k0_pay2 xs0 x2) x3) x _ (show 0 + 1 * (x 0).val = (x 0).val by omega) (show 512 + 1 * (x 1).val = 4 * 128 + (x 1).val by omega)
    · exact fun x => piece_head 20 3 (by decide) (by decide) (by decide) _ x3 _ (pay21_apply (k0_pay2 xs0 x2) x3) x _ (show 0 + 1 * (x 0).val = (x 0).val by omega) (show 384 + 1 * (x 1).val = 3 * 128 + (x 1).val by omega)
    · exact fun x => piece_head 20 2 (by decide) (by decide) (by decide) _ x3 _ (pay20_apply (k0_pay2 xs0 x2) x3) x _ (show 0 + 1 * (x 0).val = (x 0).val by omega) (show 256 + 1 * (x 1).val = 2 * 128 + (x 1).val by omega)
    · exact fun x => piece_head 20 1 (by decide) (by decide) (by decide) _ x3 _ (pay19_apply (k0_pay2 xs0 x2) x3) x _ (show 0 + 1 * (x 0).val = (x 0).val by omega) (show 128 + 1 * (x 1).val = 1 * 128 + (x 1).val by omega)
    · exact fun x => piece_head 20 0 (by decide) (by decide) (by decide) _ x3 _ (pay18_apply (k0_pay2 xs0 x2) x3) x _ (show 0 + 1 * (x 0).val = (x 0).val by omega) (show 0 + 1 * (x 1).val = 0 * 128 + (x 1).val by omega)
  · rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128)) with h | h | h | h | h | h | h | h | h | h
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_cols 0 128 inb_S512x1280_S512x128_0_0 y h.1 h.2⟩
    · exact ⟨_, List.Mem.tail _ (List.Mem.tail _ (List.Mem.tail _ (List.Mem.tail _ (List.Mem.tail _ (List.Mem.tail _ (List.Mem.tail _ (List.Mem.tail _ (List.Mem.head _)))))))), mem_cols 128 128 inb_S512x1280_S512x128_0_128 y h.1 h.2⟩
    · exact ⟨_, List.Mem.tail _ (List.Mem.tail _ (List.Mem.tail _ (List.Mem.tail _ (List.Mem.tail _ (List.Mem.tail _ (List.Mem.tail _ (List.Mem.head _))))))), mem_cols 256 128 inb_S512x1280_S512x128_0_256 y h.1 h.2⟩
    · exact ⟨_, List.Mem.tail _ (List.Mem.tail _ (List.Mem.tail _ (List.Mem.tail _ (List.Mem.tail _ (List.Mem.tail _ (List.Mem.head _)))))), mem_cols 384 128 inb_S512x1280_S512x128_0_384 y h.1 h.2⟩
    · exact ⟨_, List.Mem.tail _ (List.Mem.tail _ (List.Mem.tail _ (List.Mem.tail _ (List.Mem.tail _ (List.Mem.head _))))), mem_cols 512 128 inb_S512x1280_S512x128_0_512 y h.1 h.2⟩
    · exact ⟨_, List.Mem.tail _ (List.Mem.tail _ (List.Mem.tail _ (List.Mem.tail _ (List.Mem.head _)))), mem_cols 640 128 inb_S512x1280_S512x128_0_640 y h.1 h.2⟩
    · exact ⟨_, List.Mem.tail _ (List.Mem.tail _ (List.Mem.tail _ (List.Mem.head _))), mem_cols 768 128 inb_S512x1280_S512x128_0_768 y h.1 h.2⟩
    · exact ⟨_, List.Mem.tail _ (List.Mem.tail _ (List.Mem.head _)), mem_cols 896 128 inb_S512x1280_S512x128_0_896 y h.1 h.2⟩
    · exact ⟨_, List.Mem.tail _ (List.Mem.head _), mem_cols 1024 128 inb_S512x1280_S512x128_0_1024 y h.1 h.2⟩
    · exact ⟨_, List.Mem.head _, mem_cols 1152 128 inb_S512x1280_S512x128_0_1152 y h.1 h.2⟩

/-- At tile 3: the tile of the product of the carried rows. -/
theorem out_D (hc0 : ¬cond0_0 i) (hc1 : ¬cond0_1 i) (hc2 : ¬cond0_2 i) (hc3 : ¬cond0_3 i) (hc4 : cond0_4 i) (hc5 : ¬cond0_5 i) :
    out0_D_4 c i arg2 harg2 arg3 harg3 arg4 harg4 arg5 harg5 arg6 harg6 arg7 harg7 hc0 hc1 hc2 hc3 hc4 hc5 x0 x1 x2 x3 xs0 = tile 30 (k0_pay2 xs0 x2) x3 := by
  unfold out0_D_4
  rw [View.read_writes_eq_canon _ _ _ (cover0_D_4 c i arg2 harg2 arg3 harg3 arg4 harg4 arg5 harg5 arg6 harg6 arg7 harg7 hc0 hc1 hc2 hc3 hc4 hc5 x0 x1 x2 x3 xs0)]
  unfold kernelRun0_D
  dsimp only
  sl_unfold_words
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 30 (k0_pay2 xs0 x2) x3) _ ?_ y ?_
  · intro p hp
    simp only [List.mem_cons, List.mem_nil_iff, or_false] at hp
    rcases hp with rfl | rfl | rfl | rfl | rfl | rfl | rfl
    · exact fun x => piece_plain 30 768 512 (by decide) (fun l hl => Or.inr (by omega)) _ x3 _ (fun r l => pay9_apply r xs0 x2 l) x _ (show 0 + 1 * (x 0).val = (x 0).val by omega) (show 768 + 1 * (x 1).val = 768 + (x 1).val by omega)
    · exact fun x => piece_head 30 5 (by decide) (by decide) (by decide) _ x3 _ (pay8_apply (k0_pay2 xs0 x2) x3) x _ (show 0 + 1 * (x 0).val = (x 0).val by omega) (show 640 + 1 * (x 1).val = 5 * 128 + (x 1).val by omega)
    · exact fun x => piece_head 30 4 (by decide) (by decide) (by decide) _ x3 _ (pay34_apply (k0_pay2 xs0 x2) x3) x _ (show 0 + 1 * (x 0).val = (x 0).val by omega) (show 512 + 1 * (x 1).val = 4 * 128 + (x 1).val by omega)
    · exact fun x => piece_head 30 3 (by decide) (by decide) (by decide) _ x3 _ (pay33_apply (k0_pay2 xs0 x2) x3) x _ (show 0 + 1 * (x 0).val = (x 0).val by omega) (show 384 + 1 * (x 1).val = 3 * 128 + (x 1).val by omega)
    · exact fun x => piece_head 30 2 (by decide) (by decide) (by decide) _ x3 _ (pay32_apply (k0_pay2 xs0 x2) x3) x _ (show 0 + 1 * (x 0).val = (x 0).val by omega) (show 256 + 1 * (x 1).val = 2 * 128 + (x 1).val by omega)
    · exact fun x => piece_head 30 1 (by decide) (by decide) (by decide) _ x3 _ (pay31_apply (k0_pay2 xs0 x2) x3) x _ (show 0 + 1 * (x 0).val = (x 0).val by omega) (show 128 + 1 * (x 1).val = 1 * 128 + (x 1).val by omega)
    · exact fun x => piece_head 30 0 (by decide) (by decide) (by decide) _ x3 _ (pay30_apply (k0_pay2 xs0 x2) x3) x _ (show 0 + 1 * (x 0).val = (x 0).val by omega) (show 0 + 1 * (x 1).val = 0 * 128 + (x 1).val by omega)
  · rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 512)) with h | h | h | h | h | h | h
    · exact ⟨_, List.Mem.tail _ (List.Mem.tail _ (List.Mem.tail _ (List.Mem.tail _ (List.Mem.tail _ (List.Mem.tail _ (List.Mem.head _)))))), mem_cols 0 128 inb_S512x1280_S512x128_0_0 y h.1 h.2⟩
    · exact ⟨_, List.Mem.tail _ (List.Mem.tail _ (List.Mem.tail _ (List.Mem.tail _ (List.Mem.tail _ (List.Mem.head _))))), mem_cols 128 128 inb_S512x1280_S512x128_0_128 y h.1 h.2⟩
    · exact ⟨_, List.Mem.tail _ (List.Mem.tail _ (List.Mem.tail _ (List.Mem.tail _ (List.Mem.head _)))), mem_cols 256 128 inb_S512x1280_S512x128_0_256 y h.1 h.2⟩
    · exact ⟨_, List.Mem.tail _ (List.Mem.tail _ (List.Mem.tail _ (List.Mem.head _))), mem_cols 384 128 inb_S512x1280_S512x128_0_384 y h.1 h.2⟩
    · exact ⟨_, List.Mem.tail _ (List.Mem.tail _ (List.Mem.head _)), mem_cols 512 128 inb_S512x1280_S512x128_0_512 y h.1 h.2⟩
    · exact ⟨_, List.Mem.tail _ (List.Mem.head _), mem_cols 640 128 inb_S512x1280_S512x128_0_640 y h.1 h.2⟩
    · exact ⟨_, List.Mem.head _, mem_cols 768 512 inb_S512x1280_S512x512_0_768 y h.1 h.2⟩

/-- At tile 4: the tile of the product of the carried rows. -/
theorem out_E (hc0 : ¬cond0_0 i) (hc1 : ¬cond0_1 i) (hc2 : ¬cond0_2 i) (hc3 : ¬cond0_3 i) (hc4 : ¬cond0_4 i) (hc5 : cond0_5 i) :
    out0_E_4 c i arg2 harg2 arg3 harg3 arg4 harg4 arg5 harg5 arg6 harg6 arg7 harg7 hc0 hc1 hc2 hc3 hc4 hc5 x0 x1 x2 x3 xs0 = tile 40 (k0_pay2 xs0 x2) x3 := by
  unfold out0_E_4
  rw [View.read_writes_eq_canon _ _ _ (cover0_E_4 c i arg2 harg2 arg3 harg3 arg4 harg4 arg5 harg5 arg6 harg6 arg7 harg7 hc0 hc1 hc2 hc3 hc4 hc5 x0 x1 x2 x3 xs0)]
  unfold kernelRun0_E
  dsimp only
  sl_unfold_words
  simp only [View.readAt_eq_ld, harg2.read_unread, harg3.read_unread, harg4.read_unread, harg5.read_unread, harg6.read_unread, harg7.read_unread, View.ld_unit_zero (S := S512x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 40 (k0_pay2 xs0 x2) x3) _ ?_ y ?_
  · intro p hp
    simp only [List.mem_cons, List.mem_nil_iff, or_false] at hp
    rcases hp with rfl | rfl | rfl
    · exact fun x => piece_plain 40 1152 128 (by decide) (fun l hl => Or.inr (by omega)) _ x3 _ (fun r l => pay12_apply r xs0 x2 l) x _ (show 0 + 1 * (x 0).val = (x 0).val by omega) (show 1152 + 1 * (x 1).val = 1152 + (x 1).val by omega)
    · exact fun x => piece_head 40 8 (by decide) (by decide) (by decide) _ x3 _ (fun r l => pay11_apply x3 r l xs0 x2) x _ (show 0 + 1 * (x 0).val = (x 0).val by omega) (show 1024 + 1 * (x 1).val = 8 * 128 + (x 1).val by omega)
    · exact fun x => piece_plain 40 0 1024 (by decide) (fun l hl => Or.inr (by omega)) _ x3 _ (fun r l => (pay10_apply r xs0 x2 l).trans (at0 (by decide) (k0_pay2 xs0 x2) r l)) x _ (show 0 + 1 * (x 0).val = (x 0).val by omega) (show 0 + 1 * (x 1).val = 0 + (x 1).val by omega)
  · rcases (by omega : (0 ≤ (y 1).val ∧ (y 1).val < 0 + 1024) ∨ (1024 ≤ (y 1).val ∧ (y 1).val < 1024 + 128) ∨ (1152 ≤ (y 1).val ∧ (y 1).val < 1152 + 128)) with h | h | h
    · exact ⟨_, List.Mem.tail _ (List.Mem.tail _ (List.Mem.head _)), mem_cols 0 1024 inb_S512x1280_S512x1024_0_0 y h.1 h.2⟩
    · exact ⟨_, List.Mem.tail _ (List.Mem.head _), mem_cols 1024 128 inb_S512x1280_S512x128_0_1024 y h.1 h.2⟩
    · exact ⟨_, List.Mem.head _, mem_cols 1152 128 inb_S512x1280_S512x128_0_1152 y h.1 h.2⟩

theorem scratch_B (hc0 : ¬cond0_0 i) (hc1 : ¬cond0_1 i) (hc2 : cond0_2 i) (hc3 : ¬cond0_3 i) (hc4 : ¬cond0_4 i) (hc5 : ¬cond0_5 i) :
    sout0_B_0 c i arg2 harg2 arg3 harg3 arg4 harg4 arg5 harg5 arg6 harg6 arg7 harg7 hc0 hc1 hc2 hc3 hc4 hc5 x0 x1 x2 x3 xs0 = xs0 := by
  unfold sout0_B_0
  rfl

theorem scratch_C (hc0 : ¬cond0_0 i) (hc1 : ¬cond0_1 i) (hc2 : ¬cond0_2 i) (hc3 : cond0_3 i) (hc4 : ¬cond0_4 i) (hc5 : ¬cond0_5 i) :
    sout0_C_0 c i arg2 harg2 arg3 harg3 arg4 harg4 arg5 harg5 arg6 harg6 arg7 harg7 hc0 hc1 hc2 hc3 hc4 hc5 x0 x1 x2 x3 xs0 = xs0 := by
  unfold sout0_C_0
  rfl

theorem scratch_D (hc0 : ¬cond0_0 i) (hc1 : ¬cond0_1 i) (hc2 : ¬cond0_2 i) (hc3 : ¬cond0_3 i) (hc4 : cond0_4 i) (hc5 : ¬cond0_5 i) :
    sout0_D_0 c i arg2 harg2 arg3 harg3 arg4 harg4 arg5 harg5 arg6 harg6 arg7 harg7 hc0 hc1 hc2 hc3 hc4 hc5 x0 x1 x2 x3 xs0 = xs0 := by
  unfold sout0_D_0
  rfl

theorem scratch_E (hc0 : ¬cond0_0 i) (hc1 : ¬cond0_1 i) (hc2 : ¬cond0_2 i) (hc3 : ¬cond0_3 i) (hc4 : ¬cond0_4 i) (hc5 : cond0_5 i) :
    sout0_E_0 c i arg2 harg2 arg3 harg3 arg4 harg4 arg5 harg5 arg6 harg6 arg7 harg7 hc0 hc1 hc2 hc3 hc4 hc5 x0 x1 x2 x3 xs0 = xs0 := by
  unfold sout0_E_0
  rfl

end Cert.Proj
end
-- ==== Proof.ProjKer.lean ====
/- The input projection, prompt rows: the array the kernel leaves, read at one element. -/
module

public import proofs.«01_k».proof.Proof.ProjCases

@[expose] public section

set_option maxRecDepth 16384

noncomputable section

namespace Cert.Proj

open Idealize.ShloMosaic Idealize.ShloMosaic.TcCoe Idealize.SL.Sem Cert.Kernel3Ideal Ideal Cert.Kernel3Ideal.Gen

variable (m : (ℓ : Loc nD τ sig) → Buf (Elt Ideal) ℓ)

/-- The block numbers of the windows: the row block is `t / 5`, the column block `t % 5`. -/
theorem blockNo : ∀ t : Fin cfg0.N,
    win0_0.index t (0 : Fin 2) = t.val / 5 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 5
    ∧ win0_3.index t (0 : Fin 2) = 0 ∧ win0_3.index t (1 : Fin 2) = t.val % 5
    ∧ win0_4.index t (0 : Fin 2) = t.val / 5 ∧ win0_4.index t (1 : Fin 2) = t.val % 5 := by
  decide +kernel

theorem lt_points (t : Fin cfg0.N) : t.val < 80 := lt_of_lt_of_eq t.isLt (show cfg0.N = 80 from N_0)

/-- Row `r` of row block `n / 5`, and column `k` of column block `n % 5`, in the whole array. -/
def row (n : ℕ) (hn : n < 80) (r : Fin 512) : Fin 8192 := ⟨n / 5 * 512 + r.val, by have := r.isLt; omega⟩
def col (n : ℕ) (k : Fin 1280) : Fin 6400 := ⟨n % 5 * 1280 + k.val, by have := k.isLt; omega⟩

/-- The weights, the gains and the norm's gains, as the kernel receives them. -/
def weightArr (c : Dev nD) : S4096x6400.Idx → EReal := V m c main_v1
def gainArr (c : Dev nD) : S1x6400.Idx → EReal := V m c main_v12
def mixArr (c : Dev nD) : S1x4096.Idx → EReal := V m c main_v13

theorem iblk0_apply (c : Dev nD) (t : Fin cfg0.N) (r : Fin 512) (k : Fin 4096) :
    (iblk m c 0 t : Vec Ideal S512x4096 .f32) (ix2 r k) = m ((c : Thread nD τ).loc main_arg0) (ix2 (row t.val (lt_points t) r) k) := by
  unfold iblk
  rw [View.read_apply]
  show V m c main_arg0 _ = _
  rw [V_main_arg0]
  congr 1
  funext a
  apply Fin.ext
  obtain ⟨h0, h1, -⟩ := blockNo t
  match a with
  | ⟨0, _⟩ => show win0_0.index t (0 : Fin 2) * 512 + 1 * r.val = t.val / 5 * 512 + r.val; omega
  | ⟨1, _⟩ => show win0_0.index t (1 : Fin 2) * 4096 + 1 * k.val = k.val; omega

theorem iblk1_apply (c : Dev nD) (t : Fin cfg0.N) (k : Fin 4096) :
    (iblk m c 1 t : Vec Ideal S1x4096 .f32) (ix2 0 k) = mixArr m c (ix2 0 k) := by
  unfold iblk
  rw [View.read_apply]
  show mixArr m c _ = _
  congr 1
  funext a
  apply Fin.ext
  obtain ⟨-, -, h0, h1, -⟩ := blockNo t
  match a with
  | ⟨0, _⟩ => show win0_1.index t (0 : Fin 2) * 1 + 1 * 0 = 0; omega
  | ⟨1, _⟩ => show win0_1.index t (1 : Fin 2) * 4096 + 1 * k.val = k.val; omega

theorem iblk2_apply (c : Dev nD) (t : Fin cfg0.N) (k : Fin 4096) (n : Fin 1280) :
    (iblk m c 2 t : Vec Ideal S4096x1280 .bf16) (ix2 k n) = weightArr m c (ix2 k (col t.val n)) := by
  unfold iblk
  rw [View.read_apply]
  show weightArr m c _ = _
  congr 1
  funext a
  apply Fin.ext
  obtain ⟨-, -, -, -, h0, h1, -⟩ := blockNo t
  match a with
  | ⟨0, _⟩ => show win0_2.index t (0 : Fin 2) * 4096 + 1 * k.val = k.val; omega
  | ⟨1, _⟩ => show win0_2.index t (1 : Fin 2) * 1280 + 1 * n.val = t.val % 5 * 1280 + n.val; omega

theorem iblk3_apply (c : Dev nD) (t : Fin cfg0.N) (n : Fin 1280) :
    (iblk m c 3 t : Vec Ideal S1x1280 .f32) (ix2 0 n) = gainArr m c (ix2 0 (col t.val n)) := by
  unfold iblk
  rw [View.read_apply]
  show gainArr m c _ = _
  congr 1
  funext a
  apply Fin.ext
  obtain ⟨-, -, -, -, -, -, h0, h1, -⟩ := blockNo t
  match a with
  | ⟨0, _⟩ => show win0_3.index t (0 : Fin 2) * 1 + 1 * 0 = 0; omega
  | ⟨1, _⟩ => show win0_3.index t (1 : Fin 2) * 1280 + 1 * n.val = t.val % 5 * 1280 + n.val; omega

/-- The normalised rows of the row block of point `n`. -/
def hid (c : Dev nD) (n : ℕ) (hn : n < 80) (r : Fin 512) (k : Fin 4096) : EReal :=
  FfnSpec.norm (fun l => m ((c : Thread nD τ).loc main_arg0) (ix2 (row n hn r) l)) (fun l => mixArr m c (ix2 0 l)) k

theorem step_A (c : Dev nD) (t : Fin cfg0.N) (h : t.val % 5 = 0) :
    (outsAt0 m c t.val t.isLt).1 = tile 0 (k0_pay2 (k0_pay1 (iblk m c 0 t) (iblk m c 1 t)) (iblk m c 2 t)) (iblk m c 3 t)
    ∧ (outsAt0 m c t.val t.isLt).2 = k0_pay1 (iblk m c 0 t) (iblk m c 1 t) := by
  rw [outsAt0_A m c t (by omega) (by omega) (by omega) (by omega) (by omega) (by omega)]
  dsimp only
  exact ⟨out_A .., scratch_A ..⟩

theorem step_B (c : Dev nD) (t : Fin cfg0.N) (h : t.val % 5 = 1) :
    (outsAt0 m c t.val t.isLt).1 = tile 10 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_B m c t (by omega) (by omega) (by omega) (by omega) (by omega) (by omega)]
  dsimp only
  exact ⟨out_B .., scratch_B ..⟩

theorem step_C (c : Dev nD) (t : Fin cfg0.N) (h : t.val % 5 = 2) :
    (outsAt0 m c t.val t.isLt).1 = tile 20 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_C m c t (by omega) (by omega) (by omega) (by omega) (by omega) (by omega)]
  dsimp only
  exact ⟨out_C .., scratch_C ..⟩

theorem step_D (c : Dev nD) (t : Fin cfg0.N) (h : t.val % 5 = 3) :
    (outsAt0 m c t.val t.isLt).1 = tile 30 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_D m c t (by omega) (by omega) (by omega) (by omega) (by omega) (by omega)]
  dsimp only
  exact ⟨out_D .., scratch_D ..⟩

theorem step_E (c : Dev nD) (t : Fin cfg0.N) (h : t.val % 5 = 4) :
    (outsAt0 m c t.val t.isLt).1 = tile 40 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_E m c t (by omega) (by omega) (by omega) (by omega) (by omega) (by omega)]
  dsimp only
  exact ⟨out_E .., scratch_E ..⟩

/-- The scratch holds the normalised rows of the point's row block. -/
theorem scratch_eq (c : Dev nD) : ∀ (n : ℕ) (hn : n < cfg0.N) (r : Fin 512) (k : Fin 4096),
    (outsAt0 m c n hn).2 (ix2 r k) = hid m c n (lt_points ⟨n, hn⟩) r k := by
  intro n
  induction n with
  | zero =>
    intro hn r k
    refine (congrFun (step_A m c ⟨0, hn⟩ rfl).2 _).trans ((pay1_apply r _ _ k).trans ?_)
    exact congrArg₂ (fun a b => FfnSpec.norm a b k) (funext fun l => iblk0_apply m c ⟨0, hn⟩ r l) (funext fun l => iblk1_apply m c ⟨0, hn⟩ l)
  | succ n ih =>
    intro hn r k
    have hlt := lt_points ⟨n + 1, hn⟩
    by_cases h0 : (n + 1) % 5 = 0
    · refine (congrFun (step_A m c ⟨n + 1, hn⟩ h0).2 _).trans ((pay1_apply r _ _ k).trans ?_)
      exact congrArg₂ (fun a b => FfnSpec.norm a b k) (funext fun l => iblk0_apply m c ⟨n + 1, hn⟩ r l) (funext fun l => iblk1_apply m c ⟨n + 1, hn⟩ l)
    · have hc : (outsAt0 m c (n + 1) hn).2 = (outsAt0 m c n (Nat.lt_of_succ_lt hn)).2 := by
        rcases (by omega : (n + 1) % 5 = 1 ∨ (n + 1) % 5 = 2 ∨ (n + 1) % 5 = 3 ∨ (n + 1) % 5 = 4) with h | h | h | h
        · exact (step_B m c ⟨n + 1, hn⟩ h).2
        · exact (step_C m c ⟨n + 1, hn⟩ h).2
        · exact (step_D m c ⟨n + 1, hn⟩ h).2
        · exact (step_E m c ⟨n + 1, hn⟩ h).2
      refine (congrFun hc _).trans ((ih (Nat.lt_of_succ_lt hn) r k).trans ?_)
      have hr : row n (lt_points ⟨n, Nat.lt_of_succ_lt hn⟩) r = row (n + 1) hlt r := Fin.ext (by
        show n / 5 * 512 + r.val = (n + 1) / 5 * 512 + r.val
        have : n / 5 = (n + 1) / 5 := by omega
        rw [this])
      unfold hid
      rw [hr]

/-- The array after the run, as a function of the arrays the kernel receives. -/
def result (c : Dev nD) : S8192x6400.Idx → EReal := fun i =>
  ProjSpec.colOut
    (fun n => ∑ k : Fin 4096, FfnSpec.norm (fun l => m ((c : Thread nD τ).loc main_arg0) (ix2 (i 0 : Fin 8192) l)) (fun l => mixArr m c (ix2 0 l)) k
      * weightArr m c (ix2 k n))
    (fun n => gainArr m c (ix2 0 n)) (i 1 : Fin 6400)

theorem tile_result (c : Dev nD) (t : Fin cfg0.N) (H : Vec Ideal S512x4096 .bf16) (hH : ∀ r k, H (ix2 r k) = hid m c t.val (lt_points t) r k)
    (r : Fin 512) (k : Fin 1280) :
    tile (10 * (t.val % 5)) (k0_pay2 H (iblk m c 2 t)) (iblk m c 3 t) (ix2 r k) = result m c (ix2 (row t.val (lt_points t) r) (col t.val k)) := by
  unfold tile result
  refine Eq.trans ?_ (ProjSpec.tileOut_col ⟨t.val % 5, Nat.mod_lt _ (by decide)⟩
    (fun n => ∑ k : Fin 4096, FfnSpec.norm (fun l => m ((c : Thread nD τ).loc main_arg0) (ix2 (row t.val (lt_points t) r) l)) (fun l => mixArr m c (ix2 0 l)) k
      * weightArr m c (ix2 k n))
    (fun n => gainArr m c (ix2 0 n)) k)
  refine congrArg₂ (fun a b => ProjSpec.tileOut (10 * (t.val % 5)) a b k) (funext fun n => ?_) (funext fun n => iblk3_apply m c t n)
  refine (pay2_apply r H _ n).trans (Finset.sum_congr rfl fun l _ => ?_)
  exact congrArg₂ (fun a b : EReal => a * b) (hH r l) (iblk2_apply m c t l n)

/-- What a point leaves in the output's block. -/
theorem block_eq (c : Dev nD) (t : Fin cfg0.N) (r : Fin 512) (k : Fin 1280) :
    (outsAt0 m c t.val t.isLt).1 (ix2 r k) = result m c (ix2 (row t.val (lt_points t) r) (col t.val k)) := by
  have hprev : ¬ t.val % 5 = 0 → ∀ r k, (outsAt0 m c (t.val - 1) (Nat.lt_of_le_of_lt (Nat.sub_le _ _) t.isLt)).2 (ix2 r k)
      = hid m c t.val (lt_points t) r k := by
    intro h0 r k
    have hl := lt_points t
    refine (scratch_eq m c (t.val - 1) _ r k).trans ?_
    have hr : row (t.val - 1) (by omega) r = row t.val hl r := Fin.ext (by
      show (t.val - 1) / 5 * 512 + r.val = t.val / 5 * 512 + r.val
      have : (t.val - 1) / 5 = t.val / 5 := by omega
      rw [this])
    unfold hid
    rw [hr]
  rcases (by omega : t.val % 5 = 0 ∨ t.val % 5 = 1 ∨ t.val % 5 = 2 ∨ t.val % 5 = 3 ∨ t.val % 5 = 4) with h | h | h | h | h
  · refine (congrFun (step_A m c t h).1 _).trans ?_
    refine Eq.trans ?_ (tile_result m c t (k0_pay1 (iblk m c 0 t) (iblk m c 1 t)) (fun r k => ?_) r k)
    · rw [h]
    · exact (congrFun (step_A m c t h).2 _).symm.trans (scratch_eq m c t.val t.isLt r k)
  · refine (congrFun (step_B m c t h).1 _).trans ?_
    refine Eq.trans ?_ (tile_result m c t _ (hprev (by omega)) r k)
    rw [h]
  · refine (congrFun (step_C m c t h).1 _).trans ?_
    refine Eq.trans ?_ (tile_result m c t _ (hprev (by omega)) r k)
    rw [h]
  · refine (congrFun (step_D m c t h).1 _).trans ?_
    refine Eq.trans ?_ (tile_result m c t _ (hprev (by omega)) r k)
    rw [h]
  · refine (congrFun (step_E m c t h).1 _).trans ?_
    refine Eq.trans ?_ (tile_result m c t _ (hprev (by omega)) r k)
    rw [h]

/-- Every point writes back its block of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  funext y
  have hy : (y : S512x1280.Idx) = ix2 (y 0) (y 1) := eq_ix2 y
  have he : (((cfg0.win 4).blk t).view.emb y : S8192x6400.Idx) = ix2 (row t.val (lt_points t) (y 0)) (col t.val (y 1)) := by
    funext a
    apply Fin.ext
    obtain ⟨-, -, -, -, -, -, -, -, h0, h1⟩ := blockNo t
    match a with
    | ⟨0, _⟩ => show win0_4.index t (0 : Fin 2) * 512 + 1 * (y 0).val = t.val / 5 * 512 + (y 0).val; omega
    | ⟨1, _⟩ => show win0_4.index t (1 : Fin 2) * 1280 + 1 * (y 1).val = t.val % 5 * 1280 + (y 1).val; omega
  have hx : ((cfg0.win 4).xinj (grid0.coords t) y : S512x1280.Idx) = ix2 (y 0) (y 1) := hy
  rw [View.read_apply]
  show (outsAt0 m c t.val t.isLt).1 ((cfg0.win 4).xinj (grid0.coords t) y) = result m c (((cfg0.win 4).blk t).view.emb y)
  rw [hx, he]
  exact block_eq m c t (y 0) (y 1)

/-- Every element is in some point's block. -/
theorem covered (i : S8192x6400.Idx) : ∃ t : Fin cfg0.N, (cfg0.win 4).flush t = true ∧ i ∈ ((cfg0.win 4).blk t).view.set := by
  have h0 : (i 0).val < 8192 := (i 0).isLt
  have h1 : (i 1).val < 6400 := (i 1).isLt
  have hN : cfg0.N = 80 := N_0
  obtain ⟨t, ht⟩ : ∃ t : Fin cfg0.N, t.val = (i 0).val / 512 * 5 + (i 1).val / 1280 := ⟨⟨(i 0).val / 512 * 5 + (i 1).val / 1280, by omega⟩, rfl⟩
  refine ⟨t, flush0_4 t, ?_⟩
  show i ∈ ((View.whole main_v14).slice (win0_4.rect t)).set
  rw [View.set_slice_whole, Rect.mem_set_unit]
  obtain ⟨-, -, -, -, -, -, -, -, e0, e1⟩ := blockNo t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1280 ≤ (i 1).val ∧ (i 1).val < win0_4.index t (1 : Fin 2) * 1280 + 1280; omega

/-- The array after the run. -/
theorem final (c : Dev nD) : (dats m 0 c).arrAt 4 cfg0.N = result m c :=
  (dats m 0 c).arrAt_eq_of_cover 4 _ (fun t _ => flushed_eq m c t) covered

end Cert.Proj
end
-- ==== Proof.ProjOut.lean ====
/- The input projection, prompt rows: the kernel's results, read at one element. -/
module

public import proofs.«01_k».proof.Proof.ProjKer
public import Idealize.ShloMosaic.Lib.Pointwise

@[expose] public section

set_option maxRecDepth 16384

noncomputable section

namespace Cert.Proj

open Idealize.ShloMosaic Idealize.ShloMosaic.TcCoe Idealize.SL.Sem Cert.Kernel3Ideal Ideal Cert.Kernel3Ideal.Gen

/-- The host's widened and narrowed weights. -/
def padded (w : FVec Ideal S4096x6280 .f32) : FVec Ideal S4096x6400 .bf16 :=
  truncf .bf16 (pad S4096x6400 ![0, 0] ![0, 120] ![0, 0] w (sitofp .f32 (constantI S_ 32 0#32)) pads_S4096x6280_S4096x6400_000_01200 h_S_) bitsLt_bf16_f32

/-- The widened weights are the weights where they are defined. -/
theorem padded_apply (w : FVec Ideal S4096x6280 .f32) (k : Fin 4096) (n : Fin 6280) :
    padded w (ix2 k (⟨n.val, by have := n.isLt; omega⟩ : Fin 6400)) = w (ix2 k n) := by
  pointwise [padded]

/-- Six pieces laid end to end as a row. -/
def joined (a b : FVec Ideal S2048 .f32) (c : FVec Ideal S512 .f32) (d : FVec Ideal S1536 .f32) (e f : FVec Ideal S128 .f32) : FVec Ideal S1x6400 .f32 :=
  shapeCast S1x6400 (concatenate S6400 0 [⟨S2048, a⟩, ⟨S2048, b⟩, ⟨S512, c⟩, ⟨S1536, d⟩, ⟨S128, e⟩, ⟨S128, f⟩] concatenates_S2048_S2048_S512_S1536_S128_S128_S6400_d0) shapeCasts_S6400_S1x6400

theorem joined_apply (a b : FVec Ideal S2048 .f32) (c : FVec Ideal S512 .f32) (d : FVec Ideal S1536 .f32) (e f : FVec Ideal S128 .f32) (C : Fin 6400) :
    joined a b c d e f (ix2 0 C) = if h : C.val < 2048 then a (ix1 ⟨C.val, h⟩)
      else if h : C.val - 2048 < 2048 then b (ix1 ⟨C.val - 2048, h⟩)
      else if h : C.val - 2048 - 2048 < 512 then c (ix1 ⟨C.val - 2048 - 2048, h⟩)
      else if h : C.val - 2048 - 2048 - 512 < 1536 then d (ix1 ⟨C.val - 2048 - 2048 - 512, h⟩)
      else if h : C.val - 2048 - 2048 - 512 - 1536 < 128 then e (ix1 ⟨C.val - 2048 - 2048 - 512 - 1536, h⟩)
      else f (ix1 ⟨C.val - 2048 - 2048 - 512 - 1536 - 128, by have := C.isLt; omega⟩) := by
  pointwise [joined]

/-- The queries' gain 16 times, and the keys' 4 times. -/
def gainQ (gq : FVec Ideal S128 .f32) : FVec Ideal S2048 .f32 :=
  shapeCast S2048 (broadcastInDim S16x128 ![0, 1] bcast_S1x128_S16x128_0_1 (shapeCast S1x128 gq shapeCasts_S128_S1x128)) shapeCasts_S16x128_S2048

def gainK (gk : FVec Ideal S128 .f32) : FVec Ideal S512 .f32 :=
  shapeCast S512 (broadcastInDim S4x128 ![0, 1] bcast_S1x128_S4x128_0_1 (shapeCast S1x128 gk shapeCasts_S128_S1x128)) shapeCasts_S4x128_S512

theorem gainQ_apply (gq : FVec Ideal S128 .f32) (n : Fin 2048) : gainQ gq (ix1 n) = gq (ix1 ⟨n.val % 128, Nat.mod_lt _ (by decide)⟩) := by
  pointwise [gainQ]

theorem gainK_apply (gk : FVec Ideal S128 .f32) (n : Fin 512) : gainK gk (ix1 n) = gk (ix1 ⟨n.val % 128, Nat.mod_lt _ (by decide)⟩) := by
  pointwise [gainK]

/-- The host's row of gains: the queries' 16 times, the keys' 4 times, the indexer key's once, ones elsewhere. -/
def gains (gq gk gi : FVec Ideal S128 .f32) : FVec Ideal S1x6400 .f32 :=
  joined (broadcastInDim S2048 ![] bcast_S_S2048 (constant S_ .f32 0x3F800000#32)) (gainQ gq) (gainK gk)
    (broadcastInDim S1536 ![] bcast_S_S1536 (constant S_ .f32 0x3F800000#32)) gi (broadcastInDim S128 ![] bcast_S_S128 (constant S_ .f32 0x3F800000#32))

theorem gains_q (gq gk gi : FVec Ideal S128 .f32) (n : Fin 2048) :
    gains gq gk gi (ix2 0 (⟨2048 + n.val, by have := n.isLt; omega⟩ : Fin 6400)) = gq (ix1 ⟨n.val % 128, Nat.mod_lt _ (by decide)⟩) := by
  have hn := n.isLt
  refine (joined_apply _ _ _ _ _ _ _).trans ?_
  dsimp only
  rw [dif_neg (by omega), dif_pos (show 2048 + n.val - 2048 < 2048 by omega)]
  refine (gainQ_apply gq _).trans (congrArg gq (congrArg ix1 (Fin.ext ?_)))
  show (2048 + n.val - 2048) % 128 = n.val % 128
  omega

theorem gains_k (gq gk gi : FVec Ideal S128 .f32) (h : Fin 4) (l : Fin 128) :
    gains gq gk gi (ix2 0 (⟨4096 + (h.val * 128 + l.val), by have := h.isLt; have := l.isLt; omega⟩ : Fin 6400)) = gk (ix1 l) := by
  have hh := h.isLt
  have hl := l.isLt
  refine (joined_apply _ _ _ _ _ _ _).trans ?_
  dsimp only
  rw [dif_neg (by omega), dif_neg (by omega), dif_pos (show 4096 + (h.val * 128 + l.val) - 2048 - 2048 < 512 by omega)]
  refine (gainK_apply gk _).trans (congrArg gk (congrArg ix1 (Fin.ext ?_)))
  show (4096 + (h.val * 128 + l.val) - 2048 - 2048) % 128 = l.val
  omega

theorem gains_i (gq gk gi : FVec Ideal S128 .f32) (l : Fin 128) :
    gains gq gk gi (ix2 0 (⟨6144 + l.val, by have := l.isLt; omega⟩ : Fin 6400)) = gi (ix1 l) := by
  have hl := l.isLt
  refine (joined_apply _ _ _ _ _ _ _).trans ?_
  dsimp only
  rw [dif_neg (by omega), dif_neg (by omega), dif_neg (by omega), dif_neg (by omega), dif_pos (show 6144 + l.val - 2048 - 2048 - 512 - 1536 < 128 by omega)]
  refine congrArg gi (congrArg ix1 (Fin.ext ?_))
  show 6144 + l.val - 2048 - 2048 - 512 - 1536 = l.val
  omega

/-- The norm's gains as a row. -/
def mixRow (g : FVec Ideal S4096 .f32) : FVec Ideal S1x4096 .f32 := shapeCast S1x4096 g shapeCasts_S4096_S1x4096

theorem mixRow_apply (g : FVec Ideal S4096 .f32) (l : Fin 4096) : mixRow g (ix2 0 l) = g (ix1 l) := by
  pointwise [mixRow]

variable (m : (ℓ : Loc nD τ sig) → Buf (Elt Ideal) ℓ)

theorem weights_eq (c : Dev nD) : weightArr m c = padded (m ((c : Thread nD τ).loc main_arg2)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
  rfl

theorem gains_eq (c : Dev nD) : gainArr m c = gains (m ((c : Thread nD τ).loc main_arg3)) (m ((c : Thread nD τ).loc main_arg4)) (m ((c : Thread nD τ).loc main_arg5)) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results
  rfl

theorem mix_eq (c : Dev nD) : mixArr m c = mixRow (m ((c : Thread nD τ).loc main_arg1)) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results
  rfl

/-- Column `n` of row `R`'s product with the weights, the row normalised first. -/
def prod (c : Dev nD) (R : Fin 8192) (n : Fin 6280) : EReal :=
  ProjSpec.prod (fun l => m ((c : Thread nD τ).loc main_arg0) (ix2 R l)) (fun l => m ((c : Thread nD τ).loc main_arg1) (ix1 l)) (fun k n => m ((c : Thread nD τ).loc main_arg2) (ix2 k n)) n

theorem sum_eq (c : Dev nD) (R : Fin 8192) (n : Fin 6280) :
    (∑ k : Fin 4096, FfnSpec.norm (fun l => m ((c : Thread nD τ).loc main_arg0) (ix2 R l)) (fun l => mixArr m c (ix2 0 l)) k
      * weightArr m c (ix2 k (⟨n.val, by have := n.isLt; omega⟩ : Fin 6400))) = prod m c R n := by
  unfold prod ProjSpec.prod
  refine Finset.sum_congr rfl fun k _ => congrArg₂ (fun a b : EReal => a * b) ?_ ?_
  · exact congrArg (fun g => FfnSpec.norm _ g k) (funext fun l => (congrFun (mix_eq m c) _).trans (mixRow_apply _ l))
  · exact (congrFun (weights_eq m c) _).trans (padded_apply _ k n)

/-- A column of the array that lies in no normalised head. -/
theorem result_plain (c : Dev nD) (R : Fin 8192) (C : Fin 6400) (n : Fin 6280) (hC : C.val = n.val) (hn : ProjSpec.normed (n.val / 128) = false) :
    result m c (ix2 R C) = prod m c R n := by
  have e : C = ⟨n.val, Nat.lt_trans n.isLt (by decide)⟩ := Fin.ext hC
  rw [e]
  exact (ProjSpec.colOut_plain _ _ _ hn).trans (sum_eq m c R n)

/-- A column of the array that lies in the normalised head `b`. -/
theorem result_head (c : Dev nD) (R : Fin 8192) (C : Fin 6400) (b : ℕ) (hb : b < 49) (hn : ProjSpec.normed b = true) (l : Fin 128) (hC : C.val = b * 128 + l.val)
    (u : Fin 128 → EReal) (g : EReal) (hu : ∀ k : Fin 128, u k = prod m c R ⟨b * 128 + k.val, by have := k.isLt; omega⟩)
    (hg : gains (m ((c : Thread nD τ).loc main_arg3)) (m ((c : Thread nD τ).loc main_arg4)) (m ((c : Thread nD τ).loc main_arg5)) (ix2 0 C) = g) :
    result m c (ix2 R C) = ProjSpec.headNorm u g l := by
  refine (ProjSpec.colOut_head _ _ C b (by omega) hn l hC).trans ?_
  refine congrArg₂ (fun a b => ProjSpec.headNorm a b l) (funext fun k => ?_) ((congrFun (gains_eq m c) _).trans hg)
  exact (sum_eq m c R ⟨b * 128 + k.val, by have := k.isLt; omega⟩).trans (hu k).symm

/-! The results cut from an array of 6400 columns. -/

def kOut (U : FVec Ideal S8192x6400 .f32) : FVec Ideal S1x4x2048x4x128 .f32 :=
  shapeCast S1x4x2048x4x128 (extractStridedSlice S4x2048x512 ![0, 0, 4096] (shapeCast S4x2048x6400 U shapeCasts_S8192x6400_S4x2048x6400) slices_S4x2048x6400_S4x2048x512_0_0_4096) shapeCasts_S4x2048x512_S1x4x2048x4x128

def vOut (U : FVec Ideal S8192x6400 .f32) : FVec Ideal S1x4x2048x4x128 .f32 :=
  shapeCast S1x4x2048x4x128 (extractStridedSlice S4x2048x512 ![0, 0, 4608] (shapeCast S4x2048x6400 U shapeCasts_S8192x6400_S4x2048x6400) slices_S4x2048x6400_S4x2048x512_0_0_4608) shapeCasts_S4x2048x512_S1x4x2048x4x128

def iOut (U : FVec Ideal S8192x6400 .f32) : FVec Ideal S1x4x2048x128 .f32 :=
  shapeCast S1x4x2048x128 (extractStridedSlice S4x2048x128 ![0, 0, 6144] (shapeCast S4x2048x6400 U shapeCasts_S8192x6400_S4x2048x6400) slices_S4x2048x6400_S4x2048x128_0_0_6144) shapeCasts_S4x2048x128_S1x4x2048x128

def pOut (U : FVec Ideal S8192x6400 .f32) : FVec Ideal S1x4x15x2048 .f32 :=
  shapeCast S1x4x15x2048 (extractStridedSlice S4x15x2048 ![0, 2033, 0] (shapeCast S4x2048x6400 U shapeCasts_S8192x6400_S4x2048x6400) slices_S4x2048x6400_S4x15x2048_0_2033_0) shapeCasts_S4x15x2048_S1x4x15x2048

def uOut (U : FVec Ideal S8192x6400 .f32) : FVec Ideal S8192x2048 .f32 :=
  extractStridedSlice S8192x2048 ![0, 0] U slices_S8192x6400_S8192x2048_0_0

def qOut (U : FVec Ideal S8192x6400 .f32) : FVec Ideal S8192x2048 .f32 :=
  extractStridedSlice S8192x2048 ![0, 2048] U slices_S8192x6400_S8192x2048_0_2048

def qiOut (U : FVec Ideal S8192x6400 .f32) : FVec Ideal S8192x1024 .f32 :=
  extractStridedSlice S8192x1024 ![0, 5120] U slices_S8192x6400_S8192x1024_0_5120

def wiOut (U : FVec Ideal S8192x6400 .f32) : FVec Ideal S8192x8 .f32 :=
  extractStridedSlice S8192x8 ![0, 6272] U slices_S8192x6400_S8192x8_0_6272

theorem kOut_apply (U : FVec Ideal S8192x6400 .f32) (a : Fin 1) (b : Fin 4) (s : Fin 2048) (h : Fin 4) (l : Fin 128) :
    kOut U (ix5 a b s h l) = U (ix2 (⟨b.val * 2048 + s.val, by have := b.isLt; have := s.isLt; omega⟩ : Fin 8192) ⟨4096 + (h.val * 128 + l.val), by have := h.isLt; have := l.isLt; omega⟩) := by
  pointwise [kOut]

theorem vOut_apply (U : FVec Ideal S8192x6400 .f32) (a : Fin 1) (b : Fin 4) (s : Fin 2048) (h : Fin 4) (l : Fin 128) :
    vOut U (ix5 a b s h l) = U (ix2 (⟨b.val * 2048 + s.val, by have := b.isLt; have := s.isLt; omega⟩ : Fin 8192) ⟨4608 + (h.val * 128 + l.val), by have := h.isLt; have := l.isLt; omega⟩) := by
  pointwise [vOut]

theorem iOut_apply (U : FVec Ideal S8192x6400 .f32) (a : Fin 1) (b : Fin 4) (s : Fin 2048) (l : Fin 128) :
    iOut U (ix4 a b s l) = U (ix2 (⟨b.val * 2048 + s.val, by have := b.isLt; have := s.isLt; omega⟩ : Fin 8192) ⟨6144 + l.val, by have := l.isLt; omega⟩) := by
  pointwise [iOut]

theorem pOut_apply (U : FVec Ideal S8192x6400 .f32) (a : Fin 1) (b : Fin 4) (j : Fin 15) (n : Fin 2048) :
    pOut U (ix4 a b j n) = U (ix2 (⟨b.val * 2048 + (2033 + j.val), by have := b.isLt; have := j.isLt; omega⟩ : Fin 8192) ⟨n.val, by have := n.isLt; omega⟩) := by
  pointwise [pOut]

theorem uOut_apply (U : FVec Ideal S8192x6400 .f32) (r : Fin 8192) (n : Fin 2048) :
    uOut U (ix2 r n) = U (ix2 r ⟨n.val, by have := n.isLt; omega⟩) := by
  pointwise [uOut]

theorem qOut_apply (U : FVec Ideal S8192x6400 .f32) (r : Fin 8192) (n : Fin 2048) :
    qOut U (ix2 r n) = U (ix2 r ⟨2048 + n.val, by have := n.isLt; omega⟩) := by
  pointwise [qOut]

theorem qiOut_apply (U : FVec Ideal S8192x6400 .f32) (r : Fin 8192) (n : Fin 1024) :
    qiOut U (ix2 r n) = U (ix2 r ⟨5120 + n.val, by have := n.isLt; omega⟩) := by
  pointwise [qiOut]

theorem wiOut_apply (U : FVec Ideal S8192x6400 .f32) (r : Fin 8192) (n : Fin 8) :
    wiOut U (ix2 r n) = U (ix2 r ⟨6272 + n.val, by have := n.isLt; omega⟩) := by
  pointwise [wiOut]

/-! The results after the run. -/

theorem arr_out (c : Dev nD) : Pipeline.withArrays spec0 c (V0 m c) (fun w => (dats m 0 c).arrAt w cfg0.N) (Proc.devRef .tc main_v14) = result m c :=
  (Pipeline.withArrays_arr spec0 (by decide) c (V0 m c) _ 4).trans (final m c)

theorem tail_k (c : Dev nD) : Pipeline.afterTail₀ cfgs (dats m) 0 (V0 m) [hostOps1] c main_v17 = kOut (result m c) := by
  refine Eq.trans ?_ (congrArg kOut (arr_out m c))
  unfold Pipeline.afterTail₀
  show StableHlo.after hostOps1 _ (Proc.devRef .tc main_v17) = _
  after_results
  rfl

theorem tail_v (c : Dev nD) : Pipeline.afterTail₀ cfgs (dats m) 0 (V0 m) [hostOps1] c main_v19 = vOut (result m c) := by
  refine Eq.trans ?_ (congrArg vOut (arr_out m c))
  unfold Pipeline.afterTail₀
  show StableHlo.after hostOps1 _ (Proc.devRef .tc main_v19) = _
  after_results
  rfl

theorem tail_i (c : Dev nD) : Pipeline.afterTail₀ cfgs (dats m) 0 (V0 m) [hostOps1] c main_v21 = iOut (result m c) := by
  refine Eq.trans ?_ (congrArg iOut (arr_out m c))
  unfold Pipeline.afterTail₀
  show StableHlo.after hostOps1 _ (Proc.devRef .tc main_v21) = _
  after_results
  rfl

theorem tail_p (c : Dev nD) : Pipeline.afterTail₀ cfgs (dats m) 0 (V0 m) [hostOps1] c main_v23 = pOut (result m c) := by
  refine Eq.trans ?_ (congrArg pOut (arr_out m c))
  unfold Pipeline.afterTail₀
  show StableHlo.after hostOps1 _ (Proc.devRef .tc main_v23) = _
  after_results
  rfl

theorem tail_u (c : Dev nD) : Pipeline.afterTail₀ cfgs (dats m) 0 (V0 m) [hostOps1] c main_v24 = uOut (result m c) := by
  refine Eq.trans ?_ (congrArg uOut (arr_out m c))
  unfold Pipeline.afterTail₀
  show StableHlo.after hostOps1 _ (Proc.devRef .tc main_v24) = _
  after_results
  rfl

theorem tail_q (c : Dev nD) : Pipeline.afterTail₀ cfgs (dats m) 0 (V0 m) [hostOps1] c main_v25 = qOut (result m c) := by
  refine Eq.trans ?_ (congrArg qOut (arr_out m c))
  unfold Pipeline.afterTail₀
  show StableHlo.after hostOps1 _ (Proc.devRef .tc main_v25) = _
  after_results
  rfl

theorem tail_qi (c : Dev nD) : Pipeline.afterTail₀ cfgs (dats m) 0 (V0 m) [hostOps1] c main_v26 = qiOut (result m c) := by
  refine Eq.trans ?_ (congrArg qiOut (arr_out m c))
  unfold Pipeline.afterTail₀
  show StableHlo.after hostOps1 _ (Proc.devRef .tc main_v26) = _
  after_results
  rfl

theorem tail_wi (c : Dev nD) : Pipeline.afterTail₀ cfgs (dats m) 0 (V0 m) [hostOps1] c main_v27 = wiOut (result m c) := by
  refine Eq.trans ?_ (congrArg wiOut (arr_out m c))
  unfold Pipeline.afterTail₀
  show StableHlo.after hostOps1 _ (Proc.devRef .tc main_v27) = _
  after_results
  rfl

/-- The run: every result at its value, every argument as launched. -/
theorem run (ρ : Dev nD → PrngReg) : θ_run defs (onTc (τ := τ) (main (F := Ideal))) ⟨m, fun _ => 0, ρ⟩ (fun r => ∀ c : Dev nD,
    r.2.mem ((c.tc : Thread nD τ).loc main_v17) = kOut (result m c)
      ∧ r.2.mem ((c.tc : Thread nD τ).loc main_v19) = vOut (result m c)
      ∧ r.2.mem ((c.tc : Thread nD τ).loc main_v21) = iOut (result m c)
      ∧ r.2.mem ((c.tc : Thread nD τ).loc main_v23) = pOut (result m c)
      ∧ r.2.mem ((c.tc : Thread nD τ).loc main_v24) = uOut (result m c)
      ∧ r.2.mem ((c.tc : Thread nD τ).loc main_v25) = qOut (result m c)
      ∧ r.2.mem ((c.tc : Thread nD τ).loc main_v26) = qiOut (result m c)
      ∧ r.2.mem ((c.tc : Thread nD τ).loc main_v27) = wiOut (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v17 (Pipeline.mem_restRefs_of main_v17 (by decide) (by decide))).trans (tail_k m c), ((h.1 c).2 main_v19 (Pipeline.mem_restRefs_of main_v19 (by decide) (by decide))).trans (tail_v m c), ((h.1 c).2 main_v21 (Pipeline.mem_restRefs_of main_v21 (by decide) (by decide))).trans (tail_i m c), ((h.1 c).2 main_v23 (Pipeline.mem_restRefs_of main_v23 (by decide) (by decide))).trans (tail_p m c), ((h.1 c).2 main_v24 (Pipeline.mem_restRefs_of main_v24 (by decide) (by decide))).trans (tail_u m c), ((h.1 c).2 main_v25 (Pipeline.mem_restRefs_of main_v25 (by decide) (by decide))).trans (tail_q m c), ((h.1 c).2 main_v26 (Pipeline.mem_restRefs_of main_v26 (by decide) (by decide))).trans (tail_qi m c), ((h.1 c).2 main_v27 (Pipeline.mem_restRefs_of main_v27 (by decide) (by decide))).trans (tail_wi m c),
      h.2 c⟩) (θ_run_and (run_main m ρ) (unchanged m ρ))

end Cert.Proj
end
-- ==== Proof.ProjRef.lean ====
/- The reference of the input projection, prompt rows, read at one element. -/
module

public import proofs.«01_k».proof.Proof.Gen.Reference3Ideal.Run
public import proofs.«01_k».proof.Proof.ProjSpec
public import Idealize.ShloMosaic.Lib.Pointwise

@[expose] public section

set_option maxRecDepth 16384

noncomputable section

namespace Cert.ProjRef

open Idealize.ShloMosaic Cert.Reference3Ideal Cert.Reference3Ideal.Gen Idealize.ShloMosaic.TcCoe Idealize.SL.Sem

/-- The reference's normalised rows. -/
def rows (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- The reference's products with the weights. -/
def prods (x : FVec Ideal S8192x4096 .f32) (g : FVec Ideal S4096 .f32) (w : FVec Ideal S4096x6280 .f32) : FVec Ideal S8192x6280 .f32 :=
  Host.dotGeneral dot_S8192x4096_S4096x6280_S8192x6280_1_0_0_1_n_n none (rows x g) w

theorem rows_apply (x : FVec Ideal S8192x4096 .f32) (g : FVec Ideal S4096 .f32) (r : Fin 8192) (k : Fin 4096) :
    rows x g (ix2 r k) = FfnSpec.norm (fun l => x (ix2 r l)) (fun l => g (ix1 l)) k := by
  pointwise [rows, FfnSpec.norm]

theorem dot_apply (h : FVec Ideal S8192x4096 .f32) (w : FVec Ideal S4096x6280 .f32) (r : Fin 8192) (n : Fin 6280) :
    (Host.dotGeneral dot_S8192x4096_S4096x6280_S8192x6280_1_0_0_1_n_n none h w : FVec Ideal S8192x6280 .f32) (ix2 r n) = ∑ k : Fin 4096, h (ix2 r k) * w (ix2 k n) := by
  pointwise []

theorem prods_apply (x : FVec Ideal S8192x4096 .f32) (g : FVec Ideal S4096 .f32) (w : FVec Ideal S4096x6280 .f32) (r : Fin 8192) (n : Fin 6280) :
    prods x g w (ix2 r n) = ProjSpec.prod (fun l => x (ix2 r l)) (fun l => g (ix1 l)) (fun k n => w (ix2 k n)) n :=
  (dot_apply _ w r n).trans (Finset.sum_congr rfl fun k _ => congrArg (fun a : EReal => a * w (ix2 k n)) (rows_apply x g r k))

def kRef (U : FVec Ideal S8192x6280 .f32) (g : FVec Ideal S128 .f32) : FVec Ideal S1x4x2048x4x128 .f32 :=
  shapeCast _ (mulf (mulf (shapeCast _ (extractStridedSlice S8192x512 ![0, 4096] U slices_S8192x6280_S8192x512_0_4096) shapeCasts_S8192x512_S8192x4x128) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (shapeCast _ (extractStridedSlice S8192x512 ![0, 4096] U slices_S8192x6280_S8192x512_0_4096) shapeCasts_S8192x512_S8192x4x128) (shapeCast _ (extractStridedSlice S8192x512 ![0, 4096] U slices_S8192x6280_S8192x512_0_4096) shapeCasts_S8192x512_S8192x4x128)) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x1x128_S8192x4x128_0_1_2 (broadcastInDim S1x1x128 ![2] bcast_S128_S1x1x128_2 g))) shapeCasts_S8192x4x128_S1x4x2048x4x128

def vRef (U : FVec Ideal S8192x6280 .f32) : FVec Ideal S1x4x2048x4x128 .f32 :=
  shapeCast _ (shapeCast _ (extractStridedSlice S8192x512 ![0, 4608] U slices_S8192x6280_S8192x512_0_4608) shapeCasts_S8192x512_S8192x4x128) shapeCasts_S8192x4x128_S1x4x2048x4x128

def iRef (U : FVec Ideal S8192x6280 .f32) (g : FVec Ideal S128 .f32) : FVec Ideal S1x4x2048x128 .f32 :=
  shapeCast _ (mulf (mulf (extractStridedSlice S8192x128 ![0, 6144] U slices_S8192x6280_S8192x128_0_6144) (broadcastInDim S8192x128 ![0, 1] bcast_S8192x1_S8192x128_0_1 (Host.rsqrt (addf (Host.divf (broadcastInDim S8192x1 ![0] bcast_S8192_S8192x1_0 (Host.reduceAdd (mulf (extractStridedSlice S8192x128 ![0, 6144] U slices_S8192x6280_S8192x128_0_6144) (extractStridedSlice S8192x128 ![0, 6144] U slices_S8192x6280_S8192x128_0_6144)) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x358637BD#32)))))) (broadcastInDim S8192x128 ![0, 1] bcast_S1x128_S8192x128_0_1 (broadcastInDim S1x128 ![1] bcast_S128_S1x128_1 g))) shapeCasts_S8192x128_S1x4x2048x128

def pRef (U : FVec Ideal S8192x6280 .f32) : FVec Ideal S1x4x15x2048 .f32 :=
  extractStridedSlice S1x4x15x2048 ![0, 0, 2033, 0] (shapeCast _ (extractStridedSlice S8192x2048 ![0, 0] U slices_S8192x6280_S8192x2048_0_0) shapeCasts_S8192x2048_S1x4x2048x2048) slices_S1x4x2048x2048_S1x4x15x2048_0_0_2033_0

def uRef (U : FVec Ideal S8192x6280 .f32) : FVec Ideal S8192x2048 .f32 :=
  extractStridedSlice S8192x2048 ![0, 0] U slices_S8192x6280_S8192x2048_0_0

def qRef (U : FVec Ideal S8192x6280 .f32) (g : FVec Ideal S128 .f32) : FVec Ideal S8192x2048 .f32 :=
  shapeCast _ (mulf (mulf (shapeCast _ (extractStridedSlice S8192x2048 ![0, 2048] U slices_S8192x6280_S8192x2048_0_2048) shapeCasts_S8192x2048_S8192x16x128) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf (shapeCast _ (extractStridedSlice S8192x2048 ![0, 2048] U slices_S8192x6280_S8192x2048_0_2048) shapeCasts_S8192x2048_S8192x16x128) (shapeCast _ (extractStridedSlice S8192x2048 ![0, 2048] U slices_S8192x6280_S8192x2048_0_2048) shapeCasts_S8192x2048_S8192x16x128)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 g))) shapeCasts_S8192x16x128_S8192x2048

def qiRef (U : FVec Ideal S8192x6280 .f32) : FVec Ideal S8192x1024 .f32 :=
  shapeCast _ (shapeCast _ (extractStridedSlice S8192x1024 ![0, 5120] U slices_S8192x6280_S8192x1024_0_5120) shapeCasts_S8192x1024_S8192x8x128) shapeCasts_S8192x8x128_S8192x1024

def wiRef (U : FVec Ideal S8192x6280 .f32) : FVec Ideal S8192x8 .f32 :=
  extractStridedSlice S8192x8 ![0, 6272] U slices_S8192x6280_S8192x8_0_6272

theorem kRef_apply (U : FVec Ideal S8192x6280 .f32) (g : FVec Ideal S128 .f32) (a : Fin 1) (b : Fin 4) (s : Fin 2048) (h : Fin 4) (l : Fin 128) :
    kRef U g (ix5 a b s h l) = ProjSpec.headNorm (fun k : Fin 128 => U (ix2 (⟨b.val * 2048 + s.val, by have := b.isLt; have := s.isLt; omega⟩ : Fin 8192) ⟨4096 + (h.val * 128 + k.val), by have := h.isLt; have := k.isLt; omega⟩)) (g (ix1 l)) l := by
  pointwise [kRef, ProjSpec.headNorm]

theorem vRef_apply (U : FVec Ideal S8192x6280 .f32) (a : Fin 1) (b : Fin 4) (s : Fin 2048) (h : Fin 4) (l : Fin 128) :
    vRef U (ix5 a b s h l) = U (ix2 (⟨b.val * 2048 + s.val, by have := b.isLt; have := s.isLt; omega⟩ : Fin 8192) ⟨4608 + (h.val * 128 + l.val), by have := h.isLt; have := l.isLt; omega⟩) := by
  pointwise [vRef]

theorem iRef_apply (U : FVec Ideal S8192x6280 .f32) (g : FVec Ideal S128 .f32) (a : Fin 1) (b : Fin 4) (s : Fin 2048) (l : Fin 128) :
    iRef U g (ix4 a b s l) = ProjSpec.headNorm (fun k : Fin 128 => U (ix2 (⟨b.val * 2048 + s.val, by have := b.isLt; have := s.isLt; omega⟩ : Fin 8192) ⟨6144 + k.val, by have := k.isLt; omega⟩)) (g (ix1 l)) l := by
  pointwise [iRef, ProjSpec.headNorm]

theorem pRef_apply (U : FVec Ideal S8192x6280 .f32) (a : Fin 1) (b : Fin 4) (j : Fin 15) (n : Fin 2048) :
    pRef U (ix4 a b j n) = U (ix2 (⟨b.val * 2048 + (2033 + j.val), by have := b.isLt; have := j.isLt; omega⟩ : Fin 8192) ⟨n.val, by have := n.isLt; omega⟩) := by
  pointwise [pRef]

theorem qRef_apply (U : FVec Ideal S8192x6280 .f32) (g : FVec Ideal S128 .f32) (r : Fin 8192) (n : Fin 2048) :
    qRef U g (ix2 r n) = ProjSpec.headNorm (fun k : Fin 128 => U (ix2 r ⟨2048 + (n.val / 128 * 128 + k.val), by have := n.isLt; have := k.isLt; omega⟩))
      (g (ix1 ⟨n.val % 128, Nat.mod_lt _ (by decide)⟩)) ⟨n.val % 128, Nat.mod_lt _ (by decide)⟩ := by
  pointwise [qRef, ProjSpec.headNorm]
  simp only [Nat.div_add_mod']

theorem uRef_apply (U : FVec Ideal S8192x6280 .f32) (r : Fin 8192) (n : Fin 2048) :
    uRef U (ix2 r n) = U (ix2 r ⟨n.val, by have := n.isLt; omega⟩) := by
  pointwise [uRef]

theorem qiRef_apply (U : FVec Ideal S8192x6280 .f32) (r : Fin 8192) (n : Fin 1024) :
    qiRef U (ix2 r n) = U (ix2 r ⟨5120 + n.val, by have := n.isLt; omega⟩) := by
  pointwise [qiRef]

theorem wiRef_apply (U : FVec Ideal S8192x6280 .f32) (r : Fin 8192) (n : Fin 8) :
    wiRef U (ix2 r n) = U (ix2 r ⟨6272 + n.val, by have := n.isLt; omega⟩) := by
  pointwise [wiRef]

end Cert.ProjRef
end
-- ==== Proof.ProjClaim.lean ====
/- The input projection, prompt rows: kernel and reference agree over the extended reals. -/
module

public import proofs.«01_k».proof.Defs
public import proofs.«01_k».proof.Proof.ProjOut
public import proofs.«01_k».proof.Proof.ProjRef
public import proofs.«01_k».proof.Proof.Gen.Kernel3Ideal
public import proofs.«01_k».proof.Proof.Gen.Reference3Ideal

@[expose] public section

set_option maxRecDepth 16384

noncomputable section

namespace Cert.Proj

open Idealize.ShloMosaic Idealize.ShloMosaic.TcCoe Idealize.SL.Sem

local instance : Cert.Kernel3Ideal.Facts := Cert.Kernel3Ideal.Gen.facts
local instance : Cert.Reference3Ideal.Facts := Cert.Reference3Ideal.Gen.facts

/-- The reference runs, keeps its arguments and leaves no counter behind (it has none). -/
theorem frame_ref : Cert.quiescent_Reference3Ideal := fun m ρ _ =>
  (θ_run _ _ _).mono (fun r h => ⟨fun c => (h c).2.2.2.2.2.2.2.2, sem_eq_zero_of_no_sems (by decide) r.2⟩) (Reference3Ideal.Value.run m ρ)

variable (m : (ℓ : Loc Kernel3Ideal.nD Kernel3Ideal.τ Kernel3Ideal.sig) → Buf (Elt Ideal) ℓ) (c : Dev Kernel3Ideal.nD)

theorem normed_key (h : Fin 4) : ProjSpec.normed (32 + h.val) = true := by revert h; decide
theorem normed_query (h : Fin 16) : ProjSpec.normed (16 + h.val) = true := by revert h; decide
theorem not_normed (b : ℕ) (h : b < 16 ∨ (36 ≤ b ∧ b ≠ 48)) : ProjSpec.normed b = false := by
  unfold ProjSpec.normed
  simp only [Bool.or_eq_false_iff, Bool.and_eq_false_iff, decide_eq_false_iff_not]
  omega

theorem k_eq : kOut (result m c) = ProjRef.kRef (ProjRef.prods (m ((c.tc : Thread _ _).loc Kernel3Ideal.main_arg0)) (m ((c.tc : Thread _ _).loc Kernel3Ideal.main_arg1)) (m ((c.tc : Thread _ _).loc Kernel3Ideal.main_arg2))) (m ((c.tc : Thread _ _).loc Kernel3Ideal.main_arg4)) := by
  funext i
  have hi : (i : Kernel3Ideal.S1x4x2048x4x128.Idx) = ix5 (i 0) (i 1) (i 2) (i 3) (i 4) := eq_ix5 i
  rw [hi]
  have h3 : (i 3).val < 4 := (i 3).isLt
  have h4 : (i 4).val < 128 := (i 4).isLt
  refine (kOut_apply _ (i 0) (i 1) (i 2) (i 3) (i 4)).trans (Eq.trans ?_ (ProjRef.kRef_apply _ _ (i 0) (i 1) (i 2) (i 3) (i 4)).symm)
  exact result_head m c _ _ (32 + (i 3).val) (by omega) (normed_key (i 3)) (i 4) (by show 4096 + ((i 3).val * 128 + (i 4).val) = (32 + (i 3).val) * 128 + (i 4).val; omega) _ _
    (fun k => (ProjRef.prods_apply _ _ _ _ _).trans (congrArg (prod m c _) (Fin.ext (by show 4096 + ((i 3).val * 128 + k.val) = (32 + (i 3).val) * 128 + k.val; omega))))
    (gains_k _ _ _ (i 3) (i 4))
theorem v_eq : vOut (result m c) = ProjRef.vRef (ProjRef.prods (m ((c.tc : Thread _ _).loc Kernel3Ideal.main_arg0)) (m ((c.tc : Thread _ _).loc Kernel3Ideal.main_arg1)) (m ((c.tc : Thread _ _).loc Kernel3Ideal.main_arg2))) := by
  funext i
  have hi : (i : Kernel3Ideal.S1x4x2048x4x128.Idx) = ix5 (i 0) (i 1) (i 2) (i 3) (i 4) := eq_ix5 i
  rw [hi]
  have h3 : (i 3).val < 4 := (i 3).isLt
  have h4 : (i 4).val < 128 := (i 4).isLt
  refine (vOut_apply _ (i 0) (i 1) (i 2) (i 3) (i 4)).trans (Eq.trans ?_ (ProjRef.vRef_apply _ (i 0) (i 1) (i 2) (i 3) (i 4)).symm)
  exact (result_plain m c _ _ ⟨4608 + ((i 3).val * 128 + (i 4).val), by omega⟩ rfl (not_normed _ (by show (4608 + ((i 3).val * 128 + (i 4).val)) / 128 < 16 ∨ (36 ≤ (4608 + ((i 3).val * 128 + (i 4).val)) / 128 ∧ (4608 + ((i 3).val * 128 + (i 4).val)) / 128 ≠ 48); omega))).trans (ProjRef.prods_apply _ _ _ _ _).symm
theorem i_eq : iOut (result m c) = ProjRef.iRef (ProjRef.prods (m ((c.tc : Thread _ _).loc Kernel3Ideal.main_arg0)) (m ((c.tc : Thread _ _).loc Kernel3Ideal.main_arg1)) (m ((c.tc : Thread _ _).loc Kernel3Ideal.main_arg2))) (m ((c.tc : Thread _ _).loc Kernel3Ideal.main_arg5)) := by
  funext i
  have hi : (i : Kernel3Ideal.S1x4x2048x128.Idx) = ix4 (i 0) (i 1) (i 2) (i 3) := eq_ix4 i
  rw [hi]
  have h3 : (i 3).val < 128 := (i 3).isLt
  refine (iOut_apply _ (i 0) (i 1) (i 2) (i 3)).trans (Eq.trans ?_ (ProjRef.iRef_apply _ _ (i 0) (i 1) (i 2) (i 3)).symm)
  exact result_head m c _ _ 48 (by omega) (by decide) (i 3) rfl _ _ (fun k => ProjRef.prods_apply _ _ _ _ _) (gains_i _ _ _ (i 3))
theorem p_eq : pOut (result m c) = ProjRef.pRef (ProjRef.prods (m ((c.tc : Thread _ _).loc Kernel3Ideal.main_arg0)) (m ((c.tc : Thread _ _).loc Kernel3Ideal.main_arg1)) (m ((c.tc : Thread _ _).loc Kernel3Ideal.main_arg2))) := by
  funext i
  have hi : (i : Kernel3Ideal.S1x4x15x2048.Idx) = ix4 (i 0) (i 1) (i 2) (i 3) := eq_ix4 i
  rw [hi]
  have h3 : (i 3).val < 2048 := (i 3).isLt
  refine (pOut_apply _ (i 0) (i 1) (i 2) (i 3)).trans (Eq.trans ?_ (ProjRef.pRef_apply _ (i 0) (i 1) (i 2) (i 3)).symm)
  exact (result_plain m c _ _ ⟨(i 3).val, by omega⟩ rfl (not_normed _ (by show (i 3).val / 128 < 16 ∨ (36 ≤ (i 3).val / 128 ∧ (i 3).val / 128 ≠ 48); omega))).trans (ProjRef.prods_apply _ _ _ _ _).symm
theorem q_eq : qOut (result m c) = ProjRef.qRef (ProjRef.prods (m ((c.tc : Thread _ _).loc Kernel3Ideal.main_arg0)) (m ((c.tc : Thread _ _).loc Kernel3Ideal.main_arg1)) (m ((c.tc : Thread _ _).loc Kernel3Ideal.main_arg2))) (m ((c.tc : Thread _ _).loc Kernel3Ideal.main_arg3)) := by
  funext i
  have hi : (i : Kernel3Ideal.S8192x2048.Idx) = ix2 (i 0) (i 1) := eq_ix2 i
  rw [hi]
  have h1 : (i 1).val < 2048 := (i 1).isLt
  refine (qOut_apply _ (i 0) (i 1)).trans (Eq.trans ?_ (ProjRef.qRef_apply _ _ (i 0) (i 1)).symm)
  exact result_head m c _ _ (16 + (i 1).val / 128) (by omega) (normed_query ⟨(i 1).val / 128, by omega⟩) ⟨(i 1).val % 128, Nat.mod_lt _ (by decide)⟩
    (by show 2048 + (i 1).val = (16 + (i 1).val / 128) * 128 + (i 1).val % 128; omega) _ _
    (fun k => (ProjRef.prods_apply _ _ _ _ _).trans (congrArg (prod m c _) (Fin.ext (by show 2048 + ((i 1).val / 128 * 128 + k.val) = (16 + (i 1).val / 128) * 128 + k.val; omega))))
    (gains_q _ _ _ (i 1))
theorem u_eq : uOut (result m c) = ProjRef.uRef (ProjRef.prods (m ((c.tc : Thread _ _).loc Kernel3Ideal.main_arg0)) (m ((c.tc : Thread _ _).loc Kernel3Ideal.main_arg1)) (m ((c.tc : Thread _ _).loc Kernel3Ideal.main_arg2))) := by
  funext i
  have hi : (i : Kernel3Ideal.S8192x2048.Idx) = ix2 (i 0) (i 1) := eq_ix2 i
  rw [hi]
  have h1 : (i 1).val < 2048 := (i 1).isLt
  refine (uOut_apply _ (i 0) (i 1)).trans (Eq.trans ?_ (ProjRef.uRef_apply _ (i 0) (i 1)).symm)
  exact (result_plain m c _ _ ⟨(i 1).val, by omega⟩ rfl (not_normed _ (by show ((i 1).val) / 128 < 16 ∨ (36 ≤ ((i 1).val) / 128 ∧ ((i 1).val) / 128 ≠ 48); omega))).trans (ProjRef.prods_apply _ _ _ _ _).symm
theorem qi_eq : qiOut (result m c) = ProjRef.qiRef (ProjRef.prods (m ((c.tc : Thread _ _).loc Kernel3Ideal.main_arg0)) (m ((c.tc : Thread _ _).loc Kernel3Ideal.main_arg1)) (m ((c.tc : Thread _ _).loc Kernel3Ideal.main_arg2))) := by
  funext i
  have hi : (i : Kernel3Ideal.S8192x1024.Idx) = ix2 (i 0) (i 1) := eq_ix2 i
  rw [hi]
  have h1 : (i 1).val < 1024 := (i 1).isLt
  refine (qiOut_apply _ (i 0) (i 1)).trans (Eq.trans ?_ (ProjRef.qiRef_apply _ (i 0) (i 1)).symm)
  exact (result_plain m c _ _ ⟨5120 + (i 1).val, by omega⟩ rfl (not_normed _ (by show (5120 + (i 1).val) / 128 < 16 ∨ (36 ≤ (5120 + (i 1).val) / 128 ∧ (5120 + (i 1).val) / 128 ≠ 48); omega))).trans (ProjRef.prods_apply _ _ _ _ _).symm
theorem wi_eq : wiOut (result m c) = ProjRef.wiRef (ProjRef.prods (m ((c.tc : Thread _ _).loc Kernel3Ideal.main_arg0)) (m ((c.tc : Thread _ _).loc Kernel3Ideal.main_arg1)) (m ((c.tc : Thread _ _).loc Kernel3Ideal.main_arg2))) := by
  funext i
  have hi : (i : Kernel3Ideal.S8192x8.Idx) = ix2 (i 0) (i 1) := eq_ix2 i
  rw [hi]
  have h1 : (i 1).val < 8 := (i 1).isLt
  refine (wiOut_apply _ (i 0) (i 1)).trans (Eq.trans ?_ (ProjRef.wiRef_apply _ (i 0) (i 1)).symm)
  exact (result_plain m c _ _ ⟨6272 + (i 1).val, by omega⟩ rfl (not_normed _ (by show (6272 + (i 1).val) / 128 < 16 ∨ (36 ≤ (6272 + (i 1).val) / 128 ∧ (6272 + (i 1).val) / 128 ≠ 48); omega))).trans (ProjRef.prods_apply _ _ _ _ _).symm
/-- Kernel and reference agree over the extended reals, from any arguments. -/
theorem algebraic : Cert.algebraic_Kernel3Ideal_Reference3Ideal := fun m ρ m' ρ' _ hag =>
  ⟨fun c => kOut (result m c), fun c => vOut (result m c), fun c => iOut (result m c), fun c => pOut (result m c), fun c => uOut (result m c), fun c => qOut (result m c), fun c => qiOut (result m c), fun c => wiOut (result m c),
    run m ρ,
    (θ_run _ _ _).mono (fun r h c => by
      have e0 := (hag c).1
      have e1 := (hag c).2.1
      have e2 := (hag c).2.2.1
      have e3 := (hag c).2.2.2.1
      have e4 := (hag c).2.2.2.2.1
      have e5 := (hag c).2.2.2.2.2
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
      · rw [e0, e1, e2, e4]; exact (k_eq m c).symm
      · rw [e0, e1, e2]; exact (v_eq m c).symm
      · rw [e0, e1, e2, e5]; exact (i_eq m c).symm
      · rw [e0, e1, e2]; exact (p_eq m c).symm
      · rw [e0, e1, e2]; exact (u_eq m c).symm
      · rw [e0, e1, e2, e3]; exact (q_eq m c).symm
      · rw [e0, e1, e2]; exact (qi_eq m c).symm
      · rw [e0, e1, e2]; exact (wi_eq m c).symm) (Reference3Ideal.Value.run m' ρ')⟩

end Cert.Proj
end
-- ==== Proof.ProjSamplePay.lean ====
/- What one tile of the input projection stores, read at one element. -/
module

public import proofs.«01_k».proof.Proof.Gen.Kernel4Ideal.Frame
public import proofs.«01_k».proof.Proof.ProjSpec
public import Idealize.ShloMosaic.Lib.Pointwise

@[expose] public section

set_option maxRecDepth 16384

noncomputable section

namespace Cert.ProjSample

open Idealize.ShloMosaic Idealize.ShloMosaic.TcCoe Idealize.SL.Sem Cert.Kernel4Ideal Ideal Cert.Kernel4Ideal.Gen

variable (U : FVec Ideal S128x1280 .f32) (G : FVec Ideal S1x1280 .f32) (r : Fin 128) (l : Fin 128)

/-- The head of 128 columns at column `o` of a tile, normalised and scaled. -/
def head (o : ℕ) (h : o + 128 ≤ 1280) : EReal :=
  ProjSpec.headNorm (fun k : Fin 128 => U (ix2 r ⟨o + k.val, by have := k.isLt; omega⟩)) (G (ix2 0 ⟨o + l.val, by have := l.isLt; omega⟩)) l

/-- The kernel's normalised rows. -/
theorem pay1_apply (x : Vec Ideal S128x4096 .f32) (g : Vec Ideal S1x4096 .f32) (k : Fin 4096) :
    k0_pay1 x g (ix2 r k) = FfnSpec.norm (fun l => x (ix2 r l)) (fun l => g (ix2 0 l)) k := by
  pointwise [k0_pay1, FfnSpec.norm]

/-- A row's product with a column of the weight tile. -/
theorem pay2_apply (h : Vec Ideal S128x4096 .bf16) (w : Vec Ideal S4096x1280 .bf16) (n : Fin 1280) :
    k0_pay2 h w (ix2 r n) = ∑ k : Fin 4096, h (ix2 r k) * w (ix2 k n) := by
  pointwise [k0_pay2]

theorem pay3_eq (g : Vec Ideal S1x1280 .f32) : k0_pay3 g = g := by
  unfold k0_pay3
  exact shapeCast_self _ _

theorem pay14_apply : k0_pay14 U G (ix2 r l) = head U G r l 768 (by decide) := by
  pointwise [k0_pay14, head, ProjSpec.headNorm]

theorem pay15_apply : k0_pay15 U G (ix2 r l) = head U G r l 896 (by decide) := by
  pointwise [k0_pay15, head, ProjSpec.headNorm]

theorem pay18_apply : k0_pay18 U G (ix2 r l) = head U G r l 0 (by decide) := by
  pointwise [k0_pay18, head, ProjSpec.headNorm]

theorem pay19_apply : k0_pay19 U G (ix2 r l) = head U G r l 128 (by decide) := by
  pointwise [k0_pay19, head, ProjSpec.headNorm]

theorem pay20_apply : k0_pay20 U G (ix2 r l) = head U G r l 256 (by decide) := by
  pointwise [k0_pay20, head, ProjSpec.headNorm]

theorem pay21_apply : k0_pay21 U G (ix2 r l) = head U G r l 384 (by decide) := by
  pointwise [k0_pay21, head, ProjSpec.headNorm]

theorem pay22_apply : k0_pay22 U G (ix2 r l) = head U G r l 512 (by decide) := by
  pointwise [k0_pay22, head, ProjSpec.headNorm]

theorem pay26_apply : k0_pay26 U G (ix2 r l) = head U G r l 768 (by decide) := by
  pointwise [k0_pay26, head, ProjSpec.headNorm]

theorem pay27_apply : k0_pay27 U G (ix2 r l) = head U G r l 896 (by decide) := by
  pointwise [k0_pay27, head, ProjSpec.headNorm]

theorem pay30_apply : k0_pay30 U G (ix2 r l) = head U G r l 0 (by decide) := by
  pointwise [k0_pay30, head, ProjSpec.headNorm]

theorem pay31_apply : k0_pay31 U G (ix2 r l) = head U G r l 128 (by decide) := by
  pointwise [k0_pay31, head, ProjSpec.headNorm]

theorem pay32_apply : k0_pay32 U G (ix2 r l) = head U G r l 256 (by decide) := by
  pointwise [k0_pay32, head, ProjSpec.headNorm]

theorem pay33_apply : k0_pay33 U G (ix2 r l) = head U G r l 384 (by decide) := by
  pointwise [k0_pay33, head, ProjSpec.headNorm]

theorem pay34_apply : k0_pay34 U G (ix2 r l) = head U G r l 512 (by decide) := by
  pointwise [k0_pay34, head, ProjSpec.headNorm]

theorem pay25_apply : k0_pay25 (k0_pay23 U) (k0_pay24 G) (ix2 r l) = head U G r l 640 (by decide) := by
  pointwise [k0_pay25, k0_pay23, k0_pay24, head, ProjSpec.headNorm]

theorem pay8_apply : k0_pay8 (k0_pay35 U) (k0_pay36 G) (ix2 r l) = head U G r l 640 (by decide) := by
  pointwise [k0_pay8, k0_pay35, k0_pay36, head, ProjSpec.headNorm]

theorem pay4_apply : k0_pay4 G (k0_pay16 U) (k0_pay17 U) (ix2 r l) = head U G r l 1024 (by decide) := by
  pointwise [k0_pay4, k0_pay16, k0_pay17, k0_pay3, head, ProjSpec.headNorm]

theorem pay6_apply : k0_pay6 G (k0_pay28 U) (k0_pay29 U) (ix2 r l) = head U G r l 1024 (by decide) := by
  pointwise [k0_pay6, k0_pay28, k0_pay29, k0_pay3, head, ProjSpec.headNorm]

theorem pay5_apply (h : Vec Ideal S128x4096 .bf16) (w : Vec Ideal S4096x1280 .bf16) :
    k0_pay5 h w G (ix2 r l) = head (k0_pay2 h w) G r l 1152 (by decide) := by
  pointwise [k0_pay5, head, ProjSpec.headNorm, k0_pay3]

theorem pay7_apply (h : Vec Ideal S128x4096 .bf16) (w : Vec Ideal S4096x1280 .bf16) :
    k0_pay7 h w G (ix2 r l) = head (k0_pay2 h w) G r l 1152 (by decide) := by
  pointwise [k0_pay7, head, ProjSpec.headNorm, k0_pay3]

theorem pay11_apply (h : Vec Ideal S128x4096 .bf16) (w : Vec Ideal S4096x1280 .bf16) :
    k0_pay11 h w G (ix2 r l) = head (k0_pay2 h w) G r l 1024 (by decide) := by
  pointwise [k0_pay11, head, ProjSpec.headNorm, k0_pay3]

/-- The columns stored as they are. -/
theorem pay13_apply (l : Fin 768) : k0_pay13 U (ix2 r l) = U (ix2 r ⟨l.val, by have := l.isLt; omega⟩) := by
  pointwise [k0_pay13]

theorem pay9_apply (h : Vec Ideal S128x4096 .bf16) (w : Vec Ideal S4096x1280 .bf16) (l : Fin 512) :
    k0_pay9 h w (ix2 r l) = k0_pay2 h w (ix2 r ⟨768 + l.val, by have := l.isLt; omega⟩) := by
  pointwise [k0_pay9]

theorem pay10_apply (h : Vec Ideal S128x4096 .bf16) (w : Vec Ideal S4096x1280 .bf16) (l : Fin 1024) :
    k0_pay10 h w (ix2 r l) = k0_pay2 h w (ix2 r ⟨l.val, by have := l.isLt; omega⟩) := by
  pointwise [k0_pay10]

theorem pay12_apply (h : Vec Ideal S128x4096 .bf16) (w : Vec Ideal S4096x1280 .bf16) (l : Fin 128) :
    k0_pay12 h w (ix2 r l) = k0_pay2 h w (ix2 r ⟨1152 + l.val, by have := l.isLt; omega⟩) := by
  pointwise [k0_pay12]

end Cert.ProjSample
end
-- ==== Proof.ProjSampleCases.lean ====
/- What one grid point of the input projection leaves in its output tile and its scratch, case by case. -/
module

public import proofs.«01_k».proof.Proof.ProjSamplePay
public import Idealize.ShloMosaic.Lib.Pipeline.ValueKit.Tiles

@[expose] public section

set_option maxRecDepth 16384

noncomputable section

namespace Cert.ProjSample

open Idealize.ShloMosaic Idealize.ShloMosaic.TcCoe Idealize.SL.Sem Cert.Kernel4Ideal Ideal Cert.Kernel4Ideal.Gen

theorem z2 : (![0, 0] : Fin 2 → ℕ) = fun _ => 0 := by
  funext a
  match a with
  | ⟨0, _⟩ => rfl
  | ⟨1, _⟩ => rfl

/-- The columns of one row of the tile. -/
def tile (b0 : ℕ) (U : FVec Ideal S128x1280 .f32) (G : FVec Ideal S1x1280 .f32) (i : S128x1280.Idx) : EReal :=
  ProjSpec.tileOut b0 (fun k => U (ix2 (i 0 : Fin 128) k)) (fun k => G (ix2 0 k)) (i 1 : Fin 1280)

theorem ix_eq (y : S128x1280.Idx) (r : Fin 128) (k : Fin 1280) (h0 : (y 0).val = r.val) (h1 : (y 1).val = k.val) :
    y = ix2 r k := by
  funext a
  match a with
  | ⟨0, _⟩ => exact Fin.ext h0
  | ⟨1, _⟩ => exact Fin.ext h1

/-- A stored head is the tile's. -/
theorem piece_head (b0 b : ℕ) (hb : b < 10) (hn : ProjSpec.normed (b0 + b) = true) (h : b * 128 + 128 ≤ 1280)
    (U : FVec Ideal S128x1280 .f32) (G : FVec Ideal S1x1280 .f32) (p : FVec Ideal S128x128 .f32)
    (hp : ∀ r l, p (ix2 r l) = head U G r l (b * 128) h) (x : S128x128.Idx) (y : S128x1280.Idx)
    (h0 : (y 0).val = (x 0).val) (h1 : (y 1).val = b * 128 + (x 1).val) : p x = tile b0 U G y := by
  have hx1 : (x 1).val < 128 := (x 1).isLt
  have hx : x = ix2 (x 0) (x 1) := eq_ix2 x
  rw [ix_eq y (x 0) ⟨b * 128 + (x 1).val, by omega⟩ h0 h1]
  refine (congrArg p hx).trans ((hp (x 0) (x 1)).trans ?_)
  exact (ProjSpec.tileOut_head b0 (fun k => U (ix2 (x 0) k)) (fun k => G (ix2 0 k)) b hb hn (x 1) h).symm

theorem normed_false (b : ℕ) (h : b < 16 ∨ (36 ≤ b ∧ b ≠ 48)) : ProjSpec.normed b = false := by
  unfold ProjSpec.normed
  simp only [Bool.or_eq_false_iff, Bool.and_eq_false_iff, decide_eq_false_iff_not]
  omega

/-- Columns stored as they are. -/
theorem piece_plain (b0 o n : ℕ) (h : o + n ≤ 1280) (hn : ∀ l < n, b0 + (o + l) / 128 < 16 ∨ (36 ≤ b0 + (o + l) / 128 ∧ b0 + (o + l) / 128 ≠ 48))
    (U : FVec Ideal S128x1280 .f32) (G : FVec Ideal S1x1280 .f32) (p : (⟨2, ![128, n]⟩ : Shape).Idx → EReal)
    (hp : ∀ (r : Fin 128) (l : Fin n), p (ix2 r l) = U (ix2 r ⟨o + l.val, by have := l.isLt; omega⟩)) (x : (⟨2, ![128, n]⟩ : Shape).Idx) (y : S128x1280.Idx)
    (h0 : (y 0).val = (x 0).val) (h1 : (y 1).val = o + (x 1).val) : p x = tile b0 U G y := by
  have hx1 : (x 1).val < n := (x 1).isLt
  have hx : x = ix2 (x 0) (x 1) := eq_ix2 x
  rw [ix_eq y (x 0) ⟨o + (x 1).val, by omega⟩ h0 h1]
  refine (congrArg p hx).trans ((hp (x 0) (x 1)).trans ?_)
  exact (ProjSpec.tileOut_plain b0 (fun k => U (ix2 (x 0) k)) (fun k => G (ix2 0 k)) ⟨o + (x 1).val, by omega⟩
    (normed_false _ (hn _ hx1))).symm

theorem at0 {n : ℕ} (h : n ≤ 1280) (U : FVec Ideal S128x1280 .f32) (r : Fin 128) (l : Fin n) :
    U (ix2 r ⟨l.val, by have := l.isLt; omega⟩) = U (ix2 r ⟨0 + l.val, by have := l.isLt; omega⟩) :=
  congrArg (fun k : Fin 1280 => U (ix2 r k)) (Fin.ext (Nat.zero_add _).symm)

/-- A column block of the tile. -/
theorem mem_cols (o n : ℕ) (inb : ∀ a, (![0, o] : Fin 2 → ℕ) a + (![128, n] : Fin 2 → ℕ) a ≤ S128x1280.size a)
    (y : S128x1280.Idx) (hl : o ≤ (y 1).val) (hh : (y 1).val < o + n) :
    y ∈ (Rect.unit (s := S128x1280) ![0, o] ![128, n] inb).set := by
  rw [Rect.mem_set_unit]
  intro a
  match a with
  | ⟨0, _⟩ => exact ⟨Nat.zero_le _, by have h : (y 0).val < 128 := (y 0).isLt; show (y 0).val < 0 + 128; omega⟩
  | ⟨1, _⟩ => exact ⟨hl, hh⟩

variable (c : Dev nD) (i : grid0.Coords) (arg2 : Memref sig .tc .vmem S128x4096 .f32) (harg2 : arg2.IsWhole) (arg3 : Memref sig .tc .vmem S1x4096 .f32) (harg3 : arg3.IsWhole) (arg4 : Memref sig .tc .vmem S4096x1280 .bf16) (harg4 : arg4.IsWhole) (arg5 : Memref sig .tc .vmem S1x1280 .f32) (harg5 : arg5.IsWhole) (arg6 : Memref sig .tc .vmem S128x1280 .f32) (harg6 : arg6.IsWhole) (arg7 : Memref sig .tc .vmem S128x4096 .bf16) (harg7 : arg7.IsWhole)
  (x0 : Vec Ideal S128x4096 .f32) (x1 : Vec Ideal S1x4096 .f32) (x2 : Vec Ideal S4096x1280 .bf16) (x3 : Vec Ideal S1x1280 .f32) (xs0 : Vec Ideal S128x4096 .bf16)

/-- At the first tile: the tile of the plain columns. -/
theorem out_A (hc0 : cond0_0 i) (hc1 : cond0_1 i) (hc2 : ¬cond0_2 i) (hc3 : ¬cond0_3 i) (hc4 : ¬cond0_4 i) (hc5 : ¬cond0_5 i) :
    out0_A_4 c i arg2 harg2 arg3 harg3 arg4 harg4 arg5 harg5 arg6 harg6 arg7 harg7 hc0 hc1 hc2 hc3 hc4 hc5 x0 x1 x2 x3 = tile 0 (k0_pay2 (k0_pay1 x0 x1) x2) x3 := by
  unfold out0_A_4
  rw [View.read_writes_eq_canon _ _ _ (cover0_A_4 c i arg2 harg2 arg3 harg3 arg4 harg4 arg5 harg5 arg6 harg6 arg7 harg7 hc0 hc1 hc2 hc3 hc4 hc5 x0 x1 x2 x3)]
  unfold kernelRun0_A
  dsimp only
  sl_unfold_words
  rw [View.canon_unit_zero z2, View.readCov_unit_zero (S := S128x4096) _ z2]
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]
  funext y
  exact piece_plain 0 0 1280 (by decide) (fun l hl => Or.inl (by omega)) _ x3 _ (fun r l => at0 (by decide) _ r l) y y rfl (Nat.zero_add _).symm

/-- At the first tile the body stores the normalised rows in the scratch. -/
theorem scratch_A (hc0 : cond0_0 i) (hc1 : cond0_1 i) (hc2 : ¬cond0_2 i) (hc3 : ¬cond0_3 i) (hc4 : ¬cond0_4 i) (hc5 : ¬cond0_5 i) :
    sout0_A_0 c i arg2 harg2 arg3 harg3 arg4 harg4 arg5 harg5 arg6 harg6 arg7 harg7 hc0 hc1 hc2 hc3 hc4 hc5 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 hc1 hc2 hc3 hc4 hc5 x0 x1 x2 x3)]
  unfold kernelRun0_A
  dsimp only
  sl_unfold_words
  rw [View.canon_unit_zero z2]
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]

/-- At tile 1: the tile of the product of the carried rows. -/
theorem out_B (hc0 : ¬cond0_0 i) (hc1 : ¬cond0_1 i) (hc2 : cond0_2 i) (hc3 : ¬cond0_3 i) (hc4 : ¬cond0_4 i) (hc5 : ¬cond0_5 i) :
    out0_B_4 c i arg2 harg2 arg3 harg3 arg4 harg4 arg5 harg5 arg6 harg6 arg7 harg7 hc0 hc1 hc2 hc3 hc4 hc5 x0 x1 x2 x3 xs0 = tile 10 (k0_pay2 xs0 x2) x3 := by
  unfold out0_B_4
  rw [View.read_writes_eq_canon _ _ _ (cover0_B_4 c i arg2 harg2 arg3 harg3 arg4 harg4 arg5 harg5 arg6 harg6 arg7 harg7 hc0 hc1 hc2 hc3 hc4 hc5 x0 x1 x2 x3 xs0)]
  unfold kernelRun0_B
  dsimp only
  sl_unfold_words
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 10 (k0_pay2 xs0 x2) x3) _ ?_ y ?_
  · intro p hp
    simp only [List.mem_cons, List.mem_nil_iff, or_false] at hp
    rcases hp with rfl | rfl | rfl | rfl | rfl
    · exact fun x => piece_head 10 9 (by decide) (by decide) (by decide) _ x3 _ (fun r l => pay5_apply x3 r l xs0 x2) x _ (show 0 + 1 * (x 0).val = (x 0).val by omega) (show 1152 + 1 * (x 1).val = 9 * 128 + (x 1).val by omega)
    · exact fun x => piece_head 10 8 (by decide) (by decide) (by decide) _ x3 _ (pay4_apply (k0_pay2 xs0 x2) x3) x _ (show 0 + 1 * (x 0).val = (x 0).val by omega) (show 1024 + 1 * (x 1).val = 8 * 128 + (x 1).val by omega)
    · exact fun x => piece_head 10 7 (by decide) (by decide) (by decide) _ x3 _ (pay15_apply (k0_pay2 xs0 x2) x3) x _ (show 0 + 1 * (x 0).val = (x 0).val by omega) (show 896 + 1 * (x 1).val = 7 * 128 + (x 1).val by omega)
    · exact fun x => piece_head 10 6 (by decide) (by decide) (by decide) _ x3 _ (pay14_apply (k0_pay2 xs0 x2) x3) x _ (show 0 + 1 * (x 0).val = (x 0).val by omega) (show 768 + 1 * (x 1).val = 6 * 128 + (x 1).val by omega)
    · exact fun x => piece_plain 10 0 768 (by decide) (fun l hl => Or.inl (by omega)) _ x3 _ (fun r l => (pay13_apply (k0_pay2 xs0 x2) r l).trans (at0 (by decide) (k0_pay2 xs0 x2) r l)) x _ (show 0 + 1 * (x 0).val = (x 0).val by omega) (show 0 + 1 * (x 1).val = 0 + (x 1).val by omega)
  · rcases (by omega : (0 ≤ (y 1).val ∧ (y 1).val < 0 + 768) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128)) with h | h | h | h | h
    · exact ⟨_, List.Mem.tail _ (List.Mem.tail _ (List.Mem.tail _ (List.Mem.tail _ (List.Mem.head _)))), mem_cols 0 768 inb_S128x1280_S128x768_0_0 y h.1 h.2⟩
    · exact ⟨_, List.Mem.tail _ (List.Mem.tail _ (List.Mem.tail _ (List.Mem.head _))), mem_cols 768 128 inb_S128x1280_S128x128_0_768 y h.1 h.2⟩
    · exact ⟨_, List.Mem.tail _ (List.Mem.tail _ (List.Mem.head _)), mem_cols 896 128 inb_S128x1280_S128x128_0_896 y h.1 h.2⟩
    · exact ⟨_, List.Mem.tail _ (List.Mem.head _), mem_cols 1024 128 inb_S128x1280_S128x128_0_1024 y h.1 h.2⟩
    · exact ⟨_, List.Mem.head _, mem_cols 1152 128 inb_S128x1280_S128x128_0_1152 y h.1 h.2⟩

/-- At tile 2: the tile of the product of the carried rows. -/
theorem out_C (hc0 : ¬cond0_0 i) (hc1 : ¬cond0_1 i) (hc2 : ¬cond0_2 i) (hc3 : cond0_3 i) (hc4 : ¬cond0_4 i) (hc5 : ¬cond0_5 i) :
    out0_C_4 c i arg2 harg2 arg3 harg3 arg4 harg4 arg5 harg5 arg6 harg6 arg7 harg7 hc0 hc1 hc2 hc3 hc4 hc5 x0 x1 x2 x3 xs0 = tile 20 (k0_pay2 xs0 x2) x3 := by
  unfold out0_C_4
  rw [View.read_writes_eq_canon _ _ _ (cover0_C_4 c i arg2 harg2 arg3 harg3 arg4 harg4 arg5 harg5 arg6 harg6 arg7 harg7 hc0 hc1 hc2 hc3 hc4 hc5 x0 x1 x2 x3 xs0)]
  unfold kernelRun0_C
  dsimp only
  sl_unfold_words
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 20 (k0_pay2 xs0 x2) x3) _ ?_ y ?_
  · intro p hp
    simp only [List.mem_cons, List.mem_nil_iff, or_false] at hp
    rcases hp with rfl | rfl | rfl | rfl | rfl | rfl | rfl | rfl | rfl | rfl
    · exact fun x => piece_head 20 9 (by decide) (by decide) (by decide) _ x3 _ (fun r l => pay7_apply x3 r l xs0 x2) x _ (show 0 + 1 * (x 0).val = (x 0).val by omega) (show 1152 + 1 * (x 1).val = 9 * 128 + (x 1).val by omega)
    · exact fun x => piece_head 20 8 (by decide) (by decide) (by decide) _ x3 _ (pay6_apply (k0_pay2 xs0 x2) x3) x _ (show 0 + 1 * (x 0).val = (x 0).val by omega) (show 1024 + 1 * (x 1).val = 8 * 128 + (x 1).val by omega)
    · exact fun x => piece_head 20 7 (by decide) (by decide) (by decide) _ x3 _ (pay27_apply (k0_pay2 xs0 x2) x3) x _ (show 0 + 1 * (x 0).val = (x 0).val by omega) (show 896 + 1 * (x 1).val = 7 * 128 + (x 1).val by omega)
    · exact fun x => piece_head 20 6 (by decide) (by decide) (by decide) _ x3 _ (pay26_apply (k0_pay2 xs0 x2) x3) x _ (show 0 + 1 * (x 0).val = (x 0).val by omega) (show 768 + 1 * (x 1).val = 6 * 128 + (x 1).val by omega)
    · exact fun x => piece_head 20 5 (by decide) (by decide) (by decide) _ x3 _ (pay25_apply (k0_pay2 xs0 x2) x3) x _ (show 0 + 1 * (x 0).val = (x 0).val by omega) (show 640 + 1 * (x 1).val = 5 * 128 + (x 1).val by omega)
    · exact fun x => piece_head 20 4 (by decide) (by decide) (by decide) _ x3 _ (pay22_apply (k0_pay2 xs0 x2) x3) x _ (show 0 + 1 * (x 0).val = (x 0).val by omega) (show 512 + 1 * (x 1).val = 4 * 128 + (x 1).val by omega)
    · exact fun x => piece_head 20 3 (by decide) (by decide) (by decide) _ x3 _ (pay21_apply (k0_pay2 xs0 x2) x3) x _ (show 0 + 1 * (x 0).val = (x 0).val by omega) (show 384 + 1 * (x 1).val = 3 * 128 + (x 1).val by omega)
    · exact fun x => piece_head 20 2 (by decide) (by decide) (by decide) _ x3 _ (pay20_apply (k0_pay2 xs0 x2) x3) x _ (show 0 + 1 * (x 0).val = (x 0).val by omega) (show 256 + 1 * (x 1).val = 2 * 128 + (x 1).val by omega)
    · exact fun x => piece_head 20 1 (by decide) (by decide) (by decide) _ x3 _ (pay19_apply (k0_pay2 xs0 x2) x3) x _ (show 0 + 1 * (x 0).val = (x 0).val by omega) (show 128 + 1 * (x 1).val = 1 * 128 + (x 1).val by omega)
    · exact fun x => piece_head 20 0 (by decide) (by decide) (by decide) _ x3 _ (pay18_apply (k0_pay2 xs0 x2) x3) x _ (show 0 + 1 * (x 0).val = (x 0).val by omega) (show 0 + 1 * (x 1).val = 0 * 128 + (x 1).val by omega)
  · rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128)) with h | h | h | h | h | h | h | h | h | h
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_cols 0 128 inb_S128x1280_S128x128_0_0 y h.1 h.2⟩
    · exact ⟨_, List.Mem.tail _ (List.Mem.tail _ (List.Mem.tail _ (List.Mem.tail _ (List.Mem.tail _ (List.Mem.tail _ (List.Mem.tail _ (List.Mem.tail _ (List.Mem.head _)))))))), mem_cols 128 128 inb_S128x1280_S128x128_0_128 y h.1 h.2⟩
    · exact ⟨_, List.Mem.tail _ (List.Mem.tail _ (List.Mem.tail _ (List.Mem.tail _ (List.Mem.tail _ (List.Mem.tail _ (List.Mem.tail _ (List.Mem.head _))))))), mem_cols 256 128 inb_S128x1280_S128x128_0_256 y h.1 h.2⟩
    · exact ⟨_, List.Mem.tail _ (List.Mem.tail _ (List.Mem.tail _ (List.Mem.tail _ (List.Mem.tail _ (List.Mem.tail _ (List.Mem.head _)))))), mem_cols 384 128 inb_S128x1280_S128x128_0_384 y h.1 h.2⟩
    · exact ⟨_, List.Mem.tail _ (List.Mem.tail _ (List.Mem.tail _ (List.Mem.tail _ (List.Mem.tail _ (List.Mem.head _))))), mem_cols 512 128 inb_S128x1280_S128x128_0_512 y h.1 h.2⟩
    · exact ⟨_, List.Mem.tail _ (List.Mem.tail _ (List.Mem.tail _ (List.Mem.tail _ (List.Mem.head _)))), mem_cols 640 128 inb_S128x1280_S128x128_0_640 y h.1 h.2⟩
    · exact ⟨_, List.Mem.tail _ (List.Mem.tail _ (List.Mem.tail _ (List.Mem.head _))), mem_cols 768 128 inb_S128x1280_S128x128_0_768 y h.1 h.2⟩
    · exact ⟨_, List.Mem.tail _ (List.Mem.tail _ (List.Mem.head _)), mem_cols 896 128 inb_S128x1280_S128x128_0_896 y h.1 h.2⟩
    · exact ⟨_, List.Mem.tail _ (List.Mem.head _), mem_cols 1024 128 inb_S128x1280_S128x128_0_1024 y h.1 h.2⟩
    · exact ⟨_, List.Mem.head _, mem_cols 1152 128 inb_S128x1280_S128x128_0_1152 y h.1 h.2⟩

/-- At tile 3: the tile of the product of the carried rows. -/
theorem out_D (hc0 : ¬cond0_0 i) (hc1 : ¬cond0_1 i) (hc2 : ¬cond0_2 i) (hc3 : ¬cond0_3 i) (hc4 : cond0_4 i) (hc5 : ¬cond0_5 i) :
    out0_D_4 c i arg2 harg2 arg3 harg3 arg4 harg4 arg5 harg5 arg6 harg6 arg7 harg7 hc0 hc1 hc2 hc3 hc4 hc5 x0 x1 x2 x3 xs0 = tile 30 (k0_pay2 xs0 x2) x3 := by
  unfold out0_D_4
  rw [View.read_writes_eq_canon _ _ _ (cover0_D_4 c i arg2 harg2 arg3 harg3 arg4 harg4 arg5 harg5 arg6 harg6 arg7 harg7 hc0 hc1 hc2 hc3 hc4 hc5 x0 x1 x2 x3 xs0)]
  unfold kernelRun0_D
  dsimp only
  sl_unfold_words
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 30 (k0_pay2 xs0 x2) x3) _ ?_ y ?_
  · intro p hp
    simp only [List.mem_cons, List.mem_nil_iff, or_false] at hp
    rcases hp with rfl | rfl | rfl | rfl | rfl | rfl | rfl
    · exact fun x => piece_plain 30 768 512 (by decide) (fun l hl => Or.inr (by omega)) _ x3 _ (fun r l => pay9_apply r xs0 x2 l) x _ (show 0 + 1 * (x 0).val = (x 0).val by omega) (show 768 + 1 * (x 1).val = 768 + (x 1).val by omega)
    · exact fun x => piece_head 30 5 (by decide) (by decide) (by decide) _ x3 _ (pay8_apply (k0_pay2 xs0 x2) x3) x _ (show 0 + 1 * (x 0).val = (x 0).val by omega) (show 640 + 1 * (x 1).val = 5 * 128 + (x 1).val by omega)
    · exact fun x => piece_head 30 4 (by decide) (by decide) (by decide) _ x3 _ (pay34_apply (k0_pay2 xs0 x2) x3) x _ (show 0 + 1 * (x 0).val = (x 0).val by omega) (show 512 + 1 * (x 1).val = 4 * 128 + (x 1).val by omega)
    · exact fun x => piece_head 30 3 (by decide) (by decide) (by decide) _ x3 _ (pay33_apply (k0_pay2 xs0 x2) x3) x _ (show 0 + 1 * (x 0).val = (x 0).val by omega) (show 384 + 1 * (x 1).val = 3 * 128 + (x 1).val by omega)
    · exact fun x => piece_head 30 2 (by decide) (by decide) (by decide) _ x3 _ (pay32_apply (k0_pay2 xs0 x2) x3) x _ (show 0 + 1 * (x 0).val = (x 0).val by omega) (show 256 + 1 * (x 1).val = 2 * 128 + (x 1).val by omega)
    · exact fun x => piece_head 30 1 (by decide) (by decide) (by decide) _ x3 _ (pay31_apply (k0_pay2 xs0 x2) x3) x _ (show 0 + 1 * (x 0).val = (x 0).val by omega) (show 128 + 1 * (x 1).val = 1 * 128 + (x 1).val by omega)
    · exact fun x => piece_head 30 0 (by decide) (by decide) (by decide) _ x3 _ (pay30_apply (k0_pay2 xs0 x2) x3) x _ (show 0 + 1 * (x 0).val = (x 0).val by omega) (show 0 + 1 * (x 1).val = 0 * 128 + (x 1).val by omega)
  · rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 512)) with h | h | h | h | h | h | h
    · exact ⟨_, List.Mem.tail _ (List.Mem.tail _ (List.Mem.tail _ (List.Mem.tail _ (List.Mem.tail _ (List.Mem.tail _ (List.Mem.head _)))))), mem_cols 0 128 inb_S128x1280_S128x128_0_0 y h.1 h.2⟩
    · exact ⟨_, List.Mem.tail _ (List.Mem.tail _ (List.Mem.tail _ (List.Mem.tail _ (List.Mem.tail _ (List.Mem.head _))))), mem_cols 128 128 inb_S128x1280_S128x128_0_128 y h.1 h.2⟩
    · exact ⟨_, List.Mem.tail _ (List.Mem.tail _ (List.Mem.tail _ (List.Mem.tail _ (List.Mem.head _)))), mem_cols 256 128 inb_S128x1280_S128x128_0_256 y h.1 h.2⟩
    · exact ⟨_, List.Mem.tail _ (List.Mem.tail _ (List.Mem.tail _ (List.Mem.head _))), mem_cols 384 128 inb_S128x1280_S128x128_0_384 y h.1 h.2⟩
    · exact ⟨_, List.Mem.tail _ (List.Mem.tail _ (List.Mem.head _)), mem_cols 512 128 inb_S128x1280_S128x128_0_512 y h.1 h.2⟩
    · exact ⟨_, List.Mem.tail _ (List.Mem.head _), mem_cols 640 128 inb_S128x1280_S128x128_0_640 y h.1 h.2⟩
    · exact ⟨_, List.Mem.head _, mem_cols 768 512 inb_S128x1280_S128x512_0_768 y h.1 h.2⟩

/-- At tile 4: the tile of the product of the carried rows. -/
theorem out_E (hc0 : ¬cond0_0 i) (hc1 : ¬cond0_1 i) (hc2 : ¬cond0_2 i) (hc3 : ¬cond0_3 i) (hc4 : ¬cond0_4 i) (hc5 : cond0_5 i) :
    out0_E_4 c i arg2 harg2 arg3 harg3 arg4 harg4 arg5 harg5 arg6 harg6 arg7 harg7 hc0 hc1 hc2 hc3 hc4 hc5 x0 x1 x2 x3 xs0 = tile 40 (k0_pay2 xs0 x2) x3 := by
  unfold out0_E_4
  rw [View.read_writes_eq_canon _ _ _ (cover0_E_4 c i arg2 harg2 arg3 harg3 arg4 harg4 arg5 harg5 arg6 harg6 arg7 harg7 hc0 hc1 hc2 hc3 hc4 hc5 x0 x1 x2 x3 xs0)]
  unfold kernelRun0_E
  dsimp only
  sl_unfold_words
  simp only [View.readAt_eq_ld, harg2.read_unread, harg3.read_unread, harg4.read_unread, harg5.read_unread, harg6.read_unread, harg7.read_unread, View.ld_unit_zero (S := S128x4096) z2, View.ld_unit_zero (S := S4096x1280) z2, View.ld_unit_zero (S := S1x4096) z2, View.ld_unit_zero (S := S1x1280) z2, pay3_eq]
  funext y
  have hy : (y 1).val < 1280 := (y 1).isLt
  refine View.canon_apply_of_pieces (Val := Elt Ideal) (e := .f32) (tile 40 (k0_pay2 xs0 x2) x3) _ ?_ y ?_
  · intro p hp
    simp only [List.mem_cons, List.mem_nil_iff, or_false] at hp
    rcases hp with rfl | rfl | rfl
    · exact fun x => piece_plain 40 1152 128 (by decide) (fun l hl => Or.inr (by omega)) _ x3 _ (fun r l => pay12_apply r xs0 x2 l) x _ (show 0 + 1 * (x 0).val = (x 0).val by omega) (show 1152 + 1 * (x 1).val = 1152 + (x 1).val by omega)
    · exact fun x => piece_head 40 8 (by decide) (by decide) (by decide) _ x3 _ (fun r l => pay11_apply x3 r l xs0 x2) x _ (show 0 + 1 * (x 0).val = (x 0).val by omega) (show 1024 + 1 * (x 1).val = 8 * 128 + (x 1).val by omega)
    · exact fun x => piece_plain 40 0 1024 (by decide) (fun l hl => Or.inr (by omega)) _ x3 _ (fun r l => (pay10_apply r xs0 x2 l).trans (at0 (by decide) (k0_pay2 xs0 x2) r l)) x _ (show 0 + 1 * (x 0).val = (x 0).val by omega) (show 0 + 1 * (x 1).val = 0 + (x 1).val by omega)
  · rcases (by omega : (0 ≤ (y 1).val ∧ (y 1).val < 0 + 1024) ∨ (1024 ≤ (y 1).val ∧ (y 1).val < 1024 + 128) ∨ (1152 ≤ (y 1).val ∧ (y 1).val < 1152 + 128)) with h | h | h
    · exact ⟨_, List.Mem.tail _ (List.Mem.tail _ (List.Mem.head _)), mem_cols 0 1024 inb_S128x1280_S128x1024_0_0 y h.1 h.2⟩
    · exact ⟨_, List.Mem.tail _ (List.Mem.head _), mem_cols 1024 128 inb_S128x1280_S128x128_0_1024 y h.1 h.2⟩
    · exact ⟨_, List.Mem.head _, mem_cols 1152 128 inb_S128x1280_S128x128_0_1152 y h.1 h.2⟩

theorem scratch_B (hc0 : ¬cond0_0 i) (hc1 : ¬cond0_1 i) (hc2 : cond0_2 i) (hc3 : ¬cond0_3 i) (hc4 : ¬cond0_4 i) (hc5 : ¬cond0_5 i) :
    sout0_B_0 c i arg2 harg2 arg3 harg3 arg4 harg4 arg5 harg5 arg6 harg6 arg7 harg7 hc0 hc1 hc2 hc3 hc4 hc5 x0 x1 x2 x3 xs0 = xs0 := by
  unfold sout0_B_0
  rfl

theorem scratch_C (hc0 : ¬cond0_0 i) (hc1 : ¬cond0_1 i) (hc2 : ¬cond0_2 i) (hc3 : cond0_3 i) (hc4 : ¬cond0_4 i) (hc5 : ¬cond0_5 i) :
    sout0_C_0 c i arg2 harg2 arg3 harg3 arg4 harg4 arg5 harg5 arg6 harg6 arg7 harg7 hc0 hc1 hc2 hc3 hc4 hc5 x0 x1 x2 x3 xs0 = xs0 := by
  unfold sout0_C_0
  rfl

theorem scratch_D (hc0 : ¬cond0_0 i) (hc1 : ¬cond0_1 i) (hc2 : ¬cond0_2 i) (hc3 : ¬cond0_3 i) (hc4 : cond0_4 i) (hc5 : ¬cond0_5 i) :
    sout0_D_0 c i arg2 harg2 arg3 harg3 arg4 harg4 arg5 harg5 arg6 harg6 arg7 harg7 hc0 hc1 hc2 hc3 hc4 hc5 x0 x1 x2 x3 xs0 = xs0 := by
  unfold sout0_D_0
  rfl

theorem scratch_E (hc0 : ¬cond0_0 i) (hc1 : ¬cond0_1 i) (hc2 : ¬cond0_2 i) (hc3 : ¬cond0_3 i) (hc4 : ¬cond0_4 i) (hc5 : cond0_5 i) :
    sout0_E_0 c i arg2 harg2 arg3 harg3 arg4 harg4 arg5 harg5 arg6 harg6 arg7 harg7 hc0 hc1 hc2 hc3 hc4 hc5 x0 x1 x2 x3 xs0 = xs0 := by
  unfold sout0_E_0
  rfl

end Cert.ProjSample
end
-- ==== Proof.ProjSampleKer.lean ====
/- The input projection, sample rows: the array the kernel leaves, read at one element. -/
module

public import proofs.«01_k».proof.Proof.ProjSampleCases

@[expose] public section

set_option maxRecDepth 16384

noncomputable section

namespace Cert.ProjSample

open Idealize.ShloMosaic Idealize.ShloMosaic.TcCoe Idealize.SL.Sem Cert.Kernel4Ideal Ideal Cert.Kernel4Ideal.Gen

variable (m : (ℓ : Loc nD τ sig) → Buf (Elt Ideal) ℓ)

/-- The block numbers of the windows: the row block is `t / 5`, the column block `t % 5`. -/
theorem blockNo : ∀ t : Fin cfg0.N,
    win0_0.index t (0 : Fin 2) = t.val / 5 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 5
    ∧ win0_3.index t (0 : Fin 2) = 0 ∧ win0_3.index t (1 : Fin 2) = t.val % 5
    ∧ win0_4.index t (0 : Fin 2) = t.val / 5 ∧ win0_4.index t (1 : Fin 2) = t.val % 5 := by
  decide +kernel

theorem lt_points (t : Fin cfg0.N) : t.val < 5 := lt_of_lt_of_eq t.isLt (show cfg0.N = 5 from N_0)

/-- Row `r` of row block `n / 5`, and column `k` of column block `n % 5`, in the whole array. -/
def row (n : ℕ) (hn : n < 5) (r : Fin 128) : Fin 128 := ⟨n / 5 * 128 + r.val, by have := r.isLt; omega⟩
def col (n : ℕ) (k : Fin 1280) : Fin 6400 := ⟨n % 5 * 1280 + k.val, by have := k.isLt; omega⟩

/-- The weights, the gains and the norm's gains, as the kernel receives them. -/
def weightArr (c : Dev nD) : S4096x6400.Idx → EReal := V m c main_v1
def gainArr (c : Dev nD) : S1x6400.Idx → EReal := V m c main_v12
def mixArr (c : Dev nD) : S1x4096.Idx → EReal := V m c main_v13

theorem iblk0_apply (c : Dev nD) (t : Fin cfg0.N) (r : Fin 128) (k : Fin 4096) :
    (iblk m c 0 t : Vec Ideal S128x4096 .f32) (ix2 r k) = m ((c : Thread nD τ).loc main_arg0) (ix2 (row t.val (lt_points t) r) k) := by
  unfold iblk
  rw [View.read_apply]
  show V m c main_arg0 _ = _
  rw [V_main_arg0]
  congr 1
  funext a
  apply Fin.ext
  obtain ⟨h0, h1, -⟩ := blockNo t
  match a with
  | ⟨0, _⟩ => show win0_0.index t (0 : Fin 2) * 128 + 1 * r.val = t.val / 5 * 128 + r.val; omega
  | ⟨1, _⟩ => show win0_0.index t (1 : Fin 2) * 4096 + 1 * k.val = k.val; omega

theorem iblk1_apply (c : Dev nD) (t : Fin cfg0.N) (k : Fin 4096) :
    (iblk m c 1 t : Vec Ideal S1x4096 .f32) (ix2 0 k) = mixArr m c (ix2 0 k) := by
  unfold iblk
  rw [View.read_apply]
  show mixArr m c _ = _
  congr 1
  funext a
  apply Fin.ext
  obtain ⟨-, -, h0, h1, -⟩ := blockNo t
  match a with
  | ⟨0, _⟩ => show win0_1.index t (0 : Fin 2) * 1 + 1 * 0 = 0; omega
  | ⟨1, _⟩ => show win0_1.index t (1 : Fin 2) * 4096 + 1 * k.val = k.val; omega

theorem iblk2_apply (c : Dev nD) (t : Fin cfg0.N) (k : Fin 4096) (n : Fin 1280) :
    (iblk m c 2 t : Vec Ideal S4096x1280 .bf16) (ix2 k n) = weightArr m c (ix2 k (col t.val n)) := by
  unfold iblk
  rw [View.read_apply]
  show weightArr m c _ = _
  congr 1
  funext a
  apply Fin.ext
  obtain ⟨-, -, -, -, h0, h1, -⟩ := blockNo t
  match a with
  | ⟨0, _⟩ => show win0_2.index t (0 : Fin 2) * 4096 + 1 * k.val = k.val; omega
  | ⟨1, _⟩ => show win0_2.index t (1 : Fin 2) * 1280 + 1 * n.val = t.val % 5 * 1280 + n.val; omega

theorem iblk3_apply (c : Dev nD) (t : Fin cfg0.N) (n : Fin 1280) :
    (iblk m c 3 t : Vec Ideal S1x1280 .f32) (ix2 0 n) = gainArr m c (ix2 0 (col t.val n)) := by
  unfold iblk
  rw [View.read_apply]
  show gainArr m c _ = _
  congr 1
  funext a
  apply Fin.ext
  obtain ⟨-, -, -, -, -, -, h0, h1, -⟩ := blockNo t
  match a with
  | ⟨0, _⟩ => show win0_3.index t (0 : Fin 2) * 1 + 1 * 0 = 0; omega
  | ⟨1, _⟩ => show win0_3.index t (1 : Fin 2) * 1280 + 1 * n.val = t.val % 5 * 1280 + n.val; omega

/-- The normalised rows of the row block of point `n`. -/
def hid (c : Dev nD) (n : ℕ) (hn : n < 5) (r : Fin 128) (k : Fin 4096) : EReal :=
  FfnSpec.norm (fun l => m ((c : Thread nD τ).loc main_arg0) (ix2 (row n hn r) l)) (fun l => mixArr m c (ix2 0 l)) k

theorem step_A (c : Dev nD) (t : Fin cfg0.N) (h : t.val % 5 = 0) :
    (outsAt0 m c t.val t.isLt).1 = tile 0 (k0_pay2 (k0_pay1 (iblk m c 0 t) (iblk m c 1 t)) (iblk m c 2 t)) (iblk m c 3 t)
    ∧ (outsAt0 m c t.val t.isLt).2 = k0_pay1 (iblk m c 0 t) (iblk m c 1 t) := by
  rw [outsAt0_A m c t (by omega) (by omega) (by omega) (by omega) (by omega) (by omega)]
  dsimp only
  exact ⟨out_A .., scratch_A ..⟩

theorem step_B (c : Dev nD) (t : Fin cfg0.N) (h : t.val % 5 = 1) :
    (outsAt0 m c t.val t.isLt).1 = tile 10 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_B m c t (by omega) (by omega) (by omega) (by omega) (by omega) (by omega)]
  dsimp only
  exact ⟨out_B .., scratch_B ..⟩

theorem step_C (c : Dev nD) (t : Fin cfg0.N) (h : t.val % 5 = 2) :
    (outsAt0 m c t.val t.isLt).1 = tile 20 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_C m c t (by omega) (by omega) (by omega) (by omega) (by omega) (by omega)]
  dsimp only
  exact ⟨out_C .., scratch_C ..⟩

theorem step_D (c : Dev nD) (t : Fin cfg0.N) (h : t.val % 5 = 3) :
    (outsAt0 m c t.val t.isLt).1 = tile 30 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_D m c t (by omega) (by omega) (by omega) (by omega) (by omega) (by omega)]
  dsimp only
  exact ⟨out_D .., scratch_D ..⟩

theorem step_E (c : Dev nD) (t : Fin cfg0.N) (h : t.val % 5 = 4) :
    (outsAt0 m c t.val t.isLt).1 = tile 40 (k0_pay2 ((outsAt0 m c (t.val - 1) (Nat.lt_of_le_of_lt (Nat.sub_le _ _) t.isLt)).2) (iblk m c 2 t)) (iblk m c 3 t)
    ∧ (outsAt0 m c t.val t.isLt).2 = (outsAt0 m c (t.val - 1) (Nat.lt_of_le_of_lt (Nat.sub_le _ _) t.isLt)).2 := by
  rw [outsAt0_E m c t (by omega) (by omega) (by omega) (by omega) (by omega) (by omega)]
  dsimp only
  exact ⟨out_E .., scratch_E ..⟩

/-- The scratch holds the normalised rows of the point's row block. -/
theorem scratch_eq (c : Dev nD) : ∀ (n : ℕ) (hn : n < cfg0.N) (r : Fin 128) (k : Fin 4096),
    (outsAt0 m c n hn).2 (ix2 r k) = hid m c n (lt_points ⟨n, hn⟩) r k := by
  intro n
  induction n with
  | zero =>
    intro hn r k
    refine (congrFun (step_A m c ⟨0, hn⟩ rfl).2 _).trans ((pay1_apply r _ _ k).trans ?_)
    exact congrArg₂ (fun a b => FfnSpec.norm a b k) (funext fun l => iblk0_apply m c ⟨0, hn⟩ r l) (funext fun l => iblk1_apply m c ⟨0, hn⟩ l)
  | succ n ih =>
    intro hn r k
    have hlt := lt_points ⟨n + 1, hn⟩
    by_cases h0 : (n + 1) % 5 = 0
    · refine (congrFun (step_A m c ⟨n + 1, hn⟩ h0).2 _).trans ((pay1_apply r _ _ k).trans ?_)
      exact congrArg₂ (fun a b => FfnSpec.norm a b k) (funext fun l => iblk0_apply m c ⟨n + 1, hn⟩ r l) (funext fun l => iblk1_apply m c ⟨n + 1, hn⟩ l)
    · have hc : (outsAt0 m c (n + 1) hn).2 = (outsAt0 m c n (Nat.lt_of_succ_lt hn)).2 := by
        rcases (by omega : (n + 1) % 5 = 1 ∨ (n + 1) % 5 = 2 ∨ (n + 1) % 5 = 3 ∨ (n + 1) % 5 = 4) with h | h | h | h
        · exact (step_B m c ⟨n + 1, hn⟩ h).2
        · exact (step_C m c ⟨n + 1, hn⟩ h).2
        · exact (step_D m c ⟨n + 1, hn⟩ h).2
        · exact (step_E m c ⟨n + 1, hn⟩ h).2
      refine (congrFun hc _).trans ((ih (Nat.lt_of_succ_lt hn) r k).trans ?_)
      have hr : row n (lt_points ⟨n, Nat.lt_of_succ_lt hn⟩) r = row (n + 1) hlt r := Fin.ext (by
        show n / 5 * 128 + r.val = (n + 1) / 5 * 128 + r.val
        have : n / 5 = (n + 1) / 5 := by omega
        rw [this])
      unfold hid
      rw [hr]

/-- The array after the run, as a function of the arrays the kernel receives. -/
def result (c : Dev nD) : S128x6400.Idx → EReal := fun i =>
  ProjSpec.colOut
    (fun n => ∑ k : Fin 4096, FfnSpec.norm (fun l => m ((c : Thread nD τ).loc main_arg0) (ix2 (i 0 : Fin 128) l)) (fun l => mixArr m c (ix2 0 l)) k
      * weightArr m c (ix2 k n))
    (fun n => gainArr m c (ix2 0 n)) (i 1 : Fin 6400)

theorem tile_result (c : Dev nD) (t : Fin cfg0.N) (H : Vec Ideal S128x4096 .bf16) (hH : ∀ r k, H (ix2 r k) = hid m c t.val (lt_points t) r k)
    (r : Fin 128) (k : Fin 1280) :
    tile (10 * (t.val % 5)) (k0_pay2 H (iblk m c 2 t)) (iblk m c 3 t) (ix2 r k) = result m c (ix2 (row t.val (lt_points t) r) (col t.val k)) := by
  unfold tile result
  refine Eq.trans ?_ (ProjSpec.tileOut_col ⟨t.val % 5, Nat.mod_lt _ (by decide)⟩
    (fun n => ∑ k : Fin 4096, FfnSpec.norm (fun l => m ((c : Thread nD τ).loc main_arg0) (ix2 (row t.val (lt_points t) r) l)) (fun l => mixArr m c (ix2 0 l)) k
      * weightArr m c (ix2 k n))
    (fun n => gainArr m c (ix2 0 n)) k)
  refine congrArg₂ (fun a b => ProjSpec.tileOut (10 * (t.val % 5)) a b k) (funext fun n => ?_) (funext fun n => iblk3_apply m c t n)
  refine (pay2_apply r H _ n).trans (Finset.sum_congr rfl fun l _ => ?_)
  exact congrArg₂ (fun a b : EReal => a * b) (hH r l) (iblk2_apply m c t l n)

/-- What a point leaves in the output's block. -/
theorem block_eq (c : Dev nD) (t : Fin cfg0.N) (r : Fin 128) (k : Fin 1280) :
    (outsAt0 m c t.val t.isLt).1 (ix2 r k) = result m c (ix2 (row t.val (lt_points t) r) (col t.val k)) := by
  have hprev : ¬ t.val % 5 = 0 → ∀ r k, (outsAt0 m c (t.val - 1) (Nat.lt_of_le_of_lt (Nat.sub_le _ _) t.isLt)).2 (ix2 r k)
      = hid m c t.val (lt_points t) r k := by
    intro h0 r k
    have hl := lt_points t
    refine (scratch_eq m c (t.val - 1) _ r k).trans ?_
    have hr : row (t.val - 1) (by omega) r = row t.val hl r := Fin.ext (by
      show (t.val - 1) / 5 * 128 + r.val = t.val / 5 * 128 + r.val
      have : (t.val - 1) / 5 = t.val / 5 := by omega
      rw [this])
    unfold hid
    rw [hr]
  rcases (by omega : t.val % 5 = 0 ∨ t.val % 5 = 1 ∨ t.val % 5 = 2 ∨ t.val % 5 = 3 ∨ t.val % 5 = 4) with h | h | h | h | h
  · refine (congrFun (step_A m c t h).1 _).trans ?_
    refine Eq.trans ?_ (tile_result m c t (k0_pay1 (iblk m c 0 t) (iblk m c 1 t)) (fun r k => ?_) r k)
    · rw [h]
    · exact (congrFun (step_A m c t h).2 _).symm.trans (scratch_eq m c t.val t.isLt r k)
  · refine (congrFun (step_B m c t h).1 _).trans ?_
    refine Eq.trans ?_ (tile_result m c t _ (hprev (by omega)) r k)
    rw [h]
  · refine (congrFun (step_C m c t h).1 _).trans ?_
    refine Eq.trans ?_ (tile_result m c t _ (hprev (by omega)) r k)
    rw [h]
  · refine (congrFun (step_D m c t h).1 _).trans ?_
    refine Eq.trans ?_ (tile_result m c t _ (hprev (by omega)) r k)
    rw [h]
  · refine (congrFun (step_E m c t h).1 _).trans ?_
    refine Eq.trans ?_ (tile_result m c t _ (hprev (by omega)) r k)
    rw [h]

/-- Every point writes back its block of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  funext y
  have hy : (y : S128x1280.Idx) = ix2 (y 0) (y 1) := eq_ix2 y
  have he : (((cfg0.win 4).blk t).view.emb y : S128x6400.Idx) = ix2 (row t.val (lt_points t) (y 0)) (col t.val (y 1)) := by
    funext a
    apply Fin.ext
    obtain ⟨-, -, -, -, -, -, -, -, h0, h1⟩ := blockNo t
    match a with
    | ⟨0, _⟩ => show win0_4.index t (0 : Fin 2) * 128 + 1 * (y 0).val = t.val / 5 * 128 + (y 0).val; omega
    | ⟨1, _⟩ => show win0_4.index t (1 : Fin 2) * 1280 + 1 * (y 1).val = t.val % 5 * 1280 + (y 1).val; omega
  have hx : ((cfg0.win 4).xinj (grid0.coords t) y : S128x1280.Idx) = ix2 (y 0) (y 1) := hy
  rw [View.read_apply]
  show (outsAt0 m c t.val t.isLt).1 ((cfg0.win 4).xinj (grid0.coords t) y) = result m c (((cfg0.win 4).blk t).view.emb y)
  rw [hx, he]
  exact block_eq m c t (y 0) (y 1)

/-- Every element is in some point's block. -/
theorem covered (i : S128x6400.Idx) : ∃ t : Fin cfg0.N, (cfg0.win 4).flush t = true ∧ i ∈ ((cfg0.win 4).blk t).view.set := by
  have h0 : (i 0).val < 128 := (i 0).isLt
  have h1 : (i 1).val < 6400 := (i 1).isLt
  have hN : cfg0.N = 5 := N_0
  obtain ⟨t, ht⟩ : ∃ t : Fin cfg0.N, t.val = (i 0).val / 128 * 5 + (i 1).val / 1280 := ⟨⟨(i 0).val / 128 * 5 + (i 1).val / 1280, by omega⟩, rfl⟩
  refine ⟨t, flush0_4 t, ?_⟩
  show i ∈ ((View.whole main_v14).slice (win0_4.rect t)).set
  rw [View.set_slice_whole, Rect.mem_set_unit]
  obtain ⟨-, -, -, -, -, -, -, -, e0, e1⟩ := blockNo t
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1280 ≤ (i 1).val ∧ (i 1).val < win0_4.index t (1 : Fin 2) * 1280 + 1280; omega

/-- The array after the run. -/
theorem final (c : Dev nD) : (dats m 0 c).arrAt 4 cfg0.N = result m c :=
  (dats m 0 c).arrAt_eq_of_cover 4 _ (fun t _ => flushed_eq m c t) covered

end Cert.ProjSample
end
-- ==== Proof.ProjSampleOut.lean ====
/- The input projection, sample rows: the kernel's results, read at one element. -/
module

public import proofs.«01_k».proof.Proof.ProjSampleKer
public import Idealize.ShloMosaic.Lib.Pointwise

@[expose] public section

set_option maxRecDepth 16384

noncomputable section

namespace Cert.ProjSample

open Idealize.ShloMosaic Idealize.ShloMosaic.TcCoe Idealize.SL.Sem Cert.Kernel4Ideal Ideal Cert.Kernel4Ideal.Gen

/-- The host's widened and narrowed weights. -/
def padded (w : FVec Ideal S4096x6280 .f32) : FVec Ideal S4096x6400 .bf16 :=
  truncf .bf16 (pad S4096x6400 ![0, 0] ![0, 120] ![0, 0] w (sitofp .f32 (constantI S_ 32 0#32)) pads_S4096x6280_S4096x6400_000_01200 h_S_) bitsLt_bf16_f32

/-- The widened weights are the weights where they are defined. -/
theorem padded_apply (w : FVec Ideal S4096x6280 .f32) (k : Fin 4096) (n : Fin 6280) :
    padded w (ix2 k (⟨n.val, by have := n.isLt; omega⟩ : Fin 6400)) = w (ix2 k n) := by
  pointwise [padded]

/-- Six pieces laid end to end as a row. -/
def joined (a b : FVec Ideal S2048 .f32) (c : FVec Ideal S512 .f32) (d : FVec Ideal S1536 .f32) (e f : FVec Ideal S128 .f32) : FVec Ideal S1x6400 .f32 :=
  shapeCast S1x6400 (concatenate S6400 0 [⟨S2048, a⟩, ⟨S2048, b⟩, ⟨S512, c⟩, ⟨S1536, d⟩, ⟨S128, e⟩, ⟨S128, f⟩] concatenates_S2048_S2048_S512_S1536_S128_S128_S6400_d0) shapeCasts_S6400_S1x6400

theorem joined_apply (a b : FVec Ideal S2048 .f32) (c : FVec Ideal S512 .f32) (d : FVec Ideal S1536 .f32) (e f : FVec Ideal S128 .f32) (C : Fin 6400) :
    joined a b c d e f (ix2 0 C) = if h : C.val < 2048 then a (ix1 ⟨C.val, h⟩)
      else if h : C.val - 2048 < 2048 then b (ix1 ⟨C.val - 2048, h⟩)
      else if h : C.val - 2048 - 2048 < 512 then c (ix1 ⟨C.val - 2048 - 2048, h⟩)
      else if h : C.val - 2048 - 2048 - 512 < 1536 then d (ix1 ⟨C.val - 2048 - 2048 - 512, h⟩)
      else if h : C.val - 2048 - 2048 - 512 - 1536 < 128 then e (ix1 ⟨C.val - 2048 - 2048 - 512 - 1536, h⟩)
      else f (ix1 ⟨C.val - 2048 - 2048 - 512 - 1536 - 128, by have := C.isLt; omega⟩) := by
  pointwise [joined]

/-- The queries' gain 16 times, and the keys' 4 times. -/
def gainQ (gq : FVec Ideal S128 .f32) : FVec Ideal S2048 .f32 :=
  shapeCast S2048 (broadcastInDim S16x128 ![0, 1] bcast_S1x128_S16x128_0_1 (shapeCast S1x128 gq shapeCasts_S128_S1x128)) shapeCasts_S16x128_S2048

def gainK (gk : FVec Ideal S128 .f32) : FVec Ideal S512 .f32 :=
  shapeCast S512 (broadcastInDim S4x128 ![0, 1] bcast_S1x128_S4x128_0_1 (shapeCast S1x128 gk shapeCasts_S128_S1x128)) shapeCasts_S4x128_S512

theorem gainQ_apply (gq : FVec Ideal S128 .f32) (n : Fin 2048) : gainQ gq (ix1 n) = gq (ix1 ⟨n.val % 128, Nat.mod_lt _ (by decide)⟩) := by
  pointwise [gainQ]

theorem gainK_apply (gk : FVec Ideal S128 .f32) (n : Fin 512) : gainK gk (ix1 n) = gk (ix1 ⟨n.val % 128, Nat.mod_lt _ (by decide)⟩) := by
  pointwise [gainK]

/-- The host's row of gains: the queries' 16 times, the keys' 4 times, the indexer key's once, ones elsewhere. -/
def gains (gq gk gi : FVec Ideal S128 .f32) : FVec Ideal S1x6400 .f32 :=
  joined (broadcastInDim S2048 ![] bcast_S_S2048 (constant S_ .f32 0x3F800000#32)) (gainQ gq) (gainK gk)
    (broadcastInDim S1536 ![] bcast_S_S1536 (constant S_ .f32 0x3F800000#32)) gi (broadcastInDim S128 ![] bcast_S_S128 (constant S_ .f32 0x3F800000#32))

theorem gains_q (gq gk gi : FVec Ideal S128 .f32) (n : Fin 2048) :
    gains gq gk gi (ix2 0 (⟨2048 + n.val, by have := n.isLt; omega⟩ : Fin 6400)) = gq (ix1 ⟨n.val % 128, Nat.mod_lt _ (by decide)⟩) := by
  have hn := n.isLt
  refine (joined_apply _ _ _ _ _ _ _).trans ?_
  dsimp only
  rw [dif_neg (by omega), dif_pos (show 2048 + n.val - 2048 < 2048 by omega)]
  refine (gainQ_apply gq _).trans (congrArg gq (congrArg ix1 (Fin.ext ?_)))
  show (2048 + n.val - 2048) % 128 = n.val % 128
  omega

theorem gains_k (gq gk gi : FVec Ideal S128 .f32) (h : Fin 4) (l : Fin 128) :
    gains gq gk gi (ix2 0 (⟨4096 + (h.val * 128 + l.val), by have := h.isLt; have := l.isLt; omega⟩ : Fin 6400)) = gk (ix1 l) := by
  have hh := h.isLt
  have hl := l.isLt
  refine (joined_apply _ _ _ _ _ _ _).trans ?_
  dsimp only
  rw [dif_neg (by omega), dif_neg (by omega), dif_pos (show 4096 + (h.val * 128 + l.val) - 2048 - 2048 < 512 by omega)]
  refine (gainK_apply gk _).trans (congrArg gk (congrArg ix1 (Fin.ext ?_)))
  show (4096 + (h.val * 128 + l.val) - 2048 - 2048) % 128 = l.val
  omega

theorem gains_i (gq gk gi : FVec Ideal S128 .f32) (l : Fin 128) :
    gains gq gk gi (ix2 0 (⟨6144 + l.val, by have := l.isLt; omega⟩ : Fin 6400)) = gi (ix1 l) := by
  have hl := l.isLt
  refine (joined_apply _ _ _ _ _ _ _).trans ?_
  dsimp only
  rw [dif_neg (by omega), dif_neg (by omega), dif_neg (by omega), dif_neg (by omega), dif_pos (show 6144 + l.val - 2048 - 2048 - 512 - 1536 < 128 by omega)]
  refine congrArg gi (congrArg ix1 (Fin.ext ?_))
  show 6144 + l.val - 2048 - 2048 - 512 - 1536 = l.val
  omega

/-- The norm's gains as a row. -/
def mixRow (g : FVec Ideal S4096 .f32) : FVec Ideal S1x4096 .f32 := shapeCast S1x4096 g shapeCasts_S4096_S1x4096

theorem mixRow_apply (g : FVec Ideal S4096 .f32) (l : Fin 4096) : mixRow g (ix2 0 l) = g (ix1 l) := by
  pointwise [mixRow]

variable (m : (ℓ : Loc nD τ sig) → Buf (Elt Ideal) ℓ)

theorem weights_eq (c : Dev nD) : weightArr m c = padded (m ((c : Thread nD τ).loc main_arg3)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
  rfl

theorem gains_eq (c : Dev nD) : gainArr m c = gains (m ((c : Thread nD τ).loc main_arg4)) (m ((c : Thread nD τ).loc main_arg5)) (m ((c : Thread nD τ).loc main_arg6)) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results
  rfl

theorem mix_eq (c : Dev nD) : mixArr m c = mixRow (m ((c : Thread nD τ).loc main_arg2)) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results
  rfl

/-- Column `n` of row `R`'s product with the weights, the row normalised first. -/
def prod (c : Dev nD) (R : Fin 128) (n : Fin 6280) : EReal :=
  ProjSpec.prod (fun l => m ((c : Thread nD τ).loc main_arg0) (ix2 R l)) (fun l => m ((c : Thread nD τ).loc main_arg2) (ix1 l)) (fun k n => m ((c : Thread nD τ).loc main_arg3) (ix2 k n)) n

theorem sum_eq (c : Dev nD) (R : Fin 128) (n : Fin 6280) :
    (∑ k : Fin 4096, FfnSpec.norm (fun l => m ((c : Thread nD τ).loc main_arg0) (ix2 R l)) (fun l => mixArr m c (ix2 0 l)) k
      * weightArr m c (ix2 k (⟨n.val, by have := n.isLt; omega⟩ : Fin 6400))) = prod m c R n := by
  unfold prod ProjSpec.prod
  refine Finset.sum_congr rfl fun k _ => congrArg₂ (fun a b : EReal => a * b) ?_ ?_
  · exact congrArg (fun g => FfnSpec.norm _ g k) (funext fun l => (congrFun (mix_eq m c) _).trans (mixRow_apply _ l))
  · exact (congrFun (weights_eq m c) _).trans (padded_apply _ k n)

/-- A column of the array that lies in no normalised head. -/
theorem result_plain (c : Dev nD) (R : Fin 128) (C : Fin 6400) (n : Fin 6280) (hC : C.val = n.val) (hn : ProjSpec.normed (n.val / 128) = false) :
    result m c (ix2 R C) = prod m c R n := by
  have e : C = ⟨n.val, Nat.lt_trans n.isLt (by decide)⟩ := Fin.ext hC
  rw [e]
  exact (ProjSpec.colOut_plain _ _ _ hn).trans (sum_eq m c R n)

/-- A column of the array that lies in the normalised head `b`. -/
theorem result_head (c : Dev nD) (R : Fin 128) (C : Fin 6400) (b : ℕ) (hb : b < 49) (hn : ProjSpec.normed b = true) (l : Fin 128) (hC : C.val = b * 128 + l.val)
    (u : Fin 128 → EReal) (g : EReal) (hu : ∀ k : Fin 128, u k = prod m c R ⟨b * 128 + k.val, by have := k.isLt; omega⟩)
    (hg : gains (m ((c : Thread nD τ).loc main_arg4)) (m ((c : Thread nD τ).loc main_arg5)) (m ((c : Thread nD τ).loc main_arg6)) (ix2 0 C) = g) :
    result m c (ix2 R C) = ProjSpec.headNorm u g l := by
  refine (ProjSpec.colOut_head _ _ C b (by omega) hn l hC).trans ?_
  refine congrArg₂ (fun a b => ProjSpec.headNorm a b l) (funext fun k => ?_) ((congrFun (gains_eq m c) _).trans hg)
  exact (sum_eq m c R ⟨b * 128 + k.val, by have := k.isLt; omega⟩).trans (hu k).symm

/-! The results cut from an array of 6400 columns. -/

def kOut (U : FVec Ideal S128x6400 .f32) : FVec Ideal S1x32x4x4x128 .f32 :=
  shapeCast S1x32x4x4x128 (extractStridedSlice S32x4x512 ![0, 0, 4096] (shapeCast S32x4x6400 U shapeCasts_S128x6400_S32x4x6400) slices_S32x4x6400_S32x4x512_0_0_4096) shapeCasts_S32x4x512_S1x32x4x4x128

def vOut (U : FVec Ideal S128x6400 .f32) : FVec Ideal S1x32x4x4x128 .f32 :=
  shapeCast S1x32x4x4x128 (extractStridedSlice S32x4x512 ![0, 0, 4608] (shapeCast S32x4x6400 U shapeCasts_S128x6400_S32x4x6400) slices_S32x4x6400_S32x4x512_0_0_4608) shapeCasts_S32x4x512_S1x32x4x4x128

def iOut (U : FVec Ideal S128x6400 .f32) : FVec Ideal S1x32x4x128 .f32 :=
  shapeCast S1x32x4x128 (extractStridedSlice S32x4x128 ![0, 0, 6144] (shapeCast S32x4x6400 U shapeCasts_S128x6400_S32x4x6400) slices_S32x4x6400_S32x4x128_0_0_6144) shapeCasts_S32x4x128_S1x32x4x128

def pOut (state : FVec Ideal S32x15x2048 .f32) (U : FVec Ideal S128x6400 .f32) : FVec Ideal S1x32x15x2048 .f32 :=
  shapeCast S1x32x15x2048 (extractStridedSlice S32x15x2048 ![0, 4, 0] (concatenate S32x19x2048 1 [⟨S32x15x2048, state⟩, ⟨S32x4x2048, shapeCast S32x4x2048 (extractStridedSlice S128x2048 ![0, 0] U slices_S128x6400_S128x2048_0_0) shapeCasts_S128x2048_S32x4x2048⟩] concatenates_S32x15x2048_S32x4x2048_S32x19x2048_d1) slices_S32x19x2048_S32x15x2048_0_4_0) shapeCasts_S32x15x2048_S1x32x15x2048

def uOut (U : FVec Ideal S128x6400 .f32) : FVec Ideal S128x2048 .f32 :=
  extractStridedSlice S128x2048 ![0, 0] U slices_S128x6400_S128x2048_0_0

def qOut (U : FVec Ideal S128x6400 .f32) : FVec Ideal S128x2048 .f32 :=
  extractStridedSlice S128x2048 ![0, 2048] U slices_S128x6400_S128x2048_0_2048

def qiOut (U : FVec Ideal S128x6400 .f32) : FVec Ideal S128x1024 .f32 :=
  extractStridedSlice S128x1024 ![0, 5120] U slices_S128x6400_S128x1024_0_5120

def wiOut (U : FVec Ideal S128x6400 .f32) : FVec Ideal S128x8 .f32 :=
  extractStridedSlice S128x8 ![0, 6272] U slices_S128x6400_S128x8_0_6272

theorem kOut_apply (U : FVec Ideal S128x6400 .f32) (a : Fin 1) (b : Fin 32) (s : Fin 4) (h : Fin 4) (l : Fin 128) :
    kOut U (ix5 a b s h l) = U (ix2 (⟨b.val * 4 + s.val, by have := b.isLt; have := s.isLt; omega⟩ : Fin 128) ⟨4096 + (h.val * 128 + l.val), by have := h.isLt; have := l.isLt; omega⟩) := by
  pointwise [kOut]

theorem vOut_apply (U : FVec Ideal S128x6400 .f32) (a : Fin 1) (b : Fin 32) (s : Fin 4) (h : Fin 4) (l : Fin 128) :
    vOut U (ix5 a b s h l) = U (ix2 (⟨b.val * 4 + s.val, by have := b.isLt; have := s.isLt; omega⟩ : Fin 128) ⟨4608 + (h.val * 128 + l.val), by have := h.isLt; have := l.isLt; omega⟩) := by
  pointwise [vOut]

theorem iOut_apply (U : FVec Ideal S128x6400 .f32) (a : Fin 1) (b : Fin 32) (s : Fin 4) (l : Fin 128) :
    iOut U (ix4 a b s l) = U (ix2 (⟨b.val * 4 + s.val, by have := b.isLt; have := s.isLt; omega⟩ : Fin 128) ⟨6144 + l.val, by have := l.isLt; omega⟩) := by
  pointwise [iOut]

theorem pOut_apply (state : FVec Ideal S32x15x2048 .f32) (U : FVec Ideal S128x6400 .f32) (a : Fin 1) (b : Fin 32) (j : Fin 15) (n : Fin 2048) :
    pOut state U (ix4 a b j n) = if h : 4 + j.val < 15 then state (ix3 b ⟨4 + j.val, h⟩ n)
      else U (ix2 (⟨b.val * 4 + (4 + j.val - 15), by have := b.isLt; have := j.isLt; omega⟩ : Fin 128) ⟨n.val, by have := n.isLt; omega⟩) := by
  pointwise [pOut]

theorem uOut_apply (U : FVec Ideal S128x6400 .f32) (r : Fin 128) (n : Fin 2048) :
    uOut U (ix2 r n) = U (ix2 r ⟨n.val, by have := n.isLt; omega⟩) := by
  pointwise [uOut]

theorem qOut_apply (U : FVec Ideal S128x6400 .f32) (r : Fin 128) (n : Fin 2048) :
    qOut U (ix2 r n) = U (ix2 r ⟨2048 + n.val, by have := n.isLt; omega⟩) := by
  pointwise [qOut]

theorem qiOut_apply (U : FVec Ideal S128x6400 .f32) (r : Fin 128) (n : Fin 1024) :
    qiOut U (ix2 r n) = U (ix2 r ⟨5120 + n.val, by have := n.isLt; omega⟩) := by
  pointwise [qiOut]

theorem wiOut_apply (U : FVec Ideal S128x6400 .f32) (r : Fin 128) (n : Fin 8) :
    wiOut U (ix2 r n) = U (ix2 r ⟨6272 + n.val, by have := n.isLt; omega⟩) := by
  pointwise [wiOut]

/-! The results after the run. -/

theorem arr_out (c : Dev nD) : Pipeline.withArrays spec0 c (V0 m c) (fun w => (dats m 0 c).arrAt w cfg0.N) (Proc.devRef .tc main_v14) = result m c :=
  (Pipeline.withArrays_arr spec0 (by decide) c (V0 m c) _ 4).trans (final m c)

theorem state_out (c : Dev nD) : Pipeline.withArrays spec0 c (V0 m c) (fun w => (dats m 0 c).arrAt w cfg0.N) (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)

theorem tail_k (c : Dev nD) : Pipeline.afterTail₀ cfgs (dats m) 0 (V0 m) [hostOps1] c main_v20 = kOut (result m c) := by
  refine Eq.trans ?_ (congrArg kOut (arr_out m c))
  unfold Pipeline.afterTail₀
  show StableHlo.after hostOps1 _ (Proc.devRef .tc main_v20) = _
  after_results
  rfl

theorem tail_v (c : Dev nD) : Pipeline.afterTail₀ cfgs (dats m) 0 (V0 m) [hostOps1] c main_v22 = vOut (result m c) := by
  refine Eq.trans ?_ (congrArg vOut (arr_out m c))
  unfold Pipeline.afterTail₀
  show StableHlo.after hostOps1 _ (Proc.devRef .tc main_v22) = _
  after_results
  rfl

theorem tail_i (c : Dev nD) : Pipeline.afterTail₀ cfgs (dats m) 0 (V0 m) [hostOps1] c main_v24 = iOut (result m c) := by
  refine Eq.trans ?_ (congrArg iOut (arr_out m c))
  unfold Pipeline.afterTail₀
  show StableHlo.after hostOps1 _ (Proc.devRef .tc main_v24) = _
  after_results
  rfl

theorem tail_p (c : Dev nD) : Pipeline.afterTail₀ cfgs (dats m) 0 (V0 m) [hostOps1] c main_v26 = pOut (m ((c : Thread nD τ).loc main_arg1)) (result m c) := by
  refine Eq.trans ?_ (congrArg₂ pOut (state_out m c) (arr_out m c))
  unfold Pipeline.afterTail₀
  show StableHlo.after hostOps1 _ (Proc.devRef .tc main_v26) = _
  after_results
  rfl

theorem tail_u (c : Dev nD) : Pipeline.afterTail₀ cfgs (dats m) 0 (V0 m) [hostOps1] c main_v27 = uOut (result m c) := by
  refine Eq.trans ?_ (congrArg uOut (arr_out m c))
  unfold Pipeline.afterTail₀
  show StableHlo.after hostOps1 _ (Proc.devRef .tc main_v27) = _
  after_results
  rfl

theorem tail_q (c : Dev nD) : Pipeline.afterTail₀ cfgs (dats m) 0 (V0 m) [hostOps1] c main_v28 = qOut (result m c) := by
  refine Eq.trans ?_ (congrArg qOut (arr_out m c))
  unfold Pipeline.afterTail₀
  show StableHlo.after hostOps1 _ (Proc.devRef .tc main_v28) = _
  after_results
  rfl

theorem tail_qi (c : Dev nD) : Pipeline.afterTail₀ cfgs (dats m) 0 (V0 m) [hostOps1] c main_v29 = qiOut (result m c) := by
  refine Eq.trans ?_ (congrArg qiOut (arr_out m c))
  unfold Pipeline.afterTail₀
  show StableHlo.after hostOps1 _ (Proc.devRef .tc main_v29) = _
  after_results
  rfl

theorem tail_wi (c : Dev nD) : Pipeline.afterTail₀ cfgs (dats m) 0 (V0 m) [hostOps1] c main_v30 = wiOut (result m c) := by
  refine Eq.trans ?_ (congrArg wiOut (arr_out m c))
  unfold Pipeline.afterTail₀
  show StableHlo.after hostOps1 _ (Proc.devRef .tc main_v30) = _
  after_results
  rfl

/-- The run: every result at its value, every argument as launched. -/
theorem run (ρ : Dev nD → PrngReg) : θ_run defs (onTc (τ := τ) (main (F := Ideal))) ⟨m, fun _ => 0, ρ⟩ (fun r => ∀ c : Dev nD,
    r.2.mem ((c.tc : Thread nD τ).loc main_v20) = kOut (result m c)
      ∧ r.2.mem ((c.tc : Thread nD τ).loc main_v22) = vOut (result m c)
      ∧ r.2.mem ((c.tc : Thread nD τ).loc main_v24) = iOut (result m c)
      ∧ r.2.mem ((c.tc : Thread nD τ).loc main_v26) = pOut (m ((c : Thread nD τ).loc main_arg1)) (result m c)
      ∧ r.2.mem ((c.tc : Thread nD τ).loc main_v27) = uOut (result m c)
      ∧ r.2.mem ((c.tc : Thread nD τ).loc main_v28) = qOut (result m c)
      ∧ r.2.mem ((c.tc : Thread nD τ).loc main_v29) = qiOut (result m c)
      ∧ r.2.mem ((c.tc : Thread nD τ).loc main_v30) = wiOut (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).2 main_v20 (Pipeline.mem_restRefs_of main_v20 (by decide) (by decide))).trans (tail_k m c), ((h.1 c).2 main_v22 (Pipeline.mem_restRefs_of main_v22 (by decide) (by decide))).trans (tail_v m c), ((h.1 c).2 main_v24 (Pipeline.mem_restRefs_of main_v24 (by decide) (by decide))).trans (tail_i m c), ((h.1 c).2 main_v26 (Pipeline.mem_restRefs_of main_v26 (by decide) (by decide))).trans (tail_p m c), ((h.1 c).2 main_v27 (Pipeline.mem_restRefs_of main_v27 (by decide) (by decide))).trans (tail_u m c), ((h.1 c).2 main_v28 (Pipeline.mem_restRefs_of main_v28 (by decide) (by decide))).trans (tail_q m c), ((h.1 c).2 main_v29 (Pipeline.mem_restRefs_of main_v29 (by decide) (by decide))).trans (tail_qi m c), ((h.1 c).2 main_v30 (Pipeline.mem_restRefs_of main_v30 (by decide) (by decide))).trans (tail_wi m c),
      h.2 c⟩) (θ_run_and (run_main m ρ) (unchanged m ρ))

end Cert.ProjSample
end
-- ==== Proof.ProjSampleRef.lean ====
/- The reference of the input projection, sample rows, read at one element. -/
module

public import proofs.«01_k».proof.Proof.Gen.Reference4Ideal.Run
public import proofs.«01_k».proof.Proof.ProjSpec
public import Idealize.ShloMosaic.Lib.Pointwise

@[expose] public section

set_option maxRecDepth 16384

noncomputable section

namespace Cert.ProjSampleRef

open Idealize.ShloMosaic Cert.Reference4Ideal Cert.Reference4Ideal.Gen Idealize.ShloMosaic.TcCoe Idealize.SL.Sem

/-- The reference's normalised rows. -/
def rows (x : FVec Ideal S128x4096 .f32) (g : FVec Ideal S4096 .f32) : FVec Ideal S128x4096 .f32 :=
  mulf (mulf x (broadcastInDim S128x4096 ![0, 1] bcast_S128x1_S128x4096_0_1 (Host.rsqrt (addf (Host.divf (broadcastInDim S128x1 ![0] bcast_S128_S128x1_0 (Host.reduceAdd (mulf x x) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x358637BD#32)))))) (broadcastInDim S128x4096 ![0, 1] bcast_S1x4096_S128x4096_0_1 (broadcastInDim S1x4096 ![1] bcast_S4096_S1x4096_1 g))

/-- The reference's products with the weights. -/
def prods (x : FVec Ideal S128x4096 .f32) (g : FVec Ideal S4096 .f32) (w : FVec Ideal S4096x6280 .f32) : FVec Ideal S128x6280 .f32 :=
  Host.dotGeneral dot_S128x4096_S4096x6280_S128x6280_1_0_0_1_n_n none (rows x g) w

theorem rows_apply (x : FVec Ideal S128x4096 .f32) (g : FVec Ideal S4096 .f32) (r : Fin 128) (k : Fin 4096) :
    rows x g (ix2 r k) = FfnSpec.norm (fun l => x (ix2 r l)) (fun l => g (ix1 l)) k := by
  pointwise [rows, FfnSpec.norm]

theorem dot_apply (h : FVec Ideal S128x4096 .f32) (w : FVec Ideal S4096x6280 .f32) (r : Fin 128) (n : Fin 6280) :
    (Host.dotGeneral dot_S128x4096_S4096x6280_S128x6280_1_0_0_1_n_n none h w : FVec Ideal S128x6280 .f32) (ix2 r n) = ∑ k : Fin 4096, h (ix2 r k) * w (ix2 k n) := by
  pointwise []

theorem prods_apply (x : FVec Ideal S128x4096 .f32) (g : FVec Ideal S4096 .f32) (w : FVec Ideal S4096x6280 .f32) (r : Fin 128) (n : Fin 6280) :
    prods x g w (ix2 r n) = ProjSpec.prod (fun l => x (ix2 r l)) (fun l => g (ix1 l)) (fun k n => w (ix2 k n)) n :=
  (dot_apply _ w r n).trans (Finset.sum_congr rfl fun k _ => congrArg (fun a : EReal => a * w (ix2 k n)) (rows_apply x g r k))

def kRef (U : FVec Ideal S128x6280 .f32) (g : FVec Ideal S128 .f32) : FVec Ideal S1x32x4x4x128 .f32 :=
  shapeCast _ (mulf (mulf (shapeCast _ (extractStridedSlice S128x512 ![0, 4096] U slices_S128x6280_S128x512_0_4096) shapeCasts_S128x512_S128x4x128) (broadcastInDim S128x4x128 ![0, 1, 2] bcast_S128x4x1_S128x4x128_0_1_2 (Host.rsqrt (addf (Host.divf (broadcastInDim S128x4x1 ![0, 1] bcast_S128x4_S128x4x1_0_1 (Host.reduceAdd (mulf (shapeCast _ (extractStridedSlice S128x512 ![0, 4096] U slices_S128x6280_S128x512_0_4096) shapeCasts_S128x512_S128x4x128) (shapeCast _ (extractStridedSlice S128x512 ![0, 4096] U slices_S128x6280_S128x512_0_4096) shapeCasts_S128x512_S128x4x128)) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![2] bcast_S128_S1x1x128_2 g))) shapeCasts_S128x4x128_S1x32x4x4x128

def vRef (U : FVec Ideal S128x6280 .f32) : FVec Ideal S1x32x4x4x128 .f32 :=
  shapeCast _ (shapeCast _ (extractStridedSlice S128x512 ![0, 4608] U slices_S128x6280_S128x512_0_4608) shapeCasts_S128x512_S128x4x128) shapeCasts_S128x4x128_S1x32x4x4x128

def iRef (U : FVec Ideal S128x6280 .f32) (g : FVec Ideal S128 .f32) : FVec Ideal S1x32x4x128 .f32 :=
  shapeCast _ (mulf (mulf (extractStridedSlice S128x128 ![0, 6144] U slices_S128x6280_S128x128_0_6144) (broadcastInDim S128x128 ![0, 1] bcast_S128x1_S128x128_0_1 (Host.rsqrt (addf (Host.divf (broadcastInDim S128x1 ![0] bcast_S128_S128x1_0 (Host.reduceAdd (mulf (extractStridedSlice S128x128 ![0, 6144] U slices_S128x6280_S128x128_0_6144) (extractStridedSlice S128x128 ![0, 6144] U slices_S128x6280_S128x128_0_6144)) (constant S_ .f32 0x00000000#32) reducesTo_S128x128_S128_d1 h_S_)) (broadcastInDim S128x1 ![] bcast_S_S128x1 (constant S_ .f32 0x43000000#32))) (broadcastInDim S128x1 ![] bcast_S_S128x1 (constant S_ .f32 0x358637BD#32)))))) (broadcastInDim S128x128 ![0, 1] bcast_S1x128_S128x128_0_1 (broadcastInDim S1x128 ![1] bcast_S128_S1x128_1 g))) shapeCasts_S128x128_S1x32x4x128

def pRef (state : FVec Ideal S32x15x2048 .f32) (U : FVec Ideal S128x6280 .f32) : FVec Ideal S1x32x15x2048 .f32 :=
  shapeCast _ (extractStridedSlice S32x15x2048 ![0, 4, 0] (concatenate S32x19x2048 1 [⟨S32x15x2048, state⟩, ⟨S32x4x2048, (shapeCast _ (extractStridedSlice S128x2048 ![0, 0] U slices_S128x6280_S128x2048_0_0) shapeCasts_S128x2048_S32x4x2048)⟩] concatenates_S32x15x2048_S32x4x2048_S32x19x2048_d1) slices_S32x19x2048_S32x15x2048_0_4_0) shapeCasts_S32x15x2048_S1x32x15x2048

def uRef (U : FVec Ideal S128x6280 .f32) : FVec Ideal S128x2048 .f32 :=
  extractStridedSlice S128x2048 ![0, 0] U slices_S128x6280_S128x2048_0_0

def qRef (U : FVec Ideal S128x6280 .f32) (g : FVec Ideal S128 .f32) : FVec Ideal S128x2048 .f32 :=
  shapeCast _ (mulf (mulf (shapeCast _ (extractStridedSlice S128x2048 ![0, 2048] U slices_S128x6280_S128x2048_0_2048) shapeCasts_S128x2048_S128x16x128) (broadcastInDim S128x16x128 ![0, 1, 2] bcast_S128x16x1_S128x16x128_0_1_2 (Host.rsqrt (addf (Host.divf (broadcastInDim S128x16x1 ![0, 1] bcast_S128x16_S128x16x1_0_1 (Host.reduceAdd (mulf (shapeCast _ (extractStridedSlice S128x2048 ![0, 2048] U slices_S128x6280_S128x2048_0_2048) shapeCasts_S128x2048_S128x16x128) (shapeCast _ (extractStridedSlice S128x2048 ![0, 2048] U slices_S128x6280_S128x2048_0_2048) shapeCasts_S128x2048_S128x16x128)) (constant S_ .f32 0x00000000#32) reducesTo_S128x16x128_S128x16_d2 h_S_)) (broadcastInDim S128x16x1 ![] bcast_S_S128x16x1 (constant S_ .f32 0x43000000#32))) (broadcastInDim S128x16x1 ![] bcast_S_S128x16x1 (constant S_ .f32 0x358637BD#32)))))) (broadcastInDim S128x16x128 ![0, 1, 2] bcast_S1x1x128_S128x16x128_0_1_2 (broadcastInDim S1x1x128 ![2] bcast_S128_S1x1x128_2 g))) shapeCasts_S128x16x128_S128x2048

def qiRef (U : FVec Ideal S128x6280 .f32) : FVec Ideal S128x1024 .f32 :=
  shapeCast _ (shapeCast _ (extractStridedSlice S128x1024 ![0, 5120] U slices_S128x6280_S128x1024_0_5120) shapeCasts_S128x1024_S128x8x128) shapeCasts_S128x8x128_S128x1024

def wiRef (U : FVec Ideal S128x6280 .f32) : FVec Ideal S128x8 .f32 :=
  extractStridedSlice S128x8 ![0, 6272] U slices_S128x6280_S128x8_0_6272

theorem kRef_apply (U : FVec Ideal S128x6280 .f32) (g : FVec Ideal S128 .f32) (a : Fin 1) (b : Fin 32) (s : Fin 4) (h : Fin 4) (l : Fin 128) :
    kRef U g (ix5 a b s h l) = ProjSpec.headNorm (fun k : Fin 128 => U (ix2 (⟨b.val * 4 + s.val, by have := b.isLt; have := s.isLt; omega⟩ : Fin 128) ⟨4096 + (h.val * 128 + k.val), by have := h.isLt; have := k.isLt; omega⟩)) (g (ix1 l)) l := by
  pointwise [kRef, ProjSpec.headNorm]

theorem vRef_apply (U : FVec Ideal S128x6280 .f32) (a : Fin 1) (b : Fin 32) (s : Fin 4) (h : Fin 4) (l : Fin 128) :
    vRef U (ix5 a b s h l) = U (ix2 (⟨b.val * 4 + s.val, by have := b.isLt; have := s.isLt; omega⟩ : Fin 128) ⟨4608 + (h.val * 128 + l.val), by have := h.isLt; have := l.isLt; omega⟩) := by
  pointwise [vRef]

theorem iRef_apply (U : FVec Ideal S128x6280 .f32) (g : FVec Ideal S128 .f32) (a : Fin 1) (b : Fin 32) (s : Fin 4) (l : Fin 128) :
    iRef U g (ix4 a b s l) = ProjSpec.headNorm (fun k : Fin 128 => U (ix2 (⟨b.val * 4 + s.val, by have := b.isLt; have := s.isLt; omega⟩ : Fin 128) ⟨6144 + k.val, by have := k.isLt; omega⟩)) (g (ix1 l)) l := by
  pointwise [iRef, ProjSpec.headNorm]

theorem pRef_apply (state : FVec Ideal S32x15x2048 .f32) (U : FVec Ideal S128x6280 .f32) (a : Fin 1) (b : Fin 32) (j : Fin 15) (n : Fin 2048) :
    pRef state U (ix4 a b j n) = if h : 4 + j.val < 15 then state (ix3 b ⟨4 + j.val, h⟩ n)
      else U (ix2 (⟨b.val * 4 + (4 + j.val - 15), by have := b.isLt; have := j.isLt; omega⟩ : Fin 128) ⟨n.val, by have := n.isLt; omega⟩) := by
  pointwise [pRef]

theorem qRef_apply (U : FVec Ideal S128x6280 .f32) (g : FVec Ideal S128 .f32) (r : Fin 128) (n : Fin 2048) :
    qRef U g (ix2 r n) = ProjSpec.headNorm (fun k : Fin 128 => U (ix2 r ⟨2048 + (n.val / 128 * 128 + k.val), by have := n.isLt; have := k.isLt; omega⟩))
      (g (ix1 ⟨n.val % 128, Nat.mod_lt _ (by decide)⟩)) ⟨n.val % 128, Nat.mod_lt _ (by decide)⟩ := by
  pointwise [qRef, ProjSpec.headNorm]
  simp only [Nat.div_add_mod']

theorem uRef_apply (U : FVec Ideal S128x6280 .f32) (r : Fin 128) (n : Fin 2048) :
    uRef U (ix2 r n) = U (ix2 r ⟨n.val, by have := n.isLt; omega⟩) := by
  pointwise [uRef]

theorem qiRef_apply (U : FVec Ideal S128x6280 .f32) (r : Fin 128) (n : Fin 1024) :
    qiRef U (ix2 r n) = U (ix2 r ⟨5120 + n.val, by have := n.isLt; omega⟩) := by
  pointwise [qiRef]

theorem wiRef_apply (U : FVec Ideal S128x6280 .f32) (r : Fin 128) (n : Fin 8) :
    wiRef U (ix2 r n) = U (ix2 r ⟨6272 + n.val, by have := n.isLt; omega⟩) := by
  pointwise [wiRef]

end Cert.ProjSampleRef
end
-- ==== Proof.ProjSampleClaim.lean ====
/- The input projection, sample rows: kernel and reference agree over the extended reals. -/
module

public import proofs.«01_k».proof.Defs
public import proofs.«01_k».proof.Proof.ProjSampleOut
public import proofs.«01_k».proof.Proof.ProjSampleRef
public import proofs.«01_k».proof.Proof.Gen.Kernel4Ideal
public import proofs.«01_k».proof.Proof.Gen.Reference4Ideal

@[expose] public section

set_option maxRecDepth 16384

noncomputable section

namespace Cert.ProjSample

open Idealize.ShloMosaic Idealize.ShloMosaic.TcCoe Idealize.SL.Sem

local instance : Cert.Kernel4Ideal.Facts := Cert.Kernel4Ideal.Gen.facts
local instance : Cert.Reference4Ideal.Facts := Cert.Reference4Ideal.Gen.facts

/-- The reference runs, keeps its arguments and leaves no counter behind (it has none). -/
theorem frame_ref : Cert.quiescent_Reference4Ideal := fun m ρ _ =>
  (θ_run _ _ _).mono (fun r h => ⟨fun c => (h c).2.2.2.2.2.2.2.2, sem_eq_zero_of_no_sems (by decide) r.2⟩) (Reference4Ideal.Value.run m ρ)

variable (m : (ℓ : Loc Kernel4Ideal.nD Kernel4Ideal.τ Kernel4Ideal.sig) → Buf (Elt Ideal) ℓ) (c : Dev Kernel4Ideal.nD)

theorem normed_key (h : Fin 4) : ProjSpec.normed (32 + h.val) = true := by revert h; decide
theorem normed_query (h : Fin 16) : ProjSpec.normed (16 + h.val) = true := by revert h; decide
theorem not_normed (b : ℕ) (h : b < 16 ∨ (36 ≤ b ∧ b ≠ 48)) : ProjSpec.normed b = false := by
  unfold ProjSpec.normed
  simp only [Bool.or_eq_false_iff, Bool.and_eq_false_iff, decide_eq_false_iff_not]
  omega

theorem k_eq : kOut (result m c) = ProjSampleRef.kRef (ProjSampleRef.prods (m ((c.tc : Thread _ _).loc Kernel4Ideal.main_arg0)) (m ((c.tc : Thread _ _).loc Kernel4Ideal.main_arg2)) (m ((c.tc : Thread _ _).loc Kernel4Ideal.main_arg3))) (m ((c.tc : Thread _ _).loc Kernel4Ideal.main_arg5)) := by
  funext i
  have hi : (i : Kernel4Ideal.S1x32x4x4x128.Idx) = ix5 (i 0) (i 1) (i 2) (i 3) (i 4) := eq_ix5 i
  rw [hi]
  have h3 : (i 3).val < 4 := (i 3).isLt
  have h4 : (i 4).val < 128 := (i 4).isLt
  refine (kOut_apply _ (i 0) (i 1) (i 2) (i 3) (i 4)).trans (Eq.trans ?_ (ProjSampleRef.kRef_apply _ _ (i 0) (i 1) (i 2) (i 3) (i 4)).symm)
  exact result_head m c _ _ (32 + (i 3).val) (by omega) (normed_key (i 3)) (i 4) (by show 4096 + ((i 3).val * 128 + (i 4).val) = (32 + (i 3).val) * 128 + (i 4).val; omega) _ _
    (fun k => (ProjSampleRef.prods_apply _ _ _ _ _).trans (congrArg (prod m c _) (Fin.ext (by show 4096 + ((i 3).val * 128 + k.val) = (32 + (i 3).val) * 128 + k.val; omega))))
    (gains_k _ _ _ (i 3) (i 4))
theorem v_eq : vOut (result m c) = ProjSampleRef.vRef (ProjSampleRef.prods (m ((c.tc : Thread _ _).loc Kernel4Ideal.main_arg0)) (m ((c.tc : Thread _ _).loc Kernel4Ideal.main_arg2)) (m ((c.tc : Thread _ _).loc Kernel4Ideal.main_arg3))) := by
  funext i
  have hi : (i : Kernel4Ideal.S1x32x4x4x128.Idx) = ix5 (i 0) (i 1) (i 2) (i 3) (i 4) := eq_ix5 i
  rw [hi]
  have h3 : (i 3).val < 4 := (i 3).isLt
  have h4 : (i 4).val < 128 := (i 4).isLt
  refine (vOut_apply _ (i 0) (i 1) (i 2) (i 3) (i 4)).trans (Eq.trans ?_ (ProjSampleRef.vRef_apply _ (i 0) (i 1) (i 2) (i 3) (i 4)).symm)
  exact (result_plain m c _ _ ⟨4608 + ((i 3).val * 128 + (i 4).val), by omega⟩ rfl (not_normed _ (by show (4608 + ((i 3).val * 128 + (i 4).val)) / 128 < 16 ∨ (36 ≤ (4608 + ((i 3).val * 128 + (i 4).val)) / 128 ∧ (4608 + ((i 3).val * 128 + (i 4).val)) / 128 ≠ 48); omega))).trans (ProjSampleRef.prods_apply _ _ _ _ _).symm
theorem i_eq : iOut (result m c) = ProjSampleRef.iRef (ProjSampleRef.prods (m ((c.tc : Thread _ _).loc Kernel4Ideal.main_arg0)) (m ((c.tc : Thread _ _).loc Kernel4Ideal.main_arg2)) (m ((c.tc : Thread _ _).loc Kernel4Ideal.main_arg3))) (m ((c.tc : Thread _ _).loc Kernel4Ideal.main_arg6)) := by
  funext i
  have hi : (i : Kernel4Ideal.S1x32x4x128.Idx) = ix4 (i 0) (i 1) (i 2) (i 3) := eq_ix4 i
  rw [hi]
  have h3 : (i 3).val < 128 := (i 3).isLt
  refine (iOut_apply _ (i 0) (i 1) (i 2) (i 3)).trans (Eq.trans ?_ (ProjSampleRef.iRef_apply _ _ (i 0) (i 1) (i 2) (i 3)).symm)
  exact result_head m c _ _ 48 (by omega) (by decide) (i 3) rfl _ _ (fun k => ProjSampleRef.prods_apply _ _ _ _ _) (gains_i _ _ _ (i 3))
theorem p_eq : pOut (m ((c.tc : Thread _ _).loc Kernel4Ideal.main_arg1)) (result m c) = ProjSampleRef.pRef (m ((c.tc : Thread _ _).loc Kernel4Ideal.main_arg1)) (ProjSampleRef.prods (m ((c.tc : Thread _ _).loc Kernel4Ideal.main_arg0)) (m ((c.tc : Thread _ _).loc Kernel4Ideal.main_arg2)) (m ((c.tc : Thread _ _).loc Kernel4Ideal.main_arg3))) := by
  funext i
  have hi : (i : Kernel4Ideal.S1x32x15x2048.Idx) = ix4 (i 0) (i 1) (i 2) (i 3) := eq_ix4 i
  rw [hi]
  have h3 : (i 3).val < 2048 := (i 3).isLt
  refine (pOut_apply _ _ (i 0) (i 1) (i 2) (i 3)).trans (Eq.trans ?_ (ProjSampleRef.pRef_apply _ _ (i 0) (i 1) (i 2) (i 3)).symm)
  refine dite_congr rfl (fun _ => rfl) fun _ => ?_
  exact (result_plain m c _ _ ⟨(i 3).val, by omega⟩ rfl (not_normed _ (by show (i 3).val / 128 < 16 ∨ (36 ≤ (i 3).val / 128 ∧ (i 3).val / 128 ≠ 48); omega))).trans (ProjSampleRef.prods_apply _ _ _ _ _).symm
theorem q_eq : qOut (result m c) = ProjSampleRef.qRef (ProjSampleRef.prods (m ((c.tc : Thread _ _).loc Kernel4Ideal.main_arg0)) (m ((c.tc : Thread _ _).loc Kernel4Ideal.main_arg2)) (m ((c.tc : Thread _ _).loc Kernel4Ideal.main_arg3))) (m ((c.tc : Thread _ _).loc Kernel4Ideal.main_arg4)) := by
  funext i
  have hi : (i : Kernel4Ideal.S128x2048.Idx) = ix2 (i 0) (i 1) := eq_ix2 i
  rw [hi]
  have h1 : (i 1).val < 2048 := (i 1).isLt
  refine (qOut_apply _ (i 0) (i 1)).trans (Eq.trans ?_ (ProjSampleRef.qRef_apply _ _ (i 0) (i 1)).symm)
  exact result_head m c _ _ (16 + (i 1).val / 128) (by omega) (normed_query ⟨(i 1).val / 128, by omega⟩) ⟨(i 1).val % 128, Nat.mod_lt _ (by decide)⟩
    (by show 2048 + (i 1).val = (16 + (i 1).val / 128) * 128 + (i 1).val % 128; omega) _ _
    (fun k => (ProjSampleRef.prods_apply _ _ _ _ _).trans (congrArg (prod m c _) (Fin.ext (by show 2048 + ((i 1).val / 128 * 128 + k.val) = (16 + (i 1).val / 128) * 128 + k.val; omega))))
    (gains_q _ _ _ (i 1))
theorem u_eq : uOut (result m c) = ProjSampleRef.uRef (ProjSampleRef.prods (m ((c.tc : Thread _ _).loc Kernel4Ideal.main_arg0)) (m ((c.tc : Thread _ _).loc Kernel4Ideal.main_arg2)) (m ((c.tc : Thread _ _).loc Kernel4Ideal.main_arg3))) := by
  funext i
  have hi : (i : Kernel4Ideal.S128x2048.Idx) = ix2 (i 0) (i 1) := eq_ix2 i
  rw [hi]
  have h1 : (i 1).val < 2048 := (i 1).isLt
  refine (uOut_apply _ (i 0) (i 1)).trans (Eq.trans ?_ (ProjSampleRef.uRef_apply _ (i 0) (i 1)).symm)
  exact (result_plain m c _ _ ⟨(i 1).val, by omega⟩ rfl (not_normed _ (by show ((i 1).val) / 128 < 16 ∨ (36 ≤ ((i 1).val) / 128 ∧ ((i 1).val) / 128 ≠ 48); omega))).trans (ProjSampleRef.prods_apply _ _ _ _ _).symm
theorem qi_eq : qiOut (result m c) = ProjSampleRef.qiRef (ProjSampleRef.prods (m ((c.tc : Thread _ _).loc Kernel4Ideal.main_arg0)) (m ((c.tc : Thread _ _).loc Kernel4Ideal.main_arg2)) (m ((c.tc : Thread _ _).loc Kernel4Ideal.main_arg3))) := by
  funext i
  have hi : (i : Kernel4Ideal.S128x1024.Idx) = ix2 (i 0) (i 1) := eq_ix2 i
  rw [hi]
  have h1 : (i 1).val < 1024 := (i 1).isLt
  refine (qiOut_apply _ (i 0) (i 1)).trans (Eq.trans ?_ (ProjSampleRef.qiRef_apply _ (i 0) (i 1)).symm)
  exact (result_plain m c _ _ ⟨5120 + (i 1).val, by omega⟩ rfl (not_normed _ (by show (5120 + (i 1).val) / 128 < 16 ∨ (36 ≤ (5120 + (i 1).val) / 128 ∧ (5120 + (i 1).val) / 128 ≠ 48); omega))).trans (ProjSampleRef.prods_apply _ _ _ _ _).symm
theorem wi_eq : wiOut (result m c) = ProjSampleRef.wiRef (ProjSampleRef.prods (m ((c.tc : Thread _ _).loc Kernel4Ideal.main_arg0)) (m ((c.tc : Thread _ _).loc Kernel4Ideal.main_arg2)) (m ((c.tc : Thread _ _).loc Kernel4Ideal.main_arg3))) := by
  funext i
  have hi : (i : Kernel4Ideal.S128x8.Idx) = ix2 (i 0) (i 1) := eq_ix2 i
  rw [hi]
  have h1 : (i 1).val < 8 := (i 1).isLt
  refine (wiOut_apply _ (i 0) (i 1)).trans (Eq.trans ?_ (ProjSampleRef.wiRef_apply _ (i 0) (i 1)).symm)
  exact (result_plain m c _ _ ⟨6272 + (i 1).val, by omega⟩ rfl (not_normed _ (by show (6272 + (i 1).val) / 128 < 16 ∨ (36 ≤ (6272 + (i 1).val) / 128 ∧ (6272 + (i 1).val) / 128 ≠ 48); omega))).trans (ProjSampleRef.prods_apply _ _ _ _ _).symm
/-- Kernel and reference agree over the extended reals, from any arguments. -/
theorem algebraic : Cert.algebraic_Kernel4Ideal_Reference4Ideal := fun m ρ m' ρ' _ hag =>
  ⟨fun c => kOut (result m c), fun c => vOut (result m c), fun c => iOut (result m c), fun c => pOut (m ((c.tc : Thread _ _).loc Kernel4Ideal.main_arg1)) (result m c), fun c => uOut (result m c), fun c => qOut (result m c), fun c => qiOut (result m c), fun c => wiOut (result m c),
    run m ρ,
    (θ_run _ _ _).mono (fun r h c => by
      have e0 := (hag c).1
      have e1 := (hag c).2.1
      have e2 := (hag c).2.2.1
      have e3 := (hag c).2.2.2.1
      have e4 := (hag c).2.2.2.2.1
      have e5 := (hag c).2.2.2.2.2.1
      have e6 := (hag c).2.2.2.2.2.2
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
      · rw [e0, e2, e3, e5]; exact (k_eq m c).symm
      · rw [e0, e2, e3]; exact (v_eq m c).symm
      · rw [e0, e2, e3, e6]; exact (i_eq m c).symm
      · rw [e0, e1, e2, e3]; exact (p_eq m c).symm
      · rw [e0, e2, e3]; exact (u_eq m c).symm
      · rw [e0, e2, e3, e4]; exact (q_eq m c).symm
      · rw [e0, e2, e3]; exact (qi_eq m c).symm
      · rw [e0, e2, e3]; exact (wi_eq m c).symm) (Reference4Ideal.Value.run m' ρ')⟩

end Cert.ProjSample
end
-- ==== Proof.OutProjSpec.lean ====
/- The output projection as a function of its arrays, element by element over the extended reals. -/
module

public import Idealize.ShloMosaic.Lib.Pointwise

@[expose] public section

set_option maxRecDepth 16384

noncomputable section

namespace Cert.OutProjSpec

open Idealize.ShloMosaic

/-- The residual plus the two halves of the mixed row, each times its half of the weight matrix's rows. -/
def out (x : (⟨2, ![8192, 4096]⟩ : Shape).Idx → EReal) (p a : (⟨2, ![8192, 2048]⟩ : Shape).Idx → EReal)
    (w : (⟨2, ![4096, 4096]⟩ : Shape).Idx → EReal) (r : Fin 8192) (n : Fin 4096) : EReal :=
  x (ix2 r n) + ((∑ k : Fin 2048, p (ix2 r k) * w (ix2 (⟨k.val, by have := k.isLt; omega⟩ : Fin 4096) n))
    + ∑ k : Fin 2048, a (ix2 r k) * w (ix2 (⟨2048 + k.val, by have := k.isLt; omega⟩ : Fin 4096) n))

end Cert.OutProjSpec
end
-- ==== Proof.OutProj.lean ====
/- The output projection: the kernel's result, read at one element. -/
module

public import proofs.«01_k».proof.Proof.Gen.Kernel5Ideal.Value
public import proofs.«01_k».proof.Proof.OutProjSpec

@[expose] public section

set_option maxRecDepth 16384

noncomputable section

namespace Cert.OutProj

open Idealize.ShloMosaic Idealize.ShloMosaic.TcCoe Idealize.SL.Sem Cert.Kernel5Ideal Cert.Kernel5Ideal.Gen

theorem z2 : (![0, 0] : Fin 2 → Nat) = fun _ => 0 := funext fun a => by fin_cases a <;> rfl

/-- The body's payload at one element of its block. -/
theorem pay1_apply (x : Vec Ideal S512x1024 .f32) (p a : Vec Ideal S512x2048 .bf16) (wp wa : Vec Ideal S2048x1024 .bf16)
    (r : Fin 512) (n : Fin 1024) :
    k0_pay1 x p wp a wa (ix2 r n)
      = x (ix2 r n) + ((∑ k : Fin 2048, p (ix2 r k) * wp (ix2 k n)) + ∑ k : Fin 2048, a (ix2 r k) * wa (ix2 k n)) := by
  pointwise [k0_pay1]

/-- What the body leaves in its output block. -/
theorem out_block (x0 : Vec Ideal S512x1024 .f32) (x1 x2 : Vec Ideal S512x2048 .bf16) (x3 x4 : Vec Ideal S2048x1024 .bf16) :
    out0_5 x0 x1 x2 x3 x4 = k0_pay1 x0 x1 x3 x2 x4 := by
  unfold out0_5
  rw [View.canon_unit_zero z2, View.ld_unit_zero (S := S512x1024) z2, View.ld_unit_zero (S := S512x2048) z2 _ x1,
    View.ld_unit_zero (S := S512x2048) z2 _ x2, View.ld_unit_zero (S := S2048x1024) z2 _ x3, View.ld_unit_zero (S := S2048x1024) z2 _ x4]

variable (m : (ℓ : Loc nD τ sig) → Buf (Elt Ideal) ℓ)

/-- The block numbers of the windows: the row block is `t / 4`, the column block `t % 4`. -/
theorem blockNo : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = 1 ∧ win0_4.index t (1 : Fin 2) = t.val % 4
    ∧ win0_5.index t (0 : Fin 2) = t.val / 4 ∧ win0_5.index t (1 : Fin 2) = t.val % 4 := by
  decide +kernel

theorem lt_points (t : Fin cfg0.N) : t.val < 64 := lt_of_lt_of_eq t.isLt (show cfg0.N = 64 from N_0)

/-- Row `r` of row block `t / 4`, and column `n` of column block `t % 4`, in the whole array. -/
def row (t : Fin cfg0.N) (r : Fin 512) : Fin 8192 := ⟨t.val / 4 * 512 + r.val, by have := r.isLt; have := lt_points t; omega⟩
def col (t : Fin cfg0.N) (n : Fin 1024) : Fin 4096 := ⟨t.val % 4 * 1024 + n.val, by have := n.isLt; omega⟩

theorem iblk0_apply (c : Dev nD) (t : Fin cfg0.N) (r : Fin 512) (n : Fin 1024) :
    (iblk m c 0 t : Vec Ideal S512x1024 .f32) (ix2 r n) = m ((c : Thread nD τ).loc main_arg0) (ix2 (row t r) (col t n)) := by
  unfold iblk
  rw [View.read_apply]
  show V m c main_arg0 _ = _
  rw [V_main_arg0]
  congr 1
  funext a
  apply Fin.ext
  obtain ⟨h0, h1, -⟩ := blockNo t
  match a with
  | ⟨0, _⟩ => show win0_0.index t (0 : Fin 2) * 512 + 1 * r.val = t.val / 4 * 512 + r.val; omega
  | ⟨1, _⟩ => show win0_0.index t (1 : Fin 2) * 1024 + 1 * n.val = t.val % 4 * 1024 + n.val; omega

theorem iblk1_apply (c : Dev nD) (t : Fin cfg0.N) (r : Fin 512) (k : Fin 2048) :
    (iblk m c 1 t : Vec Ideal S512x2048 .bf16) (ix2 r k) = m ((c : Thread nD τ).loc main_arg1) (ix2 (row t r) k) := by
  unfold iblk
  rw [View.read_apply]
  show V m c main_arg1 _ = _
  rw [V_main_arg1]
  congr 1
  funext a
  apply Fin.ext
  obtain ⟨-, -, h0, h1, -⟩ := blockNo t
  match a with
  | ⟨0, _⟩ => show win0_1.index t (0 : Fin 2) * 512 + 1 * r.val = t.val / 4 * 512 + r.val; omega
  | ⟨1, _⟩ => show win0_1.index t (1 : Fin 2) * 2048 + 1 * k.val = k.val; omega

theorem iblk2_apply (c : Dev nD) (t : Fin cfg0.N) (r : Fin 512) (k : Fin 2048) :
    (iblk m c 2 t : Vec Ideal S512x2048 .bf16) (ix2 r k) = m ((c : Thread nD τ).loc main_arg2) (ix2 (row t r) k) := by
  unfold iblk
  rw [View.read_apply]
  show V m c main_arg2 _ = _
  rw [V_main_arg2]
  congr 1
  funext a
  apply Fin.ext
  obtain ⟨-, -, -, -, h0, h1, -⟩ := blockNo t
  match a with
  | ⟨0, _⟩ => show win0_2.index t (0 : Fin 2) * 512 + 1 * r.val = t.val / 4 * 512 + r.val; omega
  | ⟨1, _⟩ => show win0_2.index t (1 : Fin 2) * 2048 + 1 * k.val = k.val; omega

/-- The host's narrowed weight matrix has, over the extended reals, the weight matrix's entries. -/
theorem weights (c : Dev nD) : (V m c main_v0 : S4096x4096.Idx → EReal) = m ((c : Thread nD τ).loc main_arg3) := by
  show StableHlo.after hostOps0 (fun b => m (c, b)) (Proc.devRef .tc main_v0) = _
  after_results
  rfl

theorem iblk3_apply (c : Dev nD) (t : Fin cfg0.N) (k : Fin 2048) (n : Fin 1024) :
    (iblk m c 3 t : Vec Ideal S2048x1024 .bf16) (ix2 k n)
      = m ((c : Thread nD τ).loc main_arg3) (ix2 (⟨k.val, by have := k.isLt; omega⟩ : Fin 4096) (col t n)) := by
  unfold iblk
  rw [View.read_apply]
  show V m c main_v0 _ = _
  refine (congrFun (weights m c) _).trans ?_
  congr 1
  funext a
  apply Fin.ext
  obtain ⟨-, -, -, -, -, -, h0, h1, -⟩ := blockNo t
  match a with
  | ⟨0, _⟩ => show win0_3.index t (0 : Fin 2) * 2048 + 1 * k.val = k.val; omega
  | ⟨1, _⟩ => show win0_3.index t (1 : Fin 2) * 1024 + 1 * n.val = t.val % 4 * 1024 + n.val; omega

theorem iblk4_apply (c : Dev nD) (t : Fin cfg0.N) (k : Fin 2048) (n : Fin 1024) :
    (iblk m c 4 t : Vec Ideal S2048x1024 .bf16) (ix2 k n)
      = m ((c : Thread nD τ).loc main_arg3) (ix2 (⟨2048 + k.val, by have := k.isLt; omega⟩ : Fin 4096) (col t n)) := by
  unfold iblk
  rw [View.read_apply]
  show V m c main_v0 _ = _
  refine (congrFun (weights m c) _).trans ?_
  congr 1
  funext a
  apply Fin.ext
  obtain ⟨-, -, -, -, -, -, -, -, h0, h1, -⟩ := blockNo t
  match a with
  | ⟨0, _⟩ => show win0_4.index t (0 : Fin 2) * 2048 + 1 * k.val = 2048 + k.val; omega
  | ⟨1, _⟩ => show win0_4.index t (1 : Fin 2) * 1024 + 1 * n.val = t.val % 4 * 1024 + n.val; omega

/-- The result as a function of the launched arrays. -/
def result (c : Dev nD) : S8192x4096.Idx → EReal := fun i =>
  OutProjSpec.out (m ((c : Thread nD τ).loc main_arg0)) (m ((c : Thread nD τ).loc main_arg1))
    (m ((c : Thread nD τ).loc main_arg2)) (m ((c : Thread nD τ).loc main_arg3)) (i 0) (i 1)

/-- Every point writes back its block of the result. -/
theorem flushed_eq (c : Dev nD) (t : Fin cfg0.N) :
    (dats m 0 c).flushed 5 t = ((cfg0.win 5).blk t).view.read (Elt Ideal) (result m c) := by
  rw [Value.flushed5, out_block]
  funext y
  have hy : (y : S512x1024.Idx) = ix2 (y 0) (y 1) := eq_ix2 y
  have he : (((cfg0.win 5).blk t).view.emb y : S8192x4096.Idx) = ix2 (row t (y 0)) (col t (y 1)) := by
    funext a
    apply Fin.ext
    obtain ⟨-, -, -, -, -, -, -, -, -, -, h0, h1⟩ := blockNo t
    match a with
    | ⟨0, _⟩ => show win0_5.index t (0 : Fin 2) * 512 + 1 * (y 0).val = t.val / 4 * 512 + (y 0).val; omega
    | ⟨1, _⟩ => show win0_5.index t (1 : Fin 2) * 1024 + 1 * (y 1).val = t.val % 4 * 1024 + (y 1).val; omega
  have hx : ((cfg0.win 5).xinj (grid0.coords t) y : S512x1024.Idx) = ix2 (y 0) (y 1) := hy
  rw [View.read_apply]
  show k0_pay1 (iblk m c 0 t) (iblk m c 1 t) (iblk m c 3 t) (iblk m c 2 t) (iblk m c 4 t) ((cfg0.win 5).xinj (grid0.coords t) y)
    = result m c (((cfg0.win 5).blk t).view.emb y)
  rw [hx, he]
  refine (pay1_apply _ _ _ _ _ (y 0) (y 1)).trans ?_
  unfold result OutProjSpec.out
  refine congrArg₂ (· + ·) (iblk0_apply m c t (y 0) (y 1)) (congrArg₂ (· + ·)
    (Finset.sum_congr rfl fun k _ => congrArg₂ (· * ·) (iblk1_apply m c t (y 0) k) (iblk3_apply m c t k (y 1)))
    (Finset.sum_congr rfl fun k _ => congrArg₂ (· * ·) (iblk2_apply m c t (y 0) k) (iblk4_apply m c t k (y 1))))

/-- Every element is in some point's block. -/
theorem covered (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 64 := N_0
  obtain ⟨t, ht⟩ : ∃ t : Fin cfg0.N, t.val = (i 0).val / 512 * 4 + (i 1).val / 1024 := ⟨⟨(i 0).val / 512 * 4 + (i 1).val / 1024, by omega⟩, rfl⟩
  refine ⟨t, flush0_5 t, ?_⟩
  show i ∈ ((View.whole main_v1).slice (win0_5.rect t)).set
  rw [View.set_slice_whole, Rect.mem_set_unit]
  obtain ⟨-, -, -, -, -, -, -, -, -, -, e0, e1⟩ := blockNo t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array after the run. -/
theorem final (c : Dev nD) : (dats m 0 c).arrAt 5 cfg0.N = result m c :=
  (dats m 0 c).arrAt_eq_of_cover 5 _ (fun t _ => flushed_eq m c t) covered

end Cert.OutProj
end
-- ==== Proof.OutProjRef.lean ====
/- The output projection's reference read at one element. -/
module

public import proofs.«01_k».proof.Proof.Gen.Reference5Ideal.Run
public import proofs.«01_k».proof.Proof.OutProjSpec

@[expose] public section

set_option maxRecDepth 16384

noncomputable section

namespace Cert.OutProjRef

open Idealize.ShloMosaic Idealize.ShloMosaic.TcCoe Idealize.SL.Sem Cert.Reference5Ideal Cert.Reference5Ideal.Gen

/-- The reference's result. -/
def ref (x : FVec Ideal S8192x4096 .f32) (p a : FVec Ideal S8192x2048 .bf16) (w : FVec Ideal S4096x4096 .f32) : FVec Ideal S8192x4096 .f32 :=
  addf x (Host.dotGeneral dot_S8192x4096_S4096x4096_S8192x4096_1_0_0_1_n_n none (concatenate S8192x4096 1 [⟨S8192x2048, (extf .f32 p bitsLt_bf16_f32)⟩, ⟨S8192x2048, (extf .f32 a bitsLt_bf16_f32)⟩] concatenates_S8192x2048_S8192x2048_S8192x4096_d1) w)

theorem ref_apply (x : FVec Ideal S8192x4096 .f32) (p a : FVec Ideal S8192x2048 .bf16) (w : FVec Ideal S4096x4096 .f32)
    (r : Fin 8192) (n : Fin 4096) : ref x p a w (ix2 r n) = OutProjSpec.out x p a w r n := by
  have e : ref x p a w (ix2 r n) = x (ix2 r n) + ∑ k : Fin 4096, (if h : k.val < 2048 then p (ix2 r ⟨k.val, h⟩) else a (ix2 r ⟨k.val - 2048, by have := k.isLt; omega⟩)) * w (ix2 k n) := by
    pointwise [ref]
  rw [e]
  unfold OutProjSpec.out
  refine congrArg (x (ix2 r n) + ·) ((Fin.sum_univ_add (a := 2048) (b := 2048) _).trans (congrArg₂ (· + ·)
    (Finset.sum_congr rfl fun k _ => ?_) (Finset.sum_congr rfl fun k _ => ?_)))
  · rw [dif_pos (show (Fin.castAdd 2048 k).val < 2048 from k.isLt)]
    rfl
  · rw [dif_neg (show ¬(Fin.natAdd 2048 k).val < 2048 by simp [Fin.natAdd])]
    have hk : (⟨(Fin.natAdd 2048 k).val - 2048, by have := k.isLt; simp [Fin.natAdd]⟩ : Fin 2048) = k :=
      Fin.ext (by show 2048 + k.val - 2048 = k.val; omega)
    rw [hk]
    rfl

end Cert.OutProjRef
end
-- ==== Proof.OutProjClaim.lean ====
/- The output projection's claims: the reference's frame, and the kernel's result against the reference's. -/
module

public import proofs.«01_k».proof.Defs
public import proofs.«01_k».proof.Proof.OutProj
public import proofs.«01_k».proof.Proof.OutProjRef

@[expose] public section

set_option maxRecDepth 16384

noncomputable section

namespace Cert.OutProj

open Idealize.ShloMosaic Idealize.ShloMosaic.TcCoe Idealize.SL.Sem

local instance : Cert.Kernel5Ideal.Facts := Cert.Kernel5Ideal.Gen.facts
local instance : Cert.Reference5Ideal.Facts := Cert.Reference5Ideal.Gen.facts

/-- The reference runs, keeps its arguments and leaves no counter behind (it has none). -/
theorem frame_ref : Cert.quiescent_Reference5Ideal := fun m ρ _ =>
  (θ_run _ _ _).mono (fun r h => ⟨fun c => (h c).2, sem_eq_zero_of_no_sems (by decide) r.2⟩) (Reference5Ideal.Value.run m ρ)

/-- The kernel's array is the reference's result on the same arguments. -/
theorem final_eq (m : (ℓ : Loc Kernel5Ideal.nD Kernel5Ideal.τ Kernel5Ideal.sig) → Buf (Elt Ideal) ℓ) (c : Dev Kernel5Ideal.nD) :
    result m c = OutProjRef.ref (m ((c.tc : Thread _ _).loc Kernel5Ideal.main_arg0)) (m ((c.tc : Thread _ _).loc Kernel5Ideal.main_arg1))
      (m ((c.tc : Thread _ _).loc Kernel5Ideal.main_arg2)) (m ((c.tc : Thread _ _).loc Kernel5Ideal.main_arg3)) := by
  funext i
  have hi : (i : Kernel5Ideal.S8192x4096.Idx) = ix2 (i 0) (i 1) := eq_ix2 i
  rw [hi]
  exact (OutProjRef.ref_apply _ _ _ _ (i 0) (i 1)).symm

/-- Kernel and reference agree over the extended reals, from any arguments. -/
theorem algebraic : Cert.algebraic_Kernel5Ideal_Reference5Ideal := fun m ρ m' ρ' _ hag =>
  ⟨fun c => result m c,
    (θ_run _ _ _).mono (fun r h c => ⟨(h c).1.trans (final m c), (h c).2⟩) (Kernel5Ideal.Value.run_blocks m ρ),
    (θ_run _ _ _).mono (fun r h c => by
      refine ⟨(h c).1.trans ?_, (h c).2⟩
      rw [(hag c).1, (hag c).2.1, (hag c).2.2.1, (hag c).2.2.2]
      exact (final_eq m c).symm) (Reference5Ideal.Value.run m' ρ')⟩

end Cert.OutProj
end
-- ==== Proof.FfnCastCases.lean ====
/- What each case of the sample rows' feed-forward body leaves in its blocks and in the carried scratch, and its payloads
   read at one element. -/
module

public import proofs.«01_k».proof.Proof.Gen.Kernel6Ideal.Value
public import proofs.«01_k».proof.Proof.FfnSpec

@[expose] public section

set_option maxRecDepth 16384

noncomputable section

namespace Cert.FfnCast

open Idealize.ShloMosaic Idealize.ShloMosaic.TcCoe Idealize.SL.Sem Cert.Kernel6Ideal Cert.Kernel6Ideal.Gen

/-- The scratch payload: the rows, normalised. -/
theorem pay2_apply (x : Vec Ideal S128x4096 .f32) (g : Vec Ideal S1x4096 .f32) (r : Fin 128) (k : Fin 4096) :
    k0_pay2 x g (ix2 r k) = FfnSpec.norm (fun l => x (ix2 r l)) (fun l => g (ix2 0 l)) k := by
  pointwise [k0_pay2, FfnSpec.norm]

/-- The reset payload is zero. -/
theorem pay3_apply (j : S128x4096.Idx) : k0_pay3 (F := Ideal) j = 0 := by
  pointwise [k0_pay3]

/-- The accumulation payload: the accumulator plus the tile's contribution. -/
theorem pay9_apply (wg wu : Vec Ideal S4096x256 .f32) (wd : Vec Ideal S256x4096 .f32) (h : Vec Ideal S128x4096 .bf16)
    (a : Vec Ideal S128x4096 .f32) (r : Fin 128) (n : Fin 4096) :
    k0_pay9 wg wu wd h a (ix2 r n)
      = a (ix2 r n) + ∑ c : Fin 256, FfnSpec.unit (fun k => h (ix2 r k)) (fun k => wg (ix2 k c)) (fun k => wu (ix2 k c))
          * wd (ix2 c n) := by
  pointwise [k0_pay9, k0_pay4, k0_pay5, k0_pay6, FfnSpec.unit]

/-- The closing payload: the rows plus half the accumulator. -/
theorem pay1_apply (x a : Vec Ideal S128x4096 .f32) (r : Fin 128) (n : Fin 4096) :
    k0_pay1 x a (ix2 r n) = x (ix2 r n) + Ideal.ofBits .f32 0x3F000000#32 * a (ix2 r n) := by
  pointwise [k0_pay1]

/-- The narrowed tiles have, over the extended reals, the tiles' entries. -/
theorem pay7_apply (w : Vec Ideal S4096x256 .f32) (k : Fin 4096) (u : Fin 256) : k0_pay7 w (ix3 0 k u) = w (ix2 k u) := by
  pointwise [k0_pay7, k0_pay4]
theorem pay8_apply (w : Vec Ideal S4096x256 .f32) (k : Fin 4096) (u : Fin 256) : k0_pay8 w (ix3 0 k u) = w (ix2 k u) := by
  pointwise [k0_pay8, k0_pay5]
theorem pay6_apply (w : Vec Ideal S256x4096 .f32) (u : Fin 256) (n : Fin 4096) : k0_pay6 w (ix2 u n) = w (ix2 u n) := by
  pointwise [k0_pay6]

theorem z2 : (![0, 0] : Fin 2 → Nat) = fun _ => 0 := funext fun a => by fin_cases a <;> rfl
theorem z3 : (![0, 0, 0] : Fin 3 → Nat) = fun _ => 0 := funext fun a => by fin_cases a <;> rfl

section
variable {F : FTy → Type} [FloatOps F]
variable (c : Dev nD) (i : grid0.Coords) (arg1 : Memref sig .tc .vmem S128x4096 .f32) (harg1 : arg1.IsWhole) (arg2 : Memref sig .tc .vmem S1x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S256x4096 .f32) (harg5 : arg5.IsWhole) (arg6 : Memref sig .tc .vmem S128x4096 .f32) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S256x4096 .bf16) (harg9 : arg9.IsWhole) (arg10 : Memref sig .tc .vmem S128x4096 .bf16) (harg10 : arg10.IsWhole)
  (x0 : Vec F S128x4096 .f32) (x1 : Vec F S1x4096 .f32) (x2 : Vec F S4096x256 .f32) (x3 : Vec F S4096x256 .f32) (x4 : Vec F S256x4096 .f32) (xo5 : Vec F S128x4096 .f32) (xs0 : Vec F S128x4096 .bf16)

/-- Between the first and the last tile the body adds the tile's contribution to the accumulator. -/
theorem out_mid (hc0 : ¬cond0_0 i) (hc1 : ¬cond0_1 i) :
    out0_B_5 c i arg1 harg1 arg2 harg2 arg3 harg3 arg4 harg4 arg5 harg5 arg6 harg6 arg7 harg7 arg8 harg8 arg9 harg9 arg10 harg10 hc0 hc1 x0 x1 x2 x3 x4 xo5 xs0 = k0_pay9 x2 x3 x4 xs0 xo5 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_B
  dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- At the last tile the body adds the contribution, then leaves the rows plus half the accumulator. -/
theorem out_last (hc0 : ¬cond0_0 i) (hc1 : cond0_1 i) :
    out0_C_5 c i arg1 harg1 arg2 harg2 arg3 harg3 arg4 harg4 arg5 harg5 arg6 harg6 arg7 harg7 arg8 harg8 arg9 harg9 arg10 harg10 hc0 hc1 x0 x1 x2 x3 x4 xo5 xs0 = k0_pay1 x0 (k0_pay9 x2 x3 x4 xs0 xo5) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_C
  dsimp only
  sl_unfold_words
  rw [View.canon_cons_unit_zero (S := S128x4096) z2, View.readCov_unit_zero (S := S128x4096) _ z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- At the first tile the body resets the accumulator and adds the contribution, with the scratch it has just stored. -/
theorem out_first (hc0 : cond0_0 i) (hc1 : ¬cond0_1 i) :
    out0_A_5 c i arg1 harg1 arg2 harg2 arg3 harg3 arg4 harg4 arg5 harg5 arg6 harg6 arg7 harg7 arg8 harg8 arg9 harg9 arg10 harg10 hc0 hc1 x0 x1 x2 x3 x4 = k0_pay9 x2 x3 x4 (k0_pay2 x0 x1) k0_pay3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S128x4096) z2]
  simp only [View.readCov_unit_zero (S := S128x4096) _ z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- At the first tile the body stores the normalised rows in the scratch. -/
theorem scratch_first (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 = k0_pay2 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed gate tile the body leaves (first tile). -/
theorem gate_first (hc0 : cond0_0 i) (hc1 : ¬cond0_1 i) :
    out0_A_6 c i arg1 harg1 arg2 harg2 arg3 harg3 arg4 harg4 arg5 harg5 arg6 harg6 arg7 harg7 arg8 harg8 arg9 harg9 arg10 harg10 hc0 hc1 x0 x1 x2 x3 x4 = k0_pay7 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed up tile the body leaves (first tile). -/
theorem up_first (hc0 : cond0_0 i) (hc1 : ¬cond0_1 i) :
    out0_A_7 c i arg1 harg1 arg2 harg2 arg3 harg3 arg4 harg4 arg5 harg5 arg6 harg6 arg7 harg7 arg8 harg8 arg9 harg9 arg10 harg10 hc0 hc1 x0 x1 x2 x3 x4 = k0_pay8 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed down tile the body leaves (first tile). -/
theorem down_first (hc0 : cond0_0 i) (hc1 : ¬cond0_1 i) :
    out0_A_8 c i arg1 harg1 arg2 harg2 arg3 harg3 arg4 harg4 arg5 harg5 arg6 harg6 arg7 harg7 arg8 harg8 arg9 harg9 arg10 harg10 hc0 hc1 x0 x1 x2 x3 x4 = k0_pay6 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed gate tile the body leaves (mid tile). -/
theorem gate_mid (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 hc0 hc1 x0 x1 x2 x3 x4 xo5 xs0 = k0_pay7 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_B
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed up tile the body leaves (mid tile). -/
theorem up_mid (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 hc0 hc1 x0 x1 x2 x3 x4 xo5 xs0 = k0_pay8 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_B
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed down tile the body leaves (mid tile). -/
theorem down_mid (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 hc0 hc1 x0 x1 x2 x3 x4 xo5 xs0 = k0_pay6 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_B
  dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed gate tile the body leaves (last tile). -/
theorem gate_last (hc0 : ¬cond0_0 i) (hc1 : cond0_1 i) :
    out0_C_6 c i arg1 harg1 arg2 harg2 arg3 harg3 arg4 harg4 arg5 harg5 arg6 harg6 arg7 harg7 arg8 harg8 arg9 harg9 arg10 harg10 hc0 hc1 x0 x1 x2 x3 x4 xo5 xs0 = k0_pay7 x2 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_C
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed up tile the body leaves (last tile). -/
theorem up_last (hc0 : ¬cond0_0 i) (hc1 : cond0_1 i) :
    out0_C_7 c i arg1 harg1 arg2 harg2 arg3 harg3 arg4 harg4 arg5 harg5 arg6 harg6 arg7 harg7 arg8 harg8 arg9 harg9 arg10 harg10 hc0 hc1 x0 x1 x2 x3 x4 xo5 xs0 = k0_pay8 x3 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_C
  dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

/-- The narrowed down tile the body leaves (last tile). -/
theorem down_last (hc0 : ¬cond0_0 i) (hc1 : cond0_1 i) :
    out0_C_8 c i arg1 harg1 arg2 harg2 arg3 harg3 arg4 harg4 arg5 harg5 arg6 harg6 arg7 harg7 arg8 harg8 arg9 harg9 arg10 harg10 hc0 hc1 x0 x1 x2 x3 x4 xo5 xs0 = k0_pay6 x4 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 xo5 xs0)]
  unfold kernelRun0_C
  dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, View.ld_unit_zero (S := S128x4096) z2, View.ld_unit_zero (S := S256x4096) z2, View.ld_unit_zero (S := S4096x256) z2, View.ld_unit_zero (S := S1x4096) z2]

end

end Cert.FfnCast
end
-- ==== Proof.FfnCastKer.lean ====
/- The sample rows' feed-forward kernel: its narrowed weight tiles, and its rows by following the accumulator over the
   tiles of hidden units. -/
module

public import proofs.«01_k».proof.Proof.FfnCastCases
public import proofs.«01_k».proof.Proof.FfnKer

@[expose] public section

set_option maxRecDepth 16384

noncomputable section

namespace Cert.FfnCast

open Idealize.ShloMosaic Idealize.ShloMosaic.TcCoe Idealize.SL.Sem Cert.Kernel6Ideal Cert.Kernel6Ideal.Gen

variable (m : (ℓ : Loc nD τ sig) → Buf (Elt Ideal) ℓ)

/-- The block numbers of the five input windows: point `t` is at tile `t`. -/
theorem blockNo : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val ∧ win0_4.index t (1 : Fin 2) = 0 := by
  decide +kernel

theorem lt_points (t : Fin cfg0.N) : t.val < 43 := lt_of_lt_of_eq t.isLt (show cfg0.N = 43 from N_0)

/-- The launched arrays, by name. -/
abbrev ax (c : Dev nD) : S128x4096.Idx → EReal := m ((c : Thread nD τ).loc main_arg0)
abbrev ag (c : Dev nD) : S4096.Idx → EReal := m ((c : Thread nD τ).loc main_arg1)
abbrev awg (c : Dev nD) : S4096x11008.Idx → EReal := m ((c : Thread nD τ).loc main_arg2)
abbrev awu (c : Dev nD) : S4096x11008.Idx → EReal := m ((c : Thread nD τ).loc main_arg3)
abbrev awd (c : Dev nD) : S11008x4096.Idx → EReal := m ((c : Thread nD τ).loc main_arg4)

theorem iblk0_apply (c : Dev nD) (t : Fin cfg0.N) (r : Fin 128) (k : Fin 4096) :
    (iblk m c 0 t : Vec Ideal S128x4096 .f32) (ix2 r k) = ax m c (ix2 r k) := by
  unfold iblk
  rw [View.read_apply]
  show V m c main_arg0 _ = _
  rw [V_main_arg0]
  congr 1
  funext a
  apply Fin.ext
  obtain ⟨h0, h1, -⟩ := blockNo t
  match a with
  | ⟨0, _⟩ => show win0_0.index t (0 : Fin 2) * 128 + 1 * r.val = r.val; omega
  | ⟨1, _⟩ => show win0_0.index t (1 : Fin 2) * 4096 + 1 * k.val = k.val; omega

/-- A vector laid out as one row. -/
theorem asRow_apply (g : Vec Ideal S4096 .f32) (k : Fin 4096) :
    shapeCast S1x4096 g shapeCasts_S4096_S1x4096 (ix2 0 k) = g (ix1 k) := by
  pointwise []

theorem iblk1_apply (c : Dev nD) (t : Fin cfg0.N) (k : Fin 4096) :
    (iblk m c 1 t : Vec Ideal S1x4096 .f32) (ix2 0 k) = ag m c (ix1 k) := by
  have hv : (V m c main_v0 : S1x4096.Idx → EReal)
      = shapeCast S1x4096 (m ((c : Thread nD τ).loc main_arg1) : S4096.Idx → EReal) shapeCasts_S4096_S1x4096 := by
    show StableHlo.after hostOps0 (fun b => m (c, b)) (Proc.devRef .tc main_v0) = _
    after_results
    rfl
  unfold iblk
  rw [View.read_apply]
  show V m c main_v0 _ = _
  obtain ⟨-, -, h0, h1, -⟩ := blockNo t
  have hi : ((cfg0.win 1).blk t).view.emb (ix2 (0 : Fin 1) k) = (ix2 (0 : Fin 1) k : S1x4096.Idx) := by
    funext a
    apply Fin.ext
    match a with
    | ⟨0, _⟩ => show win0_1.index t (0 : Fin 2) * 1 + 1 * 0 = 0; omega
    | ⟨1, _⟩ => show win0_1.index t (1 : Fin 2) * 4096 + 1 * k.val = k.val; omega
  refine (congrArg (V m c main_v0 : S1x4096.Idx → EReal) hi).trans ?_
  rw [hv]
  exact asRow_apply _ k

/-- A flat weight matrix as 43 column tiles of width 256. -/
def tiled (w : (⟨2, ![4096, 11008]⟩ : Shape).Idx → EReal) : (⟨3, ![43, 4096, 256]⟩ : Shape).Idx → EReal := fun i =>
  w (ix2 (i 1 : Fin 4096) (⟨(i 0 : Fin 43).val * 256 + (i 2 : Fin 256).val, by
    have h0 : (i 0).val < 43 := (i 0).isLt; have h2 : (i 2).val < 256 := (i 2).isLt; show (i 0).val * 256 + (i 2).val < 11008; omega⟩ : Fin 11008))

theorem tiled_apply (w : (⟨2, ![4096, 11008]⟩ : Shape).Idx → EReal) (t : Fin 43) (k : Fin 4096) (u : Fin 256) :
    tiled w (ix3 t k u)
      = w (ix2 k (⟨t.val * 256 + u.val, by have := t.isLt; have := u.isLt; omega⟩ : Fin 11008)) := rfl

theorem iblk2_flat (c : Dev nD) (t : Fin cfg0.N) (k : Fin 4096) (u : Fin 256) :
    (iblk m c 2 t : Vec Ideal S4096x256 .f32) (ix2 k u)
      = awg m c (ix2 k (⟨t.val * 256 + u.val, by have := u.isLt; have := lt_points t; omega⟩ : Fin 11008)) := by
  unfold iblk
  rw [View.read_apply]
  show V m c main_arg2 _ = _
  rw [V_main_arg2]
  congr 1
  funext a
  apply Fin.ext
  obtain ⟨-, -, -, -, h0, h1, -⟩ := blockNo t
  match a with
  | ⟨0, _⟩ => show win0_2.index t (0 : Fin 2) * 4096 + 1 * k.val = k.val; omega
  | ⟨1, _⟩ => show win0_2.index t (1 : Fin 2) * 256 + 1 * u.val = t.val * 256 + u.val; omega

theorem iblk2_apply (c : Dev nD) (t : Fin cfg0.N) (k : Fin 4096) (u : Fin 256) :
    (iblk m c 2 t : Vec Ideal S4096x256 .f32) (ix2 k u) = tiled (awg m c) (ix3 (⟨t.val, lt_points t⟩ : Fin 43) k u) :=
  (iblk2_flat m c t k u).trans (tiled_apply (awg m c) ⟨t.val, lt_points t⟩ k u).symm

theorem iblk3_flat (c : Dev nD) (t : Fin cfg0.N) (k : Fin 4096) (u : Fin 256) :
    (iblk m c 3 t : Vec Ideal S4096x256 .f32) (ix2 k u)
      = awu m c (ix2 k (⟨t.val * 256 + u.val, by have := u.isLt; have := lt_points t; omega⟩ : Fin 11008)) := by
  unfold iblk
  rw [View.read_apply]
  show V m c main_arg3 _ = _
  rw [V_main_arg3]
  congr 1
  funext a
  apply Fin.ext
  obtain ⟨-, -, -, -, -, -, h0, h1, -⟩ := blockNo t
  match a with
  | ⟨0, _⟩ => show win0_3.index t (0 : Fin 2) * 4096 + 1 * k.val = k.val; omega
  | ⟨1, _⟩ => show win0_3.index t (1 : Fin 2) * 256 + 1 * u.val = t.val * 256 + u.val; omega

theorem iblk3_apply (c : Dev nD) (t : Fin cfg0.N) (k : Fin 4096) (u : Fin 256) :
    (iblk m c 3 t : Vec Ideal S4096x256 .f32) (ix2 k u) = tiled (awu m c) (ix3 (⟨t.val, lt_points t⟩ : Fin 43) k u) :=
  (iblk3_flat m c t k u).trans (tiled_apply (awu m c) ⟨t.val, lt_points t⟩ k u).symm

theorem iblk4_apply (c : Dev nD) (t : Fin cfg0.N) (u : Fin 256) (n : Fin 4096) :
    (iblk m c 4 t : Vec Ideal S256x4096 .f32) (ix2 u n)
      = awd m c (ix2 (⟨t.val * 256 + u.val, by have := u.isLt; have := lt_points t; omega⟩ : Fin 11008) n) := by
  unfold iblk
  rw [View.read_apply]
  show V m c main_arg4 _ = _
  rw [V_main_arg4]
  congr 1
  funext a
  apply Fin.ext
  obtain ⟨-, -, -, -, -, -, -, -, h0, h1⟩ := blockNo t
  match a with
  | ⟨0, _⟩ => show win0_4.index t (0 : Fin 2) * 256 + 1 * u.val = t.val * 256 + u.val; omega
  | ⟨1, _⟩ => show win0_4.index t (1 : Fin 2) * 4096 + 1 * n.val = n.val; omega

/-! ## The narrowed tiles -/

/-- What every point leaves in the three tile windows. -/
theorem tiles_point (c : Dev nD) (t : Fin cfg0.N) :
    (outsAt0 m c t.val t.isLt).2.1 = k0_pay7 (iblk m c 2 t) ∧ (outsAt0 m c t.val t.isLt).2.2.1 = k0_pay8 (iblk m c 3 t)
    ∧ (outsAt0 m c t.val t.isLt).2.2.2.1 = k0_pay6 (iblk m c 4 t) := by
  by_cases h0 : t.val % 43 = 0
  · rw [outsAt0_A m c t h0 (by omega)]
    dsimp only
    exact ⟨gate_first .., up_first .., down_first ..⟩
  · by_cases h1 : t.val % 43 = 42
    · rw [outsAt0_C m c t h0 h1]
      dsimp only
      exact ⟨gate_last .., up_last .., down_last ..⟩
    · rw [outsAt0_B m c t h0 h1]
      dsimp only
      exact ⟨gate_mid .., up_mid .., down_mid ..⟩

theorem gate_final (c : Dev nD) (t : Fin 43) (k : Fin 4096) (u : Fin 256) :
    Value.G6 m c (ix3 t k u) = tiled (awg m c) (ix3 t k u) := by
  have hk := k.isLt; have hu := u.isLt; have ht := t.isLt
  have hpt : Value.pt6Of (ix3 t k u) = t.val := by
    show 1 * (t.val / 1 - 0) + 1 * (k.val / 4096 - 0) + 1 * (u.val / 256 - 0) = t.val
    omega
  have hlt : Value.pt6Of (ix3 t k u) < cfg0.N := by rw [hpt, show cfg0.N = 43 from N_0]; exact ht
  have hloc : Value.loc6Of (ix3 t k u) = (ix3 (0 : Fin 1) k u : S1x4096x256.Idx) := by
    funext a
    apply Fin.ext
    match a with
    | ⟨0, _⟩ => exact Nat.mod_one _
    | ⟨1, _⟩ => exact Nat.mod_eq_of_lt hk
    | ⟨2, _⟩ => exact Nat.mod_eq_of_lt hu
  unfold Value.G6
  rw [dif_pos hlt, ← Value.outsAt0_sweep m c _ hlt, hloc, (tiles_point m c ⟨_, hlt⟩).1]
  refine (pay7_apply _ k u).trans ((iblk2_apply m c ⟨_, hlt⟩ k u).trans ?_)
  exact congrArg (fun s : Fin 43 => tiled (awg m c) (ix3 s k u)) (Fin.ext hpt)

theorem up_final (c : Dev nD) (t : Fin 43) (k : Fin 4096) (u : Fin 256) :
    Value.G7 m c (ix3 t k u) = tiled (awu m c) (ix3 t k u) := by
  have hk := k.isLt; have hu := u.isLt; have ht := t.isLt
  have hpt : Value.pt7Of (ix3 t k u) = t.val := by
    show 1 * (t.val / 1 - 0) + 1 * (k.val / 4096 - 0) + 1 * (u.val / 256 - 0) = t.val
    omega
  have hlt : Value.pt7Of (ix3 t k u) < cfg0.N := by rw [hpt, show cfg0.N = 43 from N_0]; exact ht
  have hloc : Value.loc7Of (ix3 t k u) = (ix3 (0 : Fin 1) k u : S1x4096x256.Idx) := by
    funext a
    apply Fin.ext
    match a with
    | ⟨0, _⟩ => exact Nat.mod_one _
    | ⟨1, _⟩ => exact Nat.mod_eq_of_lt hk
    | ⟨2, _⟩ => exact Nat.mod_eq_of_lt hu
  unfold Value.G7
  rw [dif_pos hlt, ← Value.outsAt0_sweep m c _ hlt, hloc, (tiles_point m c ⟨_, hlt⟩).2.1]
  refine (pay8_apply _ k u).trans ((iblk3_apply m c ⟨_, hlt⟩ k u).trans ?_)
  exact congrArg (fun s : Fin 43 => tiled (awu m c) (ix3 s k u)) (Fin.ext hpt)

theorem down_final (c : Dev nD) (j : Fin 11008) (n : Fin 4096) : Value.G8 m c (ix2 j n) = awd m c (ix2 j n) := by
  have hj := j.isLt; have hn := n.isLt
  have hpt : Value.pt8Of (ix2 j n) = j.val / 256 := by
    show 1 * (j.val / 256 - 0) + 1 * (n.val / 4096 - 0) = j.val / 256
    omega
  have hlt : Value.pt8Of (ix2 j n) < cfg0.N := by rw [hpt, show cfg0.N = 43 from N_0]; omega
  have hloc : Value.loc8Of (ix2 j n) = (ix2 (⟨j.val % 256, Nat.mod_lt _ (by decide)⟩ : Fin 256) n : S256x4096.Idx) := by
    funext a
    apply Fin.ext
    match a with
    | ⟨0, _⟩ => rfl
    | ⟨1, _⟩ => exact Nat.mod_eq_of_lt hn
  unfold Value.G8
  rw [dif_pos hlt, ← Value.outsAt0_sweep m c _ hlt, hloc, (tiles_point m c ⟨_, hlt⟩).2.2]
  refine (pay6_apply _ _ n).trans ((iblk4_apply m c ⟨_, hlt⟩ _ n).trans ?_)
  refine congrArg (fun s : Fin 11008 => awd m c (ix2 s n)) (Fin.ext ?_)
  show Value.pt8Of (ix2 j n) * 256 + j.val % 256 = j.val
  omega

/-! ## The accumulator over the tiles -/

/-- One accumulation over a tile adds the tile's term, when the operands are the tile's blocks. -/
theorem pay9_tile (h : Vec Ideal S128x4096 .bf16) (a : Vec Ideal S128x4096 .f32) (bg bu : Vec Ideal S4096x256 .f32)
    (bd : Vec Ideal S256x4096 .f32) (wg wu : (⟨3, ![43, 4096, 256]⟩ : Shape).Idx → EReal) (wd : S11008x4096.Idx → EReal) (t : Fin 43)
    (hg : ∀ k u, bg (ix2 k u) = wg (ix3 t k u)) (hu : ∀ k u, bu (ix2 k u) = wu (ix3 t k u))
    (hd : ∀ (u : Fin 256) (n : Fin 4096), bd (ix2 u n) = wd (ix2 ⟨t.val * 256 + u.val, by have := t.isLt; have := u.isLt; omega⟩ n))
    (r : Fin 128) (n : Fin 4096) :
    k0_pay9 bg bu bd h a (ix2 r n) = a (ix2 r n) + FfnSpec.tileTerm (fun k => h (ix2 r k)) wg wu wd n t := by
  rw [pay9_apply]
  simp only [hg, hu, hd]
  rfl

/-- The normalised row `R` of the input. -/
def hid (c : Dev nD) (R : Fin 128) (k : Fin 4096) : EReal :=
  FfnSpec.norm (fun l => ax m c (ix2 R l)) (fun l => ag m c (ix1 l)) k

/-- Half a residual step at one element. -/
def out (x : S128x4096.Idx → EReal) (g : S4096.Idx → EReal) (wg wu : S4096x11008.Idx → EReal) (wd : S11008x4096.Idx → EReal)
    (R : Fin 128) (n : Fin 4096) : EReal :=
  x (ix2 R n) + Ideal.ofBits .f32 0x3F000000#32
    * FfnSpec.down (FfnSpec.norm (fun l => x (ix2 R l)) fun l => g (ix1 l)) (tiled wg) (tiled wu) wd n

/-- What the accumulator holds after tile `s`: the tiles so far, and after the last tile the result. -/
def accVal (c : Dev nD) (R : Fin 128) (n : Fin 4096) (s : ℕ) : EReal :=
  if s = 42 then out (ax m c) (ag m c) (awg m c) (awu m c) (awd m c) R n
  else Ffn.partSum (hid m c R) (tiled (awg m c)) (tiled (awu m c)) (awd m c) n (s + 1)

/-- After every grid point: the accumulator block and the scratch. -/
theorem after_point (c : Dev nD) (r : Fin 128) : ∀ (N : ℕ) (hN : N < cfg0.N) (n : Fin 4096),
    (outsAt0 m c N hN).1 (ix2 r n) = accVal m c r n N ∧ (outsAt0 m c N hN).2.2.2.2 (ix2 r n) = hid m c r n := by
  intro N
  induction N with
  | zero =>
    intro hN n
    have hs : ∀ k, k0_pay2 (iblk m c 0 ⟨0, hN⟩) (iblk m c 1 ⟨0, hN⟩) (ix2 r k) = hid m c r k := by
      intro k
      refine (pay2_apply _ _ r k).trans ?_
      unfold hid
      exact congrArg₂ (fun x g => FfnSpec.norm x g k) (funext fun l => iblk0_apply m c ⟨0, hN⟩ r l)
        (funext fun l => iblk1_apply m c ⟨0, hN⟩ l)
    rw [outsAt0_A m c ⟨0, hN⟩ rfl (show ¬(0 % 43 = 42) by decide)]
    dsimp only
    rw [out_first, scratch_first]
    refine ⟨?_, hs n⟩
    refine (pay9_tile _ _ _ _ _ (tiled (awg m c)) (tiled (awu m c)) (awd m c) ⟨0, by decide⟩
      (iblk2_apply m c ⟨0, hN⟩) (iblk3_apply m c ⟨0, hN⟩) (iblk4_apply m c ⟨0, hN⟩) r n).trans ?_
    rw [pay3_apply, show (fun k => k0_pay2 (iblk m c 0 ⟨0, hN⟩) (iblk m c 1 ⟨0, hN⟩) (ix2 r k)) = hid m c r from funext hs]
    unfold accVal
    rw [if_neg (by decide), Ffn.partSum_succ _ _ _ _ _ _ (by decide)]
    rfl
  | succ N ih =>
    intro hN n
    have hb : N + 1 < 43 := lt_points ⟨N + 1, hN⟩
    have h0 : ¬(N + 1) % 43 = 0 := by omega
    have hstep : k0_pay9 (iblk m c 2 ⟨N + 1, hN⟩) (iblk m c 3 ⟨N + 1, hN⟩) (iblk m c 4 ⟨N + 1, hN⟩)
        (outsAt0 m c N (Nat.lt_of_succ_lt hN)).2.2.2.2 (outsAt0 m c N (Nat.lt_of_succ_lt hN)).1 (ix2 r n)
        = Ffn.partSum (hid m c r) (tiled (awg m c)) (tiled (awu m c)) (awd m c) n (N + 1 + 1) := by
      refine (pay9_tile _ _ _ _ _ (tiled (awg m c)) (tiled (awu m c)) (awd m c) ⟨N + 1, hb⟩
        (iblk2_apply m c ⟨N + 1, hN⟩) (iblk3_apply m c ⟨N + 1, hN⟩) (iblk4_apply m c ⟨N + 1, hN⟩) r n).trans ?_
      rw [(ih _ n).1, funext fun k => (ih (Nat.lt_of_succ_lt hN) k).2, Ffn.partSum_succ _ _ _ _ _ _ hb]
      unfold accVal
      rw [if_neg (by omega)]
    by_cases h1 : (N + 1) % 43 = 42
    · have e := outsAt0_C m c ⟨N + 1, hN⟩ h0 h1
      dsimp only at e
      rw [e]
      dsimp only
      rw [out_last]
      refine ⟨?_, (ih (Nat.lt_of_succ_lt hN) n).2⟩
      refine (pay1_apply _ _ r n).trans ?_
      refine (congrArg₂ (fun a b : EReal => a + Ideal.ofBits .f32 0x3F000000#32 * b) (iblk0_apply m c ⟨N + 1, hN⟩ r n) hstep).trans ?_
      unfold accVal
      rw [if_pos (by omega), show N + 1 + 1 = 43 by omega, Ffn.partSum_all]
      rfl
    · have e := outsAt0_B m c ⟨N + 1, hN⟩ h0 h1
      dsimp only at e
      rw [e]
      dsimp only
      rw [out_mid]
      refine ⟨?_, (ih (Nat.lt_of_succ_lt hN) n).2⟩
      refine hstep.trans ?_
      unfold accVal
      rw [if_neg (by omega)]

/-- The rows the kernel leaves, at one element: half a residual step of the launched arrays. -/
theorem rows_final (c : Dev nD) (R : Fin 128) (n : Fin 4096) :
    Value.G5 m c (ix2 R n) = out (ax m c) (ag m c) (awg m c) (awu m c) (awd m c) R n := by
  rw [Value.G5_last, ← Value.outsAt0_sweep m c 42 (lt_of_lt_of_eq (by decide) N_0.symm), (after_point m c R _ _ n).1]
  unfold accVal
  rw [if_pos rfl]

end Cert.FfnCast
end
-- ==== Proof.FfnCastRef.lean ====
/- The reference of the sample rows' feed-forward half-step read at one element. -/
module

public import proofs.«01_k».proof.Proof.Gen.Reference6Ideal.Run
public import proofs.«01_k».proof.Proof.FfnSpec

@[expose] public section

set_option maxRecDepth 16384

noncomputable section

namespace Cert.FfnCastRef

open Idealize.ShloMosaic Cert.Reference6Ideal Cert.Reference6Ideal.Gen Idealize.ShloMosaic.TcCoe Idealize.SL.Sem

/-- The reference's normalised rows. -/
def rows (x : FVec Ideal S128x4096 .f32) (g : FVec Ideal S4096 .f32) : FVec Ideal S128x4096 .f32 :=
  mulf (mulf x (broadcastInDim S128x4096 ![0, 1] bcast_S128x1_S128x4096_0_1
    (Host.rsqrt (addf (Host.divf (broadcastInDim S128x1 ![0] bcast_S128_S128x1_0
        (Host.reduceAdd (mulf x x) (constant S_ .f32 0x00000000#32) reducesTo_S128x4096_S128_d1 h_S_))
        (broadcastInDim S128x1 ![] bcast_S_S128x1 (constant S_ .f32 0x45800000#32)))
      (broadcastInDim S128x1 ![] bcast_S_S128x1 (constant S_ .f32 0x358637BD#32))))))
    (broadcastInDim S128x4096 ![0, 1] bcast_S1x4096_S128x4096_0_1 (broadcastInDim S1x4096 ![1] bcast_S4096_S1x4096_1 g))

/-- The reference's products of the rows with a weight matrix. -/
def prod (h : FVec Ideal S128x4096 .f32) (w : FVec Ideal S4096x11008 .f32) : FVec Ideal S128x11008 .f32 :=
  Host.dotGeneral dot_S128x4096_S4096x11008_S128x11008_1_0_0_1_n_n none h w

/-- The reference's hidden units, of the two products. -/
def units (a b : FVec Ideal S128x11008 .f32) : FVec Ideal S128x11008 .f32 :=
  mulf (mulf a (Host.divf (broadcastInDim S128x11008 ![] bcast_S_S128x11008 (constant S_ .f32 0x3F800000#32))
    (addf (broadcastInDim S128x11008 ![] bcast_S_S128x11008 (constant S_ .f32 0x3F800000#32)) (Host.exp (Host.negf a))))) b

/-- The reference's rows. -/
def result (x : FVec Ideal S128x4096 .f32) (g : FVec Ideal S4096 .f32) (wg wu : FVec Ideal S4096x11008 .f32)
    (wd : FVec Ideal S11008x4096 .f32) : FVec Ideal S128x4096 .f32 :=
  addf x (mulf (broadcastInDim S128x4096 ![] bcast_S_S128x4096 (constant S_ .f32 0x3F000000#32))
    (Host.dotGeneral dot_S128x11008_S11008x4096_S128x4096_1_0_0_1_n_n none
      (units (prod (rows x g) wg) (prod (rows x g) wu)) wd))

/-- The reference's column tiles of a weight matrix. -/
def tiles (w : FVec Ideal S4096x11008 .f32) : FVec Ideal S43x4096x256 .bf16 :=
  truncf .bf16 (transpose S43x4096x256 [1, 0, 2] (shapeCast S4096x43x256 w shapeCasts_S4096x11008_S4096x43x256) transposes_S4096x43x256_S43x4096x256_1_0_2) bitsLt_bf16_f32

/-- The reference's narrowed flat weight matrix. -/
def flat (w : FVec Ideal S11008x4096 .f32) : FVec Ideal S11008x4096 .bf16 := truncf .bf16 w bitsLt_bf16_f32

theorem flat_apply (w : FVec Ideal S11008x4096 .f32) (j : Fin 11008) (n : Fin 4096) : flat w (ix2 j n) = w (ix2 j n) := by
  pointwise [flat]

theorem rows_apply (x : FVec Ideal S128x4096 .f32) (g : FVec Ideal S4096 .f32) (r : Fin 128) (k : Fin 4096) :
    rows x g (ix2 r k) = FfnSpec.norm (fun l => x (ix2 r l)) (fun l => g (ix1 l)) k := by
  pointwise [rows, FfnSpec.norm]

theorem prod_apply (h : FVec Ideal S128x4096 .f32) (w : FVec Ideal S4096x11008 .f32) (r : Fin 128) (j : Fin 11008) :
    prod h w (ix2 r j) = ∑ k : Fin 4096, h (ix2 r k) * w (ix2 k j) := by
  pointwise [prod]

theorem units_apply (a b : FVec Ideal S128x11008 .f32) (r : Fin 128) (j : Fin 11008) :
    units a b (ix2 r j) = a (ix2 r j) * Ideal.logistic (a (ix2 r j)) * b (ix2 r j) := by
  pointwise [units, Ideal.logistic]

theorem tiles_apply (w : FVec Ideal S4096x11008 .f32) (t : Fin 43) (k : Fin 4096) (u : Fin 256) :
    tiles w (ix3 t k u) = w (ix2 k (⟨t.val * 256 + u.val, by have := t.isLt; have := u.isLt; omega⟩ : Fin 11008)) := by
  pointwise [tiles]

/-- The reference's rows at an element. -/
theorem result_apply (x : FVec Ideal S128x4096 .f32) (g : FVec Ideal S4096 .f32) (wg wu : FVec Ideal S4096x11008 .f32)
    (wd : FVec Ideal S11008x4096 .f32) (r : Fin 128) (n : Fin 4096) :
    result x g wg wu wd (ix2 r n) = x (ix2 r n) + Ideal.ofBits .f32 0x3F000000#32 * ∑ j : Fin 11008,
      FfnSpec.unit (FfnSpec.norm (fun l => x (ix2 r l)) fun l => g (ix1 l)) (fun k => wg (ix2 k j)) (fun k => wu (ix2 k j))
        * wd (ix2 j n) := by
  have e : result x g wg wu wd (ix2 r n) = x (ix2 r n) + Ideal.ofBits .f32 0x3F000000#32
      * ∑ j : Fin 11008, units (prod (rows x g) wg) (prod (rows x g) wu) (ix2 r j) * wd (ix2 j n) := by
    pointwise [result]
  rw [e]
  unfold FfnSpec.unit
  simp only [units_apply, prod_apply, rows_apply]

end Cert.FfnCastRef
end
-- ==== Proof.FfnCastClaim.lean ====
/- The sample rows' feed-forward call's claims: the reference's frame, and the kernel's results against the reference's. -/
module

public import proofs.«01_k».proof.Defs
public import proofs.«01_k».proof.Proof.FfnCastKer
public import proofs.«01_k».proof.Proof.FfnCastRef

@[expose] public section

set_option maxRecDepth 16384

noncomputable section

namespace Cert.FfnCast

open Idealize.ShloMosaic Idealize.ShloMosaic.TcCoe Idealize.SL.Sem

local instance : Cert.Kernel6Ideal.Facts := Cert.Kernel6Ideal.Gen.facts
local instance : Cert.Reference6Ideal.Facts := Cert.Reference6Ideal.Gen.facts

/-- The reference runs, keeps its arguments and leaves no counter behind (it has none). -/
theorem frame_ref : Cert.quiescent_Reference6Ideal := fun m ρ _ =>
  (θ_run _ _ _).mono (fun r h => ⟨fun c => (h c).2.2.2.2, sem_eq_zero_of_no_sems (by decide) r.2⟩) (Reference6Ideal.Value.run m ρ)

/-- A column of the tiled weights is the column of the flat ones. -/
theorem col_tiled (w : (⟨2, ![4096, 11008]⟩ : Shape).Idx → EReal) (j : Fin 11008) (k : Fin 4096) :
    FfnSpec.col (tiled w) j k = w (ix2 k j) := by
  unfold FfnSpec.col tiled
  refine congrArg w (congrArg (ix2 k) (Fin.ext ?_))
  show j.val / 256 * 256 + j.val % 256 = j.val
  omega

variable (m : (ℓ : Loc Kernel6Ideal.nD Kernel6Ideal.τ Kernel6Ideal.sig) → Buf (Elt Ideal) ℓ) (c : Dev Kernel6Ideal.nD)

/-- The kernel's rows are the reference's on the same arguments. -/
theorem rows_eq : Kernel6Ideal.Value.G5 m c = FfnCastRef.result (ax m c) (ag m c) (awg m c) (awu m c) (awd m c) := by
  funext i
  have hi : (i : Kernel6Ideal.S128x4096.Idx) = ix2 (i 0) (i 1) := eq_ix2 i
  rw [hi]
  refine (rows_final m c (i 0) (i 1)).trans ((FfnCastRef.result_apply _ _ _ _ _ (i 0) (i 1)).trans ?_).symm
  unfold out FfnSpec.down
  refine congrArg (ax m c (ix2 (i 0) (i 1)) + Ideal.ofBits .f32 0x3F000000#32 * ·) (Finset.sum_congr rfl fun j _ => ?_)
  rw [funext (col_tiled (awg m c) j), funext (col_tiled (awu m c) j)]

theorem gate_eq : Kernel6Ideal.Value.G6 m c = FfnCastRef.tiles (awg m c) := by
  funext i
  have hi : (i : Kernel6Ideal.S43x4096x256.Idx) = ix3 (i 0) (i 1) (i 2) := eq_ix3 i
  rw [hi]
  exact (gate_final m c (i 0) (i 1) (i 2)).trans (FfnCastRef.tiles_apply _ (i 0) (i 1) (i 2)).symm

theorem up_eq : Kernel6Ideal.Value.G7 m c = FfnCastRef.tiles (awu m c) := by
  funext i
  have hi : (i : Kernel6Ideal.S43x4096x256.Idx) = ix3 (i 0) (i 1) (i 2) := eq_ix3 i
  rw [hi]
  exact (up_final m c (i 0) (i 1) (i 2)).trans (FfnCastRef.tiles_apply _ (i 0) (i 1) (i 2)).symm

theorem down_eq : Kernel6Ideal.Value.G8 m c = FfnCastRef.flat (awd m c) := by
  funext i
  have hi : (i : Kernel6Ideal.S11008x4096.Idx) = ix2 (i 0) (i 1) := eq_ix2 i
  rw [hi]
  exact (down_final m c (i 0) (i 1)).trans (FfnCastRef.flat_apply _ (i 0) (i 1)).symm

/-- Kernel and reference agree over the extended reals, from any arguments. -/
theorem algebraic : Cert.algebraic_Kernel6Ideal_Reference6Ideal := fun m ρ m' ρ' _ hag =>
  ⟨fun c => Kernel6Ideal.Value.G5 m c, fun c => Kernel6Ideal.Value.G6 m c, fun c => Kernel6Ideal.Value.G7 m c,
    fun c => Kernel6Ideal.Value.G8 m c, Kernel6Ideal.Value.run m ρ,
    (θ_run _ _ _).mono (fun r h c => by
      have e0 := (hag c).1
      have e1 := (hag c).2.1
      have e2 := (hag c).2.2.1
      have e3 := (hag c).2.2.2.1
      have e4 := (hag c).2.2.2.2
      refine ⟨(h c).1.trans ?_, (h c).2.1.trans ?_, (h c).2.2.1.trans ?_, (h c).2.2.2.1.trans ?_, (h c).2.2.2.2⟩
      · rw [e0, e1, e2, e3, e4]; exact (rows_eq m c).symm
      · rw [e2]; exact (gate_eq m c).symm
      · rw [e3]; exact (up_eq m c).symm
      · rw [e4]; exact (down_eq m c).symm) (Reference6Ideal.Value.run m' ρ')⟩

end Cert.FfnCast
end
-- ==== Proof.PoolSampleSpec.lean ====
/- The sample pooling, written with indices. -/
module

public import proofs.«01_k».proof.Proof.PoolSpec

@[expose] public section

set_option maxRecDepth 16384

noncomputable section

namespace Cert.PoolSampleSpec

open Idealize.ShloMosaic Ideal

/-- Row `j` of a sequence's fifteen kept rows followed by its four new ones. -/
def joined (u : (⟨3, ![32, 4, 2048]⟩ : Shape).Idx → EReal) (h : (⟨3, ![32, 15, 2048]⟩ : Shape).Idx → EReal) (b : Fin 32) (j : ℕ) (n : Fin 2048) : EReal :=
  if hj : j < 15 then h (ix3 b (⟨j, hj⟩ : Fin 15) n) else if hj' : j < 19 then u (ix3 b (⟨j - 15, by omega⟩ : Fin 4) n) else 0

/-- The sample's pooled element of sequence `b` at its new row `t`, column `l` of group `g`. -/
def sample (u : (⟨3, ![32, 4, 2048]⟩ : Shape).Idx → EReal) (h : (⟨3, ![32, 15, 2048]⟩ : Shape).Idx → EReal) (w : (⟨3, ![4, 512, 512]⟩ : Shape).Idx → EReal)
    (s : (⟨1, ![2048]⟩ : Shape).Idx → EReal) (b : Fin 32) (t g : Fin 4) (l : Fin 512) : EReal :=
  PoolSpec.out (2 ^ (g.val + 1)) (fun k d => joined u h b (15 + t.val - d) (PoolSpec.col g k)) (PoolSpec.count (8192 + t.val + 1) (2 ^ (g.val + 1)))
    (fun k => u (ix3 b t (PoolSpec.col g k))) (fun k => w (ix3 g k l)) (s (ix1 (PoolSpec.col g l)))

/-- The window is full at every new row. -/
theorem count_full (t : Fin 4) (W : ℕ) (hW : W = 2 ∨ W = 4 ∨ W = 8 ∨ W = 16) : PoolSpec.count (8192 + t.val + 1) W = ((W : ℝ) : EReal) := by
  have key : ∀ t : Fin 4, (IntOp.minsi (BitVec.ofNat 32 (8192 + t.val + 1)) 2#32 = 2#32 ∧ IntOp.minsi (BitVec.ofNat 32 (8192 + t.val + 1)) 4#32 = 4#32)
      ∧ IntOp.minsi (BitVec.ofNat 32 (8192 + t.val + 1)) 8#32 = 8#32 ∧ IntOp.minsi (BitVec.ofNat 32 (8192 + t.val + 1)) 16#32 = 16#32 := by decide
  obtain ⟨⟨h2, h4⟩, h8, h16⟩ := key t
  unfold PoolSpec.count
  rcases hW with rfl | rfl | rfl | rfl
  · rw [h2]; show ((((2#32 : BitVec 32).toInt : ℤ) : ℝ) : EReal) = _; rw [show (2#32 : BitVec 32).toInt = 2 from by decide]; norm_num
  · rw [h4]; show ((((4#32 : BitVec 32).toInt : ℤ) : ℝ) : EReal) = _; rw [show (4#32 : BitVec 32).toInt = 4 from by decide]; norm_num
  · rw [h8]; show ((((8#32 : BitVec 32).toInt : ℤ) : ℝ) : EReal) = _; rw [show (8#32 : BitVec 32).toInt = 8 from by decide]; norm_num
  · rw [h16]; show ((((16#32 : BitVec 32).toInt : ℤ) : ℝ) : EReal) = _; rw [show (16#32 : BitVec 32).toInt = 16 from by decide]; norm_num

theorem two_eq : ofBits .f32 0x40000000#32 = ((2 : ℕ) : ℝ) := by
  simp [Ideal.ofBits, Ideal.ieee, -EReal.coe_mul]; norm_num
theorem four_eq : ofBits .f32 0x40800000#32 = ((4 : ℕ) : ℝ) := by
  simp [Ideal.ofBits, Ideal.ieee, -EReal.coe_mul]; norm_num
theorem eight_eq : ofBits .f32 0x41000000#32 = ((8 : ℕ) : ℝ) := by
  simp [Ideal.ofBits, Ideal.ieee, -EReal.coe_mul]; norm_num
theorem sixteen_eq : ofBits .f32 0x41800000#32 = ((16 : ℕ) : ℝ) := by
  simp [Ideal.ofBits, Ideal.ieee, -EReal.coe_mul]; norm_num

end Cert.PoolSampleSpec
end
-- ==== Proof.PoolSamplePay.lean ====
/- The sample pooling: one stored element of each group. -/
module

public import proofs.«01_k».proof.Proof.Gen.Kernel7Ideal.Frame
public import proofs.«01_k».proof.Proof.PoolSampleSpec

@[expose] public section

set_option maxRecDepth 16384

noncomputable section

namespace Cert.PoolSample

open Idealize.ShloMosaic Idealize.ShloMosaic.TcCoe Idealize.SL.Sem Cert.Kernel7Ideal Ideal Cert.Kernel7Ideal.Gen

variable (b : Fin 32) (l : Fin 512) (past : Fin 512 → ℕ → EReal)

/-- The group of window 2: the stored element from the 2 shifted blocks. -/
theorem group2_apply (e0 e1 u : Vec Ideal S1x32x512 .f32) (w : Vec Ideal S1x512x512 .bf16) (s : Vec Ideal S1x512 .f32)
    (h0 : ∀ k, e0 (ix3 0 b k) = past k 0) (h1 : ∀ k, e1 (ix3 0 b k) = past k 1) :
    k0_pay1 e0 e1 u w s (ix3 0 b l)
      = PoolSpec.out 2 past (((2 : ℕ) : ℝ) : EReal) (fun k => u (ix3 0 b k)) (fun k => w (ix3 0 k l)) (s (ix2 0 l)) := by
  pointwise [k0_pay1]
  rw [PoolSampleSpec.two_eq]
  unfold PoolSpec.out
  simp only [Finset.sum_range_succ, Finset.sum_range_zero, zero_add, h0, h1]

theorem group2_1 (e0 e1 u : Vec Ideal S1x32x512 .f32) (w : Vec Ideal S1x512x512 .bf16) (s : Vec Ideal S1x512 .f32) :
    k0_pay9 e0 e1 u w s = k0_pay1 e0 e1 u w s := rfl

theorem group2_2 (e0 e1 u : Vec Ideal S1x32x512 .f32) (w : Vec Ideal S1x512x512 .bf16) (s : Vec Ideal S1x512 .f32) :
    k0_pay17 e0 e1 u w s = k0_pay1 e0 e1 u w s := rfl

theorem group2_3 (e0 e1 u : Vec Ideal S1x32x512 .f32) (w : Vec Ideal S1x512x512 .bf16) (s : Vec Ideal S1x512 .f32) :
    k0_pay25 e0 e1 u w s = k0_pay1 e0 e1 u w s := rfl

/-- The group of window 4: the stored element from the 4 shifted blocks. -/
theorem group4_apply (e0 e1 e2 e3 u : Vec Ideal S1x32x512 .f32) (w : Vec Ideal S1x512x512 .bf16) (s : Vec Ideal S1x512 .f32)
    (h0 : ∀ k, e0 (ix3 0 b k) = past k 0) (h1 : ∀ k, e1 (ix3 0 b k) = past k 1) (h2 : ∀ k, e2 (ix3 0 b k) = past k 2) (h3 : ∀ k, e3 (ix3 0 b k) = past k 3) :
    k0_pay3 (k0_pay2 e0 e1 e2) e3 u w s (ix3 0 b l)
      = PoolSpec.out 4 past (((4 : ℕ) : ℝ) : EReal) (fun k => u (ix3 0 b k)) (fun k => w (ix3 0 k l)) (s (ix2 0 l)) := by
  pointwise [k0_pay3, k0_pay2]
  rw [PoolSampleSpec.four_eq]
  unfold PoolSpec.out
  simp only [Finset.sum_range_succ, Finset.sum_range_zero, zero_add, h0, h1, h2, h3]

theorem group4_1 (e0 e1 e2 e3 u : Vec Ideal S1x32x512 .f32) (w : Vec Ideal S1x512x512 .bf16) (s : Vec Ideal S1x512 .f32) :
    k0_pay11 (k0_pay10 e0 e1 e2) e3 u w s = k0_pay3 (k0_pay2 e0 e1 e2) e3 u w s := rfl

theorem group4_2 (e0 e1 e2 e3 u : Vec Ideal S1x32x512 .f32) (w : Vec Ideal S1x512x512 .bf16) (s : Vec Ideal S1x512 .f32) :
    k0_pay19 (k0_pay18 e0 e1 e2) e3 u w s = k0_pay3 (k0_pay2 e0 e1 e2) e3 u w s := rfl

theorem group4_3 (e0 e1 e2 e3 u : Vec Ideal S1x32x512 .f32) (w : Vec Ideal S1x512x512 .bf16) (s : Vec Ideal S1x512 .f32) :
    k0_pay27 (k0_pay26 e0 e1 e2) e3 u w s = k0_pay3 (k0_pay2 e0 e1 e2) e3 u w s := rfl

/-- The group of window 8: the stored element from the 8 shifted blocks. -/
theorem group8_apply (e0 e1 e2 e3 e4 e5 e6 e7 u : Vec Ideal S1x32x512 .f32) (w : Vec Ideal S1x512x512 .bf16) (s : Vec Ideal S1x512 .f32)
    (h0 : ∀ k, e0 (ix3 0 b k) = past k 0) (h1 : ∀ k, e1 (ix3 0 b k) = past k 1) (h2 : ∀ k, e2 (ix3 0 b k) = past k 2) (h3 : ∀ k, e3 (ix3 0 b k) = past k 3) (h4 : ∀ k, e4 (ix3 0 b k) = past k 4) (h5 : ∀ k, e5 (ix3 0 b k) = past k 5) (h6 : ∀ k, e6 (ix3 0 b k) = past k 6) (h7 : ∀ k, e7 (ix3 0 b k) = past k 7) :
    k0_pay5 (k0_pay4 e0 e1 e2 e3) e4 e5 e6 e7 u w s (ix3 0 b l)
      = PoolSpec.out 8 past (((8 : ℕ) : ℝ) : EReal) (fun k => u (ix3 0 b k)) (fun k => w (ix3 0 k l)) (s (ix2 0 l)) := by
  pointwise [k0_pay5, k0_pay4]
  rw [PoolSampleSpec.eight_eq]
  unfold PoolSpec.out
  simp only [Finset.sum_range_succ, Finset.sum_range_zero, zero_add, h0, h1, h2, h3, h4, h5, h6, h7]

theorem group8_1 (e0 e1 e2 e3 e4 e5 e6 e7 u : Vec Ideal S1x32x512 .f32) (w : Vec Ideal S1x512x512 .bf16) (s : Vec Ideal S1x512 .f32) :
    k0_pay13 (k0_pay12 e0 e1 e2 e3) e4 e5 e6 e7 u w s = k0_pay5 (k0_pay4 e0 e1 e2 e3) e4 e5 e6 e7 u w s := rfl

theorem group8_2 (e0 e1 e2 e3 e4 e5 e6 e7 u : Vec Ideal S1x32x512 .f32) (w : Vec Ideal S1x512x512 .bf16) (s : Vec Ideal S1x512 .f32) :
    k0_pay21 (k0_pay20 e0 e1 e2 e3) e4 e5 e6 e7 u w s = k0_pay5 (k0_pay4 e0 e1 e2 e3) e4 e5 e6 e7 u w s := rfl

theorem group8_3 (e0 e1 e2 e3 e4 e5 e6 e7 u : Vec Ideal S1x32x512 .f32) (w : Vec Ideal S1x512x512 .bf16) (s : Vec Ideal S1x512 .f32) :
    k0_pay29 (k0_pay28 e0 e1 e2 e3) e4 e5 e6 e7 u w s = k0_pay5 (k0_pay4 e0 e1 e2 e3) e4 e5 e6 e7 u w s := rfl

/-- The group of window 16: the stored element from the 16 shifted blocks. -/
theorem group16_apply (e0 e1 e2 e3 e4 e5 e6 e7 e8 e9 e10 e11 e12 e13 e14 e15 u : Vec Ideal S1x32x512 .f32) (w : Vec Ideal S1x512x512 .bf16) (s : Vec Ideal S1x512 .f32)
    (h0 : ∀ k, e0 (ix3 0 b k) = past k 0) (h1 : ∀ k, e1 (ix3 0 b k) = past k 1) (h2 : ∀ k, e2 (ix3 0 b k) = past k 2) (h3 : ∀ k, e3 (ix3 0 b k) = past k 3) (h4 : ∀ k, e4 (ix3 0 b k) = past k 4) (h5 : ∀ k, e5 (ix3 0 b k) = past k 5) (h6 : ∀ k, e6 (ix3 0 b k) = past k 6) (h7 : ∀ k, e7 (ix3 0 b k) = past k 7) (h8 : ∀ k, e8 (ix3 0 b k) = past k 8) (h9 : ∀ k, e9 (ix3 0 b k) = past k 9) (h10 : ∀ k, e10 (ix3 0 b k) = past k 10) (h11 : ∀ k, e11 (ix3 0 b k) = past k 11) (h12 : ∀ k, e12 (ix3 0 b k) = past k 12) (h13 : ∀ k, e13 (ix3 0 b k) = past k 13) (h14 : ∀ k, e14 (ix3 0 b k) = past k 14) (h15 : ∀ k, e15 (ix3 0 b k) = past k 15) :
    k0_pay8 (k0_pay7 (k0_pay6 e0) e1 e2 e3 e4 e5 e6 e7 e8 e9 e10) e11 e12 e13 e14 e15 u w s (ix3 0 b l)
      = PoolSpec.out 16 past (((16 : ℕ) : ℝ) : EReal) (fun k => u (ix3 0 b k)) (fun k => w (ix3 0 k l)) (s (ix2 0 l)) := by
  pointwise [k0_pay8, k0_pay7, k0_pay6]
  rw [PoolSampleSpec.sixteen_eq]
  unfold PoolSpec.out
  simp only [Finset.sum_range_succ, Finset.sum_range_zero, zero_add, h0, h1, h2, h3, h4, h5, h6, h7, h8, h9, h10, h11, h12, h13, h14, h15]

theorem group16_1 (e0 e1 e2 e3 e4 e5 e6 e7 e8 e9 e10 e11 e12 e13 e14 e15 u : Vec Ideal S1x32x512 .f32) (w : Vec Ideal S1x512x512 .bf16) (s : Vec Ideal S1x512 .f32) :
    k0_pay16 (k0_pay15 (k0_pay14 e0) e1 e2 e3 e4 e5 e6 e7 e8 e9 e10) e11 e12 e13 e14 e15 u w s = k0_pay8 (k0_pay7 (k0_pay6 e0) e1 e2 e3 e4 e5 e6 e7 e8 e9 e10) e11 e12 e13 e14 e15 u w s := rfl

theorem group16_2 (e0 e1 e2 e3 e4 e5 e6 e7 e8 e9 e10 e11 e12 e13 e14 e15 u : Vec Ideal S1x32x512 .f32) (w : Vec Ideal S1x512x512 .bf16) (s : Vec Ideal S1x512 .f32) :
    k0_pay24 (k0_pay23 (k0_pay22 e0) e1 e2 e3 e4 e5 e6 e7 e8 e9 e10) e11 e12 e13 e14 e15 u w s = k0_pay8 (k0_pay7 (k0_pay6 e0) e1 e2 e3 e4 e5 e6 e7 e8 e9 e10) e11 e12 e13 e14 e15 u w s := rfl

theorem group16_3 (e0 e1 e2 e3 e4 e5 e6 e7 e8 e9 e10 e11 e12 e13 e14 e15 u : Vec Ideal S1x32x512 .f32) (w : Vec Ideal S1x512x512 .bf16) (s : Vec Ideal S1x512 .f32) :
    k0_pay32 (k0_pay31 (k0_pay30 e0) e1 e2 e3 e4 e5 e6 e7 e8 e9 e10) e11 e12 e13 e14 e15 u w s = k0_pay8 (k0_pay7 (k0_pay6 e0) e1 e2 e3 e4 e5 e6 e7 e8 e9 e10) e11 e12 e13 e14 e15 u w s := rfl

end Cert.PoolSample
end
-- ==== Proof.PoolSampleBlock.lean ====
/- The sample pooling: what the body leaves in its output block. -/
module

public import proofs.«01_k».proof.Proof.PoolSamplePay

@[expose] public section

set_option maxRecDepth 16384

noncomputable section

namespace Cert.PoolSample

open Idealize.ShloMosaic Idealize.ShloMosaic.TcCoe Idealize.SL.Sem Cert.Kernel7Ideal Ideal Cert.Kernel7Ideal.Gen

variable (x0 : Vec Ideal S19x32x2048 .f32) (x1 : Vec Ideal S4x512x512 .bf16) (x2 : Vec Ideal S1x2048 .f32)

/-- Column `n` of row `j` of sequence `b`, by number. -/
def rowV (j : ℕ) (b : Fin 32) (n : ℕ) : EReal :=
  if hj : j < 19 then if hn : n < 2048 then x0 (ix3 (⟨j, hj⟩ : Fin 19) b (⟨n, hn⟩ : Fin 2048)) else 0 else 0

theorem ld_row (j p : ℕ) (inb : ∀ a, (![j, 0, p] : Fin 3 → ℕ) a + S1x32x512.size a ≤ S19x32x2048.size a) (b : Fin 32) (k : Fin 512) :
    View.ld x0 (Rect.unit (s := S19x32x2048) ![j, 0, p] S1x32x512.size inb) (ix3 (0 : Fin 1) b k) = rowV x0 j b (p + k.val) := by
  have hj : j + 1 ≤ 19 := inb 0
  have hp : p + 512 ≤ 2048 := inb 2
  have hk := k.isLt
  unfold rowV
  rw [dif_pos (by omega), dif_pos (by omega)]
  refine congrArg x0 (funext fun a => Fin.ext ?_)
  match a with
  | ⟨0, _⟩ => show j + 1 * 0 = j; omega
  | ⟨1, _⟩ => show 0 + 1 * b.val = b.val; omega
  | ⟨2, _⟩ => show p + 1 * k.val = p + k.val; omega

theorem weight_at (g : Fin 4) (o : ℕ) (ho : o = g.val) (inb : ∀ a, (![o, 0, 0] : Fin 3 → ℕ) a + S1x512x512.size a ≤ S4x512x512.size a) (k l : Fin 512) :
    View.ld x1 (Rect.unit (s := S4x512x512) ![o, 0, 0] S1x512x512.size inb) (ix3 (0 : Fin 1) k l) = x1 (ix3 g k l) := by
  subst ho
  refine congrArg x1 (funext fun a => Fin.ext ?_)
  match a with
  | ⟨0, _⟩ => show g.val + 1 * 0 = g.val; omega
  | ⟨1, _⟩ => show 0 + 1 * k.val = k.val; omega
  | ⟨2, _⟩ => show 0 + 1 * l.val = l.val; omega

theorem scale_at (g : Fin 4) (o : ℕ) (ho : o = g.val * 512) (inb : ∀ a, (![0, o] : Fin 2 → ℕ) a + S1x512.size a ≤ S1x2048.size a) (l : Fin 512) :
    View.ld x2 (Rect.unit (s := S1x2048) ![0, o] S1x512.size inb) (ix2 (0 : Fin 1) l) = x2 (ix2 0 (PoolSpec.col g l)) := by
  subst ho
  refine congrArg x2 (funext fun a => Fin.ext ?_)
  match a with
  | ⟨0, _⟩ => show 0 + 1 * 0 = 0; omega
  | ⟨1, _⟩ => show g.val * 512 + 1 * l.val = g.val * 512 + l.val; omega

/-- The block's element of sequence `b` at new row `t`, column `l` of group `g`. -/
def tile (t g : Fin 4) (b : Fin 32) (l : Fin 512) : EReal :=
  PoolSpec.out (2 ^ (g.val + 1)) (fun k d => rowV x0 (15 + t.val - d) b (g.val * 512 + k.val)) (((2 ^ (g.val + 1) : ℕ) : ℝ) : EReal)
    (fun k => rowV x0 (15 + t.val) b (g.val * 512 + k.val)) (fun k => x1 (ix3 g k l)) (x2 (ix2 0 (PoolSpec.col g l)))

/-- The whole block. -/
def block (y : S4x32x2048.Idx) : EReal :=
  tile x0 x1 x2 (y 0 : Fin 4) ⟨(y 2).val / 512, by have h : (y 2).val < 2048 := (y 2).isLt; show (y 2).val / 512 < 4; omega⟩ (y 1 : Fin 32)
    ⟨(y 2).val % 512, Nat.mod_lt _ (by decide)⟩

theorem block_at (y : S4x32x2048.Idx) (t g : Fin 4) (b : Fin 32) (l : Fin 512) (h0 : (y 0).val = t.val) (h1 : (y 1).val = b.val) (h2 : (y 2).val = g.val * 512 + l.val) :
    block x0 x1 x2 y = tile x0 x1 x2 t g b l := by
  have hl := l.isLt
  unfold block
  rw [show (y 0 : Fin 4) = t from Fin.ext h0, show (y 1 : Fin 32) = b from Fin.ext h1]
  have e1 : (⟨(y 2).val / 512, by have h : (y 2).val < 2048 := (y 2).isLt; show (y 2).val / 512 < 4; omega⟩ : Fin 4) = g := Fin.ext (by show (y 2).val / 512 = g.val; omega)
  have e2 : (⟨(y 2).val % 512, Nat.mod_lt _ (by decide)⟩ : Fin 512) = l := Fin.ext (by show (y 2).val % 512 = l.val; omega)
  rw [e1, e2]

/-- One group's stored columns at one new row are the block's. -/
theorem piece (t g : Fin 4) (p : FVec Ideal S1x32x512 .bf16) (j o W : ℕ) (hj : j = 15 + t.val) (ho : o = g.val * 512) (hW : W = 2 ^ (g.val + 1))
    (cur : FVec Ideal S1x32x512 .f32) (w : FVec Ideal S1x512x512 .bf16) (s : FVec Ideal S1x512 .f32)
    (hp : ∀ b l, p (ix3 0 b l) = PoolSpec.out W (fun k d => rowV x0 (j - d) b (o + k.val)) ((W : ℝ) : EReal)
      (fun k => cur (ix3 0 b k)) (fun k => w (ix3 0 k l)) (s (ix2 0 l)))
    (hc : ∀ b k, cur (ix3 0 b k) = rowV x0 j b (o + k.val)) (hw : ∀ k l, w (ix3 0 k l) = x1 (ix3 g k l)) (hs : ∀ l, s (ix2 0 l) = x2 (ix2 0 (PoolSpec.col g l)))
    (x : S1x32x512.Idx) (y : S4x32x2048.Idx) (h0 : (y 0).val = t.val + 1 * (x 0).val) (h1 : (y 1).val = 0 + 1 * (x 1).val) (h2 : (y 2).val = o + 1 * (x 2).val) :
    p x = block x0 x1 x2 y := by
  subst hj ho hW
  have z : (x 0).val < 1 := (x 0).isLt
  have hx : x = ix3 0 (x 1) (x 2) := (eq_ix3 x).trans (congrArg (fun a : Fin 1 => ix3 a (x 1) (x 2)) (Fin.ext (by show (x 0).val = 0; omega)))
  rw [block_at x0 x1 x2 y t g (x 1 : Fin 32) (x 2 : Fin 512) (by omega) (by omega) (by omega)]
  refine (congrArg p hx).trans ((hp (x 1) (x 2)).trans ?_)
  unfold tile
  exact PoolSpec.out_congr (fun _ _ _ => rfl) rfl (hc (x 1)) (fun k => hw k (x 2)) (hs (x 2))

theorem mem_cols (t o : ℕ) (inb : ∀ a, (![t, 0, o] : Fin 3 → ℕ) a + S1x32x512.size a ≤ S4x32x2048.size a)
    (y : S4x32x2048.Idx) (ht : (y 0).val = t) (hl : o ≤ (y 2).val) (hh : (y 2).val < o + 512) :
    y ∈ (Rect.unit (s := S4x32x2048) ![t, 0, o] S1x32x512.size inb).set := by
  rw [Rect.mem_set_unit]
  intro a
  match a with
  | ⟨0, _⟩ => exact ⟨by show t ≤ (y 0).val; omega, by show (y 0).val < t + 1; omega⟩
  | ⟨1, _⟩ => exact ⟨Nat.zero_le _, by have h : (y 1).val < 32 := (y 1).isLt; show (y 1).val < 0 + 32; omega⟩
  | ⟨2, _⟩ => exact ⟨hl, hh⟩

/-- What the body leaves in its output block. -/
theorem out_eq : out0_3 x0 x1 x2 = block x0 x1 x2 := by
  funext y
  unfold out0_3
  simp only [group2_1, group2_2, group2_3, group4_1, group4_2, group4_3, group8_1, group8_2, group8_3, group16_1, group16_2, group16_3]
  refine View.canon_apply_of_pieces (Val := Elt Ideal) (e := .bf16) (block x0 x1 x2) _ ?_ y ?_
  · intro p hp
    simp only [List.mem_cons, List.mem_nil_iff, or_false] at hp
    rcases hp with rfl | rfl | rfl | rfl | rfl | rfl | rfl | rfl | rfl | rfl | rfl | rfl | rfl | rfl | rfl | rfl
    · exact fun x => piece x0 x1 x2 3 3 _ 18 1536 16 rfl rfl rfl _ _ _
        (fun b l => group16_apply b l (fun k d => rowV x0 (18 - d) b (1536 + k.val)) _ _ _ _ _ _ _ _ _ _ _ _ _ _ _ _ _ _ _ (ld_row x0 18 1536 inb_S19x32x2048_S1x32x512_18_0_1536 b) (ld_row x0 17 1536 inb_S19x32x2048_S1x32x512_17_0_1536 b) (ld_row x0 16 1536 inb_S19x32x2048_S1x32x512_16_0_1536 b) (ld_row x0 15 1536 inb_S19x32x2048_S1x32x512_15_0_1536 b) (ld_row x0 14 1536 inb_S19x32x2048_S1x32x512_14_0_1536 b) (ld_row x0 13 1536 inb_S19x32x2048_S1x32x512_13_0_1536 b) (ld_row x0 12 1536 inb_S19x32x2048_S1x32x512_12_0_1536 b) (ld_row x0 11 1536 inb_S19x32x2048_S1x32x512_11_0_1536 b) (ld_row x0 10 1536 inb_S19x32x2048_S1x32x512_10_0_1536 b) (ld_row x0 9 1536 inb_S19x32x2048_S1x32x512_9_0_1536 b) (ld_row x0 8 1536 inb_S19x32x2048_S1x32x512_8_0_1536 b) (ld_row x0 7 1536 inb_S19x32x2048_S1x32x512_7_0_1536 b) (ld_row x0 6 1536 inb_S19x32x2048_S1x32x512_6_0_1536 b) (ld_row x0 5 1536 inb_S19x32x2048_S1x32x512_5_0_1536 b) (ld_row x0 4 1536 inb_S19x32x2048_S1x32x512_4_0_1536 b) (ld_row x0 3 1536 inb_S19x32x2048_S1x32x512_3_0_1536 b))
        (fun b k => ld_row x0 18 1536 inb_S19x32x2048_S1x32x512_18_0_1536 b k) (fun k l => weight_at x1 3 3 rfl inb_S4x512x512_S1x512x512_3_0_0 k l)
        (fun l => scale_at x2 3 1536 rfl inb_S1x2048_S1x512_0_1536 l) x _ rfl rfl rfl
    · exact fun x => piece x0 x1 x2 3 2 _ 18 1024 8 rfl rfl rfl _ _ _
        (fun b l => group8_apply b l (fun k d => rowV x0 (18 - d) b (1024 + k.val)) _ _ _ _ _ _ _ _ _ _ _ (ld_row x0 18 1024 inb_S19x32x2048_S1x32x512_18_0_1024 b) (ld_row x0 17 1024 inb_S19x32x2048_S1x32x512_17_0_1024 b) (ld_row x0 16 1024 inb_S19x32x2048_S1x32x512_16_0_1024 b) (ld_row x0 15 1024 inb_S19x32x2048_S1x32x512_15_0_1024 b) (ld_row x0 14 1024 inb_S19x32x2048_S1x32x512_14_0_1024 b) (ld_row x0 13 1024 inb_S19x32x2048_S1x32x512_13_0_1024 b) (ld_row x0 12 1024 inb_S19x32x2048_S1x32x512_12_0_1024 b) (ld_row x0 11 1024 inb_S19x32x2048_S1x32x512_11_0_1024 b))
        (fun b k => ld_row x0 18 1024 inb_S19x32x2048_S1x32x512_18_0_1024 b k) (fun k l => weight_at x1 2 2 rfl inb_S4x512x512_S1x512x512_2_0_0 k l)
        (fun l => scale_at x2 2 1024 rfl inb_S1x2048_S1x512_0_1024 l) x _ rfl rfl rfl
    · exact fun x => piece x0 x1 x2 3 1 _ 18 512 4 rfl rfl rfl _ _ _
        (fun b l => group4_apply b l (fun k d => rowV x0 (18 - d) b (512 + k.val)) _ _ _ _ _ _ _ (ld_row x0 18 512 inb_S19x32x2048_S1x32x512_18_0_512 b) (ld_row x0 17 512 inb_S19x32x2048_S1x32x512_17_0_512 b) (ld_row x0 16 512 inb_S19x32x2048_S1x32x512_16_0_512 b) (ld_row x0 15 512 inb_S19x32x2048_S1x32x512_15_0_512 b))
        (fun b k => ld_row x0 18 512 inb_S19x32x2048_S1x32x512_18_0_512 b k) (fun k l => weight_at x1 1 1 rfl inb_S4x512x512_S1x512x512_1_0_0 k l)
        (fun l => scale_at x2 1 512 rfl inb_S1x2048_S1x512_0_512 l) x _ rfl rfl rfl
    · exact fun x => piece x0 x1 x2 3 0 _ 18 0 2 rfl rfl rfl _ _ _
        (fun b l => group2_apply b l (fun k d => rowV x0 (18 - d) b (0 + k.val)) _ _ _ _ _ (ld_row x0 18 0 inb_S19x32x2048_S1x32x512_18_0_0 b) (ld_row x0 17 0 inb_S19x32x2048_S1x32x512_17_0_0 b))
        (fun b k => ld_row x0 18 0 inb_S19x32x2048_S1x32x512_18_0_0 b k) (fun k l => weight_at x1 0 0 rfl inb_S4x512x512_S1x512x512_0_0_0 k l)
        (fun l => scale_at x2 0 0 rfl inb_S1x2048_S1x512_0_0 l) x _ rfl rfl rfl
    · exact fun x => piece x0 x1 x2 2 3 _ 17 1536 16 rfl rfl rfl _ _ _
        (fun b l => group16_apply b l (fun k d => rowV x0 (17 - d) b (1536 + k.val)) _ _ _ _ _ _ _ _ _ _ _ _ _ _ _ _ _ _ _ (ld_row x0 17 1536 inb_S19x32x2048_S1x32x512_17_0_1536 b) (ld_row x0 16 1536 inb_S19x32x2048_S1x32x512_16_0_1536 b) (ld_row x0 15 1536 inb_S19x32x2048_S1x32x512_15_0_1536 b) (ld_row x0 14 1536 inb_S19x32x2048_S1x32x512_14_0_1536 b) (ld_row x0 13 1536 inb_S19x32x2048_S1x32x512_13_0_1536 b) (ld_row x0 12 1536 inb_S19x32x2048_S1x32x512_12_0_1536 b) (ld_row x0 11 1536 inb_S19x32x2048_S1x32x512_11_0_1536 b) (ld_row x0 10 1536 inb_S19x32x2048_S1x32x512_10_0_1536 b) (ld_row x0 9 1536 inb_S19x32x2048_S1x32x512_9_0_1536 b) (ld_row x0 8 1536 inb_S19x32x2048_S1x32x512_8_0_1536 b) (ld_row x0 7 1536 inb_S19x32x2048_S1x32x512_7_0_1536 b) (ld_row x0 6 1536 inb_S19x32x2048_S1x32x512_6_0_1536 b) (ld_row x0 5 1536 inb_S19x32x2048_S1x32x512_5_0_1536 b) (ld_row x0 4 1536 inb_S19x32x2048_S1x32x512_4_0_1536 b) (ld_row x0 3 1536 inb_S19x32x2048_S1x32x512_3_0_1536 b) (ld_row x0 2 1536 inb_S19x32x2048_S1x32x512_2_0_1536 b))
        (fun b k => ld_row x0 17 1536 inb_S19x32x2048_S1x32x512_17_0_1536 b k) (fun k l => weight_at x1 3 3 rfl inb_S4x512x512_S1x512x512_3_0_0 k l)
        (fun l => scale_at x2 3 1536 rfl inb_S1x2048_S1x512_0_1536 l) x _ rfl rfl rfl
    · exact fun x => piece x0 x1 x2 2 2 _ 17 1024 8 rfl rfl rfl _ _ _
        (fun b l => group8_apply b l (fun k d => rowV x0 (17 - d) b (1024 + k.val)) _ _ _ _ _ _ _ _ _ _ _ (ld_row x0 17 1024 inb_S19x32x2048_S1x32x512_17_0_1024 b) (ld_row x0 16 1024 inb_S19x32x2048_S1x32x512_16_0_1024 b) (ld_row x0 15 1024 inb_S19x32x2048_S1x32x512_15_0_1024 b) (ld_row x0 14 1024 inb_S19x32x2048_S1x32x512_14_0_1024 b) (ld_row x0 13 1024 inb_S19x32x2048_S1x32x512_13_0_1024 b) (ld_row x0 12 1024 inb_S19x32x2048_S1x32x512_12_0_1024 b) (ld_row x0 11 1024 inb_S19x32x2048_S1x32x512_11_0_1024 b) (ld_row x0 10 1024 inb_S19x32x2048_S1x32x512_10_0_1024 b))
        (fun b k => ld_row x0 17 1024 inb_S19x32x2048_S1x32x512_17_0_1024 b k) (fun k l => weight_at x1 2 2 rfl inb_S4x512x512_S1x512x512_2_0_0 k l)
        (fun l => scale_at x2 2 1024 rfl inb_S1x2048_S1x512_0_1024 l) x _ rfl rfl rfl
    · exact fun x => piece x0 x1 x2 2 1 _ 17 512 4 rfl rfl rfl _ _ _
        (fun b l => group4_apply b l (fun k d => rowV x0 (17 - d) b (512 + k.val)) _ _ _ _ _ _ _ (ld_row x0 17 512 inb_S19x32x2048_S1x32x512_17_0_512 b) (ld_row x0 16 512 inb_S19x32x2048_S1x32x512_16_0_512 b) (ld_row x0 15 512 inb_S19x32x2048_S1x32x512_15_0_512 b) (ld_row x0 14 512 inb_S19x32x2048_S1x32x512_14_0_512 b))
        (fun b k => ld_row x0 17 512 inb_S19x32x2048_S1x32x512_17_0_512 b k) (fun k l => weight_at x1 1 1 rfl inb_S4x512x512_S1x512x512_1_0_0 k l)
        (fun l => scale_at x2 1 512 rfl inb_S1x2048_S1x512_0_512 l) x _ rfl rfl rfl
    · exact fun x => piece x0 x1 x2 2 0 _ 17 0 2 rfl rfl rfl _ _ _
        (fun b l => group2_apply b l (fun k d => rowV x0 (17 - d) b (0 + k.val)) _ _ _ _ _ (ld_row x0 17 0 inb_S19x32x2048_S1x32x512_17_0_0 b) (ld_row x0 16 0 inb_S19x32x2048_S1x32x512_16_0_0 b))
        (fun b k => ld_row x0 17 0 inb_S19x32x2048_S1x32x512_17_0_0 b k) (fun k l => weight_at x1 0 0 rfl inb_S4x512x512_S1x512x512_0_0_0 k l)
        (fun l => scale_at x2 0 0 rfl inb_S1x2048_S1x512_0_0 l) x _ rfl rfl rfl
    · exact fun x => piece x0 x1 x2 1 3 _ 16 1536 16 rfl rfl rfl _ _ _
        (fun b l => group16_apply b l (fun k d => rowV x0 (16 - d) b (1536 + k.val)) _ _ _ _ _ _ _ _ _ _ _ _ _ _ _ _ _ _ _ (ld_row x0 16 1536 inb_S19x32x2048_S1x32x512_16_0_1536 b) (ld_row x0 15 1536 inb_S19x32x2048_S1x32x512_15_0_1536 b) (ld_row x0 14 1536 inb_S19x32x2048_S1x32x512_14_0_1536 b) (ld_row x0 13 1536 inb_S19x32x2048_S1x32x512_13_0_1536 b) (ld_row x0 12 1536 inb_S19x32x2048_S1x32x512_12_0_1536 b) (ld_row x0 11 1536 inb_S19x32x2048_S1x32x512_11_0_1536 b) (ld_row x0 10 1536 inb_S19x32x2048_S1x32x512_10_0_1536 b) (ld_row x0 9 1536 inb_S19x32x2048_S1x32x512_9_0_1536 b) (ld_row x0 8 1536 inb_S19x32x2048_S1x32x512_8_0_1536 b) (ld_row x0 7 1536 inb_S19x32x2048_S1x32x512_7_0_1536 b) (ld_row x0 6 1536 inb_S19x32x2048_S1x32x512_6_0_1536 b) (ld_row x0 5 1536 inb_S19x32x2048_S1x32x512_5_0_1536 b) (ld_row x0 4 1536 inb_S19x32x2048_S1x32x512_4_0_1536 b) (ld_row x0 3 1536 inb_S19x32x2048_S1x32x512_3_0_1536 b) (ld_row x0 2 1536 inb_S19x32x2048_S1x32x512_2_0_1536 b) (ld_row x0 1 1536 inb_S19x32x2048_S1x32x512_1_0_1536 b))
        (fun b k => ld_row x0 16 1536 inb_S19x32x2048_S1x32x512_16_0_1536 b k) (fun k l => weight_at x1 3 3 rfl inb_S4x512x512_S1x512x512_3_0_0 k l)
        (fun l => scale_at x2 3 1536 rfl inb_S1x2048_S1x512_0_1536 l) x _ rfl rfl rfl
    · exact fun x => piece x0 x1 x2 1 2 _ 16 1024 8 rfl rfl rfl _ _ _
        (fun b l => group8_apply b l (fun k d => rowV x0 (16 - d) b (1024 + k.val)) _ _ _ _ _ _ _ _ _ _ _ (ld_row x0 16 1024 inb_S19x32x2048_S1x32x512_16_0_1024 b) (ld_row x0 15 1024 inb_S19x32x2048_S1x32x512_15_0_1024 b) (ld_row x0 14 1024 inb_S19x32x2048_S1x32x512_14_0_1024 b) (ld_row x0 13 1024 inb_S19x32x2048_S1x32x512_13_0_1024 b) (ld_row x0 12 1024 inb_S19x32x2048_S1x32x512_12_0_1024 b) (ld_row x0 11 1024 inb_S19x32x2048_S1x32x512_11_0_1024 b) (ld_row x0 10 1024 inb_S19x32x2048_S1x32x512_10_0_1024 b) (ld_row x0 9 1024 inb_S19x32x2048_S1x32x512_9_0_1024 b))
        (fun b k => ld_row x0 16 1024 inb_S19x32x2048_S1x32x512_16_0_1024 b k) (fun k l => weight_at x1 2 2 rfl inb_S4x512x512_S1x512x512_2_0_0 k l)
        (fun l => scale_at x2 2 1024 rfl inb_S1x2048_S1x512_0_1024 l) x _ rfl rfl rfl
    · exact fun x => piece x0 x1 x2 1 1 _ 16 512 4 rfl rfl rfl _ _ _
        (fun b l => group4_apply b l (fun k d => rowV x0 (16 - d) b (512 + k.val)) _ _ _ _ _ _ _ (ld_row x0 16 512 inb_S19x32x2048_S1x32x512_16_0_512 b) (ld_row x0 15 512 inb_S19x32x2048_S1x32x512_15_0_512 b) (ld_row x0 14 512 inb_S19x32x2048_S1x32x512_14_0_512 b) (ld_row x0 13 512 inb_S19x32x2048_S1x32x512_13_0_512 b))
        (fun b k => ld_row x0 16 512 inb_S19x32x2048_S1x32x512_16_0_512 b k) (fun k l => weight_at x1 1 1 rfl inb_S4x512x512_S1x512x512_1_0_0 k l)
        (fun l => scale_at x2 1 512 rfl inb_S1x2048_S1x512_0_512 l) x _ rfl rfl rfl
    · exact fun x => piece x0 x1 x2 1 0 _ 16 0 2 rfl rfl rfl _ _ _
        (fun b l => group2_apply b l (fun k d => rowV x0 (16 - d) b (0 + k.val)) _ _ _ _ _ (ld_row x0 16 0 inb_S19x32x2048_S1x32x512_16_0_0 b) (ld_row x0 15 0 inb_S19x32x2048_S1x32x512_15_0_0 b))
        (fun b k => ld_row x0 16 0 inb_S19x32x2048_S1x32x512_16_0_0 b k) (fun k l => weight_at x1 0 0 rfl inb_S4x512x512_S1x512x512_0_0_0 k l)
        (fun l => scale_at x2 0 0 rfl inb_S1x2048_S1x512_0_0 l) x _ rfl rfl rfl
    · exact fun x => piece x0 x1 x2 0 3 _ 15 1536 16 rfl rfl rfl _ _ _
        (fun b l => group16_apply b l (fun k d => rowV x0 (15 - d) b (1536 + k.val)) _ _ _ _ _ _ _ _ _ _ _ _ _ _ _ _ _ _ _ (ld_row x0 15 1536 inb_S19x32x2048_S1x32x512_15_0_1536 b) (ld_row x0 14 1536 inb_S19x32x2048_S1x32x512_14_0_1536 b) (ld_row x0 13 1536 inb_S19x32x2048_S1x32x512_13_0_1536 b) (ld_row x0 12 1536 inb_S19x32x2048_S1x32x512_12_0_1536 b) (ld_row x0 11 1536 inb_S19x32x2048_S1x32x512_11_0_1536 b) (ld_row x0 10 1536 inb_S19x32x2048_S1x32x512_10_0_1536 b) (ld_row x0 9 1536 inb_S19x32x2048_S1x32x512_9_0_1536 b) (ld_row x0 8 1536 inb_S19x32x2048_S1x32x512_8_0_1536 b) (ld_row x0 7 1536 inb_S19x32x2048_S1x32x512_7_0_1536 b) (ld_row x0 6 1536 inb_S19x32x2048_S1x32x512_6_0_1536 b) (ld_row x0 5 1536 inb_S19x32x2048_S1x32x512_5_0_1536 b) (ld_row x0 4 1536 inb_S19x32x2048_S1x32x512_4_0_1536 b) (ld_row x0 3 1536 inb_S19x32x2048_S1x32x512_3_0_1536 b) (ld_row x0 2 1536 inb_S19x32x2048_S1x32x512_2_0_1536 b) (ld_row x0 1 1536 inb_S19x32x2048_S1x32x512_1_0_1536 b) (ld_row x0 0 1536 inb_S19x32x2048_S1x32x512_0_0_1536 b))
        (fun b k => ld_row x0 15 1536 inb_S19x32x2048_S1x32x512_15_0_1536 b k) (fun k l => weight_at x1 3 3 rfl inb_S4x512x512_S1x512x512_3_0_0 k l)
        (fun l => scale_at x2 3 1536 rfl inb_S1x2048_S1x512_0_1536 l) x _ rfl rfl rfl
    · exact fun x => piece x0 x1 x2 0 2 _ 15 1024 8 rfl rfl rfl _ _ _
        (fun b l => group8_apply b l (fun k d => rowV x0 (15 - d) b (1024 + k.val)) _ _ _ _ _ _ _ _ _ _ _ (ld_row x0 15 1024 inb_S19x32x2048_S1x32x512_15_0_1024 b) (ld_row x0 14 1024 inb_S19x32x2048_S1x32x512_14_0_1024 b) (ld_row x0 13 1024 inb_S19x32x2048_S1x32x512_13_0_1024 b) (ld_row x0 12 1024 inb_S19x32x2048_S1x32x512_12_0_1024 b) (ld_row x0 11 1024 inb_S19x32x2048_S1x32x512_11_0_1024 b) (ld_row x0 10 1024 inb_S19x32x2048_S1x32x512_10_0_1024 b) (ld_row x0 9 1024 inb_S19x32x2048_S1x32x512_9_0_1024 b) (ld_row x0 8 1024 inb_S19x32x2048_S1x32x512_8_0_1024 b))
        (fun b k => ld_row x0 15 1024 inb_S19x32x2048_S1x32x512_15_0_1024 b k) (fun k l => weight_at x1 2 2 rfl inb_S4x512x512_S1x512x512_2_0_0 k l)
        (fun l => scale_at x2 2 1024 rfl inb_S1x2048_S1x512_0_1024 l) x _ rfl rfl rfl
    · exact fun x => piece x0 x1 x2 0 1 _ 15 512 4 rfl rfl rfl _ _ _
        (fun b l => group4_apply b l (fun k d => rowV x0 (15 - d) b (512 + k.val)) _ _ _ _ _ _ _ (ld_row x0 15 512 inb_S19x32x2048_S1x32x512_15_0_512 b) (ld_row x0 14 512 inb_S19x32x2048_S1x32x512_14_0_512 b) (ld_row x0 13 512 inb_S19x32x2048_S1x32x512_13_0_512 b) (ld_row x0 12 512 inb_S19x32x2048_S1x32x512_12_0_512 b))
        (fun b k => ld_row x0 15 512 inb_S19x32x2048_S1x32x512_15_0_512 b k) (fun k l => weight_at x1 1 1 rfl inb_S4x512x512_S1x512x512_1_0_0 k l)
        (fun l => scale_at x2 1 512 rfl inb_S1x2048_S1x512_0_512 l) x _ rfl rfl rfl
    · exact fun x => piece x0 x1 x2 0 0 _ 15 0 2 rfl rfl rfl _ _ _
        (fun b l => group2_apply b l (fun k d => rowV x0 (15 - d) b (0 + k.val)) _ _ _ _ _ (ld_row x0 15 0 inb_S19x32x2048_S1x32x512_15_0_0 b) (ld_row x0 14 0 inb_S19x32x2048_S1x32x512_14_0_0 b))
        (fun b k => ld_row x0 15 0 inb_S19x32x2048_S1x32x512_15_0_0 b k) (fun k l => weight_at x1 0 0 rfl inb_S4x512x512_S1x512x512_0_0_0 k l)
        (fun l => scale_at x2 0 0 rfl inb_S1x2048_S1x512_0_0 l) x _ rfl rfl rfl
  · exact cover0_3 _ _ _ _ _ _ _ _ _ _ _ _ _ _ _ _ y

end Cert.PoolSample
end
-- ==== Proof.PoolSample.lean ====
/- The sample pooling: the array after the run. -/
module

public import proofs.«01_k».proof.Proof.PoolSampleBlock

@[expose] public section

set_option maxRecDepth 16384

noncomputable section

namespace Cert.PoolSample

open Idealize.ShloMosaic Idealize.ShloMosaic.TcCoe Idealize.SL.Sem Cert.Kernel7Ideal Ideal Cert.Kernel7Ideal.Gen

variable (m : (ℓ : Loc nD τ sig) → Buf (Elt Ideal) ℓ)

/-- The rows as the kernel reads them: kept and new rows joined, the row first. -/
def extT (h : FVec Ideal S32x15x2048 .f32) (u : FVec Ideal S32x4x2048 .f32) : FVec Ideal S19x32x2048 .f32 :=
  transpose S19x32x2048 [1, 0, 2] (concatenate S32x19x2048 1 [⟨S32x15x2048, h⟩, ⟨S32x4x2048, u⟩] concatenates_S32x15x2048_S32x4x2048_S32x19x2048_d1) transposes_S32x19x2048_S19x32x2048_1_0_2

def wB (w : FVec Ideal S4x512x512 .f32) : FVec Ideal S4x512x512 .bf16 := truncf .bf16 w bitsLt_bf16_f32

def scaleRow (s : FVec Ideal S2048 .f32) : FVec Ideal S1x2048 .f32 := shapeCast S1x2048 s shapeCasts_S2048_S1x2048

theorem extT_apply (h : FVec Ideal S32x15x2048 .f32) (u : FVec Ideal S32x4x2048 .f32) (j : Fin 19) (b : Fin 32) (n : Fin 2048) :
    extT h u (ix3 j b n) = PoolSampleSpec.joined u h b j.val n := by
  have hj := j.isLt
  unfold PoolSampleSpec.joined
  by_cases h15 : j.val < 15
  · rw [dif_pos h15]
    pointwise [extT]
    rw [dif_pos h15]
  · rw [dif_neg h15, dif_pos hj]
    pointwise [extT]
    rw [dif_neg h15]

theorem wB_apply (w : FVec Ideal S4x512x512 .f32) (g : Fin 4) (k l : Fin 512) : wB w (ix3 g k l) = w (ix3 g k l) := rfl

theorem scaleRow_apply (s : FVec Ideal S2048 .f32) (n : Fin 2048) : scaleRow s (ix2 0 n) = s (ix1 n) := by
  pointwise [scaleRow]

theorem V_ext (c : Dev nD) : V m c main_v1 = extT (m ((c : Thread nD τ).loc main_arg1)) (m ((c : Thread nD τ).loc main_arg0)) := by
  show StableHlo.after (List.flatten [hostOps0]) (fun b => m (c, b)) (Proc.devRef .tc main_v1) = _
  simp only [hostOps0, List.flatten_cons, List.flatten_nil, List.append_nil]
  after_results
  rfl

theorem V_w (c : Dev nD) : V m c main_v2 = wB (m ((c : Thread nD τ).loc main_arg2)) := by
  show StableHlo.after (List.flatten [hostOps0]) (fun b => m (c, b)) (Proc.devRef .tc main_v2) = _
  simp only [hostOps0, List.flatten_cons, List.flatten_nil, List.append_nil]
  after_results
  rfl

theorem V_s (c : Dev nD) : V m c main_v3 = scaleRow (m ((c : Thread nD τ).loc main_arg3)) := by
  show StableHlo.after (List.flatten [hostOps0]) (fun b => m (c, b)) (Proc.devRef .tc main_v3) = _
  simp only [hostOps0, List.flatten_cons, List.flatten_nil, List.append_nil]
  after_results
  rfl

/-- The block numbers of the windows: each window is its whole array. -/
theorem blockNo : ∀ t : Fin cfg0.N,
    (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0) := by
  decide +kernel

theorem iblk0_apply (c : Dev nD) (t : Fin cfg0.N) (j : Fin 19) (b : Fin 32) (n : Fin 2048) :
    (iblk m c 0 t : Vec Ideal S19x32x2048 .f32) (ix3 j b n) = PoolSampleSpec.joined (m ((c : Thread nD τ).loc main_arg0)) (m ((c : Thread nD τ).loc main_arg1)) b j.val n := by
  rw [← extT_apply]
  unfold iblk
  rw [View.read_apply]
  show V m c main_v1 _ = _
  rw [V_ext]
  refine congrArg (extT _ _) (funext fun a => Fin.ext ?_)
  obtain ⟨⟨h0, h1, h2⟩, -⟩ := blockNo t
  match a with
  | ⟨0, _⟩ => show win0_0.index t (0 : Fin 3) * 19 + 1 * j.val = j.val; omega
  | ⟨1, _⟩ => show win0_0.index t (1 : Fin 3) * 32 + 1 * b.val = b.val; omega
  | ⟨2, _⟩ => show win0_0.index t (2 : Fin 3) * 2048 + 1 * n.val = n.val; omega

theorem iblk1_apply (c : Dev nD) (t : Fin cfg0.N) (g : Fin 4) (k l : Fin 512) :
    (iblk m c 1 t : Vec Ideal S4x512x512 .bf16) (ix3 g k l) = m ((c : Thread nD τ).loc main_arg2) (ix3 g k l) := by
  refine Eq.trans ?_ (wB_apply _ g k l)
  unfold iblk
  rw [View.read_apply]
  show V m c main_v2 _ = _
  rw [V_w]
  refine congrArg (wB _) (funext fun a => Fin.ext ?_)
  obtain ⟨-, ⟨h0, h1, h2⟩, -⟩ := blockNo t
  match a with
  | ⟨0, _⟩ => show win0_1.index t (0 : Fin 3) * 4 + 1 * g.val = g.val; omega
  | ⟨1, _⟩ => show win0_1.index t (1 : Fin 3) * 512 + 1 * k.val = k.val; omega
  | ⟨2, _⟩ => show win0_1.index t (2 : Fin 3) * 512 + 1 * l.val = l.val; omega

theorem iblk2_apply (c : Dev nD) (t : Fin cfg0.N) (n : Fin 2048) :
    (iblk m c 2 t : Vec Ideal S1x2048 .f32) (ix2 0 n) = m ((c : Thread nD τ).loc main_arg3) (ix1 n) := by
  refine Eq.trans ?_ (scaleRow_apply _ n)
  unfold iblk
  rw [View.read_apply]
  show V m c main_v3 _ = _
  rw [V_s]
  refine congrArg (scaleRow _) (funext fun a => Fin.ext ?_)
  obtain ⟨-, -, ⟨h0, h1⟩, -⟩ := blockNo t
  match a with
  | ⟨0, _⟩ => show win0_2.index t (0 : Fin 2) * 1 + 1 * 0 = 0; omega
  | ⟨1, _⟩ => show win0_2.index t (1 : Fin 2) * 2048 + 1 * n.val = n.val; omega

/-- The array as a function of the launched ones. -/
def result (c : Dev nD) : S4x32x2048.Idx → EReal := fun y =>
  PoolSampleSpec.sample (m ((c : Thread nD τ).loc main_arg0)) (m ((c : Thread nD τ).loc main_arg1)) (m ((c : Thread nD τ).loc main_arg2)) (m ((c : Thread nD τ).loc main_arg3))
    (y 1 : Fin 32) (y 0 : Fin 4) ⟨(y 2).val / 512, by have h : (y 2).val < 2048 := (y 2).isLt; show (y 2).val / 512 < 4; omega⟩ ⟨(y 2).val % 512, Nat.mod_lt _ (by decide)⟩

theorem row_eq (c : Dev nD) (t : Fin cfg0.N) (j : ℕ) (hj : j < 19) (b : Fin 32) (n : Fin 2048) :
    rowV (iblk m c 0 t) j b n.val = PoolSampleSpec.joined (m ((c : Thread nD τ).loc main_arg0)) (m ((c : Thread nD τ).loc main_arg1)) b j n := by
  unfold rowV
  rw [dif_pos hj, dif_pos n.isLt]
  exact iblk0_apply m c t ⟨j, hj⟩ b n

theorem tile_eq (c : Dev nD) (p : Fin cfg0.N) (t g : Fin 4) (b : Fin 32) (l : Fin 512) :
    tile (iblk m c 0 p) (iblk m c 1 p) (iblk m c 2 p) t g b l
      = PoolSampleSpec.sample (m ((c : Thread nD τ).loc main_arg0)) (m ((c : Thread nD τ).loc main_arg1)) (m ((c : Thread nD τ).loc main_arg2)) (m ((c : Thread nD τ).loc main_arg3)) b t g l := by
  have ht := t.isLt
  have hW := (by decide : ∀ g : Fin 4, 2 ^ (g.val + 1) = 2 ∨ 2 ^ (g.val + 1) = 4 ∨ 2 ^ (g.val + 1) = 8 ∨ 2 ^ (g.val + 1) = 16) g
  unfold tile PoolSampleSpec.sample
  refine PoolSpec.out_congr (fun k d hd => row_eq m c p _ (by omega) b (PoolSpec.col g k)) (PoolSampleSpec.count_full t _ hW).symm (fun k => ?_)
    (fun k => iblk1_apply m c p g k l) (iblk2_apply m c p (PoolSpec.col g l))
  refine (row_eq m c p (15 + t.val) (by omega) b (PoolSpec.col g k)).trans ?_
  unfold PoolSampleSpec.joined
  rw [dif_neg (by omega), dif_pos (by omega)]
  exact congrArg _ (congrArg (fun a : Fin 4 => ix3 b a _) (Fin.ext (by show 15 + t.val - 15 = t.val; omega)))

/-- The only point writes back the whole array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  funext y
  have he : (((cfg0.win 3).blk t).view.emb y : S4x32x2048.Idx) = ix3 (y 0) (y 1) (y 2) := by
    funext a
    apply Fin.ext
    obtain ⟨-, -, -, h0, h1, h2⟩ := blockNo t
    match a with
    | ⟨0, _⟩ => show win0_3.index t (0 : Fin 3) * 4 + 1 * (y 0).val = (y 0).val; omega
    | ⟨1, _⟩ => show win0_3.index t (1 : Fin 3) * 32 + 1 * (y 1).val = (y 1).val; omega
    | ⟨2, _⟩ => show win0_3.index t (2 : Fin 3) * 2048 + 1 * (y 2).val = (y 2).val; omega
  rw [View.read_apply]
  show block (iblk m c 0 t) (iblk m c 1 t) (iblk m c 2 t) ((cfg0.win 3).xinj (grid0.coords t) y) = result m c (((cfg0.win 3).blk t).view.emb y)
  rw [he]
  exact tile_eq m c t _ _ _ _

theorem covered (i : S4x32x2048.Idx) : ∃ t : Fin cfg0.N, (cfg0.win 3).flush t = true ∧ i ∈ ((cfg0.win 3).blk t).view.set := by
  have h0 : (i 0).val < 4 := (i 0).isLt
  have h1 : (i 1).val < 32 := (i 1).isLt
  have h2 : (i 2).val < 2048 := (i 2).isLt
  refine ⟨t0_0, flush0_3 t0_0, ?_⟩
  show i ∈ ((View.whole main_v4).slice (win0_3.rect t0_0)).set
  rw [View.set_slice_whole, Rect.mem_set_unit]
  obtain ⟨-, -, -, e0, e1, e2⟩ := blockNo t0_0
  intro a
  match a with
  | ⟨0, _⟩ => show win0_3.index t0_0 (0 : Fin 3) * 4 ≤ (i 0).val ∧ (i 0).val < win0_3.index t0_0 (0 : Fin 3) * 4 + 4; omega
  | ⟨1, _⟩ => show win0_3.index t0_0 (1 : Fin 3) * 32 ≤ (i 1).val ∧ (i 1).val < win0_3.index t0_0 (1 : Fin 3) * 32 + 32; omega
  | ⟨2, _⟩ => show win0_3.index t0_0 (2 : Fin 3) * 2048 ≤ (i 2).val ∧ (i 2).val < win0_3.index t0_0 (2 : Fin 3) * 2048 + 2048; omega

/-- The array after the run. -/
theorem final (c : Dev nD) : (dats m 0 c).arrAt 3 cfg0.N = result m c :=
  (dats m 0 c).arrAt_eq_of_cover 3 _ (fun t _ => flushed_eq m c t) covered

/-- The returned array: the sequence first again. -/
def outT (U : FVec Ideal S4x32x2048 .bf16) : FVec Ideal S32x4x2048 .bf16 :=
  transpose S32x4x2048 [1, 0, 2] U transposes_S4x32x2048_S32x4x2048_1_0_2

theorem outT_apply (U : FVec Ideal S4x32x2048 .bf16) (b : Fin 32) (t : Fin 4) (n : Fin 2048) : outT U (ix3 b t n) = U (ix3 t b n) := by
  pointwise [outT]

theorem arr_out (c : Dev nD) : Pipeline.withArrays spec0 c (V0 m c) (fun w => (dats m 0 c).arrAt w cfg0.N) (Proc.devRef .tc main_v4) = result m c :=
  (Pipeline.withArrays_arr spec0 (by decide) c (V0 m c) _ 3).trans (final m c)

theorem tail_out (c : Dev nD) : Pipeline.afterTail₀ cfgs (dats m) 0 (V0 m) [hostOps1] c main_v5 = outT (result m c) := by
  refine Eq.trans ?_ (congrArg outT (arr_out m c))
  unfold Pipeline.afterTail₀
  show StableHlo.after hostOps1 _ (Proc.devRef .tc main_v5) = _
  after_results
  rfl

/-- The run: the result at its value, every argument as launched. -/
theorem run (ρ : Dev nD → PrngReg) : θ_run defs (onTc (τ := τ) (main (F := Ideal))) ⟨m, fun _ => 0, ρ⟩ (fun r => ∀ c : Dev nD,
    r.2.mem ((c.tc : Thread nD τ).loc main_v5) = outT (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v5 (Pipeline.mem_restRefs_of main_v5 (by decide) (by decide))).trans (tail_out m c), h.2 c⟩)
    (θ_run_and (run_main m ρ) (unchanged m ρ))

end Cert.PoolSample
end
-- ==== Proof.PoolSampleRef.lean ====
/- The reference of the sample pooling, read at one element. -/
module

public import proofs.«01_k».proof.Proof.Gen.Reference7Ideal.Run
public import proofs.«01_k».proof.Proof.PoolSampleSpec

@[expose] public section

set_option maxRecDepth 16384

noncomputable section

namespace Cert.PoolSampleRef

open Idealize.ShloMosaic Idealize.ShloMosaic.TcCoe Idealize.SL.Sem Cert.Reference7Ideal Ideal Cert.Reference7Ideal.Gen

/-- The kept rows, then the new ones. -/
def ext (u : FVec Ideal S32x4x2048 .f32) (h : FVec Ideal S32x15x2048 .f32) : FVec Ideal S32x19x2048 .f32 :=
  concatenate S32x19x2048 1 [⟨S32x15x2048, h⟩, ⟨S32x4x2048, u⟩] concatenates_S32x15x2048_S32x4x2048_S32x19x2048_d1

/-- One shifted copy of the sequences. -/
def shifted (E : FVec Ideal S32x19x2048 .f32) (o : ℕ) (h : S32x19x2048.Slices ![0, o, 0] S32x4x2048) : FVec Ideal S1x32x4x2048 .f32 :=
  broadcastInDim S1x32x4x2048 ![1, 2, 3] bcast_S32x4x2048_S1x32x4x2048_1_2_3 (extractStridedSlice S32x4x2048 ![0, o, 0] E h)

/-- Sixteen arrays stacked. -/
def stack (p : Fin 16 → FVec Ideal S1x32x4x2048 .f32) : FVec Ideal S16x32x4x2048 .f32 :=
  concatenate S16x32x4x2048 0 [⟨S1x32x4x2048, p 0⟩, ⟨S1x32x4x2048, p 1⟩, ⟨S1x32x4x2048, p 2⟩, ⟨S1x32x4x2048, p 3⟩, ⟨S1x32x4x2048, p 4⟩, ⟨S1x32x4x2048, p 5⟩, ⟨S1x32x4x2048, p 6⟩, ⟨S1x32x4x2048, p 7⟩, ⟨S1x32x4x2048, p 8⟩, ⟨S1x32x4x2048, p 9⟩, ⟨S1x32x4x2048, p 10⟩, ⟨S1x32x4x2048, p 11⟩, ⟨S1x32x4x2048, p 12⟩, ⟨S1x32x4x2048, p 13⟩, ⟨S1x32x4x2048, p 14⟩, ⟨S1x32x4x2048, p 15⟩] concatenates_S1x32x4x2048_S1x32x4x2048_S1x32x4x2048_S1x32x4x2048_S1x32x4x2048_S1x32x4x2048_S1x32x4x2048_S1x32x4x2048_S1x32x4x2048_S1x32x4x2048_S1x32x4x2048_S1x32x4x2048_S1x32x4x2048_S1x32x4x2048_S1x32x4x2048_S1x32x4x2048_S16x32x4x2048_d0

/-- The shifted copies. -/
def copies (E : FVec Ideal S32x19x2048 .f32) : Fin 16 → FVec Ideal S1x32x4x2048 .f32 :=
  ![shifted E 15 slices_S32x19x2048_S32x4x2048_0_15_0, shifted E 14 slices_S32x19x2048_S32x4x2048_0_14_0, shifted E 13 slices_S32x19x2048_S32x4x2048_0_13_0, shifted E 12 slices_S32x19x2048_S32x4x2048_0_12_0, shifted E 11 slices_S32x19x2048_S32x4x2048_0_11_0, shifted E 10 slices_S32x19x2048_S32x4x2048_0_10_0, shifted E 9 slices_S32x19x2048_S32x4x2048_0_9_0, shifted E 8 slices_S32x19x2048_S32x4x2048_0_8_0, shifted E 7 slices_S32x19x2048_S32x4x2048_0_7_0, shifted E 6 slices_S32x19x2048_S32x4x2048_0_6_0, shifted E 5 slices_S32x19x2048_S32x4x2048_0_5_0, shifted E 4 slices_S32x19x2048_S32x4x2048_0_4_0, shifted E 3 slices_S32x19x2048_S32x4x2048_0_3_0, shifted E 2 slices_S32x19x2048_S32x4x2048_0_2_0, shifted E 1 slices_S32x19x2048_S32x4x2048_0_1_0, shifted E 0 slices_S32x19x2048_S32x4x2048_0_0_0]

/-- The window of each column. -/
def window : IVec S2048 32 :=
  shapeCast _ (broadcastInDim S4x512 ![0] bcast_S4_S4x512_0 ((fun i => lit0 (S4.rowMajor i)))) shapeCasts_S4x512_S2048

/-- The windowed sums. -/
def sums (T : FVec Ideal S16x32x4x2048 .f32) (wn : IVec S2048 32) : FVec Ideal S32x4x2048 .f32 :=
  Host.reduceAdd (select (broadcastInDim S16x32x4x2048 ![0, 1, 2, 3] bcast_S16x1x1x2048_S16x32x4x2048_0_1_2_3 (cmpi .slt (broadcastInDim S16x1x1x2048 ![0, 1, 2, 3] bcast_S16x1x1x1_S16x1x1x2048_0_1_2_3 (broadcastInDim S16x1x1x1 ![0] bcast_S16_S16x1x1x1_0 (iotaInDim S16 32 0))) (broadcastInDim S16x1x1x2048 ![0, 1, 2, 3] bcast_S1x1x1x2048_S16x1x1x2048_0_1_2_3 (broadcastInDim S1x1x1x2048 ![3] bcast_S2048_S1x1x1x2048_3 wn)))) T (broadcastInDim S16x32x4x2048 ![] bcast_S_S16x32x4x2048 (id (constant S_ .f32 0x00000000#32)))) (constant S_ .f32 0x00000000#32) reducesTo_S16x32x4x2048_S32x4x2048_d0 h_S_

/-- The means less the current rows. -/
def diffs (S U : FVec Ideal S32x4x2048 .f32) (wn : IVec S2048 32) : FVec Ideal S32x4x4x512 .f32 :=
  shapeCast _ (subf (Host.divf S (broadcastInDim S32x4x2048 ![0, 1, 2] bcast_S1x4x2048_S32x4x2048_0_1_2 (broadcastInDim S1x4x2048 ![1, 2] bcast_S4x2048_S1x4x2048_1_2 (sitofp .f32 (minsi (broadcastInDim S4x2048 ![0, 1] bcast_S4x1_S4x2048_0_1 (addi (addi (broadcastInDim S4x1 ![] bcast_S_S4x1 (constantI S_ 32 8192#32)) (broadcastInDim S4x1 ![0] bcast_S4_S4x1_0 (iotaInDim S4 32 0))) (broadcastInDim S4x1 ![] bcast_S_S4x1 (constantI S_ 32 1#32)))) (broadcastInDim S4x2048 ![0, 1] bcast_S1x2048_S4x2048_0_1 (broadcastInDim S1x2048 ![1] bcast_S2048_S1x2048_1 wn))))))) U) shapeCasts_S32x4x2048_S32x4x4x512

/-- The groups' products, scaled. -/
def mixed (D : FVec Ideal S32x4x4x512 .f32) (w : FVec Ideal S4x512x512 .f32) (s : FVec Ideal S2048 .f32) : FVec Ideal S32x4x2048 .bf16 :=
  truncf .bf16 (mulf (shapeCast _ (transpose S32x4x4x512 [2, 3, 0, 1] (Host.dotGeneral dot_S4x512x512_S32x4x4x512_S4x512x32x4_1_3_2_01_0_2 none w D) transposes_S4x512x32x4_S32x4x4x512_2_3_0_1) shapeCasts_S32x4x4x512_S32x4x2048) (broadcastInDim S32x4x2048 ![0, 1, 2] bcast_S1x1x2048_S32x4x2048_0_1_2 (broadcastInDim S1x1x2048 ![2] bcast_S2048_S1x1x2048_2 s))) bitsLt_bf16_f32

/-- The reference's result. -/
def ref (u : FVec Ideal S32x4x2048 .f32) (h : FVec Ideal S32x15x2048 .f32) (w : FVec Ideal S4x512x512 .f32) (s : FVec Ideal S2048 .f32) : FVec Ideal S32x4x2048 .bf16 :=
  mixed (diffs (sums (stack (copies (ext u h))) window) u window) w s

theorem res_eq (m : (ℓ : Loc nD τ sig) → Buf (Elt Ideal) ℓ) (c : Dev nD) :
    Value.res_main_v66 m c = ref (m ((c.tc : Thread nD τ).loc main_arg0)) (m ((c.tc : Thread nD τ).loc main_arg1)) (m ((c.tc : Thread nD τ).loc main_arg2)) (m ((c.tc : Thread nD τ).loc main_arg3)) := rfl

theorem ext_apply (u : FVec Ideal S32x4x2048 .f32) (h : FVec Ideal S32x15x2048 .f32) (b : Fin 32) (j : Fin 19) (n : Fin 2048) :
    ext u h (ix3 b j n) = PoolSampleSpec.joined u h b j.val n := by
  have hj := j.isLt
  unfold PoolSampleSpec.joined
  by_cases h15 : j.val < 15
  · rw [dif_pos h15]
    pointwise [ext]
    rw [dif_pos h15]
  · rw [dif_neg h15, dif_pos hj]
    pointwise [ext]
    rw [dif_neg h15]

theorem shifted_apply (E : FVec Ideal S32x19x2048 .f32) (o : ℕ) (h : S32x19x2048.Slices ![0, o, 0] S32x4x2048) (ho : o ≤ 15)
    (b : Fin 32) (t : Fin 4) (n : Fin 2048) :
    shifted E o h (ix4 0 b t n) = E (ix3 b (⟨o + t.val, by have := t.isLt; omega⟩ : Fin 19) n) := by
  unfold shifted
  refine congrArg E (funext fun a => Fin.ext ?_)
  match a with
  | ⟨0, _⟩ => show 0 + b.val = b.val; omega
  | ⟨1, _⟩ => rfl
  | ⟨2, _⟩ => show 0 + n.val = n.val; omega

theorem copies_apply (E : FVec Ideal S32x19x2048 .f32) (d : Fin 16) (b : Fin 32) (t : Fin 4) (n : Fin 2048) :
    copies E d (ix4 0 b t n) = E (ix3 b (⟨15 - d.val + t.val, by have := t.isLt; have := d.isLt; omega⟩ : Fin 19) n) := by
  match d with
  | ⟨0, _⟩ => exact shifted_apply E 15 slices_S32x19x2048_S32x4x2048_0_15_0 (by decide) b t n
  | ⟨1, _⟩ => exact shifted_apply E 14 slices_S32x19x2048_S32x4x2048_0_14_0 (by decide) b t n
  | ⟨2, _⟩ => exact shifted_apply E 13 slices_S32x19x2048_S32x4x2048_0_13_0 (by decide) b t n
  | ⟨3, _⟩ => exact shifted_apply E 12 slices_S32x19x2048_S32x4x2048_0_12_0 (by decide) b t n
  | ⟨4, _⟩ => exact shifted_apply E 11 slices_S32x19x2048_S32x4x2048_0_11_0 (by decide) b t n
  | ⟨5, _⟩ => exact shifted_apply E 10 slices_S32x19x2048_S32x4x2048_0_10_0 (by decide) b t n
  | ⟨6, _⟩ => exact shifted_apply E 9 slices_S32x19x2048_S32x4x2048_0_9_0 (by decide) b t n
  | ⟨7, _⟩ => exact shifted_apply E 8 slices_S32x19x2048_S32x4x2048_0_8_0 (by decide) b t n
  | ⟨8, _⟩ => exact shifted_apply E 7 slices_S32x19x2048_S32x4x2048_0_7_0 (by decide) b t n
  | ⟨9, _⟩ => exact shifted_apply E 6 slices_S32x19x2048_S32x4x2048_0_6_0 (by decide) b t n
  | ⟨10, _⟩ => exact shifted_apply E 5 slices_S32x19x2048_S32x4x2048_0_5_0 (by decide) b t n
  | ⟨11, _⟩ => exact shifted_apply E 4 slices_S32x19x2048_S32x4x2048_0_4_0 (by decide) b t n
  | ⟨12, _⟩ => exact shifted_apply E 3 slices_S32x19x2048_S32x4x2048_0_3_0 (by decide) b t n
  | ⟨13, _⟩ => exact shifted_apply E 2 slices_S32x19x2048_S32x4x2048_0_2_0 (by decide) b t n
  | ⟨14, _⟩ => exact shifted_apply E 1 slices_S32x19x2048_S32x4x2048_0_1_0 (by decide) b t n
  | ⟨15, _⟩ => exact shifted_apply E 0 slices_S32x19x2048_S32x4x2048_0_0_0 (by decide) b t n
  | ⟨n + 16, h⟩ => exact absurd h (by omega)

set_option maxHeartbeats 4000000 in
theorem stack_apply (p : Fin 16 → FVec Ideal S1x32x4x2048 .f32) (d : Fin 16) (b : Fin 32) (t : Fin 4) (n : Fin 2048) :
    stack p (ix4 d b t n) = p d (ix4 0 b t n) := by
  match d with
  | ⟨0, _⟩ => pointwise [stack]
  | ⟨1, _⟩ => pointwise [stack]
  | ⟨2, _⟩ => pointwise [stack]
  | ⟨3, _⟩ => pointwise [stack]
  | ⟨4, _⟩ => pointwise [stack]
  | ⟨5, _⟩ => pointwise [stack]
  | ⟨6, _⟩ => pointwise [stack]
  | ⟨7, _⟩ => pointwise [stack]
  | ⟨8, _⟩ => pointwise [stack]
  | ⟨9, _⟩ => pointwise [stack]
  | ⟨10, _⟩ => pointwise [stack]
  | ⟨11, _⟩ => pointwise [stack]
  | ⟨12, _⟩ => pointwise [stack]
  | ⟨13, _⟩ => pointwise [stack]
  | ⟨14, _⟩ => pointwise [stack]
  | ⟨15, _⟩ => pointwise [stack]
  | ⟨n + 16, h⟩ => exact absurd h (by omega)

theorem window_apply (g : Fin 4) (k : Fin 512) : window (ix1 (PoolSpec.col g k)) = BitVec.ofNat 32 (2 ^ (g.val + 1)) := by
  have e : window (ix1 (PoolSpec.col g k)) = lit0 (S4.rowMajor (ix1 g)) := by
    pointwise [window, PoolSpec.col]
  rw [e]
  exact (by decide : ∀ g : Fin 4, lit0 (S4.rowMajor (ix1 g)) = BitVec.ofNat 32 (2 ^ (g.val + 1))) g

theorem sums_apply (T : FVec Ideal S16x32x4x2048 .f32) (wn : IVec S2048 32) (b : Fin 32) (t : Fin 4) (n : Fin 2048) :
    sums T wn (ix3 b t n) = ∑ d : Fin 16, Scalar.select (IntOp.cmpi .slt (BitVec.ofNat 32 d.val) (wn (ix1 n))) (T (ix4 d b t n)) 0 := by
  unfold sums
  dsimp only [id]
  pointwise []

/-- Summing sixteen terms of which those past the window are zero is summing the window's. -/
theorem masked_sum (g : Fin 4) (f : ℕ → EReal) :
    (∑ d : Fin 16, Scalar.select (IntOp.cmpi .slt (BitVec.ofNat 32 d.val) (BitVec.ofNat 32 (2 ^ (g.val + 1)))) (f d.val) 0)
      = ∑ d ∈ Finset.range (2 ^ (g.val + 1)), f d := by
  have key : ∀ (g : Fin 4) (d : Fin 16), IntOp.cmpi .slt (BitVec.ofNat 32 d.val) (BitVec.ofNat 32 (2 ^ (g.val + 1))) = if d.val < 2 ^ (g.val + 1) then 1#1 else 0#1 := by decide
  have hW : 2 ^ (g.val + 1) ≤ 16 := (by decide : ∀ g : Fin 4, 2 ^ (g.val + 1) ≤ 16) g
  have e : ∀ d : Fin 16, Scalar.select (IntOp.cmpi .slt (BitVec.ofNat 32 d.val) (BitVec.ofNat 32 (2 ^ (g.val + 1)))) (f d.val) 0
      = if d.val < 2 ^ (g.val + 1) then f d.val else 0 := fun d => by
    rw [key g d]
    by_cases h : d.val < 2 ^ (g.val + 1)
    · rw [if_pos h, if_pos h]; rfl
    · rw [if_neg h, if_neg h]; rfl
  rw [Finset.sum_congr rfl fun d _ => e d, Fin.sum_univ_eq_sum_range (fun d => if d < 2 ^ (g.val + 1) then f d else 0) 16, ← Finset.sum_filter]
  refine Finset.sum_congr (Finset.ext fun d => ?_) fun _ _ => rfl
  simp only [Finset.mem_filter, Finset.mem_range]
  omega

theorem diffs_apply (S U : FVec Ideal S32x4x2048 .f32) (wn : IVec S2048 32) (b : Fin 32) (t g : Fin 4) (k : Fin 512) :
    diffs S U wn (ix4 b t g k) = div (S (ix3 b t (PoolSpec.col g k)))
        (FloatOps.sitofp (F := Idealize.ShloMosaic.Ideal) .f32 (IntOp.minsi (IntOp.addi (IntOp.addi 8192#32 (BitVec.ofNat 32 t.val)) 1#32) (wn (ix1 (PoolSpec.col g k)))))
      - U (ix3 b t (PoolSpec.col g k)) := by
  pointwise [diffs, PoolSpec.col]

theorem mixed_apply (D : FVec Ideal S32x4x4x512 .f32) (w : FVec Ideal S4x512x512 .f32) (s : FVec Ideal S2048 .f32) (b : Fin 32) (t g : Fin 4) (l : Fin 512) :
    mixed D w s (ix3 b t (PoolSpec.col g l)) = (∑ k : Fin 512, w (ix3 g k l) * D (ix4 b t g k)) * s (ix1 (PoolSpec.col g l)) := by
  pointwise [mixed, PoolSpec.col]

/-- The reference's element is the pooled element. -/
theorem ref_apply' (u : FVec Ideal S32x4x2048 .f32) (h : FVec Ideal S32x15x2048 .f32) (w : FVec Ideal S4x512x512 .f32) (s : FVec Ideal S2048 .f32) (b : Fin 32) (t g : Fin 4) (l : Fin 512) :
    ref u h w s (ix3 b t (PoolSpec.col g l)) = PoolSampleSpec.sample u h w s b t g l := by
  have ht := t.isLt
  unfold ref
  rw [mixed_apply]
  unfold PoolSampleSpec.sample PoolSpec.out
  refine congrArg (fun a : EReal => a * _) (Finset.sum_congr rfl fun k _ => ?_)
  rw [mul_comm, diffs_apply, sums_apply, window_apply]
  refine congrArg (fun a : EReal => a * _) (congrArg (fun a : EReal => a - _) (congrArg₂ div ?_ ?_))
  · rw [← masked_sum g]
    refine Finset.sum_congr rfl fun d _ => congrArg (fun a : EReal => Scalar.select _ a 0) ?_
    have hd := d.isLt
    rw [stack_apply, copies_apply, ext_apply]
    exact congrArg (fun j => PoolSampleSpec.joined u h b j _) (by show 15 - d.val + t.val = 15 + t.val - d.val; omega)
  · unfold PoolSpec.count
    refine congrArg (fun a : BitVec 32 => FloatOps.sitofp (F := Idealize.ShloMosaic.Ideal) .f32 (IntOp.minsi a _)) ?_
    show BitVec.ofNat 32 8192 + BitVec.ofNat 32 t.val + BitVec.ofNat 32 1 = _
    rw [← BitVec.ofNat_add, ← BitVec.ofNat_add]

theorem ref_apply (u : FVec Ideal S32x4x2048 .f32) (h : FVec Ideal S32x15x2048 .f32) (w : FVec Ideal S4x512x512 .f32) (s : FVec Ideal S2048 .f32) (b : Fin 32) (t : Fin 4) (n : Fin 2048) :
    ref u h w s (ix3 b t n) = PoolSampleSpec.sample u h w s b t
      ⟨n.val / 512, by have := n.isLt; omega⟩ ⟨n.val % 512, Nat.mod_lt _ (by decide)⟩ := by
  have hn := n.isLt
  have e1 : PoolSpec.col ⟨n.val / 512, by omega⟩ ⟨n.val % 512, Nat.mod_lt _ (by decide)⟩ = n :=
    Fin.ext (by show n.val / 512 * 512 + n.val % 512 = n.val; omega)
  have key := ref_apply' u h w s b t ⟨n.val / 512, by omega⟩ ⟨n.val % 512, Nat.mod_lt _ (by decide)⟩
  rw [e1] at key
  exact key

end Cert.PoolSampleRef
end
-- ==== Proof.PoolSampleClaim.lean ====
/- The sample pooling's claims: the reference's frame, and the kernel's result against the reference's. -/
module

public import proofs.«01_k».proof.Defs
public import proofs.«01_k».proof.Proof.PoolSample
public import proofs.«01_k».proof.Proof.PoolSampleRef

@[expose] public section

set_option maxRecDepth 16384

noncomputable section

namespace Cert.PoolSample

open Idealize.ShloMosaic Idealize.ShloMosaic.TcCoe Idealize.SL.Sem

local instance : Cert.Kernel7Ideal.Facts := Cert.Kernel7Ideal.Gen.facts
local instance : Cert.Reference7Ideal.Facts := Cert.Reference7Ideal.Gen.facts

/-- The reference runs, keeps its arguments and leaves no counter behind (it has none). -/
theorem frame_ref : Cert.quiescent_Reference7Ideal := fun m ρ _ =>
  (θ_run _ _ _).mono (fun r h => ⟨fun c => (h c).2, sem_eq_zero_of_no_sems (by decide) r.2⟩) (Reference7Ideal.Value.run m ρ)

/-- The kernel's result is the reference's on the same arguments. -/
theorem final_eq (m : (ℓ : Loc Kernel7Ideal.nD Kernel7Ideal.τ Kernel7Ideal.sig) → Buf (Elt Ideal) ℓ) (c : Dev Kernel7Ideal.nD) :
    outT (result m c) = PoolSampleRef.ref (m ((c.tc : Thread _ _).loc Kernel7Ideal.main_arg0)) (m ((c.tc : Thread _ _).loc Kernel7Ideal.main_arg1))
      (m ((c.tc : Thread _ _).loc Kernel7Ideal.main_arg2)) (m ((c.tc : Thread _ _).loc Kernel7Ideal.main_arg3)) := by
  funext y
  rw [show y = ix3 (y 0) (y 1) (y 2) from eq_ix3 y]
  exact (outT_apply (result m c) (y 0) (y 1) (y 2)).trans (PoolSampleRef.ref_apply _ _ _ _ (y 0) (y 1) (y 2)).symm

/-- Kernel and reference agree over the extended reals, from any arguments. -/
theorem algebraic : Cert.algebraic_Kernel7Ideal_Reference7Ideal := fun m ρ m' ρ' _ hag =>
  ⟨fun c => outT (result m c), run m ρ,
    (θ_run _ _ _).mono (fun r h c => by
      refine ⟨(h c).1.trans ?_, (h c).2⟩
      refine (PoolSampleRef.res_eq m' c).trans ?_
      rw [(hag c).1, (hag c).2.1, (hag c).2.2.1, (hag c).2.2.2]
      exact (final_eq m c).symm) (Reference7Ideal.Value.run m' ρ')⟩

end Cert.PoolSample
end
-- ==== Proof.AttnSelect.lean ====
module

public import proofs.«01_k».proof.Proof.Gen.Kernel8.Frame
public import proofs.«01_k».proof.Proof.Gen.Kernel8.Skeleton
public import Idealize.ShloMosaic.Lib.Claim

@[expose] public section

set_option maxRecDepth 16384

noncomputable section

namespace Cert.Kernel8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x256 .f32) (c0 : BitVec 32) (k : Fin k0_t1_loop.trips) (a : IVec S128x1 32) : IVec S128x1 32 :=
  k0_pay18 v92 a (k0_pay2 c0 1#32 k a) (k0_pay3 c0 1#32 k a) (k0_pay4 c0 1#32 k a) (k0_pay5 v92 c0 1#32 k a) (k0_pay6 v92 c0 1#32 k a) 0#32

/-- The threshold the search ends with, as a bit pattern. -/
def thrOf (v92 : FVec F S128x256 .f32) (v123 : IVec S128x1 32) (c0 : BitVec 32) : IVec S128x1 32 :=
  Scf.fold (stepT1 v92 c0) v123

/-- The cut among equal scores. -/
def cutOf (v85 : IVec S128x256 32) (v92 : FVec F S128x256 .f32) (v125 : IVec S128x1 32) : IVec S128x1 32 :=
  if Scalar.cmpi .ne (Scalar.extui (Scalar.cmpf (F := F) .ogt (k0_pay23 v92 v125) (Scalar.ofBits .f32 0x43800000#32)) : BitVec 32) 0#32 = 1#1 then
    Scf.fold (fun k a => k0_pay25 v85 v92 v125 k a) k0_pay24
  else k0_pay26

/-- The mask the selection ends with. -/
def maskOf (v85 : IVec S128x256 32) (v90 : IVec S128x256 1) (v92 : FVec F S128x256 .f32) (v123 : IVec S128x1 32) (c0 : BitVec 32) : IVec S128x256 1 :=
  k0_pay27 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)  (v85 : IVec S128x256 32) (v90 : IVec S128x256 1) (v92 : FVec F S128x256 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay24
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay25 v85 v92 w k a) k0_pay24) := fun w =>
    Scf.for_pure k0_t2_loop.lb k0_t2_loop.ub k0_t2_loop.st k0_t2_ok k0_pay24 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay23 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

set_option maxHeartbeats 1000000 in
/-- The body looks at the second coordinate only. -/
theorem body_eqA (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)  (h : (i 1).val = 0) : cc0_attn_prompt_256 (F := F) i arg2 harg2 arg3 harg3 arg4 harg4 arg5 harg5 arg6 harg6 arg7 harg7 arg8 harg8 arg9 harg9 arg10 harg10 = cc0_attn_prompt_256 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)  (h : (i 1).val = 1) : cc0_attn_prompt_256 (F := F) i arg2 harg2 arg3 harg3 arg4 harg4 arg5 harg5 arg6 harg6 arg7 harg7 arg8 harg8 arg9 harg9 arg10 harg10 = cc0_attn_prompt_256 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end Cert.Kernel8.Gen

end
-- ==== Proof.AttnRunA.lean ====
module

public import proofs.«01_k».proof.Proof.Gen.Kernel8.Frame
public import proofs.«01_k».proof.Proof.Gen.Kernel8.Skeleton
public import Idealize.ShloMosaic.Lib.Claim
public import proofs.«01_k».proof.Proof.AttnSelect

@[expose] public section

set_option maxRecDepth 16384

noncomputable section

namespace Cert.Kernel8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_256 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_256_eq_skeleton]; unfold cc0_attn_prompt_256_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel8.Gen

end
-- ==== Proof.AttnRunB.lean ====
module

public import proofs.«01_k».proof.Proof.Gen.Kernel8.Frame
public import proofs.«01_k».proof.Proof.Gen.Kernel8.Skeleton
public import Idealize.ShloMosaic.Lib.Claim
public import proofs.«01_k».proof.Proof.AttnSelect

@[expose] public section

set_option maxRecDepth 16384

noncomputable section

namespace Cert.Kernel8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_256 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_256_eq_skeleton]; unfold cc0_attn_prompt_256_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel8.Gen

end
-- ==== Proof.AttnFrame.lean ====
module

public import proofs.«01_k».proof.Proof.Gen.Kernel8.Frame
public import proofs.«01_k».proof.Proof.Gen.Kernel8.Skeleton
public import Idealize.ShloMosaic.Lib.Claim
public import proofs.«01_k».proof.Proof.AttnRunA
public import proofs.«01_k».proof.Proof.AttnRunB

@[expose] public section

set_option maxRecDepth 16384

noncomputable section

namespace Cert.Kernel8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x256 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

/-- The stores of the run tile the result's block. -/
theorem coverA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x256 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel8.Gen

end
-- ==== Proof.Attn256Ideal.lean ====
/- The idealized call is the same program text, and so runs as the call does. -/
module

public import proofs.«01_k».proof.Defs
public import proofs.«01_k».proof.Proof.Gen.Kernel8Ideal.Frame
public import proofs.«01_k».proof.Proof.AttnFrame

@[expose] public section

open Idealize.ShloMosaic

set_option maxRecDepth 65536
set_option maxHeartbeats 4000000

noncomputable section

namespace Cert.Kernel8Ideal.Same

variable {F : FTy → Type} [FloatOps F]

/-- The two calls. -/
theorem main_same : Cert.Kernel8Ideal.main (F := F) = Cert.Kernel8.main (F := F) := by with_unfolding_all rfl

/-- Their kernels' bodies. -/
theorem bodies_same : Cert.Kernel8Ideal.defs₀ (F := F) = Cert.Kernel8.defs₀ (F := F) := by
  unfold Cert.Kernel8Ideal.defs₀ Cert.Kernel8.defs₀
  with_unfolding_all refine congrArg Defs.onTc ?_
  funext l a
  match l with
  | 0 => with_unfolding_all rfl

/-- The tables of bodies. -/
theorem defs_same : Cert.Kernel8Ideal.defs (F := F) = Cert.Kernel8.defs (F := F) := by
  unfold Cert.Kernel8Ideal.defs Cert.Kernel8.defs
  with_unfolding_all exact congrArg (Pipeline.defs (Cert.Kernel8.pcfgs (F := F))) bodies_same

/-- The idealized call ends, leaves its arguments as they were, and every counter at zero. -/
theorem frame : Cert.quiescent_Kernel8Ideal := fun m ρ _ => by
  have h := Cert.Kernel8.Gen.frame (F := Ideal) m ρ
  rw [← main_same, ← defs_same] at h
  exact h

end Cert.Kernel8Ideal.Same

end
-- ==== Proof.SampleTopk.lean ====
module

public import proofs.«01_k».proof.Proof.Gen.Kernel9.Frame
public import proofs.«01_k».proof.Proof.Gen.Kernel9.Skeleton
public import Idealize.ShloMosaic.Lib.Claim

@[expose] public section

set_option maxRecDepth 16384

noncomputable section

namespace Cert.Kernel9.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A step that only returns is its value, -/
theorem ret_then {σ β : Type} (a : σ) (k : σ → Prog (TpuEff nD τ sig (Elt F) Λ₀ .tc) β) : (pure a >>= k) = k a := rfl

/-- and a branch between two such steps is one. -/
theorem ret_ite {σ : Type} (p : Prop) [Decidable p] (a b : σ) :
    (if p then (pure a : Prog (TpuEff nD τ sig (Elt F) Λ₀ .tc) σ) else pure b) = pure (if p then a else b) := by
  split <;> rfl

/-- Steps in a row regroup. -/
theorem lift_then {α σ β : Type} (e : TpuEff nD τ sig (Elt F) Λ₀ .tc α) (f : α → Prog (TpuEff nD τ sig (Elt F) Λ₀ .tc) σ)
    (g : σ → Prog (TpuEff nD τ sig (Elt F) Λ₀ .tc) β) : ((Prog.lift e >>= f) >>= g) = (Prog.lift e >>= fun a => f a >>= g) := rfl

section
variable (i : grid0.Coords) (arg1 : Memref sig .tc .vmem S128x8320 .f32) (harg1 : arg1.IsWhole) (arg2 : Memref sig .tc .vmem S128x8320 .f32) (harg2 : arg2.IsWhole)

/-- The search on bit patterns touches no memory; -/
theorem search_pure (v8 : Vec F S128x8320 .f32) (a : IVec S128x1 32) :
    Scf.Loop.for k0_t1_loop k0_t1_ok a (k0_t1_body (F := F) i arg1 harg1 arg2 harg2 v8) = pure (Scf.fold (fun k a => k0_pay11 v8 k a) a) :=
  Scf.for_pure k0_t1_loop.lb k0_t1_loop.ub k0_t1_loop.st k0_t1_ok a _ _ (fun k acc => rfl)

/-- neither does the search for the cut among equal scores. -/
theorem cut_pure (v0 : IVec S128x8320 32) (v11 : Vec F S128x8320 .f32) (v35 : FVec F S128x1 .f32) (v37 : IVec S128x8320 1) (a : IVec S128x1 32) :
    Scf.Loop.for k0_t2_loop k0_t2_ok a (k0_t2_body (F := F) i arg1 harg1 arg2 harg2 v0 v11 v35 v37) = pure (Scf.fold (fun k a => k0_pay5 v0 v11 v35 v37 k a) a) :=
  Scf.for_pure k0_t2_loop.lb k0_t2_loop.ub k0_t2_loop.st k0_t2_ok a _ _ (fun k acc => rfl)

end

/-- The selection of one block of scores. -/
def keepOf (v8 : Vec F S128x8320 .f32) : FVec F S128x8320 .f32 :=
  let t := Scf.fold (fun k a => k0_pay11 v8 k a) (k0_pay10 v8)
  let v0 := iota .tc S128x8320 32 [1] iota_S128x8320_d1_w32
  k0_pay7 v0 k0_pay8 (k0_pay9 v8) (k0_pay12 (F := F) t) (k0_pay13 v8 t)
    (if Scalar.cmpi .ne (Scalar.extui (Scalar.cmpf (F := F) .ogt (k0_pay3 (k0_pay9 v8) (k0_pay12 (F := F) t) (k0_pay13 v8 t)) (Scalar.ofBits .f32 0x43800000#32)) : BitVec 32) 0#32 = 1#1 then
      Scf.fold (fun k a => k0_pay5 v0 (k0_pay9 v8) (k0_pay12 (F := F) t) (k0_pay13 v8 t) k a) k0_pay4
    else k0_pay6)

/-- The body reads its block, selects, and writes the block of the result. -/
theorem body_plain (i : grid0.Coords) (arg1 : Memref sig .tc .vmem S128x8320 .f32) (harg1 : arg1.IsWhole) (arg2 : Memref sig .tc .vmem S128x8320 .f32) (harg2 : arg2.IsWhole) :
    cc0_sample_topk (F := F) i arg1 harg1 arg2 harg2 = (do
      let v8 : Vec F S128x8320 .f32 ← Prog.lift (.load arg1 (Rect.unit (s := S128x8320) ![0, 0] S128x8320.size inb_S128x8320_S128x8320_0_0).toLoadRect (View.loadsAt_vmem h_S128x8320))
      let v69 : Vec F S128x8320 .f32 ← Prog.lift (.load arg2 (Rect.unit (s := S128x8320) ![0, 0] S128x8320.size inb_S128x8320_S128x8320_0_0).toLoadRect (View.loadsAt_vmem h_S128x8320))
      Prog.lift (.store arg2 (Rect.unit (s := S128x8320) ![0, 0] S128x8320.size inb_S128x8320_S128x8320_0_0) (keepOf v8) Finset.univ (View.stores_vmem_bits_univ h_S128x8320 rfl) (.inl rfl))
      pure ⟨⟩) := by
  rw [cc0_sample_topk_eq_skeleton]; unfold cc0_sample_topk_skel
  rw [k0_part1_eq_skeleton]; unfold k0_part1_skel
  simp only [search_pure, cut_pure, lift_then, ret_then]
  congr 1; funext v8; unfold keepOf; dsimp only
  split
  · next h => simp only [if_pos h]
  · next h => simp only [if_neg h]

set_option maxHeartbeats 1000000 in
/-- One point of the grid: what the body leaves in the result's buffer. -/
noncomputable def runK (c : Dev nD) (i : grid0.Coords) (arg1 : Memref sig .tc .vmem S128x8320 .f32) (harg1 : arg1.IsWhole) (arg2 : Memref sig .tc .vmem S128x8320 .f32) (harg2 : arg2.IsWhole) (x0 : Vec F S128x8320 .f32) :
    { L1 : List (View.Piece (Elt F) S128x8320 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_sample_topk i arg1 harg1 arg2 harg2) K } := by
  refine ⟨?_, fun E K => ?run⟩
  case run =>
    rw [body_plain]
    unfold owns
    iintro ⟨⟨%f0, %hf0, H0⟩, ⟨%d1, %f1, -, H1⟩, Hk⟩
    obtain rfl := harg1.eq_unread hf0
    sl_exec (disch := decide)
    sl_step
    iapply Hk
    isplitl [H0]
    · iexists _; isplitr; · ipureintro; exact harg1.read_unread _
      iexact H0
    iexists _; iexact H1

variable (m : (ℓ : Loc nD τ sig) → Buf (Elt F) ℓ) (ρ : Dev nD → PrngReg)

/-- A buffer of the result's window, through which its contents are stated. -/
abbrev VO1 : View sig .tc .vmem S128x8320 .f32 := (Memref.whole cc0_stg1_0 : Memref sig .tc .vmem S128x8320 .f32).view
abbrev ms0 (t : Fin cfg0.N) : Memref sig .tc .vmem S128x8320 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x8320 .f32 := win0_1.stage (cfg0.slots t 1)
abbrev hs1 (t : Fin cfg0.N) : (ms1 t).IsWhole := hstage0_1 ((cfg0.slots t 1).cast nbuf0_1)

/-- The store of the run tiles the result's block. -/
theorem coverK (c : Dev nD) (i : grid0.Coords) (arg1 : Memref sig .tc .vmem S128x8320 .f32) (harg1 : arg1.IsWhole) (arg2 : Memref sig .tc .vmem S128x8320 .f32) (harg2 : arg2.IsWhole) (x0 : Vec F S128x8320 .f32) (y : S128x8320.Idx) :
    ∃ pc ∈ (runK c i arg1 harg1 arg2 harg2 x0).1, y ∈ pc.1.set :=
  View.cover_of_tiledL (runK c i arg1 harg1 arg2 harg2 x0).1 S128x8320.size (by sl_kernel_rfl) y

/-- What the result's buffer holds after a point. -/
def outsAt (c : Dev nD) (t : Fin cfg0.N) : Vec F S128x8320 .f32 :=
  VO1.read (Elt F) (VO1.writes (Elt F) VO1.junk (runK c (grid0.coords t) (ms0 t) (hs0 t) (ms1 t) (hs1 t) (iblk m c 0 t)).1)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outsAt m c t := by dsimp only [dats]

theorem before0_0 (c : Dev nD) (t : Fin cfg0.N) (d) : (dats m 0 c).before 0 t d = iblk m c 0 t :=
  before0_0_of m (dats m 0 c) (A_eq m c 0) (after0_0 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  unfold outsAt
  iintro ⟨HΦ, Ho, ⟨%d0, H0⟩, ⟨%d1, H1⟩⟩
  iapply ((runK c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (coverK c _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends, leaves its argument as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_quiet m ρ))) ((θ_run defs _ _).mono (fun _ h => h.2) (run_quiet m ρ))

end Cert.Kernel9.Gen

end
-- ==== Proof.SampleTopkIdeal.lean ====
/- The idealized call is the same program text, and so runs as the call does. -/
module

public import proofs.«01_k».proof.Defs
public import proofs.«01_k».proof.Proof.Gen.Kernel9Ideal.Frame
public import proofs.«01_k».proof.Proof.SampleTopk

@[expose] public section

open Idealize.ShloMosaic

set_option maxRecDepth 65536
set_option maxHeartbeats 4000000

noncomputable section

namespace Cert.Kernel9Ideal.Same

variable {F : FTy → Type} [FloatOps F]

/-- The two calls. -/
theorem main_same : Cert.Kernel9Ideal.main (F := F) = Cert.Kernel9.main (F := F) := by with_unfolding_all rfl

/-- Their kernels' bodies. -/
theorem bodies_same : Cert.Kernel9Ideal.defs₀ (F := F) = Cert.Kernel9.defs₀ (F := F) := by
  unfold Cert.Kernel9Ideal.defs₀ Cert.Kernel9.defs₀
  with_unfolding_all refine congrArg Defs.onTc ?_
  funext l a
  match l with
  | 0 => with_unfolding_all rfl

/-- The tables of bodies. -/
theorem defs_same : Cert.Kernel9Ideal.defs (F := F) = Cert.Kernel9.defs (F := F) := by
  unfold Cert.Kernel9Ideal.defs Cert.Kernel9.defs
  with_unfolding_all exact congrArg (Pipeline.defs (Cert.Kernel9.pcfgs (F := F))) bodies_same

/-- The idealized call ends, leaves its arguments as they were, and every counter at zero. -/
theorem frame : Cert.quiescent_Kernel9Ideal := fun m ρ _ => by
  have h := Cert.Kernel9.Gen.frame (F := Ideal) m ρ
  rw [← main_same, ← defs_same] at h
  exact h

end Cert.Kernel9Ideal.Same

end
-- ==== Proof.Attn512.lean ====
module

public import proofs.«01_k».proof.Proof.Gen.Kernel12.Frame
public import proofs.«01_k».proof.Proof.Gen.Kernel12.Skeleton
public import Idealize.ShloMosaic.Lib.Claim

@[expose] public section

set_option maxRecDepth 16384

noncomputable section

namespace Cert.Kernel12.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x512 .f32) (c0 : BitVec 32) (k : Fin k0_t1_loop.trips) (a : IVec S128x1 32) : IVec S128x1 32 :=
  k0_pay21 v92 a (k0_pay5 c0 1#32 k a) (k0_pay6 c0 1#32 k a) (k0_pay7 c0 1#32 k a) (k0_pay8 v92 c0 1#32 k a) (k0_pay9 v92 c0 1#32 k a) 0#32

/-- The threshold the search ends with, as a bit pattern. -/
def thrOf (v92 : FVec F S128x512 .f32) (v123 : IVec S128x1 32) (c0 : BitVec 32) : IVec S128x1 32 :=
  Scf.fold (stepT1 v92 c0) v123

/-- The cut among equal scores. -/
def cutOf (v85 : IVec S128x512 32) (v92 : FVec F S128x512 .f32) (v125 : IVec S128x1 32) : IVec S128x1 32 :=
  if Scalar.cmpi .ne (Scalar.extui (Scalar.cmpf (F := F) .ogt (k0_pay26 v92 v125) (Scalar.ofBits .f32 0x43800000#32)) : BitVec 32) 0#32 = 1#1 then
    Scf.fold (fun k a => k0_pay28 v85 v92 v125 k a) k0_pay27
  else k0_pay29

/-- The mask the selection ends with. -/
def maskOf (v85 : IVec S128x512 32) (v90 : IVec S128x512 1) (v92 : FVec F S128x512 .f32) (v123 : IVec S128x1 32) (c0 : BitVec 32) : IVec S128x512 1 :=
  k0_pay30 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x512 .f32) (harg10 : arg10.IsWhole)  (v85 : IVec S128x512 32) (v90 : IVec S128x512 1) (v92 : FVec F S128x512 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay27
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay28 v85 v92 w k a) k0_pay27) := fun w =>
    Scf.for_pure k0_t2_loop.lb k0_t2_loop.ub k0_t2_loop.st k0_t2_ok k0_pay27 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay26 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

section
variable (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x512 .f32) (harg10 : arg10.IsWhole)

set_option maxHeartbeats 1000000 in
/-- The body looks at the second coordinate only. -/
theorem body_eqA (h : (i 1).val = 0) : cc0_attn_prompt_512 (F := F) i arg2 harg2 arg3 harg3 arg4 harg4 arg5 harg5 arg6 harg6 arg7 harg7 arg8 harg8 arg9 harg9 arg10 harg10 = cc0_attn_prompt_512 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (h : (i 1).val = 1) : cc0_attn_prompt_512 (F := F) i arg2 harg2 arg3 harg3 arg4 harg4 arg5 harg5 arg6 harg6 arg7 harg7 arg8 harg8 arg9 harg9 arg10 harg10 = cc0_attn_prompt_512 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x512 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_512 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_512_eq_skeleton]; unfold cc0_attn_prompt_512_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x512 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_512 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_512_eq_skeleton]; unfold cc0_attn_prompt_512_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x512 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

section
variable (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x512 .f32) (harg10 : arg10.IsWhole)
  (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32)

/-- The stores of the run tile the result's block. -/
theorem coverA (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

end

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel12.Gen

end
-- ==== Proof.Attn512Ideal.lean ====
/- The idealized call is the same program text, and so runs as the call does. -/
module

public import proofs.«01_k».proof.Defs
public import proofs.«01_k».proof.Proof.Gen.Kernel12Ideal.Frame
public import proofs.«01_k».proof.Proof.Attn512

@[expose] public section

open Idealize.ShloMosaic

set_option maxRecDepth 65536
set_option maxHeartbeats 4000000

noncomputable section

namespace Cert.Kernel12Ideal.Same

variable {F : FTy → Type} [FloatOps F]

/-- The two calls. -/
theorem main_same : Cert.Kernel12Ideal.main (F := F) = Cert.Kernel12.main (F := F) := by with_unfolding_all rfl

/-- Their kernels' bodies. -/
theorem bodies_same : Cert.Kernel12Ideal.defs₀ (F := F) = Cert.Kernel12.defs₀ (F := F) := by
  unfold Cert.Kernel12Ideal.defs₀ Cert.Kernel12.defs₀
  with_unfolding_all refine congrArg Defs.onTc ?_
  funext l a
  match l with
  | 0 => with_unfolding_all rfl

/-- The tables of bodies. -/
theorem defs_same : Cert.Kernel12Ideal.defs (F := F) = Cert.Kernel12.defs (F := F) := by
  unfold Cert.Kernel12Ideal.defs Cert.Kernel12.defs
  with_unfolding_all exact congrArg (Pipeline.defs (Cert.Kernel12.pcfgs (F := F))) bodies_same

/-- The idealized call ends, leaves its arguments as they were, and every counter at zero. -/
theorem frame : Cert.quiescent_Kernel12Ideal := fun m ρ _ => by
  have h := Cert.Kernel12.Gen.frame (F := Ideal) m ρ
  rw [← main_same, ← defs_same] at h
  exact h

end Cert.Kernel12Ideal.Same

end
-- ==== Proof.Attn768.lean ====
module

public import proofs.«01_k».proof.Proof.Gen.Kernel13.Frame
public import proofs.«01_k».proof.Proof.Gen.Kernel13.Skeleton
public import Idealize.ShloMosaic.Lib.Claim

@[expose] public section

set_option maxRecDepth 16384

noncomputable section

namespace Cert.Kernel13.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x768 .f32) (c0 : BitVec 32) (k : Fin k0_t1_loop.trips) (a : IVec S128x1 32) : IVec S128x1 32 :=
  k0_pay21 v92 a (k0_pay5 c0 1#32 k a) (k0_pay6 c0 1#32 k a) (k0_pay7 c0 1#32 k a) (k0_pay8 v92 c0 1#32 k a) (k0_pay9 v92 c0 1#32 k a) 0#32

/-- The threshold the search ends with, as a bit pattern. -/
def thrOf (v92 : FVec F S128x768 .f32) (v123 : IVec S128x1 32) (c0 : BitVec 32) : IVec S128x1 32 :=
  Scf.fold (stepT1 v92 c0) v123

/-- The cut among equal scores. -/
def cutOf (v85 : IVec S128x768 32) (v92 : FVec F S128x768 .f32) (v125 : IVec S128x1 32) : IVec S128x1 32 :=
  if Scalar.cmpi .ne (Scalar.extui (Scalar.cmpf (F := F) .ogt (k0_pay26 v92 v125) (Scalar.ofBits .f32 0x43800000#32)) : BitVec 32) 0#32 = 1#1 then
    Scf.fold (fun k a => k0_pay28 v85 v92 v125 k a) k0_pay27
  else k0_pay29

/-- The mask the selection ends with. -/
def maskOf (v85 : IVec S128x768 32) (v90 : IVec S128x768 1) (v92 : FVec F S128x768 .f32) (v123 : IVec S128x1 32) (c0 : BitVec 32) : IVec S128x768 1 :=
  k0_pay30 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x768 .f32) (harg10 : arg10.IsWhole)  (v85 : IVec S128x768 32) (v90 : IVec S128x768 1) (v92 : FVec F S128x768 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay27
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay28 v85 v92 w k a) k0_pay27) := fun w =>
    Scf.for_pure k0_t2_loop.lb k0_t2_loop.ub k0_t2_loop.st k0_t2_ok k0_pay27 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay26 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

section
variable (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x768 .f32) (harg10 : arg10.IsWhole)

set_option maxHeartbeats 1000000 in
/-- The body looks at the second coordinate only. -/
theorem body_eqA (h : (i 1).val = 0) : cc0_attn_prompt_768 (F := F) i arg2 harg2 arg3 harg3 arg4 harg4 arg5 harg5 arg6 harg6 arg7 harg7 arg8 harg8 arg9 harg9 arg10 harg10 = cc0_attn_prompt_768 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (h : (i 1).val = 1) : cc0_attn_prompt_768 (F := F) i arg2 harg2 arg3 harg3 arg4 harg4 arg5 harg5 arg6 harg6 arg7 harg7 arg8 harg8 arg9 harg9 arg10 harg10 = cc0_attn_prompt_768 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x768 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_768 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_768_eq_skeleton]; unfold cc0_attn_prompt_768_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x768 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_768 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_768_eq_skeleton]; unfold cc0_attn_prompt_768_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x768 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

section
variable (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x768 .f32) (harg10 : arg10.IsWhole)
  (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32)

/-- The stores of the run tile the result's block. -/
theorem coverA (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

end

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel13.Gen

end
-- ==== Proof.Attn768Ideal.lean ====
/- The idealized call is the same program text, and so runs as the call does. -/
module

public import proofs.«01_k».proof.Defs
public import proofs.«01_k».proof.Proof.Gen.Kernel13Ideal.Frame
public import proofs.«01_k».proof.Proof.Attn768

@[expose] public section

open Idealize.ShloMosaic

set_option maxRecDepth 65536
set_option maxHeartbeats 4000000

noncomputable section

namespace Cert.Kernel13Ideal.Same

variable {F : FTy → Type} [FloatOps F]

/-- The two calls. -/
theorem main_same : Cert.Kernel13Ideal.main (F := F) = Cert.Kernel13.main (F := F) := by with_unfolding_all rfl

/-- Their kernels' bodies. -/
theorem bodies_same : Cert.Kernel13Ideal.defs₀ (F := F) = Cert.Kernel13.defs₀ (F := F) := by
  unfold Cert.Kernel13Ideal.defs₀ Cert.Kernel13.defs₀
  with_unfolding_all refine congrArg Defs.onTc ?_
  funext l a
  match l with
  | 0 => with_unfolding_all rfl

/-- The tables of bodies. -/
theorem defs_same : Cert.Kernel13Ideal.defs (F := F) = Cert.Kernel13.defs (F := F) := by
  unfold Cert.Kernel13Ideal.defs Cert.Kernel13.defs
  with_unfolding_all exact congrArg (Pipeline.defs (Cert.Kernel13.pcfgs (F := F))) bodies_same

/-- The idealized call ends, leaves its arguments as they were, and every counter at zero. -/
theorem frame : Cert.quiescent_Kernel13Ideal := fun m ρ _ => by
  have h := Cert.Kernel13.Gen.frame (F := Ideal) m ρ
  rw [← main_same, ← defs_same] at h
  exact h

end Cert.Kernel13Ideal.Same

end
-- ==== Proof.Attn1024.lean ====
module

public import proofs.«01_k».proof.Proof.Gen.Kernel14.Frame
public import proofs.«01_k».proof.Proof.Gen.Kernel14.Skeleton
public import Idealize.ShloMosaic.Lib.Claim

@[expose] public section

set_option maxRecDepth 16384

noncomputable section

namespace Cert.Kernel14.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x1024 .f32) (c0 : BitVec 32) (k : Fin k0_t1_loop.trips) (a : IVec S128x1 32) : IVec S128x1 32 :=
  k0_pay21 v92 a (k0_pay5 c0 1#32 k a) (k0_pay6 c0 1#32 k a) (k0_pay7 c0 1#32 k a) (k0_pay8 v92 c0 1#32 k a) (k0_pay9 v92 c0 1#32 k a) 0#32

/-- The threshold the search ends with, as a bit pattern. -/
def thrOf (v92 : FVec F S128x1024 .f32) (v123 : IVec S128x1 32) (c0 : BitVec 32) : IVec S128x1 32 :=
  Scf.fold (stepT1 v92 c0) v123

/-- The cut among equal scores. -/
def cutOf (v85 : IVec S128x1024 32) (v92 : FVec F S128x1024 .f32) (v125 : IVec S128x1 32) : IVec S128x1 32 :=
  if Scalar.cmpi .ne (Scalar.extui (Scalar.cmpf (F := F) .ogt (k0_pay26 v92 v125) (Scalar.ofBits .f32 0x43800000#32)) : BitVec 32) 0#32 = 1#1 then
    Scf.fold (fun k a => k0_pay28 v85 v92 v125 k a) k0_pay27
  else k0_pay29

/-- The mask the selection ends with. -/
def maskOf (v85 : IVec S128x1024 32) (v90 : IVec S128x1024 1) (v92 : FVec F S128x1024 .f32) (v123 : IVec S128x1 32) (c0 : BitVec 32) : IVec S128x1024 1 :=
  k0_pay30 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1024 .f32) (harg10 : arg10.IsWhole)  (v85 : IVec S128x1024 32) (v90 : IVec S128x1024 1) (v92 : FVec F S128x1024 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay27
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay28 v85 v92 w k a) k0_pay27) := fun w =>
    Scf.for_pure k0_t2_loop.lb k0_t2_loop.ub k0_t2_loop.st k0_t2_ok k0_pay27 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay26 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

section
variable (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1024 .f32) (harg10 : arg10.IsWhole)

set_option maxHeartbeats 1000000 in
/-- The body looks at the second coordinate only. -/
theorem body_eqA (h : (i 1).val = 0) : cc0_attn_prompt_1024 (F := F) i arg2 harg2 arg3 harg3 arg4 harg4 arg5 harg5 arg6 harg6 arg7 harg7 arg8 harg8 arg9 harg9 arg10 harg10 = cc0_attn_prompt_1024 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (h : (i 1).val = 1) : cc0_attn_prompt_1024 (F := F) i arg2 harg2 arg3 harg3 arg4 harg4 arg5 harg5 arg6 harg6 arg7 harg7 arg8 harg8 arg9 harg9 arg10 harg10 = cc0_attn_prompt_1024 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1024 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1024 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1024_eq_skeleton]; unfold cc0_attn_prompt_1024_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1024 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1024 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1024_eq_skeleton]; unfold cc0_attn_prompt_1024_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x1024 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

section
variable (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1024 .f32) (harg10 : arg10.IsWhole)
  (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32)

/-- The stores of the run tile the result's block. -/
theorem coverA (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

end

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel14.Gen

end
-- ==== Proof.Attn1024Ideal.lean ====
/- The idealized call is the same program text, and so runs as the call does. -/
module

public import proofs.«01_k».proof.Defs
public import proofs.«01_k».proof.Proof.Gen.Kernel14Ideal.Frame
public import proofs.«01_k».proof.Proof.Attn1024

@[expose] public section

open Idealize.ShloMosaic

set_option maxRecDepth 65536
set_option maxHeartbeats 4000000

noncomputable section

namespace Cert.Kernel14Ideal.Same

variable {F : FTy → Type} [FloatOps F]

/-- The two calls. -/
theorem main_same : Cert.Kernel14Ideal.main (F := F) = Cert.Kernel14.main (F := F) := by with_unfolding_all rfl

/-- Their kernels' bodies. -/
theorem bodies_same : Cert.Kernel14Ideal.defs₀ (F := F) = Cert.Kernel14.defs₀ (F := F) := by
  unfold Cert.Kernel14Ideal.defs₀ Cert.Kernel14.defs₀
  with_unfolding_all refine congrArg Defs.onTc ?_
  funext l a
  match l with
  | 0 => with_unfolding_all rfl

/-- The tables of bodies. -/
theorem defs_same : Cert.Kernel14Ideal.defs (F := F) = Cert.Kernel14.defs (F := F) := by
  unfold Cert.Kernel14Ideal.defs Cert.Kernel14.defs
  with_unfolding_all exact congrArg (Pipeline.defs (Cert.Kernel14.pcfgs (F := F))) bodies_same

/-- The idealized call ends, leaves its arguments as they were, and every counter at zero. -/
theorem frame : Cert.quiescent_Kernel14Ideal := fun m ρ _ => by
  have h := Cert.Kernel14.Gen.frame (F := Ideal) m ρ
  rw [← main_same, ← defs_same] at h
  exact h

end Cert.Kernel14Ideal.Same

end
-- ==== Proof.Attn1280.lean ====
module

public import proofs.«01_k».proof.Proof.Gen.Kernel15.Frame
public import proofs.«01_k».proof.Proof.Gen.Kernel15.Skeleton
public import Idealize.ShloMosaic.Lib.Claim

@[expose] public section

set_option maxRecDepth 16384

noncomputable section

namespace Cert.Kernel15.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x1280 .f32) (c0 : BitVec 32) (k : Fin k0_t1_loop.trips) (a : IVec S128x1 32) : IVec S128x1 32 :=
  k0_pay21 v92 a (k0_pay5 c0 1#32 k a) (k0_pay6 c0 1#32 k a) (k0_pay7 c0 1#32 k a) (k0_pay8 v92 c0 1#32 k a) (k0_pay9 v92 c0 1#32 k a) 0#32

/-- The threshold the search ends with, as a bit pattern. -/
def thrOf (v92 : FVec F S128x1280 .f32) (v123 : IVec S128x1 32) (c0 : BitVec 32) : IVec S128x1 32 :=
  Scf.fold (stepT1 v92 c0) v123

/-- The cut among equal scores. -/
def cutOf (v85 : IVec S128x1280 32) (v92 : FVec F S128x1280 .f32) (v125 : IVec S128x1 32) : IVec S128x1 32 :=
  if Scalar.cmpi .ne (Scalar.extui (Scalar.cmpf (F := F) .ogt (k0_pay26 v92 v125) (Scalar.ofBits .f32 0x43800000#32)) : BitVec 32) 0#32 = 1#1 then
    Scf.fold (fun k a => k0_pay28 v85 v92 v125 k a) k0_pay27
  else k0_pay29

/-- The mask the selection ends with. -/
def maskOf (v85 : IVec S128x1280 32) (v90 : IVec S128x1280 1) (v92 : FVec F S128x1280 .f32) (v123 : IVec S128x1 32) (c0 : BitVec 32) : IVec S128x1280 1 :=
  k0_pay30 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1280 .f32) (harg10 : arg10.IsWhole)  (v85 : IVec S128x1280 32) (v90 : IVec S128x1280 1) (v92 : FVec F S128x1280 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay27
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay28 v85 v92 w k a) k0_pay27) := fun w =>
    Scf.for_pure k0_t2_loop.lb k0_t2_loop.ub k0_t2_loop.st k0_t2_ok k0_pay27 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay26 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

section
variable (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1280 .f32) (harg10 : arg10.IsWhole)

set_option maxHeartbeats 1000000 in
/-- The body looks at the second coordinate only. -/
theorem body_eqA (h : (i 1).val = 0) : cc0_attn_prompt_1280 (F := F) i arg2 harg2 arg3 harg3 arg4 harg4 arg5 harg5 arg6 harg6 arg7 harg7 arg8 harg8 arg9 harg9 arg10 harg10 = cc0_attn_prompt_1280 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (h : (i 1).val = 1) : cc0_attn_prompt_1280 (F := F) i arg2 harg2 arg3 harg3 arg4 harg4 arg5 harg5 arg6 harg6 arg7 harg7 arg8 harg8 arg9 harg9 arg10 harg10 = cc0_attn_prompt_1280 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1280 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1280 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1280_eq_skeleton]; unfold cc0_attn_prompt_1280_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1280 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1280 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1280_eq_skeleton]; unfold cc0_attn_prompt_1280_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x1280 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

section
variable (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1280 .f32) (harg10 : arg10.IsWhole)
  (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32)

/-- The stores of the run tile the result's block. -/
theorem coverA (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

end

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel15.Gen

end
-- ==== Proof.Attn1280Ideal.lean ====
/- The idealized call is the same program text, and so runs as the call does. -/
module

public import proofs.«01_k».proof.Defs
public import proofs.«01_k».proof.Proof.Gen.Kernel15Ideal.Frame
public import proofs.«01_k».proof.Proof.Attn1280

@[expose] public section

open Idealize.ShloMosaic

set_option maxRecDepth 65536
set_option maxHeartbeats 4000000

noncomputable section

namespace Cert.Kernel15Ideal.Same

variable {F : FTy → Type} [FloatOps F]

/-- The two calls. -/
theorem main_same : Cert.Kernel15Ideal.main (F := F) = Cert.Kernel15.main (F := F) := by with_unfolding_all rfl

/-- Their kernels' bodies. -/
theorem bodies_same : Cert.Kernel15Ideal.defs₀ (F := F) = Cert.Kernel15.defs₀ (F := F) := by
  unfold Cert.Kernel15Ideal.defs₀ Cert.Kernel15.defs₀
  with_unfolding_all refine congrArg Defs.onTc ?_
  funext l a
  match l with
  | 0 => with_unfolding_all rfl

/-- The tables of bodies. -/
theorem defs_same : Cert.Kernel15Ideal.defs (F := F) = Cert.Kernel15.defs (F := F) := by
  unfold Cert.Kernel15Ideal.defs Cert.Kernel15.defs
  with_unfolding_all exact congrArg (Pipeline.defs (Cert.Kernel15.pcfgs (F := F))) bodies_same

/-- The idealized call ends, leaves its arguments as they were, and every counter at zero. -/
theorem frame : Cert.quiescent_Kernel15Ideal := fun m ρ _ => by
  have h := Cert.Kernel15.Gen.frame (F := Ideal) m ρ
  rw [← main_same, ← defs_same] at h
  exact h

end Cert.Kernel15Ideal.Same

end
-- ==== Proof.Attn1536.lean ====
module

public import proofs.«01_k».proof.Proof.Gen.Kernel16.Frame
public import proofs.«01_k».proof.Proof.Gen.Kernel16.Skeleton
public import Idealize.ShloMosaic.Lib.Claim

@[expose] public section

set_option maxRecDepth 16384

noncomputable section

namespace Cert.Kernel16.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the search on bit patterns. -/
def stepT1 (v92 : FVec F S128x1536 .f32) (c0 : BitVec 32) (k : Fin k0_t1_loop.trips) (a : IVec S128x1 32) : IVec S128x1 32 :=
  k0_pay21 v92 a (k0_pay5 c0 1#32 k a) (k0_pay6 c0 1#32 k a) (k0_pay7 c0 1#32 k a) (k0_pay8 v92 c0 1#32 k a) (k0_pay9 v92 c0 1#32 k a) 0#32

/-- The threshold the search ends with, as a bit pattern. -/
def thrOf (v92 : FVec F S128x1536 .f32) (v123 : IVec S128x1 32) (c0 : BitVec 32) : IVec S128x1 32 :=
  Scf.fold (stepT1 v92 c0) v123

/-- The cut among equal scores. -/
def cutOf (v85 : IVec S128x1536 32) (v92 : FVec F S128x1536 .f32) (v125 : IVec S128x1 32) : IVec S128x1 32 :=
  if Scalar.cmpi .ne (Scalar.extui (Scalar.cmpf (F := F) .ogt (k0_pay26 v92 v125) (Scalar.ofBits .f32 0x43800000#32)) : BitVec 32) 0#32 = 1#1 then
    Scf.fold (fun k a => k0_pay28 v85 v92 v125 k a) k0_pay27
  else k0_pay29

/-- The mask the selection ends with. -/
def maskOf (v85 : IVec S128x1536 32) (v90 : IVec S128x1536 1) (v92 : FVec F S128x1536 .f32) (v123 : IVec S128x1 32) (c0 : BitVec 32) : IVec S128x1536 1 :=
  k0_pay30 v85 v90 v92 (thrOf v92 v123 c0) (cutOf v85 v92 (thrOf v92 v123 c0))

/-- The selection touches no memory: it returns its mask. -/
theorem part5_pure (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1536 .f32) (harg10 : arg10.IsWhole)  (v85 : IVec S128x1536 32) (v90 : IVec S128x1536 1) (v92 : FVec F S128x1536 .f32) (v123 : IVec S128x1 32) (c0 c15 : BitVec 32) :
    k0_part5 (F := F) i arg2 harg2 arg3 harg3 arg4 harg4 arg5 harg5 arg6 harg6 arg7 harg7 arg8 harg8 arg9 harg9 arg10 harg10 v85 v90 v92 v123 c0 c15
      = pure ⟨maskOf v85 v90 v92 v123 c0, Scalar.ofBits .f32 0x00000000#32, Scalar.ofBits .f32 0xF149F2CA#32⟩ := by
  rw [k0_part5_eq_skeleton]; unfold k0_part5_skel
  have h1 := Scf.for_pure k0_t1_loop.lb k0_t1_loop.ub k0_t1_loop.st k0_t1_ok v123
    (k0_t1_body (F := F) i arg2 harg2 arg3 harg3 arg4 harg4 arg5 harg5 arg6 harg6 arg7 harg7 arg8 harg8 arg9 harg9 arg10 harg10 v85 v90 v92 v123 c0 c15) (stepT1 v92 c0)
    (fun k acc => by unfold k0_t1_body; rw [k0_part1_eq_skeleton]; rfl)
  have h2 : ∀ w, Scf.for k0_t2_loop.lb k0_t2_loop.ub k0_t2_loop.st k0_t2_ok k0_pay27
    (k0_t2_body (F := F) i arg2 harg2 arg3 harg3 arg4 harg4 arg5 harg5 arg6 harg6 arg7 harg7 arg8 harg8 arg9 harg9 arg10 harg10 v85 v90 v92 v123 c0 c15 w) = .ret (Scf.fold (fun k a => k0_pay28 v85 v92 w k a) k0_pay27) := fun w =>
    Scf.for_pure k0_t2_loop.lb k0_t2_loop.ub k0_t2_loop.st k0_t2_ok k0_pay27 _ _ (fun k acc => rfl)
  unfold Scf.Loop.for
  rw [h1]
  have hb : ∀ (σ β : Type) (a : σ) (k : σ → Prog (TpuEff nD τ sig (Elt F) Λ₀ .tc) β), (Prog.ret a >>= k) = k a := fun _ _ _ _ => rfl
  simp only [h2]
  unfold maskOf cutOf thrOf
  by_cases hc : Scalar.cmpi .ne (Scalar.extui (Scalar.cmpf (F := F) .ogt (k0_pay26 v92 (Scf.fold (stepT1 v92 c0) v123)) (Scalar.ofBits .f32 0x43800000#32)) : BitVec 32) 0#32 = 1#1
  · simp only [if_pos hc]; refine (hb _ _ _ _).trans ?_; exact if_pos hc
  · simp only [if_neg hc]; refine (hb _ _ _ _).trans ?_; exact if_neg hc

/-- The first point of a row of the grid, -/
def iA : grid0.Coords := fun a => match a with
  | ⟨0, _⟩ => ⟨0, show 0 < 4 by decide⟩
  | ⟨1, _⟩ => ⟨0, show 0 < 2 by decide⟩

/-- and the second. -/
def iB : grid0.Coords := fun a => match a with
  | ⟨0, _⟩ => ⟨0, show 0 < 4 by decide⟩
  | ⟨1, _⟩ => ⟨1, show 1 < 2 by decide⟩

section
variable (i : grid0.Coords) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1536 .f32) (harg10 : arg10.IsWhole)

set_option maxHeartbeats 1000000 in
/-- The body looks at the second coordinate only. -/
theorem body_eqA (h : (i 1).val = 0) : cc0_attn_prompt_1536 (F := F) i arg2 harg2 arg3 harg3 arg4 harg4 arg5 harg5 arg6 harg6 arg7 harg7 arg8 harg8 arg9 harg9 arg10 harg10 = cc0_attn_prompt_1536 iA arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨0, show 0 < 2 by decide⟩ := ⟨i 0, by
      funext a
      match a with
      | ⟨0, _⟩ => rfl
      | ⟨1, _⟩ => exact Fin.ext h⟩
  obtain ⟨b, rfl⟩ := e
  rfl

set_option maxHeartbeats 1000000 in
/-- The body looks at the second coordinate only. -/
theorem body_eqB (h : (i 1).val = 1) : cc0_attn_prompt_1536 (F := F) i arg2 harg2 arg3 harg3 arg4 harg4 arg5 harg5 arg6 harg6 arg7 harg7 arg8 harg8 arg9 harg9 arg10 harg10 = cc0_attn_prompt_1536 iB arg2 harg2 arg3 harg3 arg4 harg4 arg5 harg5 arg6 harg6 arg7 harg7 arg8 harg8 arg9 harg9 arg10 harg10 := by
  have e : ∃ b : Fin 4, i = fun a => match a with
    | ⟨0, _⟩ => b
    | ⟨1, _⟩ => ⟨1, show 1 < 2 by decide⟩ := ⟨i 0, by
      funext a
      match a with
      | ⟨0, _⟩ => rfl
      | ⟨1, _⟩ => exact Fin.ext h⟩
  obtain ⟨b, rfl⟩ := e
  rfl

end

set_option sl_exec.squeezeSlice true in
set_option maxHeartbeats 4000000 in
/-- One point of the grid: what the body leaves in the result's buffer, and in the scratch. -/
noncomputable def runA (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1536 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1536 iA arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1536_eq_skeleton]; unfold cc0_attn_prompt_1536_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

set_option sl_exec.squeezeSlice true in
set_option maxHeartbeats 4000000 in
/-- One point of the grid: what the body leaves in the result's buffer, and in the scratch. -/
noncomputable def runB (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1536 .f32) (harg10 : arg10.IsWhole)
    (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32) :
    Σ' (L7 : List (View.Piece (Elt F) S128x2048 .bf16)), { LT0 : List (View.Piece (Elt F) S2x512x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_attn_prompt_1536 iB arg2 harg2 arg3 harg3 arg4 harg4 arg5 harg5 arg6 harg6 arg7 harg7 arg8 harg8 arg9 harg9 arg10 harg10) K } := by
  refine ⟨?_, ?_, fun E K => ?run⟩
  case run =>
    simp only [cc0_attn_prompt_1536_eq_skeleton]; unfold cc0_attn_prompt_1536_skel
    simp only [k0_part2_eq_skeleton, k0_part3_eq_skeleton, k0_part4_eq_skeleton, part5_pure, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

variable (m : (ℓ : Loc nD τ sig) → Buf (Elt F) ℓ) (ρ : Dev nD → PrngReg)

/-- A buffer of the result's window, through which its contents are stated. -/
abbrev VO7 : View sig .tc .vmem S128x2048 .bf16 := (Memref.whole cc0_stg7_0 : Memref sig .tc .vmem S128x2048 .bf16).view
abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x2048 .bf16 := win0_7.stage (cfg0.slots t 7)
abbrev hs7 (t : Fin cfg0.N) : (ms7 t).IsWhole := hstage0_7 ((cfg0.slots t 7).cast nbuf0_7)
/-- The scratch. -/
abbrev sc0 : Memref sig .tc .vmem S2x512x1536 .f32 := Memref.whole cc0_scratch0

/-- The invariant holds the scratch at anything. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

section
variable (c : Dev nD) (arg2 : Memref sig .tc .vmem S128x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x1024 .f32) (harg5 : arg5.IsWhole) (arg6 : Memref sig .tc .vmem S2048x384 .bf16) (harg6 : arg6.IsWhole) (arg7 : Memref sig .tc .vmem S128x128 .f32) (harg7 : arg7.IsWhole) (arg8 : Memref sig .tc .vmem S16x128x256 .f32) (harg8 : arg8.IsWhole) (arg9 : Memref sig .tc .vmem S128x2048 .bf16) (harg9 : arg9.IsWhole) (arg10 : Memref sig .tc .vmem S2x512x1536 .f32) (harg10 : arg10.IsWhole)
  (x0 : Vec F S128x2048 .f32) (x1 : Vec F S2048x512 .bf16) (x2 : Vec F S2048x512 .bf16) (x3 : Vec F S128x1024 .f32) (x4 : Vec F S2048x384 .bf16) (x5 : Vec F S128x128 .f32) (x6 : Vec F S16x128x256 .f32)

/-- The stores of the run tile the result's block. -/
theorem coverA (y : S128x2048.Idx) :
    ∃ pc ∈ (runA c arg2 harg2 arg3 harg3 arg4 harg4 arg5 harg5 arg6 harg6 arg7 harg7 arg8 harg8 arg9 harg9 arg10 harg10 x0 x1 x2 x3 x4 x5 x6).1, y ∈ pc.1.set :=
  View.cover_of_tiledL (runA c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outA : Vec F S128x2048 .bf16 :=
  VO7.read (Elt F) (VO7.writes (Elt F) VO7.junk (runA c arg2 harg2 arg3 harg3 arg4 harg4 arg5 harg5 arg6 harg6 arg7 harg7 arg8 harg8 arg9 harg9 arg10 harg10 x0 x1 x2 x3 x4 x5 x6).1)

/-- The stores of the run tile the result's block. -/
theorem coverB (y : S128x2048.Idx) :
    ∃ pc ∈ (runB c arg2 harg2 arg3 harg3 arg4 harg4 arg5 harg5 arg6 harg6 arg7 harg7 arg8 harg8 arg9 harg9 arg10 harg10 x0 x1 x2 x3 x4 x5 x6).1, y ∈ pc.1.set :=
  View.cover_of_tiledL (runB c arg2 harg2 arg3 harg3 arg4 harg4 arg5 harg5 arg6 harg6 arg7 harg7 arg8 harg8 arg9 harg9 arg10 harg10 x0 x1 x2 x3 x4 x5 x6).1 S128x128.size (by sl_kernel_rfl) y

/-- What the run leaves in the result's buffer. -/
def outB : Vec F S128x2048 .bf16 :=
  VO7.read (Elt F) (VO7.writes (Elt F) VO7.junk (runB c arg2 harg2 arg3 harg3 arg4 harg4 arg5 harg5 arg6 harg6 arg7 harg7 arg8 harg8 arg9 harg9 arg10 harg10 x0 x1 x2 x3 x4 x5 x6).1)

end

/-- What the result's buffer holds after a point. -/
def outsAt (c : Dev nD) (t : Fin cfg0.N) : Vec F S128x2048 .bf16 :=
  if _ : (grid0.coords t 1).val = 0 then outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)
  else outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t)

/-- The contents point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- One point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  by_cases h : (grid0.coords t 1).val = 0
  · skip
    rw [show outsAt m c t = outA c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_pos h]
    rw [body_eqA _ _ _ _ _ _ _ _ _ _ _ _ _ _ _ _ _ _ _ h]
    unfold outA
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · skip
    rw [show outsAt m c t = outB c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) (X0_0 m c t) (iblk m c 1 t) (iblk m c 2 t) (X0_3 m c t) (iblk m c 4 t) (iblk m c 5 t) (iblk m c 6 t) from dif_neg h]
    rw [body_eqB _ _ _ _ _ _ _ _ _ _ _ _ _ _ _ _ _ _ _ (by have := (grid0.coords t 1).isLt; have e : grid0.bound 1 = 2 := rfl; omega)]
    unfold outB
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c _ _ _ _ _ _ _ _ _ _ _ _ _ _ _ _ _ _ (X0_0 m c t) (iblk m c 1 t) (iblk m c 2 t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array at what the points leave. -/
theorem run_arrays : θ_run defs (onTc (τ := τ) (main (F := F))) (s₀ m ρ) (Pipeline.FramePost cfgs (dats m) 0 (V m)) :=
  (θ_run defs _ _).mono (fun _ h => h.1) (run_quiet m ρ)

/-- The call ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.Kernel16.Gen

end
-- ==== Proof.Attn1536Ideal.lean ====
/- The idealized call is the same program text, and so runs as the call does. -/
module

public import proofs.«01_k».proof.Defs
public import proofs.«01_k».proof.Proof.Gen.Kernel16Ideal.Frame
public import proofs.«01_k».proof.Proof.Attn1536

@[expose] public section

open Idealize.ShloMosaic

set_option maxRecDepth 65536
set_option maxHeartbeats 4000000

noncomputable section

namespace Cert.Kernel16Ideal.Same

variable {F : FTy → Type} [FloatOps F]

/-- The two calls. -/
theorem main_same : Cert.Kernel16Ideal.main (F := F) = Cert.Kernel16.main (F := F) := by with_unfolding_all rfl

/-- Their kernels' bodies. -/
theorem bodies_same : Cert.Kernel16Ideal.defs₀ (F := F) = Cert.Kernel16.defs₀ (F := F) := by
  unfold Cert.Kernel16Ideal.defs₀ Cert.Kernel16.defs₀
  with_unfolding_all refine congrArg Defs.onTc ?_
  funext l a
  match l with
  | 0 => with_unfolding_all rfl

/-- The tables of bodies. -/
theorem defs_same : Cert.Kernel16Ideal.defs (F := F) = Cert.Kernel16.defs (F := F) := by
  unfold Cert.Kernel16Ideal.defs Cert.Kernel16.defs
  with_unfolding_all exact congrArg (Pipeline.defs (Cert.Kernel16.pcfgs (F := F))) bodies_same

/-- The idealized call ends, leaves its arguments as they were, and every counter at zero. -/
theorem frame : Cert.quiescent_Kernel16Ideal := fun m ρ _ => by
  have h := Cert.Kernel16.Gen.frame (F := Ideal) m ρ
  rw [← main_same, ← defs_same] at h
  exact h

end Cert.Kernel16Ideal.Same

end
-- ==== Proof.lean ====
/- The certificate's claim: the calls' frames and their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.FfnClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.PoolClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.ProjClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.ProjSampleClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.OutProjClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.FfnCastClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.PoolSampleClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.AttnFrame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Attn256Ideal
public import proofs.«01_k».proof.Proof.SampleTopk
public import proofs.«01_k».proof.Proof.SampleTopkIdeal
public import proofs.«01_k».proof.Proof.Attn512
public import proofs.«01_k».proof.Proof.Attn512Ideal
public import proofs.«01_k».proof.Proof.Attn768
public import proofs.«01_k».proof.Proof.Attn768Ideal
public import proofs.«01_k».proof.Proof.Attn1024
public import proofs.«01_k».proof.Proof.Attn1024Ideal
public import proofs.«01_k».proof.Proof.Attn1280
public import proofs.«01_k».proof.Proof.Attn1280Ideal
public import proofs.«01_k».proof.Proof.Attn1536
public import proofs.«01_k».proof.Proof.Attn1536Ideal

@[expose] public section

namespace Cert.Proof

open Idealize.ShloMosaic Idealize.ShloMosaic.TcCoe Idealize.SL.Sem

/-- The calls run, keep their arguments and agree with their references. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts,
    Cert.Kernel9.Gen.facts, Cert.Kernel9Ideal.Gen.facts,
    Cert.Kernel10.Gen.facts, Cert.Kernel10Ideal.Gen.facts,
    Cert.Kernel11.Gen.facts, Cert.Kernel11Ideal.Gen.facts,
    Cert.Kernel12.Gen.facts, Cert.Kernel12Ideal.Gen.facts,
    Cert.Kernel13.Gen.facts, Cert.Kernel13Ideal.Gen.facts,
    Cert.Kernel14.Gen.facts, Cert.Kernel14Ideal.Gen.facts,
    Cert.Kernel15.Gen.facts, Cert.Kernel15Ideal.Gen.facts,
    Cert.Kernel16.Gen.facts, Cert.Kernel16Ideal.Gen.facts,
    fun m ρ _ => Cert.Kernel.Gen.frame m ρ,
    fun m ρ _ => Cert.KernelIdeal.Gen.frame m ρ,
    Cert.Ffn.frame_ref,
    fun m ρ _ => Cert.Kernel2.Gen.frame m ρ,
    fun m ρ _ => Cert.Kernel2Ideal.Gen.frame m ρ,
    Cert.Pool.frame_ref,
    fun m ρ _ => Cert.Kernel3.Gen.frame m ρ,
    fun m ρ _ => Cert.Kernel3Ideal.Gen.frame m ρ,
    Cert.Proj.frame_ref,
    fun m ρ _ => Cert.Kernel4.Gen.frame m ρ,
    fun m ρ _ => Cert.Kernel4Ideal.Gen.frame m ρ,
    Cert.ProjSample.frame_ref,
    fun m ρ _ => Cert.Kernel5.Gen.frame m ρ,
    fun m ρ _ => Cert.Kernel5Ideal.Gen.frame m ρ,
    Cert.OutProj.frame_ref,
    fun m ρ _ => Cert.Kernel6.Gen.frame m ρ,
    fun m ρ _ => Cert.Kernel6Ideal.Gen.frame m ρ,
    Cert.FfnCast.frame_ref,
    fun m ρ _ => Cert.Kernel7.Gen.frame m ρ,
    fun m ρ _ => Cert.Kernel7Ideal.Gen.frame m ρ,
    Cert.PoolSample.frame_ref,
    fun m ρ _ => Cert.Kernel8.Gen.frame m ρ,
    Cert.Kernel8Ideal.Same.frame,
    fun m ρ _ => Cert.Kernel9.Gen.frame m ρ,
    Cert.Kernel9Ideal.Same.frame,
    fun m ρ _ => Cert.Kernel10.Gen.frame m ρ,
    fun m ρ _ => Cert.Kernel10Ideal.Gen.frame m ρ,
    fun m ρ _ => Cert.Kernel11.Gen.frame m ρ,
    fun m ρ _ => Cert.Kernel11Ideal.Gen.frame m ρ,
    fun m ρ _ => Cert.Kernel12.Gen.frame m ρ,
    Cert.Kernel12Ideal.Same.frame,
    fun m ρ _ => Cert.Kernel13.Gen.frame m ρ,
    Cert.Kernel13Ideal.Same.frame,
    fun m ρ _ => Cert.Kernel14.Gen.frame m ρ,
    Cert.Kernel14Ideal.Same.frame,
    fun m ρ _ => Cert.Kernel15.Gen.frame m ρ,
    Cert.Kernel15Ideal.Same.frame,
    fun m ρ _ => Cert.Kernel16.Gen.frame m ρ,
    Cert.Kernel16Ideal.Same.frame,
    trivial, Cert.Ffn.algebraic,
    trivial, Cert.Pool.algebraic,
    trivial, Cert.Proj.algebraic,
    trivial, Cert.ProjSample.algebraic,
    trivial, Cert.OutProj.algebraic,
    trivial, Cert.FfnCast.algebraic,
    trivial, Cert.PoolSample.algebraic,
    trivial, trivial, trivial, trivial, trivial, trivial, trivial, trivial, trivial⟩

end Cert.Proof
end
